-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite [hPre_finite : Cert.Pre_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite [hPre_finite : Cert.Pre_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite [hKernel7Ideal : Cert.Kernel7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite [hReference7Ideal : Cert.Reference7Ideal.Facts] [hPre_finite : Cert.Pre_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite [hKernel7Ideal : Cert.Kernel7Ideal.Facts] [hReference7Ideal : Cert.Reference7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_v13) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_on_written [hKernel10Ideal : Cert.Kernel10Ideal.Facts] [hReference10Ideal : Cert.Reference10Ideal.Facts] [hOn_written : Cert.On_written.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          (∀ i : (⟨3, ![2, 5136, 1024]⟩ : Shape).Idx, (Cert.On_written.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))) i = 1#1 → r.2.mem ((c.tc : Thread Cert.Kernel10Ideal.nD Cert.Kernel10Ideal.τ).loc Cert.Kernel10Ideal.main_v0) i = v0 c i)
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          (∀ i : (⟨3, ![2, 5136, 1024]⟩ : Shape).Idx, (Cert.On_written.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))) i = 1#1 → r.2.mem ((c.tc : Thread Cert.Reference10Ideal.nD Cert.Reference10Ideal.τ).loc Cert.Reference10Ideal.main_v8) i = v0 c i)
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_v10) = v1 c
          ∧ r.2.mem ((c.tc : Thread Cert.Reference11Ideal.nD Cert.Reference11Ideal.τ).loc Cert.Reference11Ideal.main_v13) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v9_0)) (v1 : (c : Dev Cert.Kernel13Ideal.nD) → Buf (Elt Ideal) ((c.tc : Thread Cert.Kernel13Ideal.nD Cert.Kernel13Ideal.τ).loc Cert.Kernel13Ideal.main_v9_1)) (v2 : (c : Dev Cert.Kernel13Ideal.nD) → Buf (Elt Ideal) ((c.tc : Thread Cert.Kernel13Ideal.nD Cert.Kernel13Ideal.τ).loc Cert.Kernel13Ideal.main_v9_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v9_0) = v0 c
          ∧ r.2.mem ((c.tc : Thread Cert.Kernel13Ideal.nD Cert.Kernel13Ideal.τ).loc Cert.Kernel13Ideal.main_v9_1) = v1 c
          ∧ r.2.mem ((c.tc : Thread Cert.Kernel13Ideal.nD Cert.Kernel13Ideal.τ).loc Cert.Kernel13Ideal.main_v9_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v36) = v0 c
          ∧ r.2.mem ((c.tc : Thread Cert.Reference13Ideal.nD Cert.Reference13Ideal.τ).loc Cert.Reference13Ideal.main_v37) = v1 c
          ∧ r.2.mem ((c.tc : Thread Cert.Reference13Ideal.nD Cert.Reference13Ideal.τ).loc Cert.Reference13Ideal.main_v38) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_v9) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v13) = v0 c
          ∧ r.2.mem ((c.tc : Thread Cert.Reference16Ideal.nD Cert.Reference16Ideal.τ).loc Cert.Reference16Ideal.main_v7) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v14) = v0 c
          ∧ r.2.mem ((c.tc : Thread Cert.Reference17Ideal.nD Cert.Reference17Ideal.τ).loc Cert.Reference17Ideal.main_v16) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg3) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_arg3) = v0 c
          ∧ r.2.mem ((c.tc : Thread Cert.Reference23Ideal.nD Cert.Reference23Ideal.τ).loc Cert.Reference23Ideal.main_v23) = v1 c
          ∧ r.2.mem ((c.tc : Thread Cert.Reference23Ideal.nD Cert.Reference23Ideal.τ).loc Cert.Reference23Ideal.main_v4) = v2 c
          ∧ r.2.mem ((c.tc : Thread Cert.Reference23Ideal.nD Cert.Reference23Ideal.τ).loc Cert.Reference23Ideal.main_v10) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)) (v2 : (c : Dev Cert.Kernel25Ideal.nD) → Buf (Elt Ideal) ((c.tc : Thread Cert.Kernel25Ideal.nD Cert.Kernel25Ideal.τ).loc Cert.Kernel25Ideal.main_v1_2)) (v3 : (c : Dev Cert.Kernel25Ideal.nD) → Buf (Elt Ideal) ((c.tc : Thread Cert.Kernel25Ideal.nD Cert.Kernel25Ideal.τ).loc Cert.Kernel25Ideal.main_v1_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_v1_2) = v2 c
          ∧ r.2.mem ((c.tc : Thread Cert.Kernel25Ideal.nD Cert.Kernel25Ideal.τ).loc Cert.Kernel25Ideal.main_v1_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v50) = v0 c
          ∧ r.2.mem ((c.tc : Thread Cert.Reference25Ideal.nD Cert.Reference25Ideal.τ).loc Cert.Reference25Ideal.main_v53) = v1 c
          ∧ r.2.mem ((c.tc : Thread Cert.Reference25Ideal.nD Cert.Reference25Ideal.τ).loc Cert.Reference25Ideal.main_v54) = v2 c
          ∧ r.2.mem ((c.tc : Thread Cert.Reference25Ideal.nD Cert.Reference25Ideal.τ).loc Cert.Reference25Ideal.main_v55) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite (hKernel7Ideal := hKernel7Ideal) (hPre_finite := hPre_finite)
    ∧ quiescent_Reference7Ideal (hReference7Ideal := hReference7Ideal)
    ∧ quiescent_Reference7Ideal_pre_finite (hReference7Ideal := hReference7Ideal) (hPre_finite := hPre_finite)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite (hKernel7Ideal := hKernel7Ideal) (hReference7Ideal := hReference7Ideal) (hPre_finite := hPre_finite)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_on_written (hKernel10Ideal := hKernel10Ideal) (hReference10Ideal := hReference10Ideal) (hOn_written := hOn_written)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== On_written.lean ====
abbrev S4096x5120 : Shape := ⟨2, ![4096, 5120]⟩
abbrev S4096x2048 : Shape := ⟨2, ![4096, 2048]⟩
abbrev S2x5136x1024 : Shape := ⟨3, ![2, 5136, 1024]⟩
abbrev S_ : Shape := ⟨0, ![]⟩

class Facts : Prop where
  bcast_S_S2x5136x1024 : S_.BroadcastsInDim S2x5136x1024 (![] : Fin 0 → Fin S2x5136x1024.rank)

variable [Facts]

def fn {F : FTy → Type} [FloatOps F] (main_arg0 : FVec F S4096x5120 .bf16) (main_arg1 : FVec F S4096x2048 .bf16) : IVec S2x5136x1024 1 :=
  let main_v0 : IVec S2x5136x1024 32 := iotaInDim S2x5136x1024 32 1
  let main_c : IVec S_ 32 := constantI S_ 32 5120#32
  let main_v1 : IVec S2x5136x1024 32 := broadcastInDim S2x5136x1024 ![] bcast_S_S2x5136x1024 main_c
  let main_v2 : IVec S2x5136x1024 1 := cmpi .slt main_v0 main_v1
  main_v2
-- ==== Pre_finite.lean ====
abbrev S4096x2048 : Shape := ⟨2, ![4096, 2048]⟩
abbrev S4x1408x2048 : Shape := ⟨3, ![4, 1408, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S4x1408x2048 : S_.BroadcastsInDim S4x1408x2048 (![] : Fin 0 → Fin S4x1408x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S4x1408x2048 .bf16) (main_arg2 : FVec F S4096x5632 .bf16) (main_arg3 : FVec F S4096x5632 .bf16) : IVec S4096x2048 1 × IVec S4x1408x2048 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4x1408x2048 .f32 := (extf .f32 · bitsLt_bf16_f32) main_arg1
  let main_v5 : FVec F S4x1408x2048 .f32 := Host.absf main_v4
  let main_cst_0 : FVec F S_ .f32 := constant S_ .f32 0x7F800000#32
  let main_v6 : FVec F S4x1408x2048 .f32 := broadcastInDim S4x1408x2048 ![] bcast_S_S4x1408x2048 main_cst_0
  let main_v7 : IVec S4x1408x2048 1 := cmpf .olt main_v5 main_v6
  let main_v8 : FVec F S4096x5632 .f32 := (extf .f32 · bitsLt_bf16_f32) main_arg3
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  (main_v3, main_v7, main_v11)
-- ==== Kernel.lean ====
abbrev S4096x2048 : Shape := ⟨2, ![4096, 2048]⟩
abbrev S4096x5632 : Shape := ⟨2, ![4096, 5632]⟩
abbrev S4x2048x1408 : Shape := ⟨3, ![4, 2048, 1408]⟩
abbrev S1024x512 : Shape := ⟨2, ![1024, 512]⟩
abbrev S1024x1408 : Shape := ⟨2, ![1024, 1408]⟩
abbrev S1x512x1408 : Shape := ⟨3, ![1, 512, 1408]⟩
abbrev S512x1408 : Shape := ⟨2, ![512, 1408]⟩

abbrev nBuf : Space → Nat
  | .hbm => 5
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S4x2048x1408, .bf16⟩
  | .hbm, ⟨4, _⟩ => ⟨S4x2048x1408, .bf16⟩
  | .local _ .vmem, ⟨0, _⟩ => ⟨S1024x512, .bf16⟩
  | .local _ .vmem, ⟨1, _⟩ => ⟨S1024x512, .bf16⟩
  | .local _ .vmem, ⟨2, _⟩ => ⟨S1024x1408, .bf16⟩
  | .local _ .vmem, ⟨3, _⟩ => ⟨S1024x1408, .bf16⟩
  | .local _ .vmem, ⟨4, _⟩ => ⟨S1024x512, .bf16⟩
  | .local _ .vmem, ⟨5, _⟩ => ⟨S1024x512, .bf16⟩
  | .local _ .vmem, ⟨6, _⟩ => ⟨S1024x1408, .bf16⟩
  | .local _ .vmem, ⟨7, _⟩ => ⟨S1024x1408, .bf16⟩
  | .local _ .vmem, ⟨8, _⟩ => ⟨S1x512x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x512x1408, .bf16⟩
  | .local _ .vmem, ⟨12, _⟩ => ⟨S512x1408, .f32⟩
  | .local _ .vmem, ⟨13, _⟩ => ⟨S512x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S4096x2048 : Shape := ⟨2, ![4096, 2048]⟩
abbrev S4096x5632 : Shape := ⟨2, ![4096, 5632]⟩
abbrev S5632x2048 : Shape := ⟨2, ![5632, 2048]⟩
abbrev S2048x5632 : Shape := ⟨2, ![2048, 5632]⟩
abbrev S2048x4x1408 : Shape := ⟨3, ![2048, 4, 1408]⟩
abbrev S4x2048x1408 : Shape := ⟨3, ![4, 2048, 1408]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S5632x2048, .f32⟩
  | .hbm, ⟨7, _⟩ => ⟨S2048x5632, .f32⟩
  | .hbm, ⟨8, _⟩ => ⟨S5632x2048, .f32⟩
  | .hbm, ⟨9, _⟩ => ⟨S2048x5632, .f32⟩
  | .hbm, ⟨10, _⟩ => ⟨S2048x5632, .bf16⟩
  | .hbm, ⟨11, _⟩ => ⟨S2048x4x1408, .bf16⟩
  | .hbm, ⟨12, _⟩ => ⟨S4x2048x1408, .bf16⟩
  | .hbm, ⟨13, _⟩ => ⟨S2048x5632, .bf16⟩
  | .hbm, ⟨14, _⟩ => ⟨S2048x4x1408, .bf16⟩
  | .hbm, ⟨15, _⟩ => ⟨S4x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel2.lean ====
abbrev S4096x5632 : Shape := ⟨2, ![4096, 5632]⟩
abbrev S4096x2048 : Shape := ⟨2, ![4096, 2048]⟩
abbrev S4x1408x2048 : Shape := ⟨3, ![4, 1408, 2048]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4x1408x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x5632 : Shape := ⟨2, ![4096, 5632]⟩
abbrev S4096x2048 : Shape := ⟨2, ![4096, 2048]⟩
abbrev S2048x5632 : Shape := ⟨2, ![2048, 5632]⟩
abbrev S5632x2048 : Shape := ⟨2, ![5632, 2048]⟩
abbrev S4x1408x2048 : Shape := ⟨3, ![4, 1408, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S2048x5632, .f32⟩
  | .hbm, ⟨5, _⟩ => ⟨S5632x2048, .f32⟩
  | .hbm, ⟨6, _⟩ => ⟨S5632x2048, .bf16⟩
  | .hbm, ⟨7, _⟩ => ⟨S4x1408x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S4096x5632 : Shape := ⟨2, ![4096, 5632]⟩
abbrev S4x1408x2048 : Shape := ⟨3, ![4, 1408, 2048]⟩
abbrev S4096x2048 : Shape := ⟨2, ![4096, 2048]⟩
abbrev S512x1408 : Shape := ⟨2, ![512, 1408]⟩
abbrev S1x1408x2048 : Shape := ⟨3, ![1, 1408, 2048]⟩
abbrev S512x2048 : Shape := ⟨2, ![512, 2048]⟩
abbrev S1408x2048 : Shape := ⟨2, ![1408, 2048]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S4x1408x2048, .bf16⟩
  | .hbm, ⟨2, _⟩ => ⟨S4096x2048, .f32⟩
  | .hbm, ⟨3, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x5632 : Shape := ⟨2, ![4096, 5632]⟩
abbrev S4x1408x2048 : Shape := ⟨3, ![4, 1408, 2048]⟩
abbrev S4096x2048 : Shape := ⟨2, ![4096, 2048]⟩
abbrev S5632x2048 : Shape := ⟨2, ![5632, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1408x2048, .bf16⟩
  | .hbm, ⟨2, _⟩ => ⟨S4096x2048, .f32⟩
  | .hbm, ⟨3, _⟩ => ⟨S4096x5632, .f32⟩
  | .hbm, ⟨4, _⟩ => ⟨S5632x2048, .bf16⟩
  | .hbm, ⟨5, _⟩ => ⟨S5632x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S4096x2048 : Shape := ⟨2, ![4096, 2048]⟩
abbrev S4x512x2048 : Shape := ⟨3, ![4, 512, 2048]⟩
abbrev S1024x512 : Shape := ⟨2, ![1024, 512]⟩
abbrev S1024x2048 : Shape := ⟨2, ![1024, 2048]⟩
abbrev S1x512x2048 : Shape := ⟨3, ![1, 512, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x512x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2048x2048 : Shape := ⟨2, ![2048, 2048]⟩
abbrev S4x512x2048 : Shape := ⟨3, ![4, 512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S4x512x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S4096x2048 : Shape := ⟨2, ![4096, 2048]⟩
abbrev S4x512x2048 : Shape := ⟨3, ![4, 512, 2048]⟩
abbrev S2x1024x2048 : Shape := ⟨3, ![2, 1024, 2048]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S4096x2048, .f32⟩
  | .hbm, ⟨3, _⟩ => ⟨S2x1024x2048, .bf16⟩
  | .hbm, ⟨4, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x2048 : Shape := ⟨2, ![4096, 2048]⟩
abbrev S4x512x2048 : Shape := ⟨3, ![4, 512, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S4096x2048, .f32⟩
  | .hbm, ⟨3, _⟩ => ⟨S4096x2048, .f32⟩
  | .hbm, ⟨4, _⟩ => ⟨S2048x2048, .bf16⟩
  | .hbm, ⟨5, _⟩ => ⟨S2048x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x2048 : Shape := ⟨2, ![4096, 2048]⟩
abbrev S4x512x2048 : Shape := ⟨3, ![4, 512, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S2048x2048, .bf16⟩
  | .hbm, ⟨3, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x2048 : Shape := ⟨2, ![4096, 2048]⟩
abbrev S4x512x2048 : Shape := ⟨3, ![4, 512, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S2048x2048, .bf16⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S4096x2048 : Shape := ⟨2, ![4096, 2048]⟩
abbrev S4x1408x2048 : Shape := ⟨3, ![4, 1408, 2048]⟩
abbrev S4096x5632 : Shape := ⟨2, ![4096, 5632]⟩
abbrev S512x2048 : Shape := ⟨2, ![512, 2048]⟩
abbrev S1x1408x2048 : Shape := ⟨3, ![1, 1408, 2048]⟩
abbrev S512x1408 : Shape := ⟨2, ![512, 1408]⟩
abbrev S1408x2048 : Shape := ⟨2, ![1408, 2048]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4x1408x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S4096x2048 : Shape := ⟨2, ![4096, 2048]⟩
abbrev S4x1408x2048 : Shape := ⟨3, ![4, 1408, 2048]⟩
abbrev S4096x5632 : Shape := ⟨2, ![4096, 5632]⟩
abbrev S5632x2048 : Shape := ⟨2, ![5632, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1408x2048, .bf16⟩
  | .hbm, ⟨2, _⟩ => ⟨S4096x5632, .bf16⟩
  | .hbm, ⟨3, _⟩ => ⟨S4096x5632, .bf16⟩
  | .hbm, ⟨4, _⟩ => ⟨S5632x2048, .bf16⟩
  | .hbm, ⟨5, _⟩ => ⟨S5632x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x2048, .f32⟩
  | .hbm, ⟨23, _⟩ => ⟨S4096x2048, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .bf16⟩
  | .hbm, ⟨32, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel8.lean ====
abbrev S4096x5632 : Shape := ⟨2, ![4096, 5632]⟩
abbrev S4x2048x1408 : Shape := ⟨3, ![4, 2048, 1408]⟩
abbrev S4096x2048 : Shape := ⟨2, ![4096, 2048]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩

abbrev nBuf : Space → Nat
  | .hbm => 5
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4x2048x1408, .bf16⟩
  | .hbm, ⟨3, _⟩ => ⟨S4x2048x1408, .bf16⟩
  | .hbm, ⟨4, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1408, .bf16⟩
  | .local _ .vmem, ⟨5, _⟩ => ⟨S512x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference8Ideal.lean ====
abbrev S4096x5632 : Shape := ⟨2, ![4096, 5632]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4x2048x1408, .bf16⟩
  | .hbm, ⟨3, _⟩ => ⟨S4x2048x1408, .bf16⟩
  | .hbm, ⟨4, _⟩ => ⟨S2048x4x1408, .bf16⟩
  | .hbm, ⟨5, _⟩ => ⟨S2048x5632, .bf16⟩
  | .hbm, ⟨6, _⟩ => ⟨S2048x5632, .f32⟩
  | .hbm, ⟨7, _⟩ => ⟨S2048x4x1408, .bf16⟩
  | .hbm, ⟨8, _⟩ => ⟨S2048x5632, .bf16⟩
  | .hbm, ⟨9, _⟩ => ⟨S2048x5632, .f32⟩
  | .hbm, ⟨10, _⟩ => ⟨S4096x5632, .f32⟩
  | .hbm, ⟨11, _⟩ => ⟨S4096x5632, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel9.lean ====
abbrev S4096x5120 : Shape := ⟨2, ![4096, 5120]⟩
abbrev S5136x2048 : Shape := ⟨2, ![5136, 2048]⟩
abbrev S4096x128 : Shape := ⟨2, ![4096, 128]⟩
abbrev S16x2048 : Shape := ⟨2, ![16, 2048]⟩
abbrev S_ : Shape := ⟨0, ![]⟩
abbrev S128x2048 : Shape := ⟨2, ![128, 2048]⟩
abbrev S4096x2048 : Shape := ⟨2, ![4096, 2048]⟩
abbrev S512x1280 : Shape := ⟨2, ![512, 1280]⟩
abbrev S1280x2048 : Shape := ⟨2, ![1280, 2048]⟩
abbrev S512x128 : Shape := ⟨2, ![512, 128]⟩
abbrev S512x2048 : Shape := ⟨2, ![512, 2048]⟩

abbrev nBuf : Space → Nat
  | .hbm => 8
  | .vmem => 10
  | .smem => 0
  | _ => 0

abbrev bufTy : (tb : Table) → Fin (tcTables nBuf tb) → BufTy
  | .hbm, ⟨0, _⟩ => ⟨S4096x5120, .bf16⟩
  | .hbm, ⟨1, _⟩ => ⟨S5136x2048, .bf16⟩
  | .hbm, ⟨2, _⟩ => ⟨S4096x128, .bf16⟩
  | .hbm, ⟨3, _⟩ => ⟨S16x2048, .bf16⟩
  | .hbm, ⟨4, _⟩ => ⟨S_, .i32⟩
  | .hbm, ⟨5, _⟩ => ⟨S_, .bf16⟩
  | .hbm, ⟨6, _⟩ => ⟨S128x2048, .bf16⟩
  | .hbm, ⟨7, _⟩ => ⟨S4096x2048, .f32⟩
  | .local _ .vmem, ⟨0, _⟩ => ⟨S512x1280, .bf16⟩
  | .local _ .vmem, ⟨1, _⟩ => ⟨S512x1280, .bf16⟩
  | .local _ .vmem, ⟨2, _⟩ => ⟨S1280x2048, .bf16⟩
  | .local _ .vmem, ⟨3, _⟩ => ⟨S1280x2048, .bf16⟩
  | .local _ .vmem, ⟨4, _⟩ => ⟨S512x128, .bf16⟩
  | .local _ .vmem, ⟨5, _⟩ => ⟨S512x128, .bf16⟩
  | .local _ .vmem, ⟨6, _⟩ => ⟨S128x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference9Ideal.lean ====
abbrev S4096x5120 : Shape := ⟨2, ![4096, 5120]⟩
abbrev S5136x2048 : Shape := ⟨2, ![5136, 2048]⟩
abbrev S4096x128 : Shape := ⟨2, ![4096, 128]⟩
abbrev S4096x16 : Shape := ⟨2, ![4096, 16]⟩
abbrev S4096x5136 : Shape := ⟨2, ![4096, 5136]⟩
abbrev S2048x5136 : Shape := ⟨2, ![2048, 5136]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S5136x2048, .bf16⟩
  | .hbm, ⟨2, _⟩ => ⟨S4096x128, .bf16⟩
  | .hbm, ⟨3, _⟩ => ⟨S4096x16, .bf16⟩
  | .hbm, ⟨4, _⟩ => ⟨S4096x5136, .bf16⟩
  | .hbm, ⟨5, _⟩ => ⟨S4096x5136, .f32⟩
  | .hbm, ⟨6, _⟩ => ⟨S5136x2048, .f32⟩
  | .hbm, ⟨7, _⟩ => ⟨S2048x5136, .f32⟩
  | .hbm, ⟨8, _⟩ => ⟨S4096x2048, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x5120 : Shape := ⟨2, ![4096, 5120]⟩
abbrev S4096x2048 : Shape := ⟨2, ![4096, 2048]⟩
abbrev S2x5136x1024 : Shape := ⟨3, ![2, 5136, 1024]⟩
abbrev S1024x1280 : Shape := ⟨2, ![1024, 1280]⟩
abbrev S1024x1024 : Shape := ⟨2, ![1024, 1024]⟩
abbrev S1x1280x1024 : Shape := ⟨3, ![1, 1280, 1024]⟩
abbrev S1280x1024 : Shape := ⟨2, ![1280, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5120, .bf16⟩
  | .hbm, ⟨1, _⟩ => ⟨S4096x2048, .bf16⟩
  | .hbm, ⟨2, _⟩ => ⟨S2x5136x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1x1280x1024, .bf16⟩
  | .local _ .vmem, ⟨5, _⟩ => ⟨S1x1280x1024, .bf16⟩
  | .local _ .vmem, ⟨6, _⟩ => ⟨S1280x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x5120 : Shape := ⟨2, ![4096, 5120]⟩
abbrev S4096x2048 : Shape := ⟨2, ![4096, 2048]⟩
abbrev S5120x2048 : Shape := ⟨2, ![5120, 2048]⟩
abbrev S2048x5120 : Shape := ⟨2, ![2048, 5120]⟩
abbrev S5120x2x1024 : Shape := ⟨3, ![5120, 2, 1024]⟩
abbrev S2x5120x1024 : Shape := ⟨3, ![2, 5120, 1024]⟩
abbrev S_ : Shape := ⟨0, ![]⟩
abbrev S2x5136x1024 : Shape := ⟨3, ![2, 5136, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S4096x2048, .bf16⟩
  | .hbm, ⟨2, _⟩ => ⟨S4096x2048, .f32⟩
  | .hbm, ⟨3, _⟩ => ⟨S4096x5120, .f32⟩
  | .hbm, ⟨4, _⟩ => ⟨S5120x2048, .f32⟩
  | .hbm, ⟨5, _⟩ => ⟨S2048x5120, .f32⟩
  | .hbm, ⟨6, _⟩ => ⟨S2048x5120, .bf16⟩
  | .hbm, ⟨7, _⟩ => ⟨S5120x2048, .bf16⟩
  | .hbm, ⟨8, _⟩ => ⟨S5120x2x1024, .bf16⟩
  | .hbm, ⟨9, _⟩ => ⟨S2x5120x1024, .bf16⟩
  | .hbm, ⟨10, _⟩ => ⟨S_, .i32⟩
  | .hbm, ⟨11, _⟩ => ⟨S_, .bf16⟩
  | .hbm, ⟨12, _⟩ => ⟨S2x5136x1024, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel11.lean ====
abbrev S4096x2048 : Shape := ⟨2, ![4096, 2048]⟩
abbrev S4x2048x1408 : Shape := ⟨3, ![4, 2048, 1408]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 6
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x2048, .bf16⟩
  | .local _ .vmem, ⟨5, _⟩ => ⟨S512x2048, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference11Ideal.lean ====
abbrev S4096x2048 : Shape := ⟨2, ![4096, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S4096x5632 : Shape := ⟨2, ![4096, 5632]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S4096x2048, .f32⟩
  | .hbm, ⟨4, _⟩ => ⟨S2048x4x1408, .bf16⟩
  | .hbm, ⟨5, _⟩ => ⟨S2048x5632, .bf16⟩
  | .hbm, ⟨6, _⟩ => ⟨S2048x5632, .f32⟩
  | .hbm, ⟨7, _⟩ => ⟨S4096x5632, .f32⟩
  | .hbm, ⟨8, _⟩ => ⟨S2048x4x1408, .bf16⟩
  | .hbm, ⟨9, _⟩ => ⟨S2048x5632, .bf16⟩
  | .hbm, ⟨10, _⟩ => ⟨S2048x5632, .f32⟩
  | .hbm, ⟨11, _⟩ => ⟨S4096x5632, .f32⟩
  | .hbm, ⟨12, _⟩ => ⟨S4096x5632, .bf16⟩
  | .hbm, ⟨13, _⟩ => ⟨S4096x5632, .bf16⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== Kernel12.lean ====
abbrev S4096x2048 : Shape := ⟨2, ![4096, 2048]⟩
abbrev S5136x2048 : Shape := ⟨2, ![5136, 2048]⟩
abbrev S4096x5120 : Shape := ⟨2, ![4096, 5120]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5136x2048, .bf16⟩
  | .hbm, ⟨2, _⟩ => ⟨S4096x5120, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x2048 : Shape := ⟨2, ![4096, 2048]⟩
abbrev S5136x2048 : Shape := ⟨2, ![5136, 2048]⟩
abbrev S5120x2048 : Shape := ⟨2, ![5120, 2048]⟩
abbrev S2048x5120 : Shape := ⟨2, ![2048, 5120]⟩
abbrev S4096x5120 : Shape := ⟨2, ![4096, 5120]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5136x2048, .bf16⟩
  | .hbm, ⟨2, _⟩ => ⟨S4096x2048, .f32⟩
  | .hbm, ⟨3, _⟩ => ⟨S5120x2048, .bf16⟩
  | .hbm, ⟨4, _⟩ => ⟨S5120x2048, .f32⟩
  | .hbm, ⟨5, _⟩ => ⟨S2048x5120, .f32⟩
  | .hbm, ⟨6, _⟩ => ⟨S4096x5120, .f32⟩
  | .hbm, ⟨7, _⟩ => ⟨S4096x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel13.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S256x2048 : Shape := ⟨2, ![256, 2048]⟩
abbrev S256x1 : Shape := ⟨2, ![256, 1]⟩
abbrev S256 : Shape := ⟨1, ![256]⟩

abbrev nBuf : Space → Nat
  | .hbm => 19
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S1x2048, .f32⟩
  | .hbm, ⟨16, _⟩ => ⟨S4096x2048, .f32⟩
  | .hbm, ⟨17, _⟩ => ⟨S4096x2048, .bf16⟩
  | .hbm, ⟨18, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_18 : BitVec 32 := 0#32
  let v34 : BitVec 1 := Scalar.cmpi .ne v33 c0_i32_18
  v34

def k0_cond2 (i : grid0.Coords) : BitVec 1 :=
  let arg0 : BitVec 32 := BitVec.ofNat 32 (i 0).val
  let c0_i32_19 : BitVec 32 := 0#32
  let v35 : BitVec 1 := Scalar.cmpi .sgt arg0 c0_i32_19
  let v36 : BitVec 32 := Scalar.extui v35
  let c0_i32_20 : BitVec 32 := 0#32
  let v37 : BitVec 1 := Scalar.cmpi .ne v36 c0_i32_20
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference13Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel14.lean ====
abbrev S4096x2048 : Shape := ⟨2, ![4096, 2048]⟩
abbrev S4x2048x1408 : Shape := ⟨3, ![4, 2048, 1408]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x1408, .bf16⟩
  | .local _ .vmem, ⟨5, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x2048 : Shape := ⟨2, ![4096, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4096x2048, .f32⟩
  | .hbm, ⟨3, _⟩ => ⟨S2048x4x1408, .bf16⟩
  | .hbm, ⟨4, _⟩ => ⟨S2048x5632, .bf16⟩
  | .hbm, ⟨5, _⟩ => ⟨S2048x5632, .f32⟩
  | .hbm, ⟨6, _⟩ => ⟨S4096x5632, .f32⟩
  | .hbm, ⟨7, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel15.lean ====
abbrev S4096x2048 : Shape := ⟨2, ![4096, 2048]⟩
abbrev S4x2048x1408 : Shape := ⟨3, ![4, 2048, 1408]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference15Ideal.lean ====
abbrev S4096x2048 : Shape := ⟨2, ![4096, 2048]⟩
abbrev S4x2048x1408 : Shape := ⟨3, ![4, 2048, 1408]⟩
abbrev S4096x5632 : Shape := ⟨2, ![4096, 5632]⟩
abbrev S2048x4x1408 : Shape := ⟨3, ![2048, 4, 1408]⟩
abbrev S2048x5632 : Shape := ⟨2, ![2048, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4096x5632, .bf16⟩
  | .hbm, ⟨3, _⟩ => ⟨S4096x2048, .f32⟩
  | .hbm, ⟨4, _⟩ => ⟨S2048x4x1408, .bf16⟩
  | .hbm, ⟨5, _⟩ => ⟨S2048x5632, .bf16⟩
  | .hbm, ⟨6, _⟩ => ⟨S2048x5632, .f32⟩
  | .hbm, ⟨7, _⟩ => ⟨S4096x5632, .f32⟩
  | .hbm, ⟨8, _⟩ => ⟨S4096x5632, .bf16⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel16.lean ====
abbrev S4096x2048 : Shape := ⟨2, ![4096, 2048]⟩
abbrev S2048 : Shape := ⟨1, ![2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .hbm, ⟨4, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1, .f32⟩
  | .local _ .vmem, ⟨6, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel17.lean ====
abbrev S4096x128 : Shape := ⟨2, ![4096, 128]⟩
abbrev S1x128 : Shape := ⟨2, ![1, 128]⟩
abbrev S512x128 : Shape := ⟨2, ![512, 128]⟩
abbrev S512x512 : Shape := ⟨2, ![512, 512]⟩
abbrev S128 : Shape := ⟨1, ![128]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .bf16⟩
  | .hbm, ⟨3, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .bf16⟩
  | .local _ .vmem, ⟨5, _⟩ => ⟨S512x128, .bf16⟩
  | .local _ .vmem, ⟨6, _⟩ => ⟨S1x128, .f32⟩
  | .local _ .vmem, ⟨7, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_16 : BitVec 32 := 0#32
  let v37 : BitVec 1 := Scalar.cmpi .eq arg0 c0_i32_16
  let v38 : BitVec 32 := Scalar.extui v37
  let c0_i32_17 : BitVec 32 := 0#32
  let v39 : BitVec 1 := Scalar.cmpi .ne v38 c0_i32_17
  v39

def k0_cond3 (i : grid0.Coords) : BitVec 1 :=
  let arg0 : BitVec 32 := BitVec.ofNat 32 (i 0).val
  let c0_i32_18 : BitVec 32 := 0#32
  let v40 : BitVec 1 := Scalar.cmpi .sgt arg0 c0_i32_18
  let v41 : BitVec 32 := Scalar.extui v40
  let c0_i32_19 : BitVec 32 := 0#32
  let v42 : BitVec 1 := Scalar.cmpi .ne v41 c0_i32_19
  v42

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference17Ideal.lean ====
abbrev S4096x128 : Shape := ⟨2, ![4096, 128]⟩
abbrev S4096x16 : Shape := ⟨2, ![4096, 16]⟩
abbrev S_ : Shape := ⟨0, ![]⟩
abbrev S16 : Shape := ⟨1, ![16]⟩
abbrev S1x16 : Shape := ⟨2, ![1, 16]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x16, .f32⟩
  | .hbm, ⟨3, _⟩ => ⟨S_, .f32⟩
  | .hbm, ⟨4, _⟩ => ⟨S16, .f32⟩
  | .hbm, ⟨5, _⟩ => ⟨S1x16, .f32⟩
  | .hbm, ⟨6, _⟩ => ⟨S4096x16, .f32⟩
  | .hbm, ⟨7, _⟩ => ⟨S4096x16, .f32⟩
  | .hbm, ⟨8, _⟩ => ⟨S4096x16, .f32⟩
  | .hbm, ⟨9, _⟩ => ⟨S_, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4096x16, .f32⟩
  | .hbm, ⟨14, _⟩ => ⟨S4096x16, .i1⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S_, .f32⟩
  | .hbm, ⟨24, _⟩ => ⟨S4096x16, .f32⟩
  | .hbm, ⟨25, _⟩ => ⟨S4096x16, .i1⟩
  | .hbm, ⟨26, _⟩ => ⟨S_, .f32⟩
  | .hbm, ⟨27, _⟩ => ⟨S4096x16, .f32⟩
  | .hbm, ⟨28, _⟩ => ⟨S4096x16, .f32⟩
  | .hbm, ⟨29, _⟩ => ⟨S_, .f32⟩
  | .hbm, ⟨30, _⟩ => ⟨S4096x16, .f32⟩
  | .hbm, ⟨31, _⟩ => ⟨S4096x16, .i1⟩
  | .hbm, ⟨32, _⟩ => ⟨S_, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096x16, .f32⟩
  | .hbm, ⟨45, _⟩ => ⟨S4096x16, .i1⟩
  | .hbm, ⟨46, _⟩ => ⟨S_, .f32⟩
  | .hbm, ⟨47, _⟩ => ⟨S4096x16, .f32⟩
  | .hbm, ⟨48, _⟩ => ⟨S4096x16, .f32⟩
  | .hbm, ⟨49, _⟩ => ⟨S4096x16, .f32⟩
  | .hbm, ⟨50, _⟩ => ⟨S4096x16, .f32⟩
  | .hbm, ⟨51, _⟩ => ⟨S4096x16, .f32⟩
  | .hbm, ⟨52, _⟩ => ⟨S_, .f32⟩
  | .hbm, ⟨53, _⟩ => ⟨S4096x16, .f32⟩
  | .hbm, ⟨54, _⟩ => ⟨S4096x16, .f32⟩
  | .hbm, ⟨55, _⟩ => ⟨S4096x16, .f32⟩
  | .hbm, ⟨56, _⟩ => ⟨S_, .f32⟩
  | .hbm, ⟨57, _⟩ => ⟨S_, .f32⟩
  | .hbm, ⟨58, _⟩ => ⟨S4096x16, .f32⟩
  | .hbm, ⟨59, _⟩ => ⟨S4096x16, .f32⟩
  | .hbm, ⟨60, _⟩ => ⟨S_, .f32⟩
  | .hbm, ⟨61, _⟩ => ⟨S_, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x16, .f32⟩
  | .hbm, ⟨66, _⟩ => ⟨S_, .f32⟩
  | .hbm, ⟨67, _⟩ => ⟨S16, .f32⟩
  | .hbm, ⟨68, _⟩ => ⟨S1x16, .f32⟩
  | .hbm, ⟨69, _⟩ => ⟨S_, .f32⟩
  | .hbm, ⟨70, _⟩ => ⟨S16, .f32⟩
  | .hbm, ⟨71, _⟩ => ⟨S_, .i32⟩
  | .hbm, ⟨72, _⟩ => ⟨S_, .f32⟩
  | .hbm, ⟨73, _⟩ => ⟨S4096x128, .f32⟩
  | .hbm, ⟨74, _⟩ => ⟨S4096x128, .bf16⟩
  | .hbm, ⟨75, _⟩ => ⟨S1x16, .f32⟩
  | .hbm, ⟨76, _⟩ => ⟨S_, .i32⟩
  | .hbm, ⟨77, _⟩ => ⟨S_, .f32⟩
  | .hbm, ⟨78, _⟩ => ⟨S1x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1_0 : Ref sig .tc := ⟨.hbm, 22, rfl⟩
abbrev main_call0_call0_cst_0 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst_1 : Ref sig .tc := ⟨.hbm, 26, rfl⟩
abbrev main_call0_call0_v15 : Ref sig .tc := ⟨.hbm, 27, rfl⟩
abbrev main_call0_call0_v16 : Ref sig .tc := ⟨.hbm, 28, rfl⟩
abbrev main_call0_call0_cst_2 : Ref sig .tc := ⟨.hbm, 29, rfl⟩
abbrev main_call0_call0_v17 : Ref sig .tc := ⟨.hbm, 30, rfl⟩
abbrev main_call0_call0_v18 : Ref sig .tc := ⟨.hbm, 31, rfl⟩
abbrev main_call0_call0_cst_3 : Ref sig .tc := ⟨.hbm, 32, rfl⟩
abbrev main_call0_call0_v19 : Ref sig .tc := ⟨.hbm, 33, rfl⟩
abbrev main_call0_call0_v20 : Ref sig .tc := ⟨.hbm, 34, rfl⟩
abbrev main_call0_call0_v21 : Ref sig .tc := ⟨.hbm, 35, rfl⟩
abbrev main_v5_1 : Ref sig .tc := ⟨.hbm, 36, rfl⟩
abbrev main_call0_call0_cst_4 : Ref sig .tc := ⟨.hbm, 37, rfl⟩
abbrev main_call0_call0_cst_5 : Ref sig .tc := ⟨.hbm, 38, rfl⟩
abbrev main_call0_call0_v23 : Ref sig .tc := ⟨.hbm, 39, rfl⟩
abbrev main_call0_call0_cst_6 : Ref sig .tc := ⟨.hbm, 40, rfl⟩
abbrev main_call0_call0_cst_7 : Ref sig .tc := ⟨.hbm, 41, rfl⟩
abbrev main_call0_call0_v24 : Ref sig .tc := ⟨.hbm, 42, rfl⟩
abbrev main_call0_call0_cst_8 : Ref sig .tc := ⟨.hbm, 43, rfl⟩
abbrev main_call0_call0_v25 : Ref sig .tc := ⟨.hbm, 44, rfl⟩
abbrev main_call0_call0_v26 : Ref sig .tc := ⟨.hbm, 45, rfl⟩
abbrev main_call0_call0_cst_9 : Ref sig .tc := ⟨.hbm, 46, rfl⟩
abbrev main_call0_call0_v27 : Ref sig .tc := ⟨.hbm, 47, rfl⟩
abbrev main_call0_call0_v28 : Ref sig .tc := ⟨.hbm, 48, rfl⟩
abbrev main_call0_call0_v29 : Ref sig .tc := ⟨.hbm, 49, rfl⟩
abbrev main_call0_call0_v30 : Ref sig .tc := ⟨.hbm, 50, rfl⟩
abbrev main_call0_call0_v31 : Ref sig .tc := ⟨.hbm, 51, rfl⟩
abbrev main_call0_call0_cst_10 : Ref sig .tc := ⟨.hbm, 52, rfl⟩
abbrev main_call0_call0_v32 : Ref sig .tc := ⟨.hbm, 53, rfl⟩
abbrev main_v5_2 : Ref sig .tc := ⟨.hbm, 54, rfl⟩
abbrev main_v5_0 : Ref sig .tc := ⟨.hbm, 55, rfl⟩
abbrev main_call1_call0_cst : Ref sig .tc := ⟨.hbm, 56, rfl⟩
abbrev main_call1_call0_v0 : Ref sig .tc := ⟨.hbm, 57, rfl⟩
abbrev main_v6 : Ref sig .tc := ⟨.hbm, 58, rfl⟩
abbrev main_v7 : Ref sig .tc := ⟨.hbm, 59, rfl⟩
abbrev main_call2_call0_cst : Ref sig .tc := ⟨.hbm, 60, rfl⟩
abbrev main_call2_call0_v0 : Ref sig .tc := ⟨.hbm, 61, rfl⟩
abbrev main_v8 : Ref sig .tc := ⟨.hbm, 62, rfl⟩
abbrev main_call3_v0 : Ref sig .tc := ⟨.hbm, 63, rfl⟩
abbrev main_call3_v1 : Ref sig .tc := ⟨.hbm, 64, rfl⟩
abbrev main_v9 : Ref sig .tc := ⟨.hbm, 65, rfl⟩
abbrev main_cst_0 : Ref sig .tc := ⟨.hbm, 66, rfl⟩
abbrev main_v10 : Ref sig .tc := ⟨.hbm, 67, rfl⟩
abbrev main_v11 : Ref sig .tc := ⟨.hbm, 68, rfl⟩
abbrev main_cst_1 : Ref sig .tc := ⟨.hbm, 69, rfl⟩
abbrev main_v12 : Ref sig .tc := ⟨.hbm, 70, rfl⟩
abbrev main_c : Ref sig .tc := ⟨.hbm, 71, rfl⟩
abbrev main_call4_v0 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_c_2 : Ref sig .tc := ⟨.hbm, 76, rfl⟩
abbrev main_call5_v0 : Ref sig .tc := ⟨.hbm, 77, rfl⟩
abbrev main_v16 : Ref sig .tc := ⟨.hbm, 78, rfl⟩

abbrev nD : Nat := 1
abbrev τ : Topo := Topo.v7x

variable {F : FTy → Type} [FloatOps F]
-- ==== Kernel18.lean ====
abbrev S2048x1408 : Shape := ⟨2, ![2048, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S2048x1408 : Shape := ⟨2, ![2048, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S_, .f32⟩
  | .hbm, ⟨7, _⟩ => ⟨S2048x1408, .f32⟩
  | .hbm, ⟨8, _⟩ => ⟨S2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S1408x2048 : Shape := ⟨2, ![1408, 2048]⟩
abbrev S176x2048 : Shape := ⟨2, ![176, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S1408x2048 : Shape := ⟨2, ![1408, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S_, .f32⟩
  | .hbm, ⟨7, _⟩ => ⟨S1408x2048, .f32⟩
  | .hbm, ⟨8, _⟩ => ⟨S1408x2048, .f32⟩
  | .hbm, ⟨9, _⟩ => ⟨S_, .f32⟩
  | .hbm, ⟨10, _⟩ => ⟨S1408x2048, .f32⟩
  | .hbm, ⟨11, _⟩ => ⟨S1408x2048, .f32⟩
  | .hbm, ⟨12, _⟩ => ⟨S1408x2048, .f32⟩
  | .hbm, ⟨13, _⟩ => ⟨S_, .f32⟩
  | .hbm, ⟨14, _⟩ => ⟨S1408x2048, .f32⟩
  | .hbm, ⟨15, _⟩ => ⟨S1408x2048, .f32⟩
  | .hbm, ⟨16, _⟩ => ⟨S1408x2048, .f32⟩
  | .hbm, ⟨17, _⟩ => ⟨S_, .f32⟩
  | .hbm, ⟨18, _⟩ => ⟨S1408x2048, .f32⟩
  | .hbm, ⟨19, _⟩ => ⟨S1408x2048, .f32⟩
  | .hbm, ⟨20, _⟩ => ⟨S1408x2048, .f32⟩
  | .hbm, ⟨21, _⟩ => ⟨S_, .f32⟩
  | .hbm, ⟨22, _⟩ => ⟨S1408x2048, .f32⟩
  | .hbm, ⟨23, _⟩ => ⟨S1408x2048, .f32⟩
  | .hbm, ⟨24, _⟩ => ⟨S_, .f32⟩
  | .hbm, ⟨25, _⟩ => ⟨S1408x2048, .f32⟩
  | .hbm, ⟨26, _⟩ => ⟨S1408x2048, .f32⟩
  | .hbm, ⟨27, _⟩ => ⟨S1408x2048, .f32⟩
  | .hbm, ⟨28, _⟩ => ⟨S_, .f32⟩
  | .hbm, ⟨29, _⟩ => ⟨S1408x2048, .f32⟩
  | .hbm, ⟨30, _⟩ => ⟨S1408x2048, .f32⟩
  | .hbm, ⟨31, _⟩ => ⟨S1408x2048, .f32⟩
  | .hbm, ⟨32, _⟩ => ⟨S_, .f32⟩
  | .hbm, ⟨33, _⟩ => ⟨S1408x2048, .f32⟩
  | .hbm, ⟨34, _⟩ => ⟨S1408x2048, .f32⟩
  | .hbm, ⟨35, _⟩ => ⟨S1408x2048, .f32⟩
  | .hbm, ⟨36, _⟩ => ⟨S_, .f32⟩
  | .hbm, ⟨37, _⟩ => ⟨S1408x2048, .f32⟩
  | .hbm, ⟨38, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S1284x2048 : Shape := ⟨2, ![1284, 2048]⟩
abbrev S1284x256 : Shape := ⟨2, ![1284, 256]⟩

abbrev nBuf : Space → Nat
  | .hbm => 9
  | .vmem => 18
  | .smem => 0
  | _ => 0

abbrev bufTy : (tb : Table) → Fin (tcTables nBuf tb) → BufTy
  | .hbm, ⟨0, _⟩ => ⟨S1284x2048, .f32⟩
  | .hbm, ⟨1, _⟩ => ⟨S1284x2048, .f32⟩
  | .hbm, ⟨2, _⟩ => ⟨S1284x2048, .f32⟩
  | .hbm, ⟨3, _⟩ => ⟨S1284x2048, .f32⟩
  | .hbm, ⟨4, _⟩ => ⟨S1284x2048, .f32⟩
  | .hbm, ⟨5, _⟩ => ⟨S1284x2048, .f32⟩
  | .hbm, ⟨6, _⟩ => ⟨S1284x2048, .f32⟩
  | .hbm, ⟨7, _⟩ => ⟨S1284x2048, .f32⟩
  | .hbm, ⟨8, _⟩ => ⟨S1284x2048, .f32⟩
  | .local _ .vmem, ⟨0, _⟩ => ⟨S1284x256, .f32⟩
  | .local _ .vmem, ⟨1, _⟩ => ⟨S1284x256, .f32⟩
  | .local _ .vmem, ⟨2, _⟩ => ⟨S1284x256, .f32⟩
  | .local _ .vmem, ⟨3, _⟩ => ⟨S1284x256, .f32⟩
  | .local _ .vmem, ⟨4, _⟩ => ⟨S1284x256, .f32⟩
  | .local _ .vmem, ⟨5, _⟩ => ⟨S1284x256, .f32⟩
  | .local _ .vmem, ⟨6, _⟩ => ⟨S1284x256, .f32⟩
  | .local _ .vmem, ⟨7, _⟩ => ⟨S1284x256, .f32⟩
  | .local _ .vmem, ⟨8, _⟩ => ⟨S1284x256, .f32⟩
  | .local _ .vmem, ⟨9, _⟩ => ⟨S1284x256, .f32⟩
  | .local _ .vmem, ⟨10, _⟩ => ⟨S1284x256, .f32⟩
  | .local _ .vmem, ⟨11, _⟩ => ⟨S1284x256, .f32⟩
  | .local _ .vmem, ⟨12, _⟩ => ⟨S1284x256, .f32⟩
  | .local _ .vmem, ⟨13, _⟩ => ⟨S1284x256, .f32⟩
  | .local _ .vmem, ⟨14, _⟩ => ⟨S1284x256, .f32⟩
  | .local _ .vmem, ⟨15, _⟩ => ⟨S1284x256, .f32⟩
  | .local _ .vmem, ⟨16, _⟩ => ⟨S1284x256, .f32⟩
  | .local _ .vmem, ⟨17, _⟩ => ⟨S1284x256, .f32⟩
  | _, _ => ⟨S1284x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1284x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1284x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1284x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1284x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1284x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1284x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1284x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1284x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1284x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference20Ideal.lean ====
abbrev S1284x2048 : Shape := ⟨2, ![1284, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1284x2048, .f32⟩
  | .hbm, ⟨1, _⟩ => ⟨S1284x2048, .f32⟩
  | .hbm, ⟨2, _⟩ => ⟨S1284x2048, .f32⟩
  | .hbm, ⟨3, _⟩ => ⟨S1284x2048, .f32⟩
  | .hbm, ⟨4, _⟩ => ⟨S1284x2048, .f32⟩
  | .hbm, ⟨5, _⟩ => ⟨S1284x2048, .f32⟩
  | .hbm, ⟨6, _⟩ => ⟨S_, .f32⟩
  | .hbm, ⟨7, _⟩ => ⟨S1284x2048, .f32⟩
  | .hbm, ⟨8, _⟩ => ⟨S1284x2048, .f32⟩
  | .hbm, ⟨9, _⟩ => ⟨S_, .f32⟩
  | .hbm, ⟨10, _⟩ => ⟨S1284x2048, .f32⟩
  | .hbm, ⟨11, _⟩ => ⟨S1284x2048, .f32⟩
  | .hbm, ⟨12, _⟩ => ⟨S1284x2048, .f32⟩
  | .hbm, ⟨13, _⟩ => ⟨S_, .f32⟩
  | .hbm, ⟨14, _⟩ => ⟨S1284x2048, .f32⟩
  | .hbm, ⟨15, _⟩ => ⟨S1284x2048, .f32⟩
  | .hbm, ⟨16, _⟩ => ⟨S1284x2048, .f32⟩
  | .hbm, ⟨17, _⟩ => ⟨S_, .f32⟩
  | .hbm, ⟨18, _⟩ => ⟨S1284x2048, .f32⟩
  | .hbm, ⟨19, _⟩ => ⟨S1284x2048, .f32⟩
  | .hbm, ⟨20, _⟩ => ⟨S1284x2048, .f32⟩
  | .hbm, ⟨21, _⟩ => ⟨S_, .f32⟩
  | .hbm, ⟨22, _⟩ => ⟨S1284x2048, .f32⟩
  | .hbm, ⟨23, _⟩ => ⟨S1284x2048, .f32⟩
  | .hbm, ⟨24, _⟩ => ⟨S_, .f32⟩
  | .hbm, ⟨25, _⟩ => ⟨S1284x2048, .f32⟩
  | .hbm, ⟨26, _⟩ => ⟨S1284x2048, .f32⟩
  | .hbm, ⟨27, _⟩ => ⟨S1284x2048, .f32⟩
  | .hbm, ⟨28, _⟩ => ⟨S_, .f32⟩
  | .hbm, ⟨29, _⟩ => ⟨S1284x2048, .f32⟩
  | .hbm, ⟨30, _⟩ => ⟨S1284x2048, .f32⟩
  | .hbm, ⟨31, _⟩ => ⟨S1284x2048, .f32⟩
  | .hbm, ⟨32, _⟩ => ⟨S_, .f32⟩
  | .hbm, ⟨33, _⟩ => ⟨S1284x2048, .f32⟩
  | .hbm, ⟨34, _⟩ => ⟨S1284x2048, .f32⟩
  | .hbm, ⟨35, _⟩ => ⟨S1284x2048, .f32⟩
  | .hbm, ⟨36, _⟩ => ⟨S_, .f32⟩
  | .hbm, ⟨37, _⟩ => ⟨S1284x2048, .f32⟩
  | .hbm, ⟨38, _⟩ => ⟨S1284x2048, .f32⟩
  | _, _ => ⟨S1284x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S512x2048 : Shape := ⟨2, ![512, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference21Ideal.lean ====
abbrev S512x2048 : Shape := ⟨2, ![512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S_, .f32⟩
  | .hbm, ⟨7, _⟩ => ⟨S512x2048, .f32⟩
  | .hbm, ⟨8, _⟩ => ⟨S512x2048, .f32⟩
  | .hbm, ⟨9, _⟩ => ⟨S_, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S31x256 : Shape := ⟨2, ![31, 256]⟩

abbrev nBuf : Space → Nat
  | .hbm => 8
  | .vmem => 8
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S31x256, .f32⟩
  | .hbm, ⟨5, _⟩ => ⟨S31x256, .f32⟩
  | .hbm, ⟨6, _⟩ => ⟨S31x256, .f32⟩
  | .hbm, ⟨7, _⟩ => ⟨S31x256, .f32⟩
  | .local _ .vmem, ⟨0, _⟩ => ⟨S31x256, .f32⟩
  | .local _ .vmem, ⟨1, _⟩ => ⟨S31x256, .f32⟩
  | .local _ .vmem, ⟨2, _⟩ => ⟨S31x256, .f32⟩
  | .local _ .vmem, ⟨3, _⟩ => ⟨S31x256, .f32⟩
  | .local _ .vmem, ⟨4, _⟩ => ⟨S31x256, .f32⟩
  | .local _ .vmem, ⟨5, _⟩ => ⟨S31x256, .f32⟩
  | .local _ .vmem, ⟨6, _⟩ => ⟨S31x256, .f32⟩
  | .local _ .vmem, ⟨7, _⟩ => ⟨S31x256, .f32⟩
  | _, _ => ⟨S31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S31x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference22Ideal.lean ====
abbrev S31x256 : Shape := ⟨2, ![31, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S_, .f32⟩
  | .hbm, ⟨5, _⟩ => ⟨S31x256, .f32⟩
  | .hbm, ⟨6, _⟩ => ⟨S31x256, .f32⟩
  | .hbm, ⟨7, _⟩ => ⟨S_, .f32⟩
  | .hbm, ⟨8, _⟩ => ⟨S31x256, .f32⟩
  | .hbm, ⟨9, _⟩ => ⟨S31x256, .f32⟩
  | .hbm, ⟨10, _⟩ => ⟨S31x256, .f32⟩
  | .hbm, ⟨11, _⟩ => ⟨S_, .f32⟩
  | .hbm, ⟨12, _⟩ => ⟨S31x256, .f32⟩
  | .hbm, ⟨13, _⟩ => ⟨S31x256, .f32⟩
  | .hbm, ⟨14, _⟩ => ⟨S31x256, .f32⟩
  | .hbm, ⟨15, _⟩ => ⟨S_, .f32⟩
  | .hbm, ⟨16, _⟩ => ⟨S31x256, .f32⟩
  | .hbm, ⟨17, _⟩ => ⟨S31x256, .f32⟩
  | .hbm, ⟨18, _⟩ => ⟨S31x256, .f32⟩
  | .hbm, ⟨19, _⟩ => ⟨S_, .f32⟩
  | .hbm, ⟨20, _⟩ => ⟨S31x256, .f32⟩
  | .hbm, ⟨21, _⟩ => ⟨S31x256, .f32⟩
  | .hbm, ⟨22, _⟩ => ⟨S_, .f32⟩
  | .hbm, ⟨23, _⟩ => ⟨S31x256, .f32⟩
  | .hbm, ⟨24, _⟩ => ⟨S31x256, .f32⟩
  | .hbm, ⟨25, _⟩ => ⟨S31x256, .f32⟩
  | .hbm, ⟨26, _⟩ => ⟨S_, .f32⟩
  | .hbm, ⟨27, _⟩ => ⟨S31x256, .f32⟩
  | .hbm, ⟨28, _⟩ => ⟨S31x256, .f32⟩
  | .hbm, ⟨29, _⟩ => ⟨S31x256, .f32⟩
  | .hbm, ⟨30, _⟩ => ⟨S_, .f32⟩
  | .hbm, ⟨31, _⟩ => ⟨S31x256, .f32⟩
  | .hbm, ⟨32, _⟩ => ⟨S31x256, .f32⟩
  | .hbm, ⟨33, _⟩ => ⟨S31x256, .f32⟩
  | .hbm, ⟨34, _⟩ => ⟨S_, .f32⟩
  | .hbm, ⟨35, _⟩ => ⟨S31x256, .f32⟩
  | .hbm, ⟨36, _⟩ => ⟨S31x256, .f32⟩
  | _, _ => ⟨S31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S89x128 : Shape := ⟨2, ![89, 128]⟩

abbrev nBuf : Space → Nat
  | .hbm => 8
  | .vmem => 8
  | .smem => 0
  | _ => 0

abbrev bufTy : (tb : Table) → Fin (tcTables nBuf tb) → BufTy
  | .hbm, ⟨0, _⟩ => ⟨S89x128, .f32⟩
  | .hbm, ⟨1, _⟩ => ⟨S89x128, .f32⟩
  | .hbm, ⟨2, _⟩ => ⟨S89x128, .f32⟩
  | .hbm, ⟨3, _⟩ => ⟨S89x128, .f32⟩
  | .hbm, ⟨4, _⟩ => ⟨S89x128, .f32⟩
  | .hbm, ⟨5, _⟩ => ⟨S89x128, .f32⟩
  | .hbm, ⟨6, _⟩ => ⟨S89x128, .f32⟩
  | .hbm, ⟨7, _⟩ => ⟨S89x128, .f32⟩
  | .local _ .vmem, ⟨0, _⟩ => ⟨S89x128, .f32⟩
  | .local _ .vmem, ⟨1, _⟩ => ⟨S89x128, .f32⟩
  | .local _ .vmem, ⟨2, _⟩ => ⟨S89x128, .f32⟩
  | .local _ .vmem, ⟨3, _⟩ => ⟨S89x128, .f32⟩
  | .local _ .vmem, ⟨4, _⟩ => ⟨S89x128, .f32⟩
  | .local _ .vmem, ⟨5, _⟩ => ⟨S89x128, .f32⟩
  | .local _ .vmem, ⟨6, _⟩ => ⟨S89x128, .f32⟩
  | .local _ .vmem, ⟨7, _⟩ => ⟨S89x128, .f32⟩
  | _, _ => ⟨S89x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S89x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S89x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S89x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S89x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S89x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S89x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S89x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S89x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference23Ideal.lean ====
abbrev S89x128 : Shape := ⟨2, ![89, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S89x128, .f32⟩
  | .hbm, ⟨1, _⟩ => ⟨S89x128, .f32⟩
  | .hbm, ⟨2, _⟩ => ⟨S89x128, .f32⟩
  | .hbm, ⟨3, _⟩ => ⟨S89x128, .f32⟩
  | .hbm, ⟨4, _⟩ => ⟨S_, .f32⟩
  | .hbm, ⟨5, _⟩ => ⟨S89x128, .f32⟩
  | .hbm, ⟨6, _⟩ => ⟨S89x128, .f32⟩
  | .hbm, ⟨7, _⟩ => ⟨S_, .f32⟩
  | .hbm, ⟨8, _⟩ => ⟨S89x128, .f32⟩
  | .hbm, ⟨9, _⟩ => ⟨S89x128, .f32⟩
  | .hbm, ⟨10, _⟩ => ⟨S89x128, .f32⟩
  | .hbm, ⟨11, _⟩ => ⟨S_, .f32⟩
  | .hbm, ⟨12, _⟩ => ⟨S89x128, .f32⟩
  | .hbm, ⟨13, _⟩ => ⟨S89x128, .f32⟩
  | .hbm, ⟨14, _⟩ => ⟨S89x128, .f32⟩
  | .hbm, ⟨15, _⟩ => ⟨S_, .f32⟩
  | .hbm, ⟨16, _⟩ => ⟨S89x128, .f32⟩
  | .hbm, ⟨17, _⟩ => ⟨S89x128, .f32⟩
  | .hbm, ⟨18, _⟩ => ⟨S89x128, .f32⟩
  | .hbm, ⟨19, _⟩ => ⟨S_, .f32⟩
  | .hbm, ⟨20, _⟩ => ⟨S89x128, .f32⟩
  | .hbm, ⟨21, _⟩ => ⟨S89x128, .f32⟩
  | .hbm, ⟨22, _⟩ => ⟨S_, .f32⟩
  | .hbm, ⟨23, _⟩ => ⟨S89x128, .f32⟩
  | .hbm, ⟨24, _⟩ => ⟨S89x128, .f32⟩
  | .hbm, ⟨25, _⟩ => ⟨S89x128, .f32⟩
  | .hbm, ⟨26, _⟩ => ⟨S_, .f32⟩
  | .hbm, ⟨27, _⟩ => ⟨S89x128, .f32⟩
  | .hbm, ⟨28, _⟩ => ⟨S89x128, .f32⟩
  | .hbm, ⟨29, _⟩ => ⟨S89x128, .f32⟩
  | .hbm, ⟨30, _⟩ => ⟨S_, .f32⟩
  | .hbm, ⟨31, _⟩ => ⟨S89x128, .f32⟩
  | .hbm, ⟨32, _⟩ => ⟨S89x128, .f32⟩
  | .hbm, ⟨33, _⟩ => ⟨S89x128, .f32⟩
  | .hbm, ⟨34, _⟩ => ⟨S_, .f32⟩
  | .hbm, ⟨35, _⟩ => ⟨S89x128, .f32⟩
  | .hbm, ⟨36, _⟩ => ⟨S89x128, .f32⟩
  | _, _ => ⟨S89x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S2048x1408 : Shape := ⟨2, ![2048, 1408]⟩
abbrev S1024x1408 : Shape := ⟨2, ![1024, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S1024x1408, .f32⟩
  | .hbm, ⟨4, _⟩ => ⟨S1024x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference24Ideal.lean ====
abbrev S2048x1408 : Shape := ⟨2, ![2048, 1408]⟩
abbrev S1024x1408 : Shape := ⟨2, ![1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S1024x1408, .f32⟩
  | .hbm, ⟨4, _⟩ => ⟨S1024x1408, .f32⟩
  | .hbm, ⟨5, _⟩ => ⟨S2048x1408, .f32⟩
  | .hbm, ⟨6, _⟩ => ⟨S_, .f32⟩
  | .hbm, ⟨7, _⟩ => ⟨S2048x1408, .f32⟩
  | .hbm, ⟨8, _⟩ => ⟨S2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S4096x2048 : Shape := ⟨2, ![4096, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S8x128, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S8x128, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_22 : BitVec 32 := 0#32
  let v54 : BitVec 1 := Scalar.cmpi .ne v53 c0_i32_22
  v54

def k0_cond2 (i : grid0.Coords) : BitVec 1 :=
  let arg0 : BitVec 32 := BitVec.ofNat 32 (i 0).val
  let c0_i32_23 : BitVec 32 := 0#32
  let v55 : BitVec 1 := Scalar.cmpi .sgt arg0 c0_i32_23
  let v56 : BitVec 32 := Scalar.extui v55
  let c0_i32_24 : BitVec 32 := 0#32
  let v57 : BitVec 1 := Scalar.cmpi .ne v56 c0_i32_24
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference25Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S4096x2048, .f32⟩
  | .hbm, ⟨73, _⟩ => ⟨S4096x2048, .f32⟩
  | .hbm, ⟨74, _⟩ => ⟨S4096x2048, .bf16⟩
  | .hbm, ⟨75, _⟩ => ⟨S8x128, .f32⟩
  | .hbm, ⟨76, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_16 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Proof.Dots.lean ====
/-
  Sums of products over a growing number of rows: what a product's accumulator holds while the kernel goes through the
  contracted axis one block of rows at a time.
-/
module

public import Idealize.ShloMosaic.Lib.Pointwise.Tactic
public import Idealize.ShloMosaic.Lib.Pointwise

@[expose] public section

noncomputable section

open Idealize.ShloMosaic

namespace Cert.Dots

/-- A matrix read at two natural numbers: the entry where both are inside, zero outside. -/
def ext2 {a b : ℕ} (x : (⟨2, ![a, b]⟩ : Shape).Idx → EReal) (i j : ℕ) : EReal :=
  if h : i < a ∧ j < b then x (ix2 ⟨i, h.1⟩ ⟨j, h.2⟩) else 0

theorem ext2_in {a b : ℕ} (x : (⟨2, ![a, b]⟩ : Shape).Idx → EReal) {i j : ℕ} (hi : i < a) (hj : j < b) :
    ext2 x i j = x (ix2 ⟨i, hi⟩ ⟨j, hj⟩) := dif_pos ⟨hi, hj⟩

/-- An entry named by a multi-index, from its two coordinates. -/
theorem ext2_of {a b : ℕ} (x : (⟨2, ![a, b]⟩ : Shape).Idx → EReal) (y : (⟨2, ![a, b]⟩ : Shape).Idx) {i j : ℕ}
    (hi : (y 0).val = i) (hj : (y 1).val = j) : x y = ext2 x i j := by
  subst hi hj
  rw [ext2_in x (y 0).isLt (y 1).isLt]
  exact congrArg x (eq_ix2 y)

/-- A stack of matrices read as one matrix, its members' rows one after the other. -/
def rows {a b c : ℕ} (x : (⟨3, ![a, b, c]⟩ : Shape).Idx → EReal) (i j : ℕ) : EReal :=
  if h : i / b < a ∧ i % b < b ∧ j < c then x (ix3 ⟨i / b, h.1⟩ ⟨i % b, h.2.1⟩ ⟨j, h.2.2⟩) else 0

theorem rows_in {a b c : ℕ} (x : (⟨3, ![a, b, c]⟩ : Shape).Idx → EReal) {i j : ℕ} (h1 : i / b < a) (h2 : i % b < b) (h3 : j < c) :
    rows x i j = x (ix3 ⟨i / b, h1⟩ ⟨i % b, h2⟩ ⟨j, h3⟩) := dif_pos ⟨h1, h2, h3⟩

/-- An entry named by a multi-index, from its three coordinates. -/
theorem rows_of {a b c : ℕ} (x : (⟨3, ![a, b, c]⟩ : Shape).Idx → EReal) (y : (⟨3, ![a, b, c]⟩ : Shape).Idx) {i j : ℕ}
    (h1 : (y 0).val = i / b) (h2 : (y 1).val = i % b) (h3 : (y 2).val = j) : x y = rows x i j := by
  have l1 : i / b < a := h1 ▸ (y 0).isLt
  have l2 : i % b < b := h2 ▸ (y 1).isLt
  have l3 : j < c := h3 ▸ (y 2).isLt
  rw [rows_in x l1 l2 l3]
  refine congrArg x ((eq_ix3 y).trans ?_)
  have e1 : y 0 = (⟨i / b, l1⟩ : Fin a) := Fin.ext h1
  have e2 : y 1 = (⟨i % b, l2⟩ : Fin b) := Fin.ext h2
  have e3 : y 2 = (⟨j, l3⟩ : Fin c) := Fin.ext h3
  rw [e1, e2, e3]

/-- A stack of matrices read as one matrix, its members' columns one after the other. -/
def cols {a b c : ℕ} (x : (⟨3, ![a, b, c]⟩ : Shape).Idx → EReal) (i j : ℕ) : EReal :=
  if h : j / c < a ∧ i < b ∧ j % c < c then x (ix3 ⟨j / c, h.1⟩ ⟨i, h.2.1⟩ ⟨j % c, h.2.2⟩) else 0

theorem cols_in {a b c : ℕ} (x : (⟨3, ![a, b, c]⟩ : Shape).Idx → EReal) {i j : ℕ} (h1 : j / c < a) (h2 : i < b) (h3 : j % c < c) :
    cols x i j = x (ix3 ⟨j / c, h1⟩ ⟨i, h2⟩ ⟨j % c, h3⟩) := dif_pos ⟨h1, h2, h3⟩

/-- An entry named by a multi-index, from its three coordinates. -/
theorem cols_of {a b c : ℕ} (x : (⟨3, ![a, b, c]⟩ : Shape).Idx → EReal) (y : (⟨3, ![a, b, c]⟩ : Shape).Idx) {i j : ℕ}
    (h1 : (y 0).val = j / c) (h2 : (y 1).val = i) (h3 : (y 2).val = j % c) : x y = cols x i j := by
  have l1 : j / c < a := h1 ▸ (y 0).isLt
  have l2 : i < b := h2 ▸ (y 1).isLt
  have l3 : j % c < c := h3 ▸ (y 2).isLt
  rw [cols_in x l1 l2 l3]
  refine congrArg x ((eq_ix3 y).trans ?_)
  have e1 : y 0 = (⟨j / c, l1⟩ : Fin a) := Fin.ext h1
  have e2 : y 1 = (⟨i, l2⟩ : Fin b) := Fin.ext h2
  have e3 : y 2 = (⟨j % c, l3⟩ : Fin c) := Fin.ext h3
  rw [e1, e2, e3]

/-- The sum of the first `n` products of `f` and `g`. -/
def dot (f g : ℕ → EReal) (n : ℕ) : EReal := ∑ i ∈ Finset.range n, f i * g i

/-- One more block of `w` products. -/
theorem dot_add (f g : ℕ → EReal) (n w : ℕ) :
    dot f g (n + w) = dot f g n + ∑ k : Fin w, f (n + k.val) * g (n + k.val) := by
  unfold dot
  rw [Finset.sum_range_add, Finset.sum_range (n := w)]

theorem dot_first (f g : ℕ → EReal) (w : ℕ) : dot f g w = ∑ k : Fin w, f k.val * g k.val := by
  unfold dot
  rw [Finset.sum_range]

/-- Finite factors have a finite sum of products. -/
theorem dot_real (f g : ℕ → EReal) (n : ℕ) (hf : ∀ k < n, ∃ r : ℝ, f k = r) (hg : ∀ k < n, ∃ r : ℝ, g k = r) :
    ∃ r : ℝ, dot f g n = r := by
  induction n with
  | zero => exact ⟨0, by simp [dot]⟩
  | succ n ih =>
    obtain ⟨r, hr⟩ := ih (fun k hk => hf k (by omega)) (fun k hk => hg k (by omega))
    obtain ⟨u, hu⟩ := hf n (by omega)
    obtain ⟨v, hv⟩ := hg n (by omega)
    refine ⟨r + u * v, ?_⟩
    unfold dot at hr ⊢
    rw [Finset.sum_range_succ, hr, hu, hv, EReal.coe_add, EReal.coe_mul]

theorem dot_comm (f g : ℕ → EReal) (n : ℕ) : dot f g n = dot g f n := by
  unfold dot
  exact Finset.sum_congr rfl fun i _ => mul_comm _ _

end Cert.Dots
-- ==== Proof.Dwgu.lean ====
/-
  The kernel of the two gradients, read as values: after each point the two accumulators hold the sums of products over
  the rows gone through so far, and the two result arrays end holding the sums over all rows.
-/
module

public import proofs.«01_k».proof.Defs
public import proofs.«01_k».proof.Proof.Gen.KernelIdeal.Frame
public import proofs.«01_k».proof.Proof.Dots
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Dots

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ### One point's stores -/

/-- The first of the four points of a block: each accumulator is set to the product of the point's blocks. -/
theorem accA (c : Dev nD) (t : Fin cfg0.N) (h0 : t.val % 4 = 0) :
    (outsAt0 m c t.val t.isLt).2.2.1 = k0_pay1 (iblk m c 0 t) (iblk m c 1 t)
    ∧ (outsAt0 m c t.val t.isLt).2.2.2 = k0_pay2 (iblk m c 2 t) (iblk m c 3 t) := by
  rw [outsAt0_A m c t h0 (by omega) (by omega)]
  dsimp only
  constructor
  · unfold sout0_A_0
    rw [View.read_writes_eq_canon _ _ _ (fun _ => scover0_A_0 ..)]
    unfold kernelRun0_A
    dsimp only
    rw [View.canon_unit_zero hz]
    simp only [View.readAt_eq_ld, (hs0_0 t).read_unread, (hs0_1 t).read_unread, View.ld_unit_zero (S := S1024x512) hz, View.ld_unit_zero (S := S1024x1408) hz]
  · unfold sout0_A_1
    rw [View.read_writes_eq_canon _ _ _ (fun _ => scover0_A_1 ..)]
    unfold kernelRun0_A
    dsimp only
    rw [View.canon_unit_zero hz]
    simp only [View.readAt_eq_ld, (hs0_2 t).read_unread, (hs0_3 t).read_unread, View.ld_unit_zero (S := S1024x512) hz, View.ld_unit_zero (S := S1024x1408) hz]

/-- A later point: each accumulator grows by the product of the point's blocks. -/
theorem accBC (c : Dev nD) (t : Fin cfg0.N) (h0 : ¬t.val % 4 = 0) :
    (outsAt0 m c t.val t.isLt).2.2.1 = k0_pay3 (iblk m c 0 t) (iblk m c 1 t) (outsAt0 m c (t.val - 1) (Nat.lt_of_le_of_lt (Nat.sub_le _ _) t.isLt)).2.2.1
    ∧ (outsAt0 m c t.val t.isLt).2.2.2 = k0_pay4 (iblk m c 2 t) (iblk m c 3 t) (outsAt0 m c (t.val - 1) (Nat.lt_of_le_of_lt (Nat.sub_le _ _) t.isLt)).2.2.2 := by
  by_cases h2 : t.val % 4 = 3
  · rw [outsAt0_C m c t h0 (by omega) h2]
    dsimp only
    constructor
    · unfold sout0_C_0
      rw [View.read_writes_eq_canon _ _ _ (fun _ => scover0_C_0 ..)]
      unfold kernelRun0_C
      dsimp only
      sl_unfold_words
      rw [View.canon_unit_zero hz]
      simp only [View.readAt_eq_ld, (hs0_0 t).read_unread, (hs0_1 t).read_unread, (Memref.isWhole_whole _).read_unread, View.ld_unit_zero (S := S1024x512) hz, View.ld_unit_zero (S := S1024x1408) hz, View.ld_unit_zero (S := S512x1408) hz]
    · unfold sout0_C_1
      rw [View.read_writes_eq_canon _ _ _ (fun _ => scover0_C_1 ..)]
      unfold kernelRun0_C
      dsimp only
      sl_unfold_words
      rw [View.canon_unit_zero hz]
      simp only [View.readAt_eq_ld, (hs0_2 t).read_unread, (hs0_3 t).read_unread, (Memref.isWhole_whole _).read_unread, View.ld_unit_zero (S := S1024x512) hz, View.ld_unit_zero (S := S1024x1408) hz, View.ld_unit_zero (S := S512x1408) hz]
  · rw [outsAt0_B m c t h0 (by omega) h2]
    dsimp only
    constructor
    · unfold sout0_B_0
      rw [View.read_writes_eq_canon _ _ _ (fun _ => scover0_B_0 ..)]
      unfold kernelRun0_B
      dsimp only
      rw [View.canon_unit_zero hz]
      simp only [View.readAt_eq_ld, (hs0_0 t).read_unread, (hs0_1 t).read_unread, (Memref.isWhole_whole _).read_unread, View.ld_unit_zero (S := S1024x512) hz, View.ld_unit_zero (S := S1024x1408) hz, View.ld_unit_zero (S := S512x1408) hz]
    · unfold sout0_B_1
      rw [View.read_writes_eq_canon _ _ _ (fun _ => scover0_B_1 ..)]
      unfold kernelRun0_B
      dsimp only
      rw [View.canon_unit_zero hz]
      simp only [View.readAt_eq_ld, (hs0_2 t).read_unread, (hs0_3 t).read_unread, (Memref.isWhole_whole _).read_unread, View.ld_unit_zero (S := S1024x512) hz, View.ld_unit_zero (S := S1024x1408) hz, View.ld_unit_zero (S := S512x1408) hz]

/-- The last point of a block: each result block is its accumulator, in the result's own format. -/
theorem outC (c : Dev nD) (t : Fin cfg0.N) (h2 : t.val % 4 = 3) :
    (outsAt0 m c t.val t.isLt).1 = k0_pay5 (outsAt0 m c t.val t.isLt).2.2.1
    ∧ (outsAt0 m c t.val t.isLt).2.1 = k0_pay6 (outsAt0 m c t.val t.isLt).2.2.2 := by
  rw [(accBC m c t (by omega)).1, (accBC m c t (by omega)).2, outsAt0_C m c t (by omega) (by omega) h2]
  dsimp only
  constructor
  · unfold out0_C_4
    rw [View.read_writes_eq_canon _ _ _ (fun _ => cover0_C_4 ..)]
    unfold kernelRun0_C
    dsimp only
    sl_unfold_words
    rw [View.canon_unit_zero hz3, View.readCov_unit_zero (S := S512x1408) _ hz]
    simp only [View.readAt_eq_ld, (hs0_0 t).read_unread, (hs0_1 t).read_unread, (Memref.isWhole_whole _).read_unread, View.ld_unit_zero (S := S1024x512) hz, View.ld_unit_zero (S := S1024x1408) hz, View.ld_unit_zero (S := S512x1408) hz]
  · unfold out0_C_5
    rw [View.read_writes_eq_canon _ _ _ (fun _ => cover0_C_5 ..)]
    unfold kernelRun0_C
    dsimp only
    sl_unfold_words
    rw [View.canon_unit_zero hz3, View.readCov_unit_zero (S := S512x1408) _ hz]
    simp only [View.readAt_eq_ld, (hs0_2 t).read_unread, (hs0_3 t).read_unread, (Memref.isWhole_whole _).read_unread, View.ld_unit_zero (S := S1024x512) hz, View.ld_unit_zero (S := S1024x1408) hz, View.ld_unit_zero (S := S512x1408) hz]

/-! ### The blocks -/

/-- The three input arrays, as matrices. -/
abbrev H (c : Dev nD) : S4096x2048.Idx → EReal := m ((c : Thread nD τ).loc main_arg0)
abbrev DA (c : Dev nD) : S4096x5632.Idx → EReal := m ((c : Thread nD τ).loc main_arg1)
abbrev DB (c : Dev nD) : S4096x5632.Idx → EReal := m ((c : Thread nD τ).loc main_arg2)

theorem at0 : ∀ t : Fin cfg0.N, win0_0.index t 0 = t.val % 4 ∧ win0_0.index t 1 = t.val / 4 % 4 := by decide +kernel
theorem at1 : ∀ t : Fin cfg0.N, win0_1.index t 0 = t.val % 4 ∧ win0_1.index t 1 = t.val / 16 := by decide +kernel
theorem at2 : ∀ t : Fin cfg0.N, win0_2.index t 0 = t.val % 4 ∧ win0_2.index t 1 = t.val / 4 % 4 := by decide +kernel
theorem at3 : ∀ t : Fin cfg0.N, win0_3.index t 0 = t.val % 4 ∧ win0_3.index t 1 = t.val / 16 := by decide +kernel
theorem at4 : ∀ t : Fin cfg0.N, win0_4.index t 0 = t.val / 16 ∧ win0_4.index t 1 = t.val / 4 % 4 ∧ win0_4.index t 2 = 0 := by decide +kernel
theorem at5 : ∀ t : Fin cfg0.N, win0_5.index t 0 = t.val / 16 ∧ win0_5.index t 1 = t.val / 4 % 4 ∧ win0_5.index t 2 = 0 := by decide +kernel

theorem blk0 (c : Dev nD) (t : Fin cfg0.N) (k : Fin 1024) (p : Fin 512) :
    (iblk m c 0 t : S1024x512.Idx → EReal) (ix2 k p) = ext2 (H m c) (1024 * (t.val % 4) + k.val) (512 * (t.val / 4 % 4) + p.val) := by
  unfold iblk
  rw [View.read_apply]
  refine ext2_of (H m c) _ ?_ ?_
  · show win0_0.index t 0 * 1024 + 1 * k.val = _
    rw [(at0 t).1]; omega
  · show win0_0.index t 1 * 512 + 1 * p.val = _
    rw [(at0 t).2]; omega

theorem blk1 (c : Dev nD) (t : Fin cfg0.N) (k : Fin 1024) (q : Fin 1408) :
    (iblk m c 1 t : S1024x1408.Idx → EReal) (ix2 k q) = ext2 (DA m c) (1024 * (t.val % 4) + k.val) (1408 * (t.val / 16) + q.val) := by
  unfold iblk
  rw [View.read_apply]
  refine ext2_of (DA m c) _ ?_ ?_
  · show win0_1.index t 0 * 1024 + 1 * k.val = _
    rw [(at1 t).1]; omega
  · show win0_1.index t 1 * 1408 + 1 * q.val = _
    rw [(at1 t).2]; omega

theorem blk2 (c : Dev nD) (t : Fin cfg0.N) (k : Fin 1024) (p : Fin 512) :
    (iblk m c 2 t : S1024x512.Idx → EReal) (ix2 k p) = ext2 (H m c) (1024 * (t.val % 4) + k.val) (512 * (t.val / 4 % 4) + p.val) := by
  unfold iblk
  rw [View.read_apply]
  refine ext2_of (H m c) _ ?_ ?_
  · show win0_2.index t 0 * 1024 + 1 * k.val = _
    rw [(at2 t).1]; omega
  · show win0_2.index t 1 * 512 + 1 * p.val = _
    rw [(at2 t).2]; omega

theorem blk3 (c : Dev nD) (t : Fin cfg0.N) (k : Fin 1024) (q : Fin 1408) :
    (iblk m c 3 t : S1024x1408.Idx → EReal) (ix2 k q) = ext2 (DB m c) (1024 * (t.val % 4) + k.val) (1408 * (t.val / 16) + q.val) := by
  unfold iblk
  rw [View.read_apply]
  refine ext2_of (DB m c) _ ?_ ?_
  · show win0_3.index t 0 * 1024 + 1 * k.val = _
    rw [(at3 t).1]; omega
  · show win0_3.index t 1 * 1408 + 1 * q.val = _
    rw [(at3 t).2]; omega

/-! ### The accumulators after a point -/

theorem pay1 (x : Vec Ideal S1024x512 .bf16) (y : Vec Ideal S1024x1408 .bf16) (p : Fin 512) (q : Fin 1408) :
    k0_pay1 x y (ix2 p q) = ∑ k : Fin 1024, x (ix2 k p) * y (ix2 k q) := by
  unfold k0_pay1
  pointwise

theorem pay2 (x : Vec Ideal S1024x512 .bf16) (y : Vec Ideal S1024x1408 .bf16) (p : Fin 512) (q : Fin 1408) :
    k0_pay2 x y (ix2 p q) = ∑ k : Fin 1024, x (ix2 k p) * y (ix2 k q) := by
  unfold k0_pay2
  pointwise

theorem pay3 (x : Vec Ideal S1024x512 .bf16) (y : Vec Ideal S1024x1408 .bf16) (a : Vec Ideal S512x1408 .f32) (p : Fin 512) (q : Fin 1408) :
    k0_pay3 x y a (ix2 p q) = a (ix2 p q) + ∑ k : Fin 1024, x (ix2 k p) * y (ix2 k q) := by
  unfold k0_pay3
  pointwise

theorem pay4 (x : Vec Ideal S1024x512 .bf16) (y : Vec Ideal S1024x1408 .bf16) (a : Vec Ideal S512x1408 .f32) (p : Fin 512) (q : Fin 1408) :
    k0_pay4 x y a (ix2 p q) = a (ix2 p q) + ∑ k : Fin 1024, x (ix2 k p) * y (ix2 k q) := by
  unfold k0_pay4
  pointwise

theorem pay5 (a : Vec Ideal S512x1408 .f32) (z : Fin 1) (p : Fin 512) (q : Fin 1408) :
    k0_pay5 a (ix3 z p q) = a (ix2 p q) := by
  unfold k0_pay5
  pointwise

theorem pay5_at (a : Vec Ideal S512x1408 .f32) (y : S1x512x1408.Idx) : k0_pay5 a y = a (ix2 (y 1) (y 2)) := by
  obtain ⟨z, p, q, rfl⟩ : ∃ (z : Fin 1) (p : Fin 512) (q : Fin 1408), y = ix3 z p q := ⟨y 0, y 1, y 2, eq_ix3 y⟩
  exact pay5 a z p q

theorem pay6 (a : Vec Ideal S512x1408 .f32) (z : Fin 1) (p : Fin 512) (q : Fin 1408) :
    k0_pay6 a (ix3 z p q) = a (ix2 p q) := by
  unfold k0_pay6
  pointwise

theorem pay6_at (a : Vec Ideal S512x1408 .f32) (y : S1x512x1408.Idx) : k0_pay6 a y = a (ix2 (y 1) (y 2)) := by
  obtain ⟨z, p, q, rfl⟩ : ∃ (z : Fin 1) (p : Fin 512) (q : Fin 1408), y = ix3 z p q := ⟨y 0, y 1, y 2, eq_ix3 y⟩
  exact pay6 a z p q

/-- The entry at row `p` and column `q` of the product of `A` transposed and `B`, over the first `n` rows. -/
def part {a b : ℕ} (A : (⟨2, ![4096, a]⟩ : Shape).Idx → EReal) (B : (⟨2, ![4096, b]⟩ : Shape).Idx → EReal) (n p q : ℕ) : EReal :=
  dot (fun i => ext2 A i p) (fun i => ext2 B i q) n

theorem acc_eq (c : Dev nD) : ∀ (n : ℕ) (h : n < cfg0.N) (p : Fin 512) (q : Fin 1408),
    (outsAt0 m c n h).2.2.1 (ix2 p q) = part (H m c) (DA m c) (1024 * (n % 4) + 1024) (512 * (n / 4 % 4) + p.val) (1408 * (n / 16) + q.val)
    ∧ (outsAt0 m c n h).2.2.2 (ix2 p q) = part (H m c) (DB m c) (1024 * (n % 4) + 1024) (512 * (n / 4 % 4) + p.val) (1408 * (n / 16) + q.val) := by
  intro n
  induction n with
  | zero =>
    intro h p q
    have hA := accA m c ⟨0, h⟩ rfl
    constructor
    · refine (congrFun hA.1 _).trans ?_
      rw [pay1, part, show 1024 * (0 % 4) + 1024 = 1024 from rfl, dot_first]
      simp only [blk0, blk1]
      simp
    · refine (congrFun hA.2 _).trans ?_
      rw [pay2, part, show 1024 * (0 % 4) + 1024 = 1024 from rfl, dot_first]
      simp only [blk2, blk3]
      simp
  | succ n ih =>
    intro h p q
    by_cases h0 : (n + 1) % 4 = 0
    · have hA := accA m c ⟨n + 1, h⟩ h0
      constructor
      · refine (congrFun hA.1 _).trans ?_
        rw [pay1, part, h0, show 1024 * 0 + 1024 = 1024 from rfl, dot_first]
        simp only [blk0, blk1, h0, Nat.mul_zero, Nat.zero_add]
      · refine (congrFun hA.2 _).trans ?_
        rw [pay2, part, h0, show 1024 * 0 + 1024 = 1024 from rfl, dot_first]
        simp only [blk2, blk3, h0, Nat.mul_zero, Nat.zero_add]
    · have hB := accBC m c ⟨n + 1, h⟩ h0
      have e1 : 1024 * (n % 4) + 1024 = 1024 * ((n + 1) % 4) := by omega
      have e2 : n / 4 % 4 = (n + 1) / 4 % 4 := by omega
      have e3 : n / 16 = (n + 1) / 16 := by omega
      have hi := ih (Nat.lt_of_succ_lt h) p q
      rw [e1, e2, e3] at hi
      constructor
      · refine (congrFun hB.1 _).trans ?_
        rw [pay3, part, dot_add]
        simp only [blk0, blk1]
        exact congrArg (· + _) hi.1
      · refine (congrFun hB.2 _).trans ?_
        rw [pay4, part, dot_add]
        simp only [blk2, blk3]
        exact congrArg (· + _) hi.2

/-! ### The two result arrays -/

/-- The results: chip by chip, the product of the transposed first array and the chip's columns of the second. -/
def res (A : S4096x2048.Idx → EReal) (B : S4096x5632.Idx → EReal) : S4x2048x1408.Idx → EReal :=
  fun y => part A B 4096 (y 1).val (1408 * (y 0).val + (y 2).val)

theorem flushed4 (c : Dev nD) (t : Fin cfg0.N) (hf : (cfg0.win 4).flush t = true) :
    (dats m 0 c).flushed 4 t = ((cfg0.win 4).blk t).view.read (Elt Ideal) (res (H m c) (DA m c)) := by
  have h3 : t.val % 4 = 3 := (flush0_4 t).mp hf
  show (cfg0.win 4).cut (grid0.coords t) ((dats m 0 c).after 4 t) = _
  rw [after0_4, (outC m c t h3).1]
  funext y
  rw [View.read_apply]
  refine (pay5_at _ y).trans ((acc_eq m c t.val t.isLt (y 1) (y 2)).1.trans ?_)
  rw [h3]
  unfold res
  have hy : (y 0).val = 0 := by have := (y 0).isLt; change (y 0).val < 1 at this; omega
  congr 1
  · show _ = win0_4.index t 1 * 512 + 1 * (y 1).val
    rw [(at4 t).2.1]
    show 512 * (t.val / 4 % 4) + (y 1).val = _
    omega
  · show _ = 1408 * (win0_4.index t 0 * 1 + 1 * (y 0).val) + (win0_4.index t 2 * 1408 + 1 * (y 2).val)
    rw [(at4 t).1, (at4 t).2.2, hy]
    show 1408 * (t.val / 16) + (y 2).val = _
    omega

theorem flushed5 (c : Dev nD) (t : Fin cfg0.N) (hf : (cfg0.win 5).flush t = true) :
    (dats m 0 c).flushed 5 t = ((cfg0.win 5).blk t).view.read (Elt Ideal) (res (H m c) (DB m c)) := by
  have h3 : t.val % 4 = 3 := (flush0_5 t).mp hf
  show (cfg0.win 5).cut (grid0.coords t) ((dats m 0 c).after 5 t) = _
  rw [after0_5, (outC m c t h3).2]
  funext y
  rw [View.read_apply]
  refine (pay6_at _ y).trans ((acc_eq m c t.val t.isLt (y 1) (y 2)).2.trans ?_)
  rw [h3]
  unfold res
  have hy : (y 0).val = 0 := by have := (y 0).isLt; change (y 0).val < 1 at this; omega
  congr 1
  · show _ = win0_5.index t 1 * 512 + 1 * (y 1).val
    rw [(at5 t).2.1]
    show 512 * (t.val / 4 % 4) + (y 1).val = _
    omega
  · show _ = 1408 * (win0_5.index t 0 * 1 + 1 * (y 0).val) + (win0_5.index t 2 * 1408 + 1 * (y 2).val)
    rw [(at5 t).1, (at5 t).2.2, hy]
    show 1408 * (t.val / 16) + (y 2).val = _
    omega

/-- The point that writes the block an index of the results lies in. -/
def ptOf (y : S4x2048x1408.Idx) : Fin cfg0.N :=
  ⟨16 * (y 0).val + 4 * ((y 1).val / 512) + 3, by
    have h0 : (y 0).val < 4 := (y 0).isLt
    have h1 : (y 1).val < 2048 := (y 1).isLt
    rw [show cfg0.N = 64 from N_0]; omega⟩

theorem final4 (c : Dev nD) : (dats m 0 c).arrAt 4 cfg0.N = res (H m c) (DA m c) :=
  (dats m 0 c).arrAt_eq_of_cover 4 (res (H m c) (DA m c)) (flushed4 m c) fun (y : S4x2048x1408.Idx) =>
    ⟨ptOf y, (flush0_4 (ptOf y)).mpr (by show (16 * (y 0).val + 4 * ((y 1).val / 512) + 3) % 4 = 3; omega), by
      show y ∈ ((View.whole main_v0_0).slice (win0_4.rect (ptOf y))).set
      rw [View.set_slice_whole, Rect.mem_set_unit]
      have h0 : (y 0).val < 4 := (y 0).isLt
      have h1 : (y 1).val < 2048 := (y 1).isLt
      have h2 : (y 2).val < 1408 := (y 2).isLt
      obtain ⟨e0, e1, e2⟩ := at4 (ptOf y)
      have hv : (ptOf y).val = 16 * (y 0).val + 4 * ((y 1).val / 512) + 3 := rfl
      rw [hv] at e0 e1
      intro a
      match a with
      | ⟨0, _⟩ => show win0_4.index (ptOf y) 0 * 1 ≤ (y 0).val ∧ (y 0).val < win0_4.index (ptOf y) 0 * 1 + 1
                  rw [e0]; omega
      | ⟨1, _⟩ => show win0_4.index (ptOf y) 1 * 512 ≤ (y 1).val ∧ (y 1).val < win0_4.index (ptOf y) 1 * 512 + 512
                  rw [e1]; omega
      | ⟨2, _⟩ => show win0_4.index (ptOf y) 2 * 1408 ≤ (y 2).val ∧ (y 2).val < win0_4.index (ptOf y) 2 * 1408 + 1408
                  rw [e2]; omega⟩

theorem final5 (c : Dev nD) : (dats m 0 c).arrAt 5 cfg0.N = res (H m c) (DB m c) :=
  (dats m 0 c).arrAt_eq_of_cover 5 (res (H m c) (DB m c)) (flushed5 m c) fun (y : S4x2048x1408.Idx) =>
    ⟨ptOf y, (flush0_5 (ptOf y)).mpr (by show (16 * (y 0).val + 4 * ((y 1).val / 512) + 3) % 4 = 3; omega), by
      show y ∈ ((View.whole main_v0_1).slice (win0_5.rect (ptOf y))).set
      rw [View.set_slice_whole, Rect.mem_set_unit]
      have h0 : (y 0).val < 4 := (y 0).isLt
      have h1 : (y 1).val < 2048 := (y 1).isLt
      have h2 : (y 2).val < 1408 := (y 2).isLt
      obtain ⟨e0, e1, e2⟩ := at5 (ptOf y)
      have hv : (ptOf y).val = 16 * (y 0).val + 4 * ((y 1).val / 512) + 3 := rfl
      rw [hv] at e0 e1
      intro a
      match a with
      | ⟨0, _⟩ => show win0_5.index (ptOf y) 0 * 1 ≤ (y 0).val ∧ (y 0).val < win0_5.index (ptOf y) 0 * 1 + 1
                  rw [e0]; omega
      | ⟨1, _⟩ => show win0_5.index (ptOf y) 1 * 512 ≤ (y 1).val ∧ (y 1).val < win0_5.index (ptOf y) 1 * 512 + 512
                  rw [e1]; omega
      | ⟨2, _⟩ => show win0_5.index (ptOf y) 2 * 1408 ≤ (y 2).val ∧ (y 2).val < win0_5.index (ptOf y) 2 * 1408 + 1408
                  rw [e2]; omega⟩

/-- The run: the two results, the three arguments unchanged. -/
theorem run : θ_run defs (onTc (τ := τ) (main (F := Ideal))) ⟨m, fun _ => 0, ρ⟩ fun r => ∀ c : Dev nD,
      (r.2.mem ((c : Thread nD τ).loc main_v0_0) = res (H m c) (DA m c)
        ∧ r.2.mem ((c : Thread nD τ).loc main_v0_1) = res (H m c) (DB m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨⟨((h c).1 4).trans (final4 m c), ((h c).1 5).trans (final5 m c)⟩,
    ((h c).1 0).trans ((dats m 0 c).arrAt_in 0 rfl _), ((h c).1 1).trans ((dats m 0 c).arrAt_in 1 rfl _),
    ((h c).1 3).trans ((dats m 0 c).arrAt_in 3 rfl _)⟩)
    (run_main m ρ)

end Cert.KernelIdeal.Value
-- ==== Proof.DwguRef.lean ====
/-
  The reference of the two gradients: its run, and its results entry by entry.
-/
module

public import proofs.«01_k».proof.Defs
public import proofs.«01_k».proof.Proof.Gen.ReferenceIdeal
public import proofs.«01_k».proof.Proof.Dots
public import Idealize.ShloMosaic.Lib.StableHlo.Run
public import Idealize.ShloMosaic.Lib.Tactic
public import Idealize.ShloMosaic.Lib.Quiescent

@[expose] public section

noncomputable section

open Idealize.ShloMosaic Idealize.ShloMosaic.TcCoe Idealize.SL.Sem

namespace Cert.ReferenceIdeal.Value

open Cert.ReferenceIdeal Cert.ReferenceIdeal.Gen Cert.Dots Idealize.ShloMosaic.StableHlo

/-- The product of one matrix transposed with another. -/
abbrev product (l : Vec Ideal S4096x5632 .f32) (r : Vec Ideal S4096x2048 .f32) : Vec Ideal S5632x2048 .f32 :=
  Host.dotGeneral (F := Ideal) (φ₁ := .f32) (φ₂ := .f32) dot_S4096x5632_S4096x2048_S5632x2048_0_0_1_1_n_n none l r

/-- The reference's operations, in order. -/
abbrev ops : List (HloOp τ sig (Elt Ideal)) :=
  [ unary main_arg0 main_v0 (extf (F := Ideal) .f32 · bitsLt_bf16_f32),
    unary main_arg1 main_v1 (extf (F := Ideal) .f32 · bitsLt_bf16_f32),
    unary main_arg2 main_v2 (extf (F := Ideal) .f32 · bitsLt_bf16_f32),
    binary main_v2 main_v0 main_v3 product,
    unary main_v3 main_v4 (transpose S2048x5632 [1, 0] · transposes_S5632x2048_S2048x5632_1_0),
    binary main_v1 main_v0 main_v5 product,
    unary main_v5 main_v6 (transpose S2048x5632 [1, 0] · transposes_S5632x2048_S2048x5632_1_0),
    unary main_v6 main_v7 (truncf (F := Ideal) .bf16 · bitsLt_bf16_f32),
    reshape main_v7 main_v8 rfl shapeCasts_S2048x5632_S2048x4x1408,
    unary main_v8 main_v9 (transpose S4x2048x1408 [1, 0, 2] · transposes_S2048x4x1408_S4x2048x1408_1_0_2),
    unary main_v4 main_v10 (truncf (F := Ideal) .bf16 · bitsLt_bf16_f32),
    reshape main_v10 main_v11 rfl shapeCasts_S2048x5632_S2048x4x1408,
    unary main_v11 main_v12 (transpose S4x2048x1408 [1, 0, 2] · transposes_S2048x4x1408_S4x2048x1408_1_0_2) ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨unary_bufs_sub .., unary_bufs_sub .., unary_bufs_sub .., binary_bufs_sub .., unary_bufs_sub .., binary_bufs_sub ..,
    unary_bufs_sub .., unary_bufs_sub .., reshape_bufs_sub .., unary_bufs_sub .., unary_bufs_sub .., reshape_bufs_sub ..,
    unary_bufs_sub ..⟩

/-- One gradient as the reference computes it, from the saved activation and the gradient that arrives. -/
def grad (x : Vec Ideal S4096x2048 .bf16) (y : Vec Ideal S4096x5632 .bf16) : Vec Ideal S4x2048x1408 .bf16 :=
  transpose S4x2048x1408 [1, 0, 2] (shapeCast S2048x4x1408 (truncf (F := Ideal) .bf16 (transpose S2048x5632 [1, 0]
    (product (extf (F := Ideal) .f32 y bitsLt_bf16_f32)
      (extf (F := Ideal) .f32 x bitsLt_bf16_f32)) transposes_S5632x2048_S2048x5632_1_0) bitsLt_bf16_f32)
    shapeCasts_S2048x5632_S2048x4x1408) transposes_S2048x4x1408_S4x2048x1408_1_0_2

theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD) : Thread nD τ).loc main_v9) = grad (m (((0 : Dev nD) : Thread nD τ).loc main_arg0)) (m (((0 : Dev nD) : Thread nD τ).loc main_arg1))
        ∧ r.2.mem (((0 : Dev nD) : Thread nD τ).loc main_v12) = grad (m (((0 : Dev nD) : Thread nD τ).loc main_arg0)) (m (((0 : Dev nD) : Thread nD τ).loc main_arg2)))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2) :=
  (θ_run defs _ _).mono (fun _ h => ⟨⟨(h 0 main_v9).trans (by after_results; rfl), (h 0 main_v12).trans (by after_results; rfl)⟩,
      (h 0 main_arg0).trans (by after_results), (h 0 main_arg1).trans (by after_results), (h 0 main_arg2).trans (by after_results)⟩)
    (run_seq scopedRefs_eq scopedSems_eq defs main (fun _ => ops) main_eq (fun _ => ops_sub) m ρ)

/-- An entry of a gradient: the sum, over all rows, of the products of the two columns. -/
theorem grad_apply (x : S4096x2048.Idx → EReal) (y : S4096x5632.Idx → EReal) (j : Fin 4) (p : Fin 2048) (q : Fin 1408) :
    grad x y (ix3 j p q) = dot (fun i => ext2 x i p.val) (fun i => ext2 y i (1408 * j.val + q.val)) 4096 := by
  unfold grad
  pointwise [product]
  rw [dot_first]
  refine Finset.sum_congr rfl fun k _ => (?_ : (_ : EReal) = _)
  rw [mul_comm, ext2_in x k.isLt p.isLt, ext2_in y k.isLt (by omega)]
  congr 2
  apply congrArg
  apply Fin.ext
  dsimp only
  omega

end Cert.ReferenceIdeal.Value
-- ==== Proof.FfnDwd.lean ====
/-
  The gradient of the second block's down weight: the accumulator after each point, and the result array.
-/
module

public import proofs.«01_k».proof.Defs
public import proofs.«01_k».proof.Proof.Gen.Kernel2Ideal.Frame
public import proofs.«01_k».proof.Proof.Dots
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Dots

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ### One point's stores -/

/-- The first point of a block of the result: the accumulator is set to the product of the point's blocks. -/
theorem accA (c : Dev nD) (t : Fin cfg0.N) (h0 : t.val % 4 = 0) :
    (outsAt0 m c t.val t.isLt).2 = k0_pay1 (iblk m c 0 t) (iblk m c 1 t) := by
  rw [outsAt0_A m c t h0 (by omega) (by omega)]
  dsimp only
  unfold sout0_A_0
  rw [View.read_writes_eq_canon _ _ _ (fun _ => scover0_A_0 ..)]
  unfold kernelRun0_A
  dsimp only
  rw [View.canon_unit_zero hz]
  simp only [View.readAt_eq_ld, (hs0_0 t).read_unread, (hs0_1 t).read_unread, View.ld_unit_zero (S := S1024x1408) hz, View.ld_unit_zero (S := S1024x1024) hz]

/-- A later point: the accumulator grows by the product of the point's blocks. -/
theorem accBC (c : Dev nD) (t : Fin cfg0.N) (h0 : ¬t.val % 4 = 0) :
    (outsAt0 m c t.val t.isLt).2 = k0_pay2 (iblk m c 0 t) (iblk m c 1 t) (outsAt0 m c (t.val - 1) (Nat.lt_of_le_of_lt (Nat.sub_le _ _) t.isLt)).2 := by
  by_cases h2 : t.val % 4 = 3
  · rw [outsAt0_C m c t h0 (by omega) h2]
    dsimp only
    unfold sout0_C_0
    rw [View.read_writes_eq_canon _ _ _ (fun _ => scover0_C_0 ..)]
    unfold kernelRun0_C
    dsimp only
    sl_unfold_words
    rw [View.canon_unit_zero hz]
    simp only [View.readAt_eq_ld, (hs0_0 t).read_unread, (hs0_1 t).read_unread, (Memref.isWhole_whole _).read_unread, View.ld_unit_zero (S := S1024x1408) hz, View.ld_unit_zero (S := S1024x1024) hz, View.ld_unit_zero (S := S1408x1024) hz]
  · rw [outsAt0_B m c t h0 (by omega) h2]
    dsimp only
    unfold sout0_B_0
    rw [View.read_writes_eq_canon _ _ _ (fun _ => scover0_B_0 ..)]
    unfold kernelRun0_B
    dsimp only
    rw [View.canon_unit_zero hz]
    simp only [View.readAt_eq_ld, (hs0_0 t).read_unread, (hs0_1 t).read_unread, (Memref.isWhole_whole _).read_unread, View.ld_unit_zero (S := S1024x1408) hz, View.ld_unit_zero (S := S1024x1024) hz, View.ld_unit_zero (S := S1408x1024) hz]

/-- The last point of a block: what is written is made of the accumulator, in the result's own format. -/
theorem outC (c : Dev nD) (t : Fin cfg0.N) (h2 : t.val % 4 = 3) :
    (outsAt0 m c t.val t.isLt).1 = k0_pay3 (outsAt0 m c t.val t.isLt).2 := by
  have h0 : ¬t.val % 4 = 0 := by omega
  rw [accBC m c t h0, outsAt0_C m c t h0 (by omega) h2]
  dsimp only
  unfold out0_C_2
  rw [View.read_writes_eq_canon _ _ _ (fun _ => cover0_C_2 ..)]
  unfold kernelRun0_C
  dsimp only
  sl_unfold_words
  rw [View.canon_unit_zero hz3, View.readCov_unit_zero (S := S1408x1024) _ hz]
  simp only [View.readAt_eq_ld, (hs0_0 t).read_unread, (hs0_1 t).read_unread, (Memref.isWhole_whole _).read_unread, View.ld_unit_zero (S := S1024x1408) hz, View.ld_unit_zero (S := S1024x1024) hz, View.ld_unit_zero (S := S1408x1024) hz]

/-! ### The blocks -/

/-- An input array. -/
abbrev arrA (c : Dev nD) : S4096x5632.Idx → EReal := m ((c : Thread nD τ).loc main_arg0)
/-- An input array. -/
abbrev arrB (c : Dev nD) : S4096x2048.Idx → EReal := m ((c : Thread nD τ).loc main_arg1)

/-- The two factors, each read at the contracted position first. -/
def fA (x : S4096x5632.Idx → EReal) (i p : ℕ) : EReal := ext2 x i p
def fB (x : S4096x2048.Idx → EReal) (i q : ℕ) : EReal := ext2 x i q

theorem at0 : ∀ t : Fin cfg0.N, win0_0.index t 0 = t.val % 4 ∧ win0_0.index t 1 = t.val / 8 := by decide +kernel
theorem at1 : ∀ t : Fin cfg0.N, win0_1.index t 0 = t.val % 4 ∧ win0_1.index t 1 = t.val / 4 % 2 := by decide +kernel
theorem at2 : ∀ t : Fin cfg0.N, win0_2.index t 0 = t.val / 8 ∧ win0_2.index t 1 = 0 ∧ win0_2.index t 2 = t.val / 4 % 2 := by decide +kernel

theorem blk0 (c : Dev nD) (t : Fin cfg0.N) (k : Fin 1024) (p : Fin 1408) :
    (iblk m c 0 t : S1024x1408.Idx → EReal) (ix2 k p) = fA (arrA m c) (1024 * (t.val % 4) + k.val) (1408 * (t.val / 8) + p.val) := by
  unfold iblk
  rw [View.read_apply]
  refine ext2_of (arrA m c) _ ?_ ?_
  · show win0_0.index t 0 * 1024 + 1 * k.val = _
    rw [(at0 t).1]; omega
  · show win0_0.index t 1 * 1408 + 1 * p.val = _
    rw [(at0 t).2]; omega

theorem blk1 (c : Dev nD) (t : Fin cfg0.N) (k : Fin 1024) (q : Fin 1024) :
    (iblk m c 1 t : S1024x1024.Idx → EReal) (ix2 k q) = fB (arrB m c) (1024 * (t.val % 4) + k.val) (1024 * (t.val / 4 % 2) + q.val) := by
  unfold iblk
  rw [View.read_apply]
  refine ext2_of (arrB m c) _ ?_ ?_
  · show win0_1.index t 0 * 1024 + 1 * k.val = _
    rw [(at1 t).1]; omega
  · show win0_1.index t 1 * 1024 + 1 * q.val = _
    rw [(at1 t).2]; omega

/-! ### The accumulator after a point -/

theorem pay1 (x : Vec Ideal S1024x1408 .bf16) (y : Vec Ideal S1024x1024 .bf16) (p : Fin 1408) (q : Fin 1024) :
    k0_pay1 x y (ix2 p q) = ∑ k : Fin 1024, x (ix2 k p) * y (ix2 k q) := by
  unfold k0_pay1
  pointwise

theorem pay2 (x : Vec Ideal S1024x1408 .bf16) (y : Vec Ideal S1024x1024 .bf16) (a : Vec Ideal S1408x1024 .f32) (p : Fin 1408) (q : Fin 1024) :
    k0_pay2 x y a (ix2 p q) = a (ix2 p q) + ∑ k : Fin 1024, x (ix2 k p) * y (ix2 k q) := by
  unfold k0_pay2
  pointwise

theorem pay3 (a : Vec Ideal S1408x1024 .f32) (z : Fin 1) (p : Fin 1408) (q : Fin 1024) :
    k0_pay3 a (ix3 z p q) = a (ix2 p q) := by
  unfold k0_pay3
  pointwise

theorem pay3_at (a : Vec Ideal S1408x1024 .f32) (y : S1x1408x1024.Idx) :
    k0_pay3 a y = a (ix2 (y 1) (y 2)) := by
  obtain ⟨z, p, q, rfl⟩ : ∃ (z : Fin 1) (p : Fin 1408) (q : Fin 1024), y = ix3 z p q := ⟨y 0, y 1, y 2, eq_ix3 y⟩
  exact pay3 a z p q

/-- An entry of the product, over the first `n` of the contracted positions. -/
def part (x : S4096x5632.Idx → EReal) (y : S4096x2048.Idx → EReal) (n p q : ℕ) : EReal :=
  dot (fun i => fA x i p) (fun i => fB y i q) n

theorem acc_eq (c : Dev nD) : ∀ (n : ℕ) (h : n < cfg0.N) (p : Fin 1408) (q : Fin 1024),
    (outsAt0 m c n h).2 (ix2 p q) = part (arrA m c) (arrB m c) (1024 * (n % 4) + 1024) (1408 * (n / 8) + p.val) (1024 * (n / 4 % 2) + q.val) := by
  intro n
  induction n with
  | zero =>
    intro h p q
    refine (congrFun (accA m c ⟨0, h⟩ rfl) _).trans ?_
    rw [pay1, part, show 1024 * (0 % 4) + 1024 = 1024 from rfl, dot_first]
    simp only [blk0, blk1]
    simp
  | succ n ih =>
    intro h p q
    by_cases h0 : (n + 1) % 4 = 0
    · refine (congrFun (accA m c ⟨n + 1, h⟩ h0) _).trans ?_
      rw [pay1, part, h0, show 1024 * 0 + 1024 = 1024 from rfl, dot_first]
      simp only [blk0, blk1, h0, Nat.mul_zero, Nat.zero_add]
    · have e1 : 1024 * (n % 4) + 1024 = 1024 * ((n + 1) % 4) := by omega
      have e2 : 1408 * (n / 8) = 1408 * ((n + 1) / 8) := by omega
      have e3 : 1024 * (n / 4 % 2) = 1024 * ((n + 1) / 4 % 2) := by omega
      have hi := ih (Nat.lt_of_succ_lt h) p q
      rw [e1, e2, e3] at hi
      refine (congrFun (accBC m c ⟨n + 1, h⟩ h0) _).trans ?_
      rw [pay2, part, dot_add]
      simp only [blk0, blk1]
      exact congrArg (· + _) hi

/-! ### The result array -/

/-- The result, entry by entry. -/
def res (x : S4096x5632.Idx → EReal) (y : S4096x2048.Idx → EReal) : S4x1408x2048.Idx → EReal :=
  fun y' => part x y 4096 (1408 * (y'  0).val + (y'  1).val) ((y'  2).val)

abbrev result (c : Dev nD) := res (arrA m c) (arrB m c)

theorem flushed (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  show (cfg0.win 2).cut (grid0.coords t) ((dats m 0 c).after 2 t) = _
  rw [after0_2, outC m c t h3]
  funext y
  rw [View.read_apply]
  refine (pay3_at _ y).trans ?_
  refine (acc_eq m c t.val t.isLt (y 1) (y 2)).trans ?_
  rw [h3]
  unfold result res
  have hy : (y 0).val = 0 := by have := (y 0).isLt; change (y 0).val < 1 at this; omega
  congr 1
  · show _ = 1408 * (win0_2.index t 0 * 1 + 1 * (y 0).val) + (win0_2.index t 1 * 1408 + 1 * (y 1).val)
    rw [(at2 t).1, (at2 t).2.1, hy]
    show 1408 * (t.val / 8) + (y 1).val = _
    omega
  · show _ = win0_2.index t 2 * 1024 + 1 * (y 2).val
    rw [(at2 t).2.2]
    show 1024 * (t.val / 4 % 2) + (y 2).val = _
    omega

/-- The point that writes the block an index of the result lies in. -/
def ptOf (y : S4x1408x2048.Idx) : Fin cfg0.N :=
  ⟨8 * (y 0).val + 4 * ((y 2).val / 1024) + 3, by
    have h0 : (y 0).val < 4 := (y 0).isLt
    have h1 : (y 1).val < 1408 := (y 1).isLt
    have h2 : (y 2).val < 2048 := (y 2).isLt
    rw [show cfg0.N = 32 from N_0]; omega⟩

theorem final (c : Dev nD) : (dats m 0 c).arrAt 2 cfg0.N = result m c :=
  (dats m 0 c).arrAt_eq_of_cover 2 (result m c) (flushed m c) fun (y : S4x1408x2048.Idx) =>
    ⟨ptOf y, (flush0_2 (ptOf y)).mpr (by show (8 * (y 0).val + 4 * ((y 2).val / 1024) + 3) % 4 = 3; omega), by
      show y ∈ ((View.whole main_v0).slice (win0_2.rect (ptOf y))).set
      rw [View.set_slice_whole, Rect.mem_set_unit]
      have h0 : (y 0).val < 4 := (y 0).isLt
      have h1 : (y 1).val < 1408 := (y 1).isLt
      have h2 : (y 2).val < 2048 := (y 2).isLt
      obtain ⟨e0, e1, e2⟩ := at2 (ptOf y)
      have hv : (ptOf y).val = 8 * (y 0).val + 4 * ((y 2).val / 1024) + 3 := rfl
      rw [hv] at e0 e2
      intro a
      match a with
      | ⟨0, _⟩ => show win0_2.index (ptOf y) 0 * 1 ≤ (y 0).val ∧ (y 0).val < win0_2.index (ptOf y) 0 * 1 + 1
                  rw [e0]; omega
      | ⟨1, _⟩ => show win0_2.index (ptOf y) 1 * 1408 ≤ (y 1).val ∧ (y 1).val < win0_2.index (ptOf y) 1 * 1408 + 1408
                  rw [e1]; omega
      | ⟨2, _⟩ => show win0_2.index (ptOf y) 2 * 1024 ≤ (y 2).val ∧ (y 2).val < win0_2.index (ptOf y) 2 * 1024 + 1024
                  rw [e2]; omega⟩

/-- The run: the result, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final m c), (h.2 c)⟩)
    (θ_run_and (run_main m ρ) (unchanged m ρ))

end Cert.Kernel2Ideal.Value
-- ==== Proof.FfnDwdRef.lean ====
/-
  The reference of the down weight's gradient: its run, its result entry by entry, and that the kernel's is the same.
-/
module

public import proofs.«01_k».proof.Defs
public import proofs.«01_k».proof.Proof.Gen.Reference2Ideal
public import proofs.«01_k».proof.Proof.FfnDwd
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference2Ideal.Value

open Cert.Reference2Ideal Cert.Reference2Ideal.Gen Cert.Dots Idealize.ShloMosaic.StableHlo

/-- The product of one matrix transposed with another. -/
abbrev product (l : Vec Ideal S4096x2048 .f32) (r : Vec Ideal S4096x5632 .f32) : Vec Ideal S2048x5632 .f32 :=
  Host.dotGeneral (F := Ideal) (φ₁ := .f32) (φ₂ := .f32) dot_S4096x2048_S4096x5632_S2048x5632_0_0_1_1_n_n none l r

/-- The reference's operations, in order. -/
abbrev ops : List (HloOp τ sig (Elt Ideal)) :=
  [ unary main_arg0 main_v0 (extf (F := Ideal) .f32 · bitsLt_bf16_f32),
    unary main_arg1 main_v1 (extf (F := Ideal) .f32 · bitsLt_bf16_f32),
    binary main_v1 main_v0 main_v2 product,
    unary main_v2 main_v3 (transpose S5632x2048 [1, 0] · transposes_S2048x5632_S5632x2048_1_0),
    unary main_v3 main_v4 (truncf (F := Ideal) .bf16 · bitsLt_bf16_f32),
    reshape main_v4 main_v5 rfl shapeCasts_S5632x2048_S4x1408x2048 ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨unary_bufs_sub .., unary_bufs_sub .., binary_bufs_sub .., unary_bufs_sub .., unary_bufs_sub .., reshape_bufs_sub ..⟩

/-- The result as the reference computes it. -/
def value (x : Vec Ideal S4096x5632 .bf16) (y : Vec Ideal S4096x2048 .bf16) : Vec Ideal S4x1408x2048 .bf16 :=
  shapeCast S4x1408x2048 (truncf (F := Ideal) .bf16 (transpose S5632x2048 [1, 0] (product (extf (F := Ideal) .f32 y bitsLt_bf16_f32)
    (extf (F := Ideal) .f32 x bitsLt_bf16_f32)) transposes_S2048x5632_S5632x2048_1_0) bitsLt_bf16_f32) shapeCasts_S5632x2048_S4x1408x2048

theorem run (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD) : Thread nD τ).loc main_v5) = value (m (((0 : Dev nD) : Thread nD τ).loc main_arg0)) (m (((0 : Dev nD) : Thread nD τ).loc main_arg1))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1) :=
  (θ_run defs _ _).mono (fun _ h => ⟨(h 0 main_v5).trans (by after_results; rfl),
      (h 0 main_arg0).trans (by after_results), (h 0 main_arg1).trans (by after_results)⟩)
    (run_seq scopedRefs_eq scopedSems_eq defs main (fun _ => ops) main_eq (fun _ => ops_sub) m ρ)

theorem frame : Cert.quiescent_Reference2Ideal := fun m ρ _ =>
  (θ_run defs _ _).mono (fun r h => ⟨fun c => (by obtain rfl : c = 0 := Subsingleton.elim _ _; exact h.2),
      sem_eq_zero_of_no_sems (by decide) r.2⟩)
    (run m ρ)

/-- An entry: the sum, over all rows, of the products of the two columns. -/
theorem value_eq (x : S4096x5632.Idx → EReal) (y : S4096x2048.Idx → EReal) :
    (value x y : S4x1408x2048.Idx → EReal) = Cert.Kernel2Ideal.Value.res x y := by
  funext i
  obtain ⟨j, p, q, rfl⟩ : ∃ (j : Fin 4) (p : Fin 1408) (q : Fin 2048), i = ix3 j p q := ⟨i 0, i 1, i 2, eq_ix3 i⟩
  show _ = dot (fun i => ext2 x i (1408 * j.val + p.val)) (fun i => ext2 y i q.val) 4096
  unfold value
  pointwise [product]
  rw [dot_first]
  refine Finset.sum_congr rfl fun k _ => (?_ : (_ : EReal) = _)
  rw [mul_comm, ext2_in x k.isLt (by omega), ext2_in y k.isLt q.isLt]
  first
  | done
  | (congr 2
     apply congrArg
     apply Fin.ext
     dsimp only
     omega)

/-- Both compute the same array. -/
theorem algebraic : Cert.algebraic_Kernel2Ideal_Reference2Ideal := by
  intro m ρ m' ρ' _ hagree
  refine ⟨fun c => Cert.Kernel2Ideal.Value.result m c, Cert.Kernel2Ideal.Value.run m ρ, ?_⟩
  refine (θ_run defs _ _).mono (fun _ h c => ?_) (run m' ρ')
  obtain rfl : c = 0 := Subsingleton.elim _ _
  refine ⟨h.1.trans ?_, h.2⟩
  rw [(hagree 0).1, (hagree 0).2]
  exact value_eq _ _

end Cert.Reference2Ideal.Value
-- ==== Proof.FfnDown.lean ====
/-
  The down projection and its residual: the accumulator after each point, and the result array.
-/
module

public import proofs.«01_k».proof.Defs
public import proofs.«01_k».proof.Proof.Gen.Kernel3Ideal.Frame
public import proofs.«01_k».proof.Proof.Dots
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Dots

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ### One point's stores -/

/-- The first point of a block of the result: the accumulator is set to the product of the point's blocks. -/
theorem accA (c : Dev nD) (t : Fin cfg0.N) (h0 : t.val % 4 = 0) :
    (outsAt0 m c t.val t.isLt).2 = k0_pay1 (iblk m c 0 t) (iblk m c 1 t) := by
  rw [outsAt0_A m c t h0 (by omega) (by omega)]
  dsimp only
  unfold sout0_A_0
  rw [View.read_writes_eq_canon _ _ _ (fun _ => scover0_A_0 ..)]
  unfold kernelRun0_A
  dsimp only
  rw [View.canon_unit_zero hz]
  simp only [View.readAt_eq_ld, (hs0_0 t).read_unread, (hs0_1 t).read_unread, View.ld_unit_zero (S := S512x1408) hz, View.ld_unit_zero (S := S1x1408x2048) hz3]

/-- A later point: the accumulator grows by the product of the point's blocks. -/
theorem accBC (c : Dev nD) (t : Fin cfg0.N) (h0 : ¬t.val % 4 = 0) :
    (outsAt0 m c t.val t.isLt).2 = k0_pay2 (iblk m c 0 t) (iblk m c 1 t) (outsAt0 m c (t.val - 1) (Nat.lt_of_le_of_lt (Nat.sub_le _ _) t.isLt)).2 := by
  by_cases h2 : t.val % 4 = 3
  · rw [outsAt0_C m c t h0 (by omega) h2]
    dsimp only
    unfold sout0_C_0
    rw [View.read_writes_eq_canon _ _ _ (fun _ => scover0_C_0 ..)]
    unfold kernelRun0_C
    dsimp only
    sl_unfold_words
    rw [View.canon_unit_zero hz]
    simp only [View.readAt_eq_ld, (hs0_0 t).read_unread, (hs0_1 t).read_unread, (Memref.isWhole_whole _).read_unread, View.ld_unit_zero (S := S512x1408) hz, View.ld_unit_zero (S := S1x1408x2048) hz3, View.ld_unit_zero (S := S512x2048) hz]
  · rw [outsAt0_B m c t h0 (by omega) h2]
    dsimp only
    unfold sout0_B_0
    rw [View.read_writes_eq_canon _ _ _ (fun _ => scover0_B_0 ..)]
    unfold kernelRun0_B
    dsimp only
    rw [View.canon_unit_zero hz]
    simp only [View.readAt_eq_ld, (hs0_0 t).read_unread, (hs0_1 t).read_unread, (Memref.isWhole_whole _).read_unread, View.ld_unit_zero (S := S512x1408) hz, View.ld_unit_zero (S := S1x1408x2048) hz3, View.ld_unit_zero (S := S512x2048) hz]

/-- The last point of a block: what is written is made of the accumulator and the block of the residual. -/
theorem outC (c : Dev nD) (t : Fin cfg0.N) (h2 : t.val % 4 = 3) :
    (outsAt0 m c t.val t.isLt).1 = k0_pay3 (outsAt0 m c t.val t.isLt).2 (iblk m c 2 t) := by
  have h0 : ¬t.val % 4 = 0 := by omega
  rw [accBC m c t h0, outsAt0_C m c t h0 (by omega) h2]
  dsimp only
  unfold out0_C_3
  rw [View.read_writes_eq_canon _ _ _ (fun _ => cover0_C_3 ..)]
  unfold kernelRun0_C
  dsimp only
  sl_unfold_words
  rw [View.canon_unit_zero hz, View.readCov_unit_zero (S := S512x2048) _ hz]
  simp only [View.readAt_eq_ld, (hs0_0 t).read_unread, (hs0_1 t).read_unread, (Memref.isWhole_whole _).read_unread, View.ld_unit_zero (S := S512x1408) hz, View.ld_unit_zero (S := S1x1408x2048) hz3, View.ld_unit_zero (S := S512x2048) hz, (hs0_2 t).read_unread]

/-! ### The blocks -/

/-- An input array. -/
abbrev arrA (c : Dev nD) : S4096x5632.Idx → EReal := m ((c : Thread nD τ).loc main_arg0)
/-- An input array. -/
abbrev arrB (c : Dev nD) : S4x1408x2048.Idx → EReal := m ((c : Thread nD τ).loc main_arg1)
/-- An input array. -/
abbrev arrX (c : Dev nD) : S4096x2048.Idx → EReal := m ((c : Thread nD τ).loc main_arg2)

/-- The two factors, each read at the contracted position first. -/
def fA (x : S4096x5632.Idx → EReal) (i p : ℕ) : EReal := ext2 x p i
def fB (x : S4x1408x2048.Idx → EReal) (i q : ℕ) : EReal := rows x i q

theorem at0 : ∀ t : Fin cfg0.N, win0_0.index t 0 = t.val / 4 ∧ win0_0.index t 1 = t.val % 4 := by decide +kernel
theorem at1 : ∀ t : Fin cfg0.N, win0_1.index t 0 = t.val % 4 ∧ win0_1.index t 1 = 0 ∧ win0_1.index t 2 = 0 := by decide +kernel
theorem at2 : ∀ t : Fin cfg0.N, win0_2.index t 0 = t.val / 4 ∧ win0_2.index t 1 = 0 := by decide +kernel
theorem at3 : ∀ t : Fin cfg0.N, win0_3.index t 0 = t.val / 4 ∧ win0_3.index t 1 = 0 := by decide +kernel

theorem blk0 (c : Dev nD) (t : Fin cfg0.N) (k : Fin 1408) (p : Fin 512) :
    (iblk m c 0 t : S512x1408.Idx → EReal) (ix2 p k) = fA (arrA m c) (1408 * (t.val % 4) + k.val) (512 * (t.val / 4) + p.val) := by
  unfold iblk
  rw [View.read_apply]
  refine ext2_of (arrA m c) _ ?_ ?_
  · show win0_0.index t 0 * 512 + 1 * p.val = _
    rw [(at0 t).1]; omega
  · show win0_0.index t 1 * 1408 + 1 * k.val = _
    rw [(at0 t).2]; omega

theorem blk1 (c : Dev nD) (t : Fin cfg0.N) (k : Fin 1408) (q : Fin 2048) :
    (iblk m c 1 t : S1x1408x2048.Idx → EReal) (ix3 0 k q) = fB (arrB m c) (1408 * (t.val % 4) + k.val) (0 + q.val) := by
  unfold iblk
  rw [View.read_apply]
  have hk := k.isLt
  refine rows_of (arrB m c) _ ?_ ?_ ?_
  · show win0_1.index t 0 * 1 + 1 * 0 = _
    rw [(at1 t).1]; omega
  · show win0_1.index t 1 * 1408 + 1 * k.val = _
    rw [(at1 t).2.1]; omega
  · show win0_1.index t 2 * 2048 + 1 * q.val = _
    rw [(at1 t).2.2]; omega

theorem blk2 (c : Dev nD) (t : Fin cfg0.N) (p : Fin 512) (q : Fin 2048) :
    (iblk m c 2 t : S512x2048.Idx → EReal) (ix2 p q) = ext2 (arrX m c) (512 * (t.val / 4) + p.val) (0 + q.val) := by
  unfold iblk
  rw [View.read_apply]
  refine ext2_of (arrX m c) _ ?_ ?_
  · show win0_2.index t 0 * 512 + 1 * p.val = _
    rw [(at2 t).1]; omega
  · show win0_2.index t 1 * 2048 + 1 * q.val = _
    rw [(at2 t).2]; omega

/-! ### The accumulator after a point -/

theorem pay1 (x : Vec Ideal S512x1408 .bf16) (y : Vec Ideal S1x1408x2048 .bf16) (p : Fin 512) (q : Fin 2048) :
    k0_pay1 x y (ix2 p q) = ∑ k : Fin 1408, x (ix2 p k) * y (ix3 0 k q) := by
  unfold k0_pay1
  pointwise

theorem pay2 (x : Vec Ideal S512x1408 .bf16) (y : Vec Ideal S1x1408x2048 .bf16) (a : Vec Ideal S512x2048 .f32) (p : Fin 512) (q : Fin 2048) :
    k0_pay2 x y a (ix2 p q) = a (ix2 p q) + ∑ k : Fin 1408, x (ix2 p k) * y (ix3 0 k q) := by
  unfold k0_pay2
  pointwise

theorem pay3 (a : Vec Ideal S512x2048 .f32) (v : Vec Ideal S512x2048 .f32) (p : Fin 512) (q : Fin 2048) :
    k0_pay3 a v (ix2 p q) = v (ix2 p q) + Ideal.ofBits .f32 0x3F000000#32 * a (ix2 p q) := by
  unfold k0_pay3
  pointwise

theorem pay3_at (a : Vec Ideal S512x2048 .f32) (v : Vec Ideal S512x2048 .f32) (y : S512x2048.Idx) :
    k0_pay3 a v y = v (ix2 (y 0) (y 1)) + Ideal.ofBits .f32 0x3F000000#32 * a (ix2 (y 0) (y 1)) := by
  obtain ⟨p, q, rfl⟩ : ∃ (p : Fin 512) (q : Fin 2048), y = ix2 p q := ⟨y 0, y 1, eq_ix2 y⟩
  exact pay3 a v p q

/-- An entry of the product, over the first `n` of the contracted positions. -/
def part (x : S4096x5632.Idx → EReal) (y : S4x1408x2048.Idx → EReal) (n p q : ℕ) : EReal :=
  dot (fun i => fA x i p) (fun i => fB y i q) n

theorem acc_eq (c : Dev nD) : ∀ (n : ℕ) (h : n < cfg0.N) (p : Fin 512) (q : Fin 2048),
    (outsAt0 m c n h).2 (ix2 p q) = part (arrA m c) (arrB m c) (1408 * (n % 4) + 1408) (512 * (n / 4) + p.val) (0 + q.val) := by
  intro n
  induction n with
  | zero =>
    intro h p q
    refine (congrFun (accA m c ⟨0, h⟩ rfl) _).trans ?_
    rw [pay1, part, show 1408 * (0 % 4) + 1408 = 1408 from rfl, dot_first]
    simp only [blk0, blk1]
    simp
  | succ n ih =>
    intro h p q
    by_cases h0 : (n + 1) % 4 = 0
    · refine (congrFun (accA m c ⟨n + 1, h⟩ h0) _).trans ?_
      rw [pay1, part, h0, show 1408 * 0 + 1408 = 1408 from rfl, dot_first]
      simp only [blk0, blk1, h0, Nat.mul_zero, Nat.zero_add]
    · have e1 : 1408 * (n % 4) + 1408 = 1408 * ((n + 1) % 4) := by omega
      have e2 : 512 * (n / 4) = 512 * ((n + 1) / 4) := by omega
      have e3 : 0 = 0 := by omega
      have hi := ih (Nat.lt_of_succ_lt h) p q
      rw [e1, e2] at hi
      refine (congrFun (accBC m c ⟨n + 1, h⟩ h0) _).trans ?_
      rw [pay2, part, dot_add]
      simp only [blk0, blk1]
      exact congrArg (· + _) hi

/-! ### The result array -/

/-- The result, entry by entry. -/
def res (x : S4096x5632.Idx → EReal) (y : S4x1408x2048.Idx → EReal) (z : S4096x2048.Idx → EReal) : S4096x2048.Idx → EReal :=
  fun y' => ext2 z ((y'  0).val) ((y'  1).val) + Ideal.ofBits .f32 0x3F000000#32 * part x y 5632 ((y'  0).val) ((y'  1).val)

abbrev result (c : Dev nD) := res (arrA m c) (arrB m c) (arrX m c)

theorem flushed (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  show (cfg0.win 3).cut (grid0.coords t) ((dats m 0 c).after 3 t) = _
  rw [after0_3, outC m c t h3]
  funext y
  rw [View.read_apply]
  refine (pay3_at _ _ y).trans ?_
  have ea := acc_eq m c t.val t.isLt (y 0) (y 1)
  have ex := blk2 m c t (y 0) (y 1)
  rw [h3] at ea
  have er : 512 * (t.val / 4) + (y 0).val = win0_3.index t 0 * 512 + 1 * (y 0).val := by rw [(at3 t).1]; omega
  have ec : 0 + (y 1).val = win0_3.index t 1 * 2048 + 1 * (y 1).val := by rw [(at3 t).2]; omega
  refine (congrArg₂ (fun a v : EReal => v + Ideal.ofBits .f32 0x3F000000#32 * a) ea ex).trans ?_
  show ext2 (arrX m c) (512 * (t.val / 4) + (y 0).val) (0 + (y 1).val) + Ideal.ofBits .f32 0x3F000000#32 * part (arrA m c) (arrB m c) 5632 (512 * (t.val / 4) + (y 0).val) (0 + (y 1).val) = _
  rw [er, ec]
  rfl

/-- The point that writes the block an index of the result lies in. -/
def ptOf (y : S4096x2048.Idx) : Fin cfg0.N :=
  ⟨4 * ((y 0).val / 512) + 3, by
    have h0 : (y 0).val < 4096 := (y 0).isLt
    have h1 : (y 1).val < 2048 := (y 1).isLt
    rw [show cfg0.N = 32 from N_0]; omega⟩

theorem final (c : Dev nD) : (dats m 0 c).arrAt 3 cfg0.N = result m c :=
  (dats m 0 c).arrAt_eq_of_cover 3 (result m c) (flushed m c) fun (y : S4096x2048.Idx) =>
    ⟨ptOf y, (flush0_3 (ptOf y)).mpr (by show (4 * ((y 0).val / 512) + 3) % 4 = 3; omega), by
      show y ∈ ((View.whole main_v0).slice (win0_3.rect (ptOf y))).set
      rw [View.set_slice_whole, Rect.mem_set_unit]
      have h0 : (y 0).val < 4096 := (y 0).isLt
      have h1 : (y 1).val < 2048 := (y 1).isLt
      obtain ⟨e0, e1⟩ := at3 (ptOf y)
      have hv : (ptOf y).val = 4 * ((y 0).val / 512) + 3 := rfl
      rw [hv] at e0
      intro a
      match a with
      | ⟨0, _⟩ => show win0_3.index (ptOf y) 0 * 512 ≤ (y 0).val ∧ (y 0).val < win0_3.index (ptOf y) 0 * 512 + 512
                  rw [e0]; omega
      | ⟨1, _⟩ => show win0_3.index (ptOf y) 1 * 2048 ≤ (y 1).val ∧ (y 1).val < win0_3.index (ptOf y) 1 * 2048 + 2048
                  rw [e1]; omega⟩

/-- The run: the result, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 3).trans (final m c), (h.2 c)⟩)
    (θ_run_and (run_main m ρ) (unchanged m ρ))

end Cert.Kernel3Ideal.Value
-- ==== Proof.FfnDownRef.lean ====
/-
  The reference of the down projection and its residual: its run, its result entry by entry, and that the kernel's is the same.
-/
module

public import proofs.«01_k».proof.Defs
public import proofs.«01_k».proof.Proof.Gen.Reference3Ideal
public import proofs.«01_k».proof.Proof.FfnDown
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference3Ideal.Value

open Cert.Reference3Ideal Cert.Reference3Ideal.Gen Cert.Dots Idealize.ShloMosaic.StableHlo

/-- The product of two matrices. -/
abbrev product (l : Vec Ideal S4096x5632 .f32) (r : Vec Ideal S5632x2048 .f32) : Vec Ideal S4096x2048 .f32 :=
  Host.dotGeneral (F := Ideal) (φ₁ := .f32) (φ₂ := .f32) dot_S4096x5632_S5632x2048_S4096x2048_1_0_0_1_n_n none l r

/-- The sum and the product of two matrices, entry by entry. -/
abbrev plus (l r : FVec Ideal S4096x2048 .f32) : FVec Ideal S4096x2048 .f32 := addf l r
abbrev times (l r : FVec Ideal S4096x2048 .f32) : FVec Ideal S4096x2048 .f32 := mulf l r

/-- The reference's operations, in order. -/
abbrev ops : List (HloOp τ sig (Elt Ideal)) :=
  [ unary main_arg0 main_v0 (extf (F := Ideal) .f32 · bitsLt_bf16_f32),
    reshape main_arg1 main_v1 rfl shapeCasts_S4x1408x2048_S5632x2048,
    unary main_v1 main_v2 (extf (F := Ideal) .f32 · bitsLt_bf16_f32),
    binary main_v0 main_v2 main_v3 product,
    nullary main_cst (constant (F := Ideal) S_ .f32 0x3F000000#32),
    unary main_cst main_v4 (broadcastInDim S4096x2048 ![] bcast_S_S4096x2048),
    binary main_v4 main_v3 main_v5 times,
    binary main_arg2 main_v5 main_v6 plus ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨unary_bufs_sub .., reshape_bufs_sub .., unary_bufs_sub .., binary_bufs_sub .., nullary_bufs_sub .., unary_bufs_sub .., binary_bufs_sub .., binary_bufs_sub ..⟩

/-- The result as the reference computes it. -/
def value (x : Vec Ideal S4096x5632 .bf16) (y : Vec Ideal S4x1408x2048 .bf16) (z : Vec Ideal S4096x2048 .f32) : Vec Ideal S4096x2048 .f32 :=
  plus z (times (broadcastInDim S4096x2048 ![] bcast_S_S4096x2048 (constant (F := Ideal) S_ .f32 0x3F000000#32)) (product (extf (F := Ideal) .f32 x bitsLt_bf16_f32) (extf (F := Ideal) .f32 (shapeCast S5632x2048 y shapeCasts_S4x1408x2048_S5632x2048) bitsLt_bf16_f32)))

theorem run (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD) : Thread nD τ).loc main_v6) = value (m (((0 : Dev nD) : Thread nD τ).loc main_arg0)) (m (((0 : Dev nD) : Thread nD τ).loc main_arg1)) (m (((0 : Dev nD) : Thread nD τ).loc main_arg2))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2) :=
  (θ_run defs _ _).mono (fun _ h => ⟨(h 0 main_v6).trans (by after_results; rfl),
      (h 0 main_arg0).trans (by after_results), (h 0 main_arg1).trans (by after_results), (h 0 main_arg2).trans (by after_results)⟩)
    (run_seq scopedRefs_eq scopedSems_eq defs main (fun _ => ops) main_eq (fun _ => ops_sub) m ρ)

theorem frame : Cert.quiescent_Reference3Ideal := fun m ρ _ =>
  (θ_run defs _ _).mono (fun r h => ⟨fun c => (by obtain rfl : c = 0 := Subsingleton.elim _ _; exact h.2),
      sem_eq_zero_of_no_sems (by decide) r.2⟩)
    (run m ρ)

/-- An entry: the residual's and the sum of the products along the row and the column. -/
theorem value_eq (x : S4096x5632.Idx → EReal) (y : S4x1408x2048.Idx → EReal) (z : S4096x2048.Idx → EReal) :
    (value x y z : S4096x2048.Idx → EReal) = Cert.Kernel3Ideal.Value.res x y z := by
  funext i
  obtain ⟨p, q, rfl⟩ : ∃ (p : Fin 4096) (q : Fin 2048), i = ix2 p q := ⟨i 0, i 1, eq_ix2 i⟩
  show _ = ext2 z p.val q.val + Ideal.ofBits .f32 0x3F000000#32 * dot (fun i => ext2 x p.val i) (fun i => rows y i q.val) 5632
  unfold value
  pointwise [product, plus, times]
  rw [dot_first, ext2_in z p.isLt q.isLt]
  refine congrArg (z (ix2 p q) + Ideal.ofBits .f32 0x3F000000#32 * ·) (Finset.sum_congr rfl fun k _ => (?_ : (_ : EReal) = _))
  rw [ext2_in x p.isLt k.isLt, rows_in y (by omega) (by omega) q.isLt]

/-- Both compute the same array. -/
theorem algebraic : Cert.algebraic_Kernel3Ideal_Reference3Ideal := by
  intro m ρ m' ρ' _ hagree
  refine ⟨fun c => Cert.Kernel3Ideal.Value.result m c, Cert.Kernel3Ideal.Value.run m ρ, ?_⟩
  refine (θ_run defs _ _).mono (fun _ h c => ?_) (run m' ρ')
  obtain rfl : c = 0 := Subsingleton.elim _ _
  refine ⟨h.1.trans ?_, h.2⟩
  rw [(hagree 0).1, (hagree 0).2.1, (hagree 0).2.2]
  exact value_eq _ _ _

end Cert.Reference3Ideal.Value
-- ==== Proof.OutDw.lean ====
/-
  The gradient of the output projection's weight: the accumulator after each point, and the result array.
-/
module

public import proofs.«01_k».proof.Defs
public import proofs.«01_k».proof.Proof.Gen.Kernel4Ideal.Frame
public import proofs.«01_k».proof.Proof.Dots
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Dots

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ### One point's stores -/

/-- The first point of a block of the result: the accumulator is set to the product of the point's blocks. -/
theorem accA (c : Dev nD) (t : Fin cfg0.N) (h0 : t.val % 4 = 0) :
    (outsAt0 m c t.val t.isLt).2 = k0_pay1 (iblk m c 0 t) (iblk m c 1 t) := by
  rw [outsAt0_A m c t h0 (by omega) (by omega)]
  dsimp only
  unfold sout0_A_0
  rw [View.read_writes_eq_canon _ _ _ (fun _ => scover0_A_0 ..)]
  unfold kernelRun0_A
  dsimp only
  rw [View.canon_unit_zero hz]
  simp only [View.readAt_eq_ld, (hs0_0 t).read_unread, (hs0_1 t).read_unread, View.ld_unit_zero (S := S1024x512) hz, View.ld_unit_zero (S := S1024x2048) hz]

/-- A later point: the accumulator grows by the product of the point's blocks. -/
theorem accBC (c : Dev nD) (t : Fin cfg0.N) (h0 : ¬t.val % 4 = 0) :
    (outsAt0 m c t.val t.isLt).2 = k0_pay2 (iblk m c 0 t) (iblk m c 1 t) (outsAt0 m c (t.val - 1) (Nat.lt_of_le_of_lt (Nat.sub_le _ _) t.isLt)).2 := by
  by_cases h2 : t.val % 4 = 3
  · rw [outsAt0_C m c t h0 (by omega) h2]
    dsimp only
    unfold sout0_C_0
    rw [View.read_writes_eq_canon _ _ _ (fun _ => scover0_C_0 ..)]
    unfold kernelRun0_C
    dsimp only
    sl_unfold_words
    rw [View.canon_unit_zero hz]
    simp only [View.readAt_eq_ld, (hs0_0 t).read_unread, (hs0_1 t).read_unread, (Memref.isWhole_whole _).read_unread, View.ld_unit_zero (S := S1024x512) hz, View.ld_unit_zero (S := S1024x2048) hz, View.ld_unit_zero (S := S512x2048) hz]
  · rw [outsAt0_B m c t h0 (by omega) h2]
    dsimp only
    unfold sout0_B_0
    rw [View.read_writes_eq_canon _ _ _ (fun _ => scover0_B_0 ..)]
    unfold kernelRun0_B
    dsimp only
    rw [View.canon_unit_zero hz]
    simp only [View.readAt_eq_ld, (hs0_0 t).read_unread, (hs0_1 t).read_unread, (Memref.isWhole_whole _).read_unread, View.ld_unit_zero (S := S1024x512) hz, View.ld_unit_zero (S := S1024x2048) hz, View.ld_unit_zero (S := S512x2048) hz]

/-- The last point of a block: what is written is made of the accumulator, in the result's own format. -/
theorem outC (c : Dev nD) (t : Fin cfg0.N) (h2 : t.val % 4 = 3) :
    (outsAt0 m c t.val t.isLt).1 = k0_pay3 (outsAt0 m c t.val t.isLt).2 := by
  have h0 : ¬t.val % 4 = 0 := by omega
  rw [accBC m c t h0, outsAt0_C m c t h0 (by omega) h2]
  dsimp only
  unfold out0_C_2
  rw [View.read_writes_eq_canon _ _ _ (fun _ => cover0_C_2 ..)]
  unfold kernelRun0_C
  dsimp only
  sl_unfold_words
  rw [View.canon_unit_zero hz3, View.readCov_unit_zero (S := S512x2048) _ hz]
  simp only [View.readAt_eq_ld, (hs0_0 t).read_unread, (hs0_1 t).read_unread, (Memref.isWhole_whole _).read_unread, View.ld_unit_zero (S := S1024x512) hz, View.ld_unit_zero (S := S1024x2048) hz, View.ld_unit_zero (S := S512x2048) hz]

/-! ### The blocks -/

/-- An input array. -/
abbrev arrA (c : Dev nD) : S4096x2048.Idx → EReal := m ((c : Thread nD τ).loc main_arg0)
/-- An input array. -/
abbrev arrB (c : Dev nD) : S4096x2048.Idx → EReal := m ((c : Thread nD τ).loc main_arg1)

/-- The two factors, each read at the contracted position first. -/
def fA (x : S4096x2048.Idx → EReal) (i p : ℕ) : EReal := ext2 x i p
def fB (x : S4096x2048.Idx → EReal) (i q : ℕ) : EReal := ext2 x i q

theorem at0 : ∀ t : Fin cfg0.N, win0_0.index t 0 = t.val % 4 ∧ win0_0.index t 1 = t.val / 4 := by decide +kernel
theorem at1 : ∀ t : Fin cfg0.N, win0_1.index t 0 = t.val % 4 ∧ win0_1.index t 1 = 0 := by decide +kernel
theorem at2 : ∀ t : Fin cfg0.N, win0_2.index t 0 = t.val / 4 ∧ win0_2.index t 1 = 0 ∧ win0_2.index t 2 = 0 := by decide +kernel

theorem blk0 (c : Dev nD) (t : Fin cfg0.N) (k : Fin 1024) (p : Fin 512) :
    (iblk m c 0 t : S1024x512.Idx → EReal) (ix2 k p) = fA (arrA m c) (1024 * (t.val % 4) + k.val) (512 * (t.val / 4) + p.val) := by
  unfold iblk
  rw [View.read_apply]
  refine ext2_of (arrA m c) _ ?_ ?_
  · show win0_0.index t 0 * 1024 + 1 * k.val = _
    rw [(at0 t).1]; omega
  · show win0_0.index t 1 * 512 + 1 * p.val = _
    rw [(at0 t).2]; omega

theorem blk1 (c : Dev nD) (t : Fin cfg0.N) (k : Fin 1024) (q : Fin 2048) :
    (iblk m c 1 t : S1024x2048.Idx → EReal) (ix2 k q) = fB (arrB m c) (1024 * (t.val % 4) + k.val) (0 + q.val) := by
  unfold iblk
  rw [View.read_apply]
  refine ext2_of (arrB m c) _ ?_ ?_
  · show win0_1.index t 0 * 1024 + 1 * k.val = _
    rw [(at1 t).1]; omega
  · show win0_1.index t 1 * 2048 + 1 * q.val = _
    rw [(at1 t).2]; omega

/-! ### The accumulator after a point -/

theorem pay1 (x : Vec Ideal S1024x512 .bf16) (y : Vec Ideal S1024x2048 .bf16) (p : Fin 512) (q : Fin 2048) :
    k0_pay1 x y (ix2 p q) = ∑ k : Fin 1024, x (ix2 k p) * y (ix2 k q) := by
  unfold k0_pay1
  pointwise

theorem pay2 (x : Vec Ideal S1024x512 .bf16) (y : Vec Ideal S1024x2048 .bf16) (a : Vec Ideal S512x2048 .f32) (p : Fin 512) (q : Fin 2048) :
    k0_pay2 x y a (ix2 p q) = a (ix2 p q) + ∑ k : Fin 1024, x (ix2 k p) * y (ix2 k q) := by
  unfold k0_pay2
  pointwise

theorem pay3 (a : Vec Ideal S512x2048 .f32) (z : Fin 1) (p : Fin 512) (q : Fin 2048) :
    k0_pay3 a (ix3 z p q) = a (ix2 p q) := by
  unfold k0_pay3
  pointwise

theorem pay3_at (a : Vec Ideal S512x2048 .f32) (y : S1x512x2048.Idx) :
    k0_pay3 a y = a (ix2 (y 1) (y 2)) := by
  obtain ⟨z, p, q, rfl⟩ : ∃ (z : Fin 1) (p : Fin 512) (q : Fin 2048), y = ix3 z p q := ⟨y 0, y 1, y 2, eq_ix3 y⟩
  exact pay3 a z p q

/-- An entry of the product, over the first `n` of the contracted positions. -/
def part (x : S4096x2048.Idx → EReal) (y : S4096x2048.Idx → EReal) (n p q : ℕ) : EReal :=
  dot (fun i => fA x i p) (fun i => fB y i q) n

theorem acc_eq (c : Dev nD) : ∀ (n : ℕ) (h : n < cfg0.N) (p : Fin 512) (q : Fin 2048),
    (outsAt0 m c n h).2 (ix2 p q) = part (arrA m c) (arrB m c) (1024 * (n % 4) + 1024) (512 * (n / 4) + p.val) (0 + q.val) := by
  intro n
  induction n with
  | zero =>
    intro h p q
    refine (congrFun (accA m c ⟨0, h⟩ rfl) _).trans ?_
    rw [pay1, part, show 1024 * (0 % 4) + 1024 = 1024 from rfl, dot_first]
    simp only [blk0, blk1]
    simp
  | succ n ih =>
    intro h p q
    by_cases h0 : (n + 1) % 4 = 0
    · refine (congrFun (accA m c ⟨n + 1, h⟩ h0) _).trans ?_
      rw [pay1, part, h0, show 1024 * 0 + 1024 = 1024 from rfl, dot_first]
      simp only [blk0, blk1, h0, Nat.mul_zero, Nat.zero_add]
    · have e1 : 1024 * (n % 4) + 1024 = 1024 * ((n + 1) % 4) := by omega
      have e2 : 512 * (n / 4) = 512 * ((n + 1) / 4) := by omega
      have e3 : 0 = 0 := by omega
      have hi := ih (Nat.lt_of_succ_lt h) p q
      rw [e1, e2] at hi
      refine (congrFun (accBC m c ⟨n + 1, h⟩ h0) _).trans ?_
      rw [pay2, part, dot_add]
      simp only [blk0, blk1]
      exact congrArg (· + _) hi

/-! ### The result array -/

/-- The result, entry by entry. -/
def res (x : S4096x2048.Idx → EReal) (y : S4096x2048.Idx → EReal) : S4x512x2048.Idx → EReal :=
  fun y' => part x y 4096 (512 * (y'  0).val + (y'  1).val) ((y'  2).val)

abbrev result (c : Dev nD) := res (arrA m c) (arrB m c)

theorem flushed (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  show (cfg0.win 2).cut (grid0.coords t) ((dats m 0 c).after 2 t) = _
  rw [after0_2, outC m c t h3]
  funext y
  rw [View.read_apply]
  refine (pay3_at _ y).trans ?_
  refine (acc_eq m c t.val t.isLt (y 1) (y 2)).trans ?_
  rw [h3]
  unfold result res
  have hy : (y 0).val = 0 := by have := (y 0).isLt; change (y 0).val < 1 at this; omega
  congr 1
  · show _ = 512 * (win0_2.index t 0 * 1 + 1 * (y 0).val) + (win0_2.index t 1 * 512 + 1 * (y 1).val)
    rw [(at2 t).1, (at2 t).2.1, hy]
    show 512 * (t.val / 4) + (y 1).val = _
    omega
  · show _ = win0_2.index t 2 * 2048 + 1 * (y 2).val
    rw [(at2 t).2.2]
    show 0 + (y 2).val = _
    omega

/-- The point that writes the block an index of the result lies in. -/
def ptOf (y : S4x512x2048.Idx) : Fin cfg0.N :=
  ⟨4 * (y 0).val + 3, by
    have h0 : (y 0).val < 4 := (y 0).isLt
    have h1 : (y 1).val < 512 := (y 1).isLt
    have h2 : (y 2).val < 2048 := (y 2).isLt
    rw [show cfg0.N = 16 from N_0]; omega⟩

theorem final (c : Dev nD) : (dats m 0 c).arrAt 2 cfg0.N = result m c :=
  (dats m 0 c).arrAt_eq_of_cover 2 (result m c) (flushed m c) fun (y : S4x512x2048.Idx) =>
    ⟨ptOf y, (flush0_2 (ptOf y)).mpr (by show (4 * (y 0).val + 3) % 4 = 3; omega), by
      show y ∈ ((View.whole main_v0).slice (win0_2.rect (ptOf y))).set
      rw [View.set_slice_whole, Rect.mem_set_unit]
      have h0 : (y 0).val < 4 := (y 0).isLt
      have h1 : (y 1).val < 512 := (y 1).isLt
      have h2 : (y 2).val < 2048 := (y 2).isLt
      obtain ⟨e0, e1, e2⟩ := at2 (ptOf y)
      have hv : (ptOf y).val = 4 * (y 0).val + 3 := rfl
      rw [hv] at e0
      intro a
      match a with
      | ⟨0, _⟩ => show win0_2.index (ptOf y) 0 * 1 ≤ (y 0).val ∧ (y 0).val < win0_2.index (ptOf y) 0 * 1 + 1
                  rw [e0]; omega
      | ⟨1, _⟩ => show win0_2.index (ptOf y) 1 * 512 ≤ (y 1).val ∧ (y 1).val < win0_2.index (ptOf y) 1 * 512 + 512
                  rw [e1]; omega
      | ⟨2, _⟩ => show win0_2.index (ptOf y) 2 * 2048 ≤ (y 2).val ∧ (y 2).val < win0_2.index (ptOf y) 2 * 2048 + 2048
                  rw [e2]; omega⟩

/-- The run: the result, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final m c), (h.2 c)⟩)
    (θ_run_and (run_main m ρ) (unchanged m ρ))

end Cert.Kernel4Ideal.Value
-- ==== Proof.OutDwRef.lean ====
/-
  The reference of the output projection's weight gradient: its run, its result entry by entry, and that the kernel's is the same.
-/
module

public import proofs.«01_k».proof.Defs
public import proofs.«01_k».proof.Proof.Gen.Reference4Ideal
public import proofs.«01_k».proof.Proof.OutDw
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference4Ideal.Value

open Cert.Reference4Ideal Cert.Reference4Ideal.Gen Cert.Dots Idealize.ShloMosaic.StableHlo

/-- The product of one matrix transposed with another. -/
abbrev product (l : Vec Ideal S4096x2048 .f32) (r : Vec Ideal S4096x2048 .f32) : Vec Ideal S2048x2048 .f32 :=
  Host.dotGeneral (F := Ideal) (φ₁ := .f32) (φ₂ := .f32) dot_S4096x2048_S4096x2048_S2048x2048_0_0_1_1_n_n none l r

/-- The reference's operations, in order. -/
abbrev ops : List (HloOp τ sig (Elt Ideal)) :=
  [ unary main_arg0 main_v0 (extf (F := Ideal) .f32 · bitsLt_bf16_f32),
    unary main_arg1 main_v1 (extf (F := Ideal) .f32 · bitsLt_bf16_f32),
    binary main_v1 main_v0 main_v2 product,
    unary main_v2 main_v3 (transpose S2048x2048 [1, 0] · transposes_S2048x2048_S2048x2048_1_0),
    unary main_v3 main_v4 (truncf (F := Ideal) .bf16 · bitsLt_bf16_f32),
    reshape main_v4 main_v5 rfl shapeCasts_S2048x2048_S4x512x2048 ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨unary_bufs_sub .., unary_bufs_sub .., binary_bufs_sub .., unary_bufs_sub .., unary_bufs_sub .., reshape_bufs_sub ..⟩

/-- The result as the reference computes it. -/
def value (x : Vec Ideal S4096x2048 .bf16) (y : Vec Ideal S4096x2048 .bf16) : Vec Ideal S4x512x2048 .bf16 :=
  shapeCast S4x512x2048 (truncf (F := Ideal) .bf16 (transpose S2048x2048 [1, 0] (product (extf (F := Ideal) .f32 y bitsLt_bf16_f32)
    (extf (F := Ideal) .f32 x bitsLt_bf16_f32)) transposes_S2048x2048_S2048x2048_1_0) bitsLt_bf16_f32) shapeCasts_S2048x2048_S4x512x2048

theorem run (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD) : Thread nD τ).loc main_v5) = value (m (((0 : Dev nD) : Thread nD τ).loc main_arg0)) (m (((0 : Dev nD) : Thread nD τ).loc main_arg1))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1) :=
  (θ_run defs _ _).mono (fun _ h => ⟨(h 0 main_v5).trans (by after_results; rfl),
      (h 0 main_arg0).trans (by after_results), (h 0 main_arg1).trans (by after_results)⟩)
    (run_seq scopedRefs_eq scopedSems_eq defs main (fun _ => ops) main_eq (fun _ => ops_sub) m ρ)

theorem frame : Cert.quiescent_Reference4Ideal := fun m ρ _ =>
  (θ_run defs _ _).mono (fun r h => ⟨fun c => (by obtain rfl : c = 0 := Subsingleton.elim _ _; exact h.2),
      sem_eq_zero_of_no_sems (by decide) r.2⟩)
    (run m ρ)

/-- An entry: the sum, over all rows, of the products of the two columns. -/
theorem value_eq (x : S4096x2048.Idx → EReal) (y : S4096x2048.Idx → EReal) :
    (value x y : S4x512x2048.Idx → EReal) = Cert.Kernel4Ideal.Value.res x y := by
  funext i
  obtain ⟨j, p, q, rfl⟩ : ∃ (j : Fin 4) (p : Fin 512) (q : Fin 2048), i = ix3 j p q := ⟨i 0, i 1, i 2, eq_ix3 i⟩
  show _ = dot (fun i => ext2 x i (512 * j.val + p.val)) (fun i => ext2 y i q.val) 4096
  unfold value
  pointwise [product]
  rw [dot_first]
  refine Finset.sum_congr rfl fun k _ => (?_ : (_ : EReal) = _)
  rw [mul_comm, ext2_in x k.isLt (by omega), ext2_in y k.isLt q.isLt]
  first
  | done
  | (congr 2
     apply congrArg
     apply Fin.ext
     dsimp only
     omega)

/-- Both compute the same array. -/
theorem algebraic : Cert.algebraic_Kernel4Ideal_Reference4Ideal := by
  intro m ρ m' ρ' _ hagree
  refine ⟨fun c => Cert.Kernel4Ideal.Value.result m c, Cert.Kernel4Ideal.Value.run m ρ, ?_⟩
  refine (θ_run defs _ _).mono (fun _ h c => ?_) (run m' ρ')
  obtain rfl : c = 0 := Subsingleton.elim _ _
  refine ⟨h.1.trans ?_, h.2⟩
  rw [(hagree 0).1, (hagree 0).2]
  exact value_eq _ _

end Cert.Reference4Ideal.Value
-- ==== Proof.OutProj.lean ====
/-
  The output projection and its residual: the accumulator after each point, and the result array.
-/
module

public import proofs.«01_k».proof.Defs
public import proofs.«01_k».proof.Proof.Gen.Kernel5Ideal.Frame
public import proofs.«01_k».proof.Proof.Dots
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Dots

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ### One point's stores -/

/-- The first point of a block of the result: the accumulator is set to the product of the point's blocks. -/
theorem accA (c : Dev nD) (t : Fin cfg0.N) (h0 : t.val % 2 = 0) :
    (outsAt0 m c t.val t.isLt).2 = k0_pay1 (iblk m c 0 t) (iblk m c 1 t) := by
  rw [outsAt0_A m c t h0 (by omega) (by omega)]
  dsimp only
  unfold sout0_A_0
  rw [View.read_writes_eq_canon _ _ _ (fun _ => scover0_A_0 ..)]
  unfold kernelRun0_A
  dsimp only
  rw [View.canon_unit_zero hz]
  simp only [View.readAt_eq_ld, (hs0_0 t).read_unread, (hs0_1 t).read_unread, View.ld_unit_zero (S := S512x1024) hz, View.ld_unit_zero (S := S1x1024x2048) hz3]

/-- A later point: the accumulator grows by the product of the point's blocks. -/
theorem accBC (c : Dev nD) (t : Fin cfg0.N) (h0 : ¬t.val % 2 = 0) :
    (outsAt0 m c t.val t.isLt).2 = k0_pay2 (iblk m c 0 t) (iblk m c 1 t) (outsAt0 m c (t.val - 1) (Nat.lt_of_le_of_lt (Nat.sub_le _ _) t.isLt)).2 := by
  rw [outsAt0_B m c t h0 (by omega) (by omega)]
  dsimp only
  unfold sout0_B_0
  rw [View.read_writes_eq_canon _ _ _ (fun _ => scover0_B_0 ..)]
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S512x1024) hz, View.ld_unit_zero (S := S1x1024x2048) hz3, View.ld_unit_zero (S := S512x2048) hz]

/-- The last point of a block: what is written is made of the accumulator and the block of the residual. -/
theorem outC (c : Dev nD) (t : Fin cfg0.N) (h2 : t.val % 2 = 1) :
    (outsAt0 m c t.val t.isLt).1 = k0_pay3 (outsAt0 m c t.val t.isLt).2 (iblk m c 2 t) := by
  have h0 : ¬t.val % 2 = 0 := by omega
  rw [accBC m c t h0, outsAt0_B m c t h0 (by omega) (by omega)]
  dsimp only
  unfold out0_B_3
  rw [View.read_writes_eq_canon _ _ _ (fun _ => cover0_B_3 ..)]
  unfold kernelRun0_B
  dsimp only
  sl_unfold_words
  rw [View.canon_unit_zero hz, View.readCov_unit_zero (S := S512x2048) _ hz]
  simp only [View.readAt_eq_ld, (hs0_0 t).read_unread, (hs0_1 t).read_unread, (Memref.isWhole_whole _).read_unread, View.ld_unit_zero (S := S512x1024) hz, View.ld_unit_zero (S := S1x1024x2048) hz3, View.ld_unit_zero (S := S512x2048) hz, (hs0_2 t).read_unread]

/-! ### The blocks -/

/-- An input array. -/
abbrev arrA (c : Dev nD) : S4096x2048.Idx → EReal := m ((c : Thread nD τ).loc main_arg0)
/-- An input array. -/
abbrev arrB (c : Dev nD) : S4x512x2048.Idx → EReal := m ((c : Thread nD τ).loc main_arg1)
/-- An input array. -/
abbrev arrX (c : Dev nD) : S4096x2048.Idx → EReal := m ((c : Thread nD τ).loc main_arg2)

/-- The two factors, each read at the contracted position first. -/
def fA (x : S4096x2048.Idx → EReal) (i p : ℕ) : EReal := ext2 x p i
def fB (x : S4x512x2048.Idx → EReal) (i q : ℕ) : EReal := rows x i q

theorem at0 : ∀ t : Fin cfg0.N, win0_0.index t 0 = t.val / 2 ∧ win0_0.index t 1 = t.val % 2 := by decide +kernel
theorem at1 : ∀ t : Fin cfg0.N, win0_1.index t 0 = t.val % 2 ∧ win0_1.index t 1 = 0 ∧ win0_1.index t 2 = 0 := by decide +kernel
theorem at2 : ∀ t : Fin cfg0.N, win0_2.index t 0 = t.val / 2 ∧ win0_2.index t 1 = 0 := by decide +kernel
theorem at3 : ∀ t : Fin cfg0.N, win0_3.index t 0 = t.val / 2 ∧ win0_3.index t 1 = 0 := by decide +kernel

/-- The weight as the call takes it: its rows in 2 groups. -/
theorem V_w (c : Dev nD) : V m c main_v0 = (shapeCast S2x1024x2048 (arrB m c) shapeCasts_S4x512x2048_S2x1024x2048 : S2x1024x2048.Idx → EReal) := by
  show StableHlo.after hostOps0 _ _ = _
  simp only [hostOps0, List.flatten_cons, List.flatten_nil, List.append_nil, List.cons_append, List.nil_append]
  after_results
  rfl

theorem w_rows (w : S4x512x2048.Idx → EReal) (y : S2x1024x2048.Idx) :
    shapeCast S2x1024x2048 w shapeCasts_S4x512x2048_S2x1024x2048 y = rows w (1024 * (y 0).val + (y 1).val) (y 2).val := by
  obtain ⟨a, b, q, rfl⟩ : ∃ (a : Fin 2) (b : Fin 1024) (q : Fin 2048), y = ix3 a b q := ⟨y 0, y 1, y 2, eq_ix3 y⟩
  pointwise
  have ha := a.isLt
  have hb := b.isLt
  refine rows_of w _ ?_ ?_ ?_
  · dsimp only [ix3]; show _ = (1024 * a.val + b.val) / 512; omega
  · dsimp only [ix3]; show _ = (1024 * a.val + b.val) % 512; omega
  · rfl

theorem blk0 (c : Dev nD) (t : Fin cfg0.N) (k : Fin 1024) (p : Fin 512) :
    (iblk m c 0 t : S512x1024.Idx → EReal) (ix2 p k) = fA (arrA m c) (1024 * (t.val % 2) + k.val) (512 * (t.val / 2) + p.val) := by
  unfold iblk
  rw [View.read_apply]
  refine ext2_of (arrA m c) _ ?_ ?_
  · show win0_0.index t 0 * 512 + 1 * p.val = _
    rw [(at0 t).1]; omega
  · show win0_0.index t 1 * 1024 + 1 * k.val = _
    rw [(at0 t).2]; omega

theorem blk1 (c : Dev nD) (t : Fin cfg0.N) (k : Fin 1024) (q : Fin 2048) :
    (iblk m c 1 t : S1x1024x2048.Idx → EReal) (ix3 0 k q) = fB (arrB m c) (1024 * (t.val % 2) + k.val) (0 + q.val) := by
  unfold iblk
  rw [View.read_apply]
  show V m c main_v0 _ = _
  rw [V_w]
  refine (w_rows (arrB m c) _).trans ?_
  unfold fB
  congr 1
  · show 1024 * (win0_1.index t 0 * 1 + 1 * 0) + (win0_1.index t 1 * 1024 + 1 * k.val) = _
    rw [(at1 t).1, (at1 t).2.1]; omega
  · show win0_1.index t 2 * 2048 + 1 * q.val = _
    rw [(at1 t).2.2]; omega

theorem blk2 (c : Dev nD) (t : Fin cfg0.N) (p : Fin 512) (q : Fin 2048) :
    (iblk m c 2 t : S512x2048.Idx → EReal) (ix2 p q) = ext2 (arrX m c) (512 * (t.val / 2) + p.val) (0 + q.val) := by
  unfold iblk
  rw [View.read_apply]
  refine ext2_of (arrX m c) _ ?_ ?_
  · show win0_2.index t 0 * 512 + 1 * p.val = _
    rw [(at2 t).1]; omega
  · show win0_2.index t 1 * 2048 + 1 * q.val = _
    rw [(at2 t).2]; omega

/-! ### The accumulator after a point -/

theorem pay1 (x : Vec Ideal S512x1024 .bf16) (y : Vec Ideal S1x1024x2048 .bf16) (p : Fin 512) (q : Fin 2048) :
    k0_pay1 x y (ix2 p q) = ∑ k : Fin 1024, x (ix2 p k) * y (ix3 0 k q) := by
  unfold k0_pay1
  pointwise

theorem pay2 (x : Vec Ideal S512x1024 .bf16) (y : Vec Ideal S1x1024x2048 .bf16) (a : Vec Ideal S512x2048 .f32) (p : Fin 512) (q : Fin 2048) :
    k0_pay2 x y a (ix2 p q) = a (ix2 p q) + ∑ k : Fin 1024, x (ix2 p k) * y (ix3 0 k q) := by
  unfold k0_pay2
  pointwise

theorem pay3 (a : Vec Ideal S512x2048 .f32) (v : Vec Ideal S512x2048 .f32) (p : Fin 512) (q : Fin 2048) :
    k0_pay3 a v (ix2 p q) = v (ix2 p q) + a (ix2 p q) := by
  unfold k0_pay3
  pointwise

theorem pay3_at (a : Vec Ideal S512x2048 .f32) (v : Vec Ideal S512x2048 .f32) (y : S512x2048.Idx) :
    k0_pay3 a v y = v (ix2 (y 0) (y 1)) + a (ix2 (y 0) (y 1)) := by
  obtain ⟨p, q, rfl⟩ : ∃ (p : Fin 512) (q : Fin 2048), y = ix2 p q := ⟨y 0, y 1, eq_ix2 y⟩
  exact pay3 a v p q

/-- An entry of the product, over the first `n` of the contracted positions. -/
def part (x : S4096x2048.Idx → EReal) (y : S4x512x2048.Idx → EReal) (n p q : ℕ) : EReal :=
  dot (fun i => fA x i p) (fun i => fB y i q) n

theorem acc_eq (c : Dev nD) : ∀ (n : ℕ) (h : n < cfg0.N) (p : Fin 512) (q : Fin 2048),
    (outsAt0 m c n h).2 (ix2 p q) = part (arrA m c) (arrB m c) (1024 * (n % 2) + 1024) (512 * (n / 2) + p.val) (0 + q.val) := by
  intro n
  induction n with
  | zero =>
    intro h p q
    refine (congrFun (accA m c ⟨0, h⟩ rfl) _).trans ?_
    rw [pay1, part, show 1024 * (0 % 2) + 1024 = 1024 from rfl, dot_first]
    simp only [blk0, blk1]
    simp
  | succ n ih =>
    intro h p q
    by_cases h0 : (n + 1) % 2 = 0
    · refine (congrFun (accA m c ⟨n + 1, h⟩ h0) _).trans ?_
      rw [pay1, part, h0, show 1024 * 0 + 1024 = 1024 from rfl, dot_first]
      simp only [blk0, blk1, h0, Nat.mul_zero, Nat.zero_add]
    · have e1 : 1024 * (n % 2) + 1024 = 1024 * ((n + 1) % 2) := by omega
      have e2 : 512 * (n / 2) = 512 * ((n + 1) / 2) := by omega
      have e3 : 0 = 0 := by omega
      have hi := ih (Nat.lt_of_succ_lt h) p q
      rw [e1, e2] at hi
      refine (congrFun (accBC m c ⟨n + 1, h⟩ h0) _).trans ?_
      rw [pay2, part, dot_add]
      simp only [blk0, blk1]
      exact congrArg (· + _) hi

/-! ### The result array -/

/-- The result, entry by entry. -/
def res (x : S4096x2048.Idx → EReal) (y : S4x512x2048.Idx → EReal) (z : S4096x2048.Idx → EReal) : S4096x2048.Idx → EReal :=
  fun y' => ext2 z ((y'  0).val) ((y'  1).val) + part x y 2048 ((y'  0).val) ((y'  1).val)

abbrev result (c : Dev nD) := res (arrA m c) (arrB m c) (arrX m c)

theorem flushed (c : Dev nD) (t : Fin cfg0.N) (hf : (cfg0.win 3).flush t = true) :
    (dats m 0 c).flushed 3 t = ((cfg0.win 3).blk t).view.read (Elt Ideal) (result m c) := by
  have h3 : t.val % 2 = 1 := (flush0_3 t).mp hf
  show (cfg0.win 3).cut (grid0.coords t) ((dats m 0 c).after 3 t) = _
  rw [after0_3, outC m c t h3]
  funext y
  rw [View.read_apply]
  refine (pay3_at _ _ y).trans ?_
  have ea := acc_eq m c t.val t.isLt (y 0) (y 1)
  have ex := blk2 m c t (y 0) (y 1)
  rw [h3] at ea
  have er : 512 * (t.val / 2) + (y 0).val = win0_3.index t 0 * 512 + 1 * (y 0).val := by rw [(at3 t).1]; omega
  have ec : 0 + (y 1).val = win0_3.index t 1 * 2048 + 1 * (y 1).val := by rw [(at3 t).2]; omega
  refine (congrArg₂ (fun a v : EReal => v + a) ea ex).trans ?_
  show ext2 (arrX m c) (512 * (t.val / 2) + (y 0).val) (0 + (y 1).val) + part (arrA m c) (arrB m c) 2048 (512 * (t.val / 2) + (y 0).val) (0 + (y 1).val) = _
  rw [er, ec]
  rfl

/-- The point that writes the block an index of the result lies in. -/
def ptOf (y : S4096x2048.Idx) : Fin cfg0.N :=
  ⟨2 * ((y 0).val / 512) + 1, by
    have h0 : (y 0).val < 4096 := (y 0).isLt
    have h1 : (y 1).val < 2048 := (y 1).isLt
    rw [show cfg0.N = 16 from N_0]; omega⟩

theorem final (c : Dev nD) : (dats m 0 c).arrAt 3 cfg0.N = result m c :=
  (dats m 0 c).arrAt_eq_of_cover 3 (result m c) (flushed m c) fun (y : S4096x2048.Idx) =>
    ⟨ptOf y, (flush0_3 (ptOf y)).mpr (by show (2 * ((y 0).val / 512) + 1) % 2 = 1; omega), by
      show y ∈ ((View.whole main_v1).slice (win0_3.rect (ptOf y))).set
      rw [View.set_slice_whole, Rect.mem_set_unit]
      have h0 : (y 0).val < 4096 := (y 0).isLt
      have h1 : (y 1).val < 2048 := (y 1).isLt
      obtain ⟨e0, e1⟩ := at3 (ptOf y)
      have hv : (ptOf y).val = 2 * ((y 0).val / 512) + 1 := rfl
      rw [hv] at e0
      intro a
      match a with
      | ⟨0, _⟩ => show win0_3.index (ptOf y) 0 * 512 ≤ (y 0).val ∧ (y 0).val < win0_3.index (ptOf y) 0 * 512 + 512
                  rw [e0]; omega
      | ⟨1, _⟩ => show win0_3.index (ptOf y) 1 * 2048 ≤ (y 1).val ∧ (y 1).val < win0_3.index (ptOf y) 1 * 2048 + 2048
                  rw [e1]; omega⟩

/-- The run: the result, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 3).trans (final m c), (h.2 c)⟩)
    (θ_run_and (run_main m ρ) (unchanged m ρ))

end Cert.Kernel5Ideal.Value
-- ==== Proof.OutProjRef.lean ====
/-
  The reference of the output projection and its residual: its run, its result entry by entry, and that the kernel's is the same.
-/
module

public import proofs.«01_k».proof.Defs
public import proofs.«01_k».proof.Proof.Gen.Reference5Ideal
public import proofs.«01_k».proof.Proof.OutProj
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference5Ideal.Value

open Cert.Reference5Ideal Cert.Reference5Ideal.Gen Cert.Dots Idealize.ShloMosaic.StableHlo

/-- The product of two matrices. -/
abbrev product (l : Vec Ideal S4096x2048 .f32) (r : Vec Ideal S2048x2048 .f32) : Vec Ideal S4096x2048 .f32 :=
  Host.dotGeneral (F := Ideal) (φ₁ := .f32) (φ₂ := .f32) dot_S4096x2048_S2048x2048_S4096x2048_1_0_0_1_n_n none l r

/-- The sum and the product of two matrices, entry by entry. -/
abbrev plus (l r : FVec Ideal S4096x2048 .f32) : FVec Ideal S4096x2048 .f32 := addf l r
abbrev times (l r : FVec Ideal S4096x2048 .f32) : FVec Ideal S4096x2048 .f32 := mulf l r

/-- The reference's operations, in order. -/
abbrev ops : List (HloOp τ sig (Elt Ideal)) :=
  [ unary main_arg0 main_v0 (extf (F := Ideal) .f32 · bitsLt_bf16_f32),
    reshape main_arg1 main_v1 rfl shapeCasts_S4x512x2048_S2048x2048,
    unary main_v1 main_v2 (extf (F := Ideal) .f32 · bitsLt_bf16_f32),
    binary main_v0 main_v2 main_v3 product,
    binary main_arg2 main_v3 main_v4 plus ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨unary_bufs_sub .., reshape_bufs_sub .., unary_bufs_sub .., binary_bufs_sub .., binary_bufs_sub ..⟩

/-- The result as the reference computes it. -/
def value (x : Vec Ideal S4096x2048 .bf16) (y : Vec Ideal S4x512x2048 .bf16) (z : Vec Ideal S4096x2048 .f32) : Vec Ideal S4096x2048 .f32 :=
  plus z (product (extf (F := Ideal) .f32 x bitsLt_bf16_f32) (extf (F := Ideal) .f32 (shapeCast S2048x2048 y shapeCasts_S4x512x2048_S2048x2048) bitsLt_bf16_f32))

theorem run (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD) : Thread nD τ).loc main_v4) = value (m (((0 : Dev nD) : Thread nD τ).loc main_arg0)) (m (((0 : Dev nD) : Thread nD τ).loc main_arg1)) (m (((0 : Dev nD) : Thread nD τ).loc main_arg2))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2) :=
  (θ_run defs _ _).mono (fun _ h => ⟨(h 0 main_v4).trans (by after_results; rfl),
      (h 0 main_arg0).trans (by after_results), (h 0 main_arg1).trans (by after_results), (h 0 main_arg2).trans (by after_results)⟩)
    (run_seq scopedRefs_eq scopedSems_eq defs main (fun _ => ops) main_eq (fun _ => ops_sub) m ρ)

theorem frame : Cert.quiescent_Reference5Ideal := fun m ρ _ =>
  (θ_run defs _ _).mono (fun r h => ⟨fun c => (by obtain rfl : c = 0 := Subsingleton.elim _ _; exact h.2),
      sem_eq_zero_of_no_sems (by decide) r.2⟩)
    (run m ρ)

/-- An entry: the residual's and the sum of the products along the row and the column. -/
theorem value_eq (x : S4096x2048.Idx → EReal) (y : S4x512x2048.Idx → EReal) (z : S4096x2048.Idx → EReal) :
    (value x y z : S4096x2048.Idx → EReal) = Cert.Kernel5Ideal.Value.res x y z := by
  funext i
  obtain ⟨p, q, rfl⟩ : ∃ (p : Fin 4096) (q : Fin 2048), i = ix2 p q := ⟨i 0, i 1, eq_ix2 i⟩
  show _ = ext2 z p.val q.val + dot (fun i => ext2 x p.val i) (fun i => rows y i q.val) 2048
  unfold value
  pointwise [product, plus, times]
  rw [dot_first, ext2_in z p.isLt q.isLt]
  refine congrArg (z (ix2 p q) + ·) (Finset.sum_congr rfl fun k _ => (?_ : (_ : EReal) = _))
  rw [ext2_in x p.isLt k.isLt, rows_in y (by omega) (by omega) q.isLt]

/-- Both compute the same array. -/
theorem algebraic : Cert.algebraic_Kernel5Ideal_Reference5Ideal := by
  intro m ρ m' ρ' _ hagree
  refine ⟨fun c => Cert.Kernel5Ideal.Value.result m c, Cert.Kernel5Ideal.Value.run m ρ, ?_⟩
  refine (θ_run defs _ _).mono (fun _ h c => ?_) (run m' ρ')
  obtain rfl : c = 0 := Subsingleton.elim _ _
  refine ⟨h.1.trans ?_, h.2⟩
  rw [(hagree 0).1, (hagree 0).2.1, (hagree 0).2.2]
  exact value_eq _ _ _

end Cert.Reference5Ideal.Value
-- ==== Proof.OutDy.lean ====
/-
  The gradient of the output projection's input: the block each point writes, and the result array.
-/
module

public import proofs.«01_k».proof.Defs
public import proofs.«01_k».proof.Proof.Gen.Kernel6Ideal.Frame
public import proofs.«01_k».proof.Proof.Dots
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen Cert.Dots

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ### The blocks -/

/-- An input array. -/
abbrev arrA (c : Dev nD) : S4096x2048.Idx → EReal := m ((c : Thread nD τ).loc main_arg0)
/-- An input array. -/
abbrev arrB (c : Dev nD) : S4x512x2048.Idx → EReal := m ((c : Thread nD τ).loc main_arg1)

theorem at0 : ∀ t : Fin cfg0.N, win0_0.index t 0 = t.val / 2 ∧ win0_0.index t 1 = 0 := by decide +kernel
theorem at1 : ∀ t : Fin cfg0.N, win0_1.index t 0 = t.val % 2 ∧ win0_1.index t 1 = 0 := by decide +kernel
theorem at2 : ∀ t : Fin cfg0.N, win0_2.index t 0 = t.val / 2 ∧ win0_2.index t 1 = t.val % 2 := by decide +kernel

/-- The weight as the call takes it: its rows in one group. -/
theorem V_w (c : Dev nD) : V m c main_v0 = (shapeCast S2048x2048 (arrB m c) shapeCasts_S4x512x2048_S2048x2048 : S2048x2048.Idx → EReal) := by
  show StableHlo.after hostOps0 _ _ = _
  simp only [hostOps0, List.flatten_cons, List.flatten_nil, List.append_nil, List.cons_append, List.nil_append]
  after_results
  rfl

theorem w_rows (w : S4x512x2048.Idx → EReal) (y : S2048x2048.Idx) :
    shapeCast S2048x2048 w shapeCasts_S4x512x2048_S2048x2048 y = rows w (y 0).val (y 1).val := by
  obtain ⟨a, q, rfl⟩ : ∃ (a q : Fin 2048), y = ix2 a q := ⟨y 0, y 1, eq_ix2 y⟩
  pointwise
  exact rows_of w _ rfl rfl rfl

theorem blk0 (c : Dev nD) (t : Fin cfg0.N) (p : Fin 512) (k : Fin 2048) :
    (iblk m c 0 t : S512x2048.Idx → EReal) (ix2 p k) = ext2 (arrA m c) (512 * (t.val / 2) + p.val) k.val := by
  unfold iblk
  rw [View.read_apply]
  show V m c main_arg0 _ = _
  rw [V_main_arg0]
  refine ext2_of (arrA m c) _ ?_ ?_
  · show win0_0.index t 0 * 512 + 1 * p.val = _
    rw [(at0 t).1]; omega
  · show win0_0.index t 1 * 2048 + 1 * k.val = _
    rw [(at0 t).2]; omega

theorem blk1 (c : Dev nD) (t : Fin cfg0.N) (q : Fin 1024) (k : Fin 2048) :
    (iblk m c 1 t : S1024x2048.Idx → EReal) (ix2 q k) = rows (arrB m c) (1024 * (t.val % 2) + q.val) k.val := by
  unfold iblk
  rw [View.read_apply]
  show V m c main_v0 _ = _
  rw [V_w]
  refine (w_rows (arrB m c) _).trans ?_
  congr 1
  · show win0_1.index t 0 * 1024 + 1 * q.val = _
    rw [(at1 t).1]; omega
  · show win0_1.index t 1 * 2048 + 1 * k.val = _
    rw [(at1 t).2]; omega

theorem pay1 (x : Vec Ideal S512x2048 .bf16) (y : Vec Ideal S1024x2048 .bf16) (p : Fin 512) (q : Fin 1024) :
    k0_pay1 x y (ix2 p q) = ∑ k : Fin 2048, x (ix2 p k) * y (ix2 q k) := by
  unfold k0_pay1
  pointwise

/-! ### The result array -/

/-- The result, entry by entry. -/
def res (x : S4096x2048.Idx → EReal) (y : S4x512x2048.Idx → EReal) : S4096x2048.Idx → EReal :=
  fun i => dot (fun k => ext2 x (i 0).val k) (fun k => rows y (i 1).val k) 2048

abbrev result (c : Dev nD) := res (arrA m c) (arrB m c)

theorem out_at (c : Dev nD) (t : Fin cfg0.N) (y : S512x1024.Idx) :
    out0_2 (iblk m c 0 t) (iblk m c 1 t) y
      = dot (fun k => ext2 (arrA m c) (512 * (t.val / 2) + (y 0).val) k) (fun k => rows (arrB m c) (1024 * (t.val % 2) + (y 1).val) k) 2048 := by
  obtain ⟨p, q, rfl⟩ : ∃ (p : Fin 512) (q : Fin 1024), y = ix2 p q := ⟨y 0, y 1, eq_ix2 y⟩
  unfold out0_2
  rw [View.canon_unit_zero hz]
  simp only [View.ld_unit_zero (S := S512x2048) hz, View.ld_unit_zero (S := S1024x2048) hz]
  rw [pay1, dot_first]
  refine Finset.sum_congr rfl fun k _ => (?_ : (_ : EReal) = _)
  rw [blk0, blk1]
  rfl

theorem flushed (c : Dev nD) (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  funext y
  rw [View.read_apply]
  refine (out_at m c t y).trans ?_
  have er : 512 * (t.val / 2) + (y 0).val = win0_2.index t 0 * 512 + 1 * (y 0).val := by rw [(at2 t).1]; omega
  have ec : 1024 * (t.val % 2) + (y 1).val = win0_2.index t 1 * 1024 + 1 * (y 1).val := by rw [(at2 t).2]; omega
  rw [er, ec]
  rfl

/-- The point that writes the block an index of the result lies in. -/
def ptOf (y : S4096x2048.Idx) : Fin cfg0.N :=
  ⟨2 * ((y 0).val / 512) + (y 1).val / 1024, by
    have h0 : (y 0).val < 4096 := (y 0).isLt
    have h1 : (y 1).val < 2048 := (y 1).isLt
    rw [show cfg0.N = 16 from N_0]; omega⟩

theorem final (c : Dev nD) : (dats m 0 c).arrAt 2 cfg0.N = result m c :=
  (dats m 0 c).arrAt_eq_of_cover 2 (result m c) (flushed m c) fun (y : S4096x2048.Idx) =>
    ⟨ptOf y, flush0_2 (ptOf y), by
      show y ∈ ((View.whole main_v1).slice (win0_2.rect (ptOf y))).set
      rw [View.set_slice_whole, Rect.mem_set_unit]
      have h0 : (y 0).val < 4096 := (y 0).isLt
      have h1 : (y 1).val < 2048 := (y 1).isLt
      obtain ⟨e0, e1⟩ := at2 (ptOf y)
      have hv : (ptOf y).val = 2 * ((y 0).val / 512) + (y 1).val / 1024 := rfl
      rw [hv] at e0 e1
      intro a
      match a with
      | ⟨0, _⟩ => show win0_2.index (ptOf y) 0 * 512 ≤ (y 0).val ∧ (y 0).val < win0_2.index (ptOf y) 0 * 512 + 512
                  rw [e0]; omega
      | ⟨1, _⟩ => show win0_2.index (ptOf y) 1 * 1024 ≤ (y 1).val ∧ (y 1).val < win0_2.index (ptOf y) 1 * 1024 + 1024
                  rw [e1]; omega⟩

/-- The run: the result, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final m c), (h.2 c)⟩)
    (θ_run_and (run_main m ρ) (unchanged m ρ))

end Cert.Kernel6Ideal.Value
-- ==== Proof.OutDyRef.lean ====
/-
  The reference of the output projection's input gradient: its run, its result entry by entry, and that the kernel's is the same.
-/
module

public import proofs.«01_k».proof.Defs
public import proofs.«01_k».proof.Proof.Gen.Reference6Ideal
public import proofs.«01_k».proof.Proof.OutDy
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference6Ideal.Value

open Cert.Reference6Ideal Cert.Reference6Ideal.Gen Cert.Dots Idealize.ShloMosaic.StableHlo

/-- The product of a matrix with another transposed. -/
abbrev product (l : Vec Ideal S4096x2048 .f32) (r : Vec Ideal S2048x2048 .f32) : Vec Ideal S4096x2048 .f32 :=
  Host.dotGeneral (F := Ideal) (φ₁ := .f32) (φ₂ := .f32) dot_S4096x2048_S2048x2048_S4096x2048_1_1_0_0_n_n none l r

/-- The reference's operations, in order. -/
abbrev ops : List (HloOp τ sig (Elt Ideal)) :=
  [ reshape main_arg1 main_v0 rfl shapeCasts_S4x512x2048_S2048x2048,
    unary main_v0 main_v1 (extf (F := Ideal) .f32 · bitsLt_bf16_f32),
    unary main_arg0 main_v2 (extf (F := Ideal) .f32 · bitsLt_bf16_f32),
    binary main_v2 main_v1 main_v3 product,
    unary main_v3 main_v4 (truncf (F := Ideal) .bf16 · bitsLt_bf16_f32) ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨reshape_bufs_sub .., unary_bufs_sub .., unary_bufs_sub .., binary_bufs_sub .., unary_bufs_sub ..⟩

/-- The result as the reference computes it. -/
def value (x : Vec Ideal S4096x2048 .bf16) (y : Vec Ideal S4x512x2048 .bf16) : Vec Ideal S4096x2048 .bf16 :=
  truncf (F := Ideal) .bf16 (product (extf (F := Ideal) .f32 x bitsLt_bf16_f32) (extf (F := Ideal) .f32 (shapeCast S2048x2048 y shapeCasts_S4x512x2048_S2048x2048) bitsLt_bf16_f32)) bitsLt_bf16_f32

theorem run (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD) : Thread nD τ).loc main_v4) = value (m (((0 : Dev nD) : Thread nD τ).loc main_arg0)) (m (((0 : Dev nD) : Thread nD τ).loc main_arg1))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1) :=
  (θ_run defs _ _).mono (fun _ h => ⟨(h 0 main_v4).trans (by after_results; rfl),
      (h 0 main_arg0).trans (by after_results), (h 0 main_arg1).trans (by after_results)⟩)
    (run_seq scopedRefs_eq scopedSems_eq defs main (fun _ => ops) main_eq (fun _ => ops_sub) m ρ)

theorem frame : Cert.quiescent_Reference6Ideal := fun m ρ _ =>
  (θ_run defs _ _).mono (fun r h => ⟨fun c => (by obtain rfl : c = 0 := Subsingleton.elim _ _; exact h.2),
      sem_eq_zero_of_no_sems (by decide) r.2⟩)
    (run m ρ)

/-- An entry: the sum of the products along the two rows. -/
theorem value_eq (x : S4096x2048.Idx → EReal) (y : S4x512x2048.Idx → EReal) :
    (value x y : S4096x2048.Idx → EReal) = Cert.Kernel6Ideal.Value.res x y := by
  funext i
  obtain ⟨p, q, rfl⟩ : ∃ (p : Fin 4096) (q : Fin 2048), i = ix2 p q := ⟨i 0, i 1, eq_ix2 i⟩
  show _ = dot (fun k => ext2 x p.val k) (fun k => rows y q.val k) 2048
  unfold value
  pointwise [product]
  rw [dot_first]
  refine Finset.sum_congr rfl fun k _ => (?_ : (_ : EReal) = _)
  rw [ext2_in x p.isLt k.isLt, rows_in y (by omega) (by omega) k.isLt]

/-- Both compute the same array. -/
theorem algebraic : Cert.algebraic_Kernel6Ideal_Reference6Ideal := by
  intro m ρ m' ρ' _ hagree
  refine ⟨fun c => Cert.Kernel6Ideal.Value.result m c, Cert.Kernel6Ideal.Value.run m ρ, ?_⟩
  refine (θ_run defs _ _).mono (fun _ h c => ?_) (run m' ρ')
  obtain rfl : c = 0 := Subsingleton.elim _ _
  refine ⟨h.1.trans ?_, h.2⟩
  rw [(hagree 0).1, (hagree 0).2]
  exact value_eq _ _

end Cert.Reference6Ideal.Value
-- ==== Proof.Gate.lean ====
/-
  The logistic function on the extended reals, and the two ways of writing the derivative of a number times its logistic value.
-/
module

public import Idealize.ShloMosaic.Lib.Pointwise.Tactic
public import Idealize.ShloMosaic.Lib.Pointwise

@[expose] public section

noncomputable section

open Idealize.ShloMosaic

namespace Cert.Gate

/-- The logistic function. -/
def sg (a : EReal) : EReal := Ideal.div 1 (1 + Ideal.exp (-a))

theorem sg_top : sg ⊤ = 1 := by
  unfold sg
  rw [EReal.neg_top, Ideal.exp_bot, add_zero, Ideal.div, if_neg one_ne_zero, inv_one, mul_one]

theorem sg_bot : sg ⊥ = 0 := by
  unfold sg
  have e : (1 : EReal) + ⊤ = ⊤ := EReal.coe_add_top 1
  rw [EReal.neg_bot, Ideal.exp_top, e, Ideal.div, if_neg EReal.top_ne_zero, EReal.inv_top, mul_zero]

theorem sg_coe (r : ℝ) : sg r = ((1 / (1 + Real.exp (-r)) : ℝ) : EReal) := by
  unfold sg
  have h : (1 : ℝ) + Real.exp (-r) ≠ 0 := by have := Real.exp_pos (-r); linarith
  rw [← EReal.coe_neg, Ideal.exp_coe, ← EReal.coe_one, ← EReal.coe_add, Ideal.div_coe h, EReal.coe_one, one_mul]

/-- The derivative of `a * sg a`, times a finite number: factored, and as the product rule gives it. -/
theorem grad (c : ℝ) (a : EReal) :
    (c : EReal) * (sg a * (1 + a * (1 - sg a))) = (c : EReal) * sg a + a * c * (sg a * (1 - sg a)) := by
  induction a with
  | top =>
    have e : (1 : EReal) - 1 = 0 := by rw [← EReal.coe_one, ← EReal.coe_sub, sub_self, EReal.coe_zero]
    rw [sg_top, e, mul_zero, mul_zero, mul_zero, add_zero, add_zero, mul_one]
  | bot => rw [sg_bot, zero_mul, zero_mul, mul_zero, mul_zero, add_zero]
  | coe r =>
    rw [sg_coe]
    generalize (1 / (1 + Real.exp (-r)) : ℝ) = s
    rw [← EReal.coe_one]
    simp only [← EReal.coe_sub, ← EReal.coe_mul, ← EReal.coe_add]
    congr 1
    ring

/-- A number whose absolute value is below infinity is finite. -/
theorem real_of_abs {x : EReal} (h : max x (-x) < ⊤) : ∃ r : ℝ, x = r := by
  induction x with
  | top => simp at h
  | bot => simp at h
  | coe r => exact ⟨r, rfl⟩

end Cert.Gate
-- ==== Proof.FfnBwdMid.lean ====
/-
  The gradients of the gate's and the up projection's outputs: the blocks each point writes, and the result arrays.
-/
module

public import proofs.«01_k».proof.Defs
public import proofs.«01_k».proof.Proof.Gen.Kernel7Ideal.Frame
public import proofs.«01_k».proof.Proof.Dots
public import proofs.«01_k».proof.Proof.Gate
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen Cert.Dots Cert.Gate

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ### The blocks -/

/-- An input array. -/
abbrev arrX (c : Dev nD) : S4096x2048.Idx → EReal := m ((c : Thread nD τ).loc main_arg0)
/-- An input array. -/
abbrev arrW (c : Dev nD) : S4x1408x2048.Idx → EReal := m ((c : Thread nD τ).loc main_arg1)
/-- An input array. -/
abbrev arrA (c : Dev nD) : S4096x5632.Idx → EReal := m ((c : Thread nD τ).loc main_arg2)
/-- An input array. -/
abbrev arrB (c : Dev nD) : S4096x5632.Idx → EReal := m ((c : Thread nD τ).loc main_arg3)

theorem at0 : ∀ t : Fin cfg0.N, win0_0.index t 0 = t.val % 8 ∧ win0_0.index t 1 = 0 := by decide +kernel
theorem at1 : ∀ t : Fin cfg0.N, win0_1.index t 0 = t.val / 8 ∧ win0_1.index t 1 = 0 ∧ win0_1.index t 2 = 0 := by decide +kernel
theorem at2 : ∀ t : Fin cfg0.N, win0_2.index t 0 = t.val % 8 ∧ win0_2.index t 1 = t.val / 8 := by decide +kernel
theorem at3 : ∀ t : Fin cfg0.N, win0_3.index t 0 = t.val % 8 ∧ win0_3.index t 1 = t.val / 8 := by decide +kernel
theorem at4 : ∀ t : Fin cfg0.N, win0_4.index t 0 = t.val % 8 ∧ win0_4.index t 1 = t.val / 8 := by decide +kernel
theorem at5 : ∀ t : Fin cfg0.N, win0_5.index t 0 = t.val % 8 ∧ win0_5.index t 1 = t.val / 8 := by decide +kernel

theorem blk0 (c : Dev nD) (t : Fin cfg0.N) (p : Fin 512) (k : Fin 2048) :
    (iblk m c 0 t : S512x2048.Idx → EReal) (ix2 p k) = ext2 (arrX m c) (512 * (t.val % 8) + p.val) k.val := by
  unfold iblk
  rw [View.read_apply]
  show V m c main_arg0 _ = _
  rw [V_main_arg0]
  refine ext2_of (arrX m c) _ ?_ ?_
  · show win0_0.index t 0 * 512 + 1 * p.val = _
    rw [(at0 t).1]; omega
  · show win0_0.index t 1 * 2048 + 1 * k.val = _
    rw [(at0 t).2]; omega

theorem blk1 (c : Dev nD) (t : Fin cfg0.N) (q : Fin 1408) (k : Fin 2048) :
    (iblk m c 1 t : S1x1408x2048.Idx → EReal) (ix3 0 q k) = rows (arrW m c) (1408 * (t.val / 8) + q.val) k.val := by
  unfold iblk
  rw [View.read_apply]
  show V m c main_arg1 _ = _
  rw [V_main_arg1]
  refine rows_of (arrW m c) _ ?_ ?_ ?_
  · show win0_1.index t 0 * 1 + 1 * 0 = _
    rw [(at1 t).1]; omega
  · show win0_1.index t 1 * 1408 + 1 * q.val = _
    rw [(at1 t).2.1]; omega
  · show win0_1.index t 2 * 2048 + 1 * k.val = _
    rw [(at1 t).2.2]; omega

theorem blk2 (c : Dev nD) (t : Fin cfg0.N) (p : Fin 512) (q : Fin 1408) :
    (iblk m c 2 t : S512x1408.Idx → EReal) (ix2 p q) = ext2 (arrA m c) (512 * (t.val % 8) + p.val) (1408 * (t.val / 8) + q.val) := by
  unfold iblk
  rw [View.read_apply]
  show V m c main_arg2 _ = _
  rw [V_main_arg2]
  refine ext2_of (arrA m c) _ ?_ ?_
  · show win0_2.index t 0 * 512 + 1 * p.val = _
    rw [(at2 t).1]; omega
  · show win0_2.index t 1 * 1408 + 1 * q.val = _
    rw [(at2 t).2]; omega

theorem blk3 (c : Dev nD) (t : Fin cfg0.N) (p : Fin 512) (q : Fin 1408) :
    (iblk m c 3 t : S512x1408.Idx → EReal) (ix2 p q) = ext2 (arrB m c) (512 * (t.val % 8) + p.val) (1408 * (t.val / 8) + q.val) := by
  unfold iblk
  rw [View.read_apply]
  show V m c main_arg3 _ = _
  rw [V_main_arg3]
  refine ext2_of (arrB m c) _ ?_ ?_
  · show win0_3.index t 0 * 512 + 1 * p.val = _
    rw [(at3 t).1]; omega
  · show win0_3.index t 1 * 1408 + 1 * q.val = _
    rw [(at3 t).2]; omega

/-- The gradient of the gated product: an entry of the incoming gradient times the down weight's transpose. -/
def dmid (x : S4096x2048.Idx → EReal) (w : S4x1408x2048.Idx → EReal) (i j : ℕ) : EReal :=
  dot (fun k => ext2 x i k) (fun k => rows w j k) 2048

/-- The gradient of the gate's output. -/
def da (x : S4096x2048.Idx → EReal) (w : S4x1408x2048.Idx → EReal) (a b : S4096x5632.Idx → EReal) (i j : ℕ) : EReal :=
  dmid x w i j * ext2 b i j * (sg (ext2 a i j) * (1 + ext2 a i j * (1 - sg (ext2 a i j))))

/-- The gradient of the up projection's output. -/
def db (x : S4096x2048.Idx → EReal) (w : S4x1408x2048.Idx → EReal) (a : S4096x5632.Idx → EReal) (i j : ℕ) : EReal :=
  dmid x w i j * (ext2 a i j * sg (ext2 a i j))

theorem pay1 (x : Vec Ideal S512x2048 .bf16) (y : Vec Ideal S1x1408x2048 .bf16) (p : Fin 512) (q : Fin 1408) :
    k0_pay1 x y (ix2 p q) = ∑ k : Fin 2048, x (ix2 p k) * y (ix3 0 q k) := by
  unfold k0_pay1
  pointwise

theorem pay3 (a : Vec Ideal S512x1408 .bf16) (p : Fin 512) (q : Fin 1408) :
    k0_pay3 a (ix2 p q) = sg (a (ix2 p q)) := by
  unfold k0_pay3 k0_pay2 sg
  pointwise
  rw [zero_sub]

theorem pay4 (x : Vec Ideal S512x2048 .bf16) (y : Vec Ideal S1x1408x2048 .bf16) (a b : Vec Ideal S512x1408 .bf16) (p : Fin 512) (q : Fin 1408) :
    k0_pay4 x y a b (ix2 p q)
      = k0_pay1 x y (ix2 p q) * b (ix2 p q) * (sg (a (ix2 p q)) * (1 + a (ix2 p q) * (1 - sg (a (ix2 p q))))) := by
  rw [← pay3]
  unfold k0_pay4 k0_pay2
  pointwise

theorem pay5 (x : Vec Ideal S512x2048 .bf16) (y : Vec Ideal S1x1408x2048 .bf16) (a : Vec Ideal S512x1408 .bf16) (p : Fin 512) (q : Fin 1408) :
    k0_pay5 x y a (ix2 p q) = k0_pay1 x y (ix2 p q) * (a (ix2 p q) * sg (a (ix2 p q))) := by
  rw [← pay3]
  unfold k0_pay5 k0_pay2
  pointwise

theorem hdot (c : Dev nD) (t : Fin cfg0.N) (p : Fin 512) (q : Fin 1408) :
    k0_pay1 (iblk m c 0 t) (iblk m c 1 t) (ix2 p q)
      = dmid (arrX m c) (arrW m c) (512 * (t.val % 8) + p.val) (1408 * (t.val / 8) + q.val) := by
  refine (pay1 _ _ p q).trans ?_
  unfold dmid
  rw [dot_first]
  refine Finset.sum_congr rfl fun k _ => (?_ : (_ : EReal) = _)
  rw [blk0, blk1]

/-! ### The result arrays -/

/-- A result, entry by entry. -/
def res4 (x : S4096x2048.Idx → EReal) (w : S4x1408x2048.Idx → EReal) (a : S4096x5632.Idx → EReal) (b : S4096x5632.Idx → EReal) : S4096x5632.Idx → EReal := fun i => da x w a b (i 0).val (i 1).val

abbrev result4 (c : Dev nD) := res4 (arrX m c) (arrW m c) (arrA m c) (arrB m c)

theorem out_at4 (c : Dev nD) (t : Fin cfg0.N) (y : S512x1408.Idx) :
    out0_4 (iblk m c 0 t) (iblk m c 1 t) (iblk m c 2 t) (iblk m c 3 t) y = da (arrX m c) (arrW m c) (arrA m c) (arrB m c) (512 * (t.val % 8) + (y 0).val) (1408 * (t.val / 8) + (y 1).val) := by
  obtain ⟨p, q, rfl⟩ : ∃ (p : Fin 512) (q : Fin 1408), y = ix2 p q := ⟨y 0, y 1, eq_ix2 y⟩
  unfold out0_4
  rw [View.canon_unit_zero hz]
  simp only [View.ld_unit_zero (S := S1x1408x2048) hz3, View.ld_unit_zero (S := S512x1408) hz, View.ld_unit_zero (S := S512x2048) hz]
  show _ = da (arrX m c) (arrW m c) (arrA m c) (arrB m c) (512 * (t.val % 8) + p.val) (1408 * (t.val / 8) + q.val)
  rw [pay4, hdot m c t, blk2, blk3]
  rfl

theorem flushed4 (c : Dev nD) (t : Fin cfg0.N) (hf : (cfg0.win 4).flush t = true) :
    (dats m 0 c).flushed 4 t = ((cfg0.win 4).blk t).view.read (Elt Ideal) (result4 m c) := by
  show (cfg0.win 4).cut (grid0.coords t) ((dats m 0 c).after 4 t) = _
  rw [after0_4]
  funext y
  rw [View.read_apply]
  refine (out_at4 m c t y).trans ?_
  have er : 512 * (t.val % 8) + (y 0).val = win0_4.index t 0 * 512 + 1 * (y 0).val := by rw [(at4 t).1]; omega
  have ec : 1408 * (t.val / 8) + (y 1).val = win0_4.index t 1 * 1408 + 1 * (y 1).val := by rw [(at4 t).2]; omega
  rw [er, ec]
  rfl

/-- A result, entry by entry. -/
def res5 (x : S4096x2048.Idx → EReal) (w : S4x1408x2048.Idx → EReal) (a : S4096x5632.Idx → EReal) : S4096x5632.Idx → EReal := fun i => db x w a (i 0).val (i 1).val

abbrev result5 (c : Dev nD) := res5 (arrX m c) (arrW m c) (arrA m c)

theorem out_at5 (c : Dev nD) (t : Fin cfg0.N) (y : S512x1408.Idx) :
    out0_5 (iblk m c 0 t) (iblk m c 1 t) (iblk m c 2 t) (iblk m c 3 t) y = db (arrX m c) (arrW m c) (arrA m c) (512 * (t.val % 8) + (y 0).val) (1408 * (t.val / 8) + (y 1).val) := by
  obtain ⟨p, q, rfl⟩ : ∃ (p : Fin 512) (q : Fin 1408), y = ix2 p q := ⟨y 0, y 1, eq_ix2 y⟩
  unfold out0_5
  rw [View.canon_unit_zero hz]
  simp only [View.ld_unit_zero (S := S1x1408x2048) hz3, View.ld_unit_zero (S := S512x1408) hz, View.ld_unit_zero (S := S512x2048) hz]
  show _ = db (arrX m c) (arrW m c) (arrA m c) (512 * (t.val % 8) + p.val) (1408 * (t.val / 8) + q.val)
  rw [pay5, hdot m c t, blk2]
  rfl

theorem flushed5 (c : Dev nD) (t : Fin cfg0.N) (hf : (cfg0.win 5).flush t = true) :
    (dats m 0 c).flushed 5 t = ((cfg0.win 5).blk t).view.read (Elt Ideal) (result5 m c) := by
  show (cfg0.win 5).cut (grid0.coords t) ((dats m 0 c).after 5 t) = _
  rw [after0_5]
  funext y
  rw [View.read_apply]
  refine (out_at5 m c t y).trans ?_
  have er : 512 * (t.val % 8) + (y 0).val = win0_5.index t 0 * 512 + 1 * (y 0).val := by rw [(at5 t).1]; omega
  have ec : 1408 * (t.val / 8) + (y 1).val = win0_5.index t 1 * 1408 + 1 * (y 1).val := by rw [(at5 t).2]; omega
  rw [er, ec]
  rfl

/-- The point that writes the block an index of a result lies in. -/
def ptOf (y : S4096x5632.Idx) : Fin cfg0.N :=
  ⟨8 * ((y 1).val / 1408) + (y 0).val / 512, by
    have h0 : (y 0).val < 4096 := (y 0).isLt
    have h1 : (y 1).val < 5632 := (y 1).isLt
    rw [show cfg0.N = 32 from N_0]; omega⟩

theorem final4 (c : Dev nD) : (dats m 0 c).arrAt 4 cfg0.N = result4 m c :=
  (dats m 0 c).arrAt_eq_of_cover 4 (result4 m c) (flushed4 m c) fun (y : S4096x5632.Idx) =>
    ⟨ptOf y, flush0_4 (ptOf y), by
      show y ∈ ((View.whole main_v0_0).slice (win0_4.rect (ptOf y))).set
      rw [View.set_slice_whole, Rect.mem_set_unit]
      have h0 : (y 0).val < 4096 := (y 0).isLt
      have h1 : (y 1).val < 5632 := (y 1).isLt
      obtain ⟨e0, e1⟩ := at4 (ptOf y)
      have hv : (ptOf y).val = 8 * ((y 1).val / 1408) + (y 0).val / 512 := rfl
      rw [hv] at e0 e1
      intro a
      match a with
      | ⟨0, _⟩ => show win0_4.index (ptOf y) 0 * 512 ≤ (y 0).val ∧ (y 0).val < win0_4.index (ptOf y) 0 * 512 + 512
                  rw [e0]; omega
      | ⟨1, _⟩ => show win0_4.index (ptOf y) 1 * 1408 ≤ (y 1).val ∧ (y 1).val < win0_4.index (ptOf y) 1 * 1408 + 1408
                  rw [e1]; omega⟩

theorem final5 (c : Dev nD) : (dats m 0 c).arrAt 5 cfg0.N = result5 m c :=
  (dats m 0 c).arrAt_eq_of_cover 5 (result5 m c) (flushed5 m c) fun (y : S4096x5632.Idx) =>
    ⟨ptOf y, flush0_5 (ptOf y), by
      show y ∈ ((View.whole main_v0_1).slice (win0_5.rect (ptOf y))).set
      rw [View.set_slice_whole, Rect.mem_set_unit]
      have h0 : (y 0).val < 4096 := (y 0).isLt
      have h1 : (y 1).val < 5632 := (y 1).isLt
      obtain ⟨e0, e1⟩ := at5 (ptOf y)
      have hv : (ptOf y).val = 8 * ((y 1).val / 1408) + (y 0).val / 512 := rfl
      rw [hv] at e0 e1
      intro a
      match a with
      | ⟨0, _⟩ => show win0_5.index (ptOf y) 0 * 512 ≤ (y 0).val ∧ (y 0).val < win0_5.index (ptOf y) 0 * 512 + 512
                  rw [e0]; omega
      | ⟨1, _⟩ => show win0_5.index (ptOf y) 1 * 1408 ≤ (y 1).val ∧ (y 1).val < win0_5.index (ptOf y) 1 * 1408 + 1408
                  rw [e1]; omega⟩

/-- The run: the results, the arguments unchanged. -/
theorem run : θ_run defs (onTc (τ := τ) (main (F := Ideal))) ⟨m, fun _ => 0, ρ⟩ fun r => ∀ c : Dev nD,
      r.2.mem ((c : Thread nD τ).loc main_v0_0) = result4 m c
      ∧ r.2.mem ((c : Thread nD τ).loc main_v0_1) = result5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 4).trans (final4 m c), ((h.1 c).1 5).trans (final5 m c), (h.2 c)⟩)
    (θ_run_and (run_main m ρ) (unchanged m ρ))

end Cert.Kernel7Ideal.Value
-- ==== Proof.FfnBwdMidRef.lean ====
/-
  The reference of the gradients of the gate's and the up projection's outputs: its run, its results entry by entry, and that
  the kernel's are the same.
-/
module

public import proofs.«01_k».proof.Defs
public import proofs.«01_k».proof.Proof.Gen.Reference7Ideal
public import proofs.«01_k».proof.Proof.FfnBwdMid
public import proofs.«01_k».proof.Proof.Gate
public import proofs.«01_k».proof.Proof.Gen.Pre_finite
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference7Ideal.Value

open Cert.Reference7Ideal Cert.Reference7Ideal.Gen Cert.Dots Cert.Gate Idealize.ShloMosaic.StableHlo

/-- Matrices of the hidden width, and the arithmetic on them, entry by entry. -/
abbrev Mat := FVec Ideal S4096x5632 .f32
abbrev plus (l r : Mat) : Mat := addf l r
abbrev minus (l r : Mat) : Mat := subf l r
abbrev times (l r : Mat) : Mat := mulf l r
abbrev over (l r : Mat) : Mat := Host.divf l r
abbrev neg (l : Mat) : Mat := Host.negf l
abbrev ex (l : Mat) : Mat := Host.exp l
/-- The number one, and the matrix of ones. -/
abbrev one : FVec Ideal S_ .f32 := constant (F := Ideal) S_ .f32 0x3F800000#32
abbrev spread (l : FVec Ideal S_ .f32) : Mat := broadcastInDim S4096x5632 ![] bcast_S_S4096x5632 l
/-- The logistic function, as the host computes it. -/
def logistic (a : Mat) : Mat := over (spread one) (plus (spread one) (ex (neg a)))

theorem logistic_apply (a : Mat) (p : Fin 4096) (q : Fin 5632) : (logistic a (ix2 p q) : EReal) = sg (a (ix2 p q)) := by
  unfold logistic sg
  pointwise

/-- The product of a matrix with another transposed. -/
abbrev product (l : Vec Ideal S4096x2048 .f32) (r : Vec Ideal S5632x2048 .f32) : Mat :=
  Host.dotGeneral (F := Ideal) (φ₁ := .f32) (φ₂ := .f32) dot_S4096x2048_S5632x2048_S4096x5632_1_1_0_0_n_n none l r
/-- The product of two matrices. -/
abbrev forward (l : Mat) (r : Vec Ideal S5632x2048 .f32) : Vec Ideal S4096x2048 .f32 :=
  Host.dotGeneral (F := Ideal) (φ₁ := .f32) (φ₂ := .f32) dot_S4096x5632_S5632x2048_S4096x2048_1_0_0_1_n_n none l r

/-- The gradient of the gated product, as the reference computes it. -/
def dm (x : Vec Ideal S4096x2048 .bf16) (w : Vec Ideal S4x1408x2048 .bf16) : Mat :=
  product (extf (F := Ideal) .f32 x bitsLt_bf16_f32) (extf (F := Ideal) .f32 (shapeCast S5632x2048 w shapeCasts_S4x1408x2048_S5632x2048) bitsLt_bf16_f32)
/-- The two gradients as the reference computes them. -/
def valueA (x : Vec Ideal S4096x2048 .bf16) (w : Vec Ideal S4x1408x2048 .bf16) (a b : Vec Ideal S4096x5632 .bf16) : Vec Ideal S4096x5632 .bf16 :=
  truncf (F := Ideal) .bf16 (plus (times (times (dm x w) (extf (F := Ideal) .f32 b bitsLt_bf16_f32)) (logistic (extf (F := Ideal) .f32 a bitsLt_bf16_f32)))
    (times (times (extf (F := Ideal) .f32 a bitsLt_bf16_f32) (times (dm x w) (extf (F := Ideal) .f32 b bitsLt_bf16_f32))) (times (logistic (extf (F := Ideal) .f32 a bitsLt_bf16_f32)) (minus (spread one) (logistic (extf (F := Ideal) .f32 a bitsLt_bf16_f32)))))) bitsLt_bf16_f32
def valueB (x : Vec Ideal S4096x2048 .bf16) (w : Vec Ideal S4x1408x2048 .bf16) (a : Vec Ideal S4096x5632 .bf16) : Vec Ideal S4096x5632 .bf16 :=
  truncf (F := Ideal) .bf16 (times (times (extf (F := Ideal) .f32 a bitsLt_bf16_f32) (logistic (extf (F := Ideal) .f32 a bitsLt_bf16_f32))) (dm x w)) bitsLt_bf16_f32

/-- The reference's operations, in order. -/
abbrev ops : List (HloOp τ sig (Elt Ideal)) :=
  [ reshape main_arg1 main_v0 rfl shapeCasts_S4x1408x2048_S5632x2048,
    unary main_v0 main_v1 (extf (F := Ideal) .f32 · bitsLt_bf16_f32),
    unary main_arg2 main_v2 (extf (F := Ideal) .f32 · bitsLt_bf16_f32),
    unary main_arg3 main_v3 (extf (F := Ideal) .f32 · bitsLt_bf16_f32),
    unary main_v2 main_call0_v0 neg,
    unary main_call0_v0 main_call0_v1 ex,
    nullary main_call0_cst one,
    unary main_call0_cst main_call0_v2 spread,
    binary main_call0_v2 main_call0_v1 main_call0_v3 plus,
    nullary main_call0_cst_0 one,
    unary main_call0_cst_0 main_call0_v4 spread,
    binary main_call0_v4 main_call0_v3 main_v4_2 over,
    nullary main_call0_cst_1 one,
    unary main_call0_cst_1 main_call0_v6 spread,
    binary main_call0_v6 main_v4_2 main_call0_v7 minus,
    binary main_v4_2 main_call0_v7 main_v4_1 times,
    binary main_v2 main_v4_2 main_v4_0 times,
    binary main_v4_0 main_v3 main_v5 times,
    binary main_v5 main_v1 main_v6 forward,
    unary main_arg0 main_v7 (extf (F := Ideal) .f32 · bitsLt_bf16_f32),
    binary main_v7 main_v1 main_v8 product,
    binary main_v4_0 main_v8 main_v9 times,
    binary main_v8 main_v3 main_v10 times,
    binary main_v2 main_v10 main_call1_v0 times,
    binary main_v10 main_v4_2 main_call1_v1 times,
    binary main_call1_v0 main_v4_1 main_call1_v2 times,
    binary main_call1_v1 main_call1_v2 main_v11 plus,
    unary main_v11 main_v12 (truncf (F := Ideal) .bf16 · bitsLt_bf16_f32),
    unary main_v9 main_v13 (truncf (F := Ideal) .bf16 · bitsLt_bf16_f32) ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨reshape_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., unary_bufs_sub .., binary_bufs_sub .., binary_bufs_sub .., binary_bufs_sub .., binary_bufs_sub .., binary_bufs_sub .., binary_bufs_sub .., binary_bufs_sub .., unary_bufs_sub .., unary_bufs_sub ..⟩

theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD) : Thread nD τ).loc main_v12) = valueA (m (((0 : Dev nD) : Thread nD τ).loc main_arg0)) (m (((0 : Dev nD) : Thread nD τ).loc main_arg1)) (m (((0 : Dev nD) : Thread nD τ).loc main_arg2)) (m (((0 : Dev nD) : Thread nD τ).loc main_arg3))
        ∧ r.2.mem (((0 : Dev nD) : Thread nD τ).loc main_v13) = valueB (m (((0 : Dev nD) : Thread nD τ).loc main_arg0)) (m (((0 : Dev nD) : Thread nD τ).loc main_arg1)) (m (((0 : Dev nD) : Thread nD τ).loc main_arg2)))
      ∧ (r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)
        ∧ r.2.mem (((0 : Dev nD) : Thread nD τ).loc main_arg2) = m (((0 : Dev nD) : Thread nD τ).loc main_arg2)
        ∧ r.2.mem (((0 : Dev nD) : Thread nD τ).loc main_arg3) = m (((0 : Dev nD) : Thread nD τ).loc main_arg3)) :=
  (θ_run defs _ _).mono (fun _ h => ⟨⟨(h 0 main_v12).trans (by after_results; rfl),
        (h 0 main_v13).trans (by after_results; rfl)⟩,
      ⟨(h 0 main_arg0).trans (by after_results), (h 0 main_arg1).trans (by after_results), (h 0 main_arg2).trans (by after_results), (h 0 main_arg3).trans (by after_results)⟩⟩)
    (run_seq scopedRefs_eq scopedSems_eq defs main (fun _ => ops) main_eq (fun _ => ops_sub) m ρ)

theorem frame : Cert.quiescent_Reference7Ideal := fun m ρ _ =>
  (θ_run defs _ _).mono (fun r h => ⟨fun c => (by obtain rfl : c = 0 := Subsingleton.elim _ _; exact h.2),
      sem_eq_zero_of_no_sems (by decide) r.2⟩)
    (run m ρ)

theorem dm_apply (x : S4096x2048.Idx → EReal) (w : S4x1408x2048.Idx → EReal) (p : Fin 4096) (q : Fin 5632) :
    (dm x w (ix2 p q) : EReal) = Cert.Kernel7Ideal.Value.dmid x w p.val q.val := by
  unfold dm Cert.Kernel7Ideal.Value.dmid
  pointwise [product]
  rw [dot_first]
  refine Finset.sum_congr rfl fun k _ => (?_ : (_ : EReal) = _)
  rw [ext2_in x p.isLt k.isLt, rows_in w (by omega) (by omega) k.isLt]

/-- The gradient of the up projection's output: the factors in another order. -/
theorem valueB_eq (x : S4096x2048.Idx → EReal) (w : S4x1408x2048.Idx → EReal) (a : S4096x5632.Idx → EReal) :
    (valueB x w a : S4096x5632.Idx → EReal) = Cert.Kernel7Ideal.Value.res5 x w a := by
  funext i
  obtain ⟨p, q, rfl⟩ : ∃ (p : Fin 4096) (q : Fin 5632), i = ix2 p q := ⟨i 0, i 1, eq_ix2 i⟩
  show _ = Cert.Kernel7Ideal.Value.dmid x w p.val q.val * (ext2 a p.val q.val * sg (ext2 a p.val q.val))
  rw [← dm_apply, ext2_in a p.isLt q.isLt, mul_comm]
  refine Eq.trans (b := (a (ix2 p q) * logistic (extf (F := Ideal) .f32 a bitsLt_bf16_f32) (ix2 p q)) * dm x w (ix2 p q)) ?_ ?_
  · unfold valueB
    pointwise
  · rw [logistic_apply]
    rfl

/-- The gradient of the gate's output: the product rule against the factored form, of a finite factor. -/
theorem valueA_eq (x : S4096x2048.Idx → EReal) (w : S4x1408x2048.Idx → EReal) (a b : S4096x5632.Idx → EReal)
    (hx : ∀ i, ∃ r : ℝ, x i = r) (hw : ∀ i, ∃ r : ℝ, w i = r) (hb : ∀ i, ∃ r : ℝ, b i = r) :
    (valueA x w a b : S4096x5632.Idx → EReal) = Cert.Kernel7Ideal.Value.res4 x w a b := by
  funext i
  obtain ⟨p, q, rfl⟩ : ∃ (p : Fin 4096) (q : Fin 5632), i = ix2 p q := ⟨i 0, i 1, eq_ix2 i⟩
  show _ = Cert.Kernel7Ideal.Value.dmid x w p.val q.val * ext2 b p.val q.val
    * (sg (ext2 a p.val q.val) * (1 + ext2 a p.val q.val * (1 - sg (ext2 a p.val q.val))))
  obtain ⟨u, hu⟩ : ∃ r : ℝ, Cert.Kernel7Ideal.Value.dmid x w p.val q.val = r := by
    refine dot_real _ _ _ (fun k hk => ?_) (fun k hk => ?_)
    · rw [ext2_in x p.isLt hk]; exact hx _
    · rw [rows_in w (by omega) (by omega) hk]; exact hw _
  obtain ⟨v, hv⟩ := hb (ix2 p q)
  rw [ext2_in b p.isLt q.isLt, ext2_in a p.isLt q.isLt]
  have hb' : b (ix2 ⟨p.val, p.isLt⟩ ⟨q.val, q.isLt⟩) = (v : EReal) := hv
  rw [hu, hb', ← EReal.coe_mul, Cert.Gate.grad, EReal.coe_mul]
  refine Eq.trans (b := dm x w (ix2 p q) * b (ix2 p q) * logistic (extf (F := Ideal) .f32 a bitsLt_bf16_f32) (ix2 p q)
    + a (ix2 p q) * (dm x w (ix2 p q) * b (ix2 p q))
      * (logistic (extf (F := Ideal) .f32 a bitsLt_bf16_f32) (ix2 p q) * (1 - logistic (extf (F := Ideal) .f32 a bitsLt_bf16_f32) (ix2 p q)))) ?_ ?_
  · unfold valueA
    pointwise
  · rw [logistic_apply, dm_apply, hu, hv]
    rfl

theorem inf : Ideal.ofBits .f32 0x7F800000#32 = ⊤ := by
  simp [Ideal.ofBits, Ideal.ieee]

/-- What the precondition says of a value: its absolute value is below infinity. -/
theorem finite_of (v : EReal) (h : ¬ ¬ BitVec.ofBool (decide (max v (-v) < Ideal.ofBits .f32 0x7F800000#32)) = 1#1) : ∃ r : ℝ, v = r := by
  refine Cert.Gate.real_of_abs ?_
  rw [inf] at h
  by_contra hn
  refine h ?_
  rw [decide_eq_false hn]
  decide

theorem finiteX (x : FVec Ideal S4096x2048 .bf16) (i : S4096x2048.Idx)
    (h : cmpf .olt (Host.absf (extf (F := Ideal) .f32 x Cert.Pre_finite.Gen.bitsLt_bf16_f32)) (broadcastInDim S4096x2048 ![] Cert.Pre_finite.Gen.bcast_S_S4096x2048 (constant (F := Ideal) S_ .f32 0x7F800000#32)) i = 1#1) :
    ∃ r : ℝ, x i = (r : EReal) := by
  obtain ⟨p, q, rfl⟩ : ∃ (p : Fin 4096) (q : Fin 2048), i = ix2 p q := ⟨i 0, i 1, eq_ix2 i⟩
  refine finite_of _ fun hn => absurd h ?_
  pointwise
  exact hn

theorem finiteW (x : FVec Ideal S4x1408x2048 .bf16) (i : S4x1408x2048.Idx)
    (h : cmpf .olt (Host.absf (extf (F := Ideal) .f32 x Cert.Pre_finite.Gen.bitsLt_bf16_f32)) (broadcastInDim S4x1408x2048 ![] Cert.Pre_finite.Gen.bcast_S_S4x1408x2048 (constant (F := Ideal) S_ .f32 0x7F800000#32)) i = 1#1) :
    ∃ r : ℝ, x i = (r : EReal) := by
  obtain ⟨p, q, k, rfl⟩ : ∃ (p : Fin 4) (q : Fin 1408) (k : Fin 2048), i = ix3 p q k := ⟨i 0, i 1, i 2, eq_ix3 i⟩
  refine finite_of _ fun hn => absurd h ?_
  pointwise
  exact hn

theorem finiteB (x : FVec Ideal S4096x5632 .bf16) (i : S4096x5632.Idx)
    (h : cmpf .olt (Host.absf (extf (F := Ideal) .f32 x Cert.Pre_finite.Gen.bitsLt_bf16_f32)) (broadcastInDim S4096x5632 ![] Cert.Pre_finite.Gen.bcast_S_S4096x5632 (constant (F := Ideal) S_ .f32 0x7F800000#32)) i = 1#1) :
    ∃ r : ℝ, x i = (r : EReal) := by
  obtain ⟨p, q, rfl⟩ : ∃ (p : Fin 4096) (q : Fin 5632), i = ix2 p q := ⟨i 0, i 1, eq_ix2 i⟩
  refine finite_of _ fun hn => absurd h ?_
  pointwise
  exact hn

/-- Both compute the same arrays, of finite arguments. -/
theorem algebraic : Cert.algebraic_Kernel7Ideal_Reference7Ideal_pre_finite := by
  intro m ρ m' ρ' hpre hagree
  refine ⟨fun c => Cert.Kernel7Ideal.Value.result4 m c, fun c => Cert.Kernel7Ideal.Value.result5 m c, Cert.Kernel7Ideal.Value.run m ρ, ?_⟩
  refine (θ_run defs _ _).mono (fun _ h c => ?_) (run m' ρ')
  obtain rfl : c = 0 := Subsingleton.elim _ _
  refine ⟨h.1.1.trans ?_, h.1.2.trans ?_, h.2⟩
  · rw [(hagree 0).1, (hagree 0).2.1, (hagree 0).2.2.1, (hagree 0).2.2.2]
    exact valueA_eq _ _ _ _ (fun i => finiteX _ i (congrFun (hpre 0).1 i)) (fun i => finiteW _ i (congrFun (hpre 0).2.1 i))
      (fun i => finiteB _ i (congrFun (hpre 0).2.2 i))
  · rw [(hagree 0).1, (hagree 0).2.1, (hagree 0).2.2.1]
    exact valueB_eq _ _ _

end Cert.Reference7Ideal.Value
-- ==== Proof.FfnDh.lean ====
/-
  The gradient the gated pair sends back to its input: the accumulator after each point, and the result array.
-/
module

public import proofs.«01_k».proof.Defs
public import proofs.«01_k».proof.Proof.Gen.Kernel8Ideal.Frame
public import proofs.«01_k».proof.Proof.Dots
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen Cert.Dots

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ### One point's stores -/

/-- The first point of a block of the result: the accumulator is set to the sum of the point's two products. -/
theorem accA (c : Dev nD) (t : Fin cfg0.N) (h0 : t.val % 4 = 0) :
    (outsAt0 m c t.val t.isLt).2 = k0_pay1 (iblk m c 0 t) (iblk m c 1 t) (iblk m c 2 t) (iblk m c 3 t) := by
  rw [outsAt0_A m c t h0 (by omega) (by omega)]
  dsimp only
  unfold sout0_A_0
  rw [View.read_writes_eq_canon _ _ _ (fun _ => scover0_A_0 ..)]
  unfold kernelRun0_A
  dsimp only
  rw [View.canon_unit_zero hz]
  simp only [View.readAt_eq_ld, (hs0_0 t).read_unread, (hs0_1 t).read_unread, (hs0_2 t).read_unread, (hs0_3 t).read_unread, View.ld_unit_zero (S := S512x1408) hz, View.ld_unit_zero (S := S1x1024x1408) hz3]

/-- A later point: the accumulator grows by the sum of the point's two products. -/
theorem accBC (c : Dev nD) (t : Fin cfg0.N) (h0 : ¬t.val % 4 = 0) :
    (outsAt0 m c t.val t.isLt).2 = k0_pay2 (iblk m c 0 t) (iblk m c 1 t) (iblk m c 2 t) (iblk m c 3 t) (outsAt0 m c (t.val - 1) (Nat.lt_of_le_of_lt (Nat.sub_le _ _) t.isLt)).2 := by
  by_cases h2 : t.val % 4 = 3
  · rw [outsAt0_C m c t h0 (by omega) h2]
    dsimp only
    unfold sout0_C_0
    rw [View.read_writes_eq_canon _ _ _ (fun _ => scover0_C_0 ..)]
    unfold kernelRun0_C
    dsimp only
    sl_unfold_words
    rw [View.canon_unit_zero hz]
    simp only [View.readAt_eq_ld, (hs0_0 t).read_unread, (hs0_1 t).read_unread, (hs0_2 t).read_unread, (hs0_3 t).read_unread, (Memref.isWhole_whole _).read_unread, View.ld_unit_zero (S := S512x1408) hz, View.ld_unit_zero (S := S1x1024x1408) hz3, View.ld_unit_zero (S := S512x1024) hz]
  · rw [outsAt0_B m c t h0 (by omega) h2]
    dsimp only
    unfold sout0_B_0
    rw [View.read_writes_eq_canon _ _ _ (fun _ => scover0_B_0 ..)]
    unfold kernelRun0_B
    dsimp only
    rw [View.canon_unit_zero hz]
    simp only [View.readAt_eq_ld, (hs0_0 t).read_unread, (hs0_1 t).read_unread, (hs0_2 t).read_unread, (hs0_3 t).read_unread, (Memref.isWhole_whole _).read_unread, View.ld_unit_zero (S := S512x1408) hz, View.ld_unit_zero (S := S1x1024x1408) hz3, View.ld_unit_zero (S := S512x1024) hz]

/-- The last point of a block: what is written is the accumulator. -/
theorem outC (c : Dev nD) (t : Fin cfg0.N) (h2 : t.val % 4 = 3) :
    (outsAt0 m c t.val t.isLt).1 = (outsAt0 m c t.val t.isLt).2 := by
  have h0 : ¬t.val % 4 = 0 := by omega
  rw [accBC m c t h0, outsAt0_C m c t h0 (by omega) h2]
  dsimp only
  unfold out0_C_4
  rw [View.read_writes_eq_canon _ _ _ (fun _ => cover0_C_4 ..)]
  unfold kernelRun0_C
  dsimp only
  sl_unfold_words
  rw [View.canon_unit_zero hz, View.readCov_unit_zero (S := S512x1024) _ hz]
  simp only [View.readAt_eq_ld, (hs0_0 t).read_unread, (hs0_1 t).read_unread, (hs0_2 t).read_unread, (hs0_3 t).read_unread, (Memref.isWhole_whole _).read_unread, View.ld_unit_zero (S := S512x1408) hz, View.ld_unit_zero (S := S1x1024x1408) hz3, View.ld_unit_zero (S := S512x1024) hz]

/-! ### The blocks -/

/-- The two branches' gradients and the two weights. -/
abbrev arrA (c : Dev nD) : S4096x5632.Idx → EReal := m ((c : Thread nD τ).loc main_arg0)
abbrev arrC (c : Dev nD) : S4096x5632.Idx → EReal := m ((c : Thread nD τ).loc main_arg1)
abbrev arrB (c : Dev nD) : S4x2048x1408.Idx → EReal := m ((c : Thread nD τ).loc main_arg2)
abbrev arrD (c : Dev nD) : S4x2048x1408.Idx → EReal := m ((c : Thread nD τ).loc main_arg3)

theorem at0 : ∀ t : Fin cfg0.N, win0_0.index t 0 = t.val / 8 ∧ win0_0.index t 1 = t.val % 4 := by decide +kernel
theorem at1 : ∀ t : Fin cfg0.N, win0_1.index t 0 = t.val % 4 ∧ win0_1.index t 1 = t.val / 4 % 2 ∧ win0_1.index t 2 = 0 := by decide +kernel
theorem at2 : ∀ t : Fin cfg0.N, win0_2.index t 0 = t.val / 8 ∧ win0_2.index t 1 = t.val % 4 := by decide +kernel
theorem at3 : ∀ t : Fin cfg0.N, win0_3.index t 0 = t.val % 4 ∧ win0_3.index t 1 = t.val / 4 % 2 ∧ win0_3.index t 2 = 0 := by decide +kernel
theorem at4 : ∀ t : Fin cfg0.N, win0_4.index t 0 = t.val / 8 ∧ win0_4.index t 1 = t.val / 4 % 2 := by decide +kernel

theorem blk0 (c : Dev nD) (t : Fin cfg0.N) (k : Fin 1408) (p : Fin 512) :
    (iblk m c 0 t : S512x1408.Idx → EReal) (ix2 p k) = ext2 (arrA m c) (512 * (t.val / 8) + p.val) (1408 * (t.val % 4) + k.val) := by
  unfold iblk
  rw [View.read_apply]
  refine ext2_of (arrA m c) _ ?_ ?_
  · show win0_0.index t 0 * 512 + 1 * p.val = _
    rw [(at0 t).1]; omega
  · show win0_0.index t 1 * 1408 + 1 * k.val = _
    rw [(at0 t).2]; omega

theorem blk1 (c : Dev nD) (t : Fin cfg0.N) (k : Fin 1408) (q : Fin 1024) :
    (iblk m c 1 t : S1x1024x1408.Idx → EReal) (ix3 0 q k) = cols (arrB m c) (1024 * (t.val / 4 % 2) + q.val) (1408 * (t.val % 4) + k.val) := by
  unfold iblk
  rw [View.read_apply]
  have hk := k.isLt
  refine cols_of (arrB m c) _ ?_ ?_ ?_
  · show win0_1.index t 0 * 1 + 1 * 0 = _
    rw [(at1 t).1]; omega
  · show win0_1.index t 1 * 1024 + 1 * q.val = _
    rw [(at1 t).2.1]; omega
  · show win0_1.index t 2 * 1408 + 1 * k.val = _
    rw [(at1 t).2.2]; omega

theorem blk2 (c : Dev nD) (t : Fin cfg0.N) (k : Fin 1408) (p : Fin 512) :
    (iblk m c 2 t : S512x1408.Idx → EReal) (ix2 p k) = ext2 (arrC m c) (512 * (t.val / 8) + p.val) (1408 * (t.val % 4) + k.val) := by
  unfold iblk
  rw [View.read_apply]
  refine ext2_of (arrC m c) _ ?_ ?_
  · show win0_2.index t 0 * 512 + 1 * p.val = _
    rw [(at2 t).1]; omega
  · show win0_2.index t 1 * 1408 + 1 * k.val = _
    rw [(at2 t).2]; omega

theorem blk3 (c : Dev nD) (t : Fin cfg0.N) (k : Fin 1408) (q : Fin 1024) :
    (iblk m c 3 t : S1x1024x1408.Idx → EReal) (ix3 0 q k) = cols (arrD m c) (1024 * (t.val / 4 % 2) + q.val) (1408 * (t.val % 4) + k.val) := by
  unfold iblk
  rw [View.read_apply]
  have hk := k.isLt
  refine cols_of (arrD m c) _ ?_ ?_ ?_
  · show win0_3.index t 0 * 1 + 1 * 0 = _
    rw [(at3 t).1]; omega
  · show win0_3.index t 1 * 1024 + 1 * q.val = _
    rw [(at3 t).2.1]; omega
  · show win0_3.index t 2 * 1408 + 1 * k.val = _
    rw [(at3 t).2.2]; omega

/-! ### The accumulator after a point -/

theorem pay1 (x : Vec Ideal S512x1408 .bf16) (y : Vec Ideal S1x1024x1408 .bf16) (u : Vec Ideal S512x1408 .bf16) (v : Vec Ideal S1x1024x1408 .bf16) (p : Fin 512) (q : Fin 1024) :
    k0_pay1 x y u v (ix2 p q) = (∑ k : Fin 1408, x (ix2 p k) * y (ix3 0 q k)) + ∑ k : Fin 1408, u (ix2 p k) * v (ix3 0 q k) := by
  unfold k0_pay1
  pointwise

theorem pay2 (x : Vec Ideal S512x1408 .bf16) (y : Vec Ideal S1x1024x1408 .bf16) (u : Vec Ideal S512x1408 .bf16) (v : Vec Ideal S1x1024x1408 .bf16) (a : Vec Ideal S512x1024 .f32) (p : Fin 512) (q : Fin 1024) :
    k0_pay2 x y u v a (ix2 p q) = a (ix2 p q) + ((∑ k : Fin 1408, x (ix2 p k) * y (ix3 0 q k)) + ∑ k : Fin 1408, u (ix2 p k) * v (ix3 0 q k)) := by
  unfold k0_pay2
  pointwise

/-- An entry of a product of an array with a transposed weight, over the first `n` of the contracted positions. -/
def part (x : S4096x5632.Idx → EReal) (y : S4x2048x1408.Idx → EReal) (n p q : ℕ) : EReal :=
  dot (fun i => ext2 x p i) (fun i => cols y q i) n

theorem acc_eq (c : Dev nD) : ∀ (n : ℕ) (h : n < cfg0.N) (p : Fin 512) (q : Fin 1024),
    (outsAt0 m c n h).2 (ix2 p q) =
      part (arrA m c) (arrB m c) (1408 * (n % 4) + 1408) (512 * (n / 8) + p.val) (1024 * (n / 4 % 2) + q.val)
      + part (arrC m c) (arrD m c) (1408 * (n % 4) + 1408) (512 * (n / 8) + p.val) (1024 * (n / 4 % 2) + q.val) := by
  intro n
  induction n with
  | zero =>
    intro h p q
    refine (congrFun (accA m c ⟨0, h⟩ rfl) _).trans ?_
    refine (pay1 _ _ _ _ p q).trans ?_
    rw [part, part, show 1408 * (0 % 4) + 1408 = 1408 from rfl, dot_first, dot_first]
    simp only [blk0, blk1, blk2, blk3]
    simp
  | succ n ih =>
    intro h p q
    by_cases h0 : (n + 1) % 4 = 0
    · refine (congrFun (accA m c ⟨n + 1, h⟩ h0) _).trans ?_
      refine (pay1 _ _ _ _ p q).trans ?_
      rw [part, part, h0, show 1408 * 0 + 1408 = 1408 from rfl, dot_first, dot_first]
      simp only [blk0, blk1, blk2, blk3, h0, Nat.mul_zero, Nat.zero_add]
    · have e1 : 1408 * (n % 4) + 1408 = 1408 * ((n + 1) % 4) := by omega
      have e2 : 512 * (n / 8) = 512 * ((n + 1) / 8) := by omega
      have e3 : 1024 * (n / 4 % 2) = 1024 * ((n + 1) / 4 % 2) := by omega
      have hi := ih (Nat.lt_of_succ_lt h) p q
      rw [e1, e2, e3] at hi
      refine (congrFun (accBC m c ⟨n + 1, h⟩ h0) _).trans ?_
      refine (pay2 _ _ _ _ _ p q).trans ?_
      rw [part, part, dot_add, dot_add, add_add_add_comm]
      simp only [blk0, blk1, blk2, blk3]
      exact congrArg (· + _) hi

/-! ### The result array -/

/-- The result, entry by entry. -/
def res (x u : S4096x5632.Idx → EReal) (y v : S4x2048x1408.Idx → EReal) : S4096x2048.Idx → EReal :=
  fun j => part x y 5632 (j 0).val (j 1).val + part u v 5632 (j 0).val (j 1).val

abbrev result (c : Dev nD) := res (arrA m c) (arrC m c) (arrB m c) (arrD m c)

theorem flushed (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  show (cfg0.win 4).cut (grid0.coords t) ((dats m 0 c).after 4 t) = _
  rw [after0_4, outC m c t h3]
  funext y
  rw [View.read_apply]
  have e (z : S512x1024.Idx) : ix2 (z 0) (z 1) = z := (eq_ix2 z).symm
  have ea := acc_eq m c t.val t.isLt (y 0) (y 1)
  have er : 512 * (t.val / 8) + (y 0).val = win0_4.index t 0 * 512 + 1 * (y 0).val := by rw [(at4 t).1]; omega
  have ec : 1024 * (t.val / 4 % 2) + (y 1).val = win0_4.index t 1 * 1024 + 1 * (y 1).val := by rw [(at4 t).2]; omega
  rw [h3, er, ec] at ea
  refine (congrArg (outsAt0 m c t.val t.isLt).2 (e y)).symm.trans (ea.trans ?_)
  rfl

/-- The point that writes the block an index of the result lies in. -/
def ptOf (y : S4096x2048.Idx) : Fin cfg0.N :=
  ⟨8 * ((y 0).val / 512) + 4 * ((y 1).val / 1024) + 3, by
    have h0 : (y 0).val < 4096 := (y 0).isLt
    have h1 : (y 1).val < 2048 := (y 1).isLt
    rw [show cfg0.N = 64 from N_0]; omega⟩

theorem final (c : Dev nD) : (dats m 0 c).arrAt 4 cfg0.N = result m c :=
  (dats m 0 c).arrAt_eq_of_cover 4 (result m c) (flushed m c) fun (y : S4096x2048.Idx) =>
    ⟨ptOf y, (flush0_4 (ptOf y)).mpr (by show (8 * ((y 0).val / 512) + 4 * ((y 1).val / 1024) + 3) % 4 = 3; omega), by
      show y ∈ ((View.whole main_v0).slice (win0_4.rect (ptOf y))).set
      rw [View.set_slice_whole, Rect.mem_set_unit]
      have h0 : (y 0).val < 4096 := (y 0).isLt
      have h1 : (y 1).val < 2048 := (y 1).isLt
      obtain ⟨e0, e1⟩ := at4 (ptOf y)
      have hv : (ptOf y).val = 8 * ((y 0).val / 512) + 4 * ((y 1).val / 1024) + 3 := rfl
      rw [hv] at e0 e1
      intro a
      match a with
      | ⟨0, _⟩ => show win0_4.index (ptOf y) 0 * 512 ≤ (y 0).val ∧ (y 0).val < win0_4.index (ptOf y) 0 * 512 + 512
                  rw [e0]; omega
      | ⟨1, _⟩ => show win0_4.index (ptOf y) 1 * 1024 ≤ (y 1).val ∧ (y 1).val < win0_4.index (ptOf y) 1 * 1024 + 1024
                  rw [e1]; omega⟩

/-- The run: the result, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 4).trans (final m c), (h.2 c)⟩)
    (θ_run_and (run_main m ρ) (unchanged m ρ))

end Cert.Kernel8Ideal.Value
-- ==== Proof.FfnDhRef.lean ====
/-
  The reference of the gradient sent back through the gate and up projections: its run, its result entry by entry, and
  that the kernel's is the same.
-/
module

public import proofs.«01_k».proof.Defs
public import proofs.«01_k».proof.Proof.Gen.Reference8Ideal
public import proofs.«01_k».proof.Proof.FfnDh
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference8Ideal.Value

open Cert.Reference8Ideal Cert.Reference8Ideal.Gen Cert.Dots Idealize.ShloMosaic.StableHlo

/-- The product of a matrix with another transposed. -/
abbrev product (l : Vec Ideal S4096x5632 .f32) (r : Vec Ideal S2048x5632 .f32) : Vec Ideal S4096x2048 .f32 :=
  Host.dotGeneral (F := Ideal) (φ₁ := .f32) (φ₂ := .f32) dot_S4096x5632_S2048x5632_S4096x2048_1_1_0_0_n_n none l r
abbrev plus (l r : FVec Ideal S4096x2048 .f32) : FVec Ideal S4096x2048 .f32 := addf l r

/-- The reference's operations, in order. -/
abbrev ops : List (HloOp τ sig (Elt Ideal)) :=
  [ unary main_arg2 main_v0 (transpose S2048x4x1408 [1, 0, 2] · transposes_S4x2048x1408_S2048x4x1408_1_0_2),
    reshape main_v0 main_v1 rfl shapeCasts_S2048x4x1408_S2048x5632,
    unary main_v1 main_v2 (extf (F := Ideal) .f32 · bitsLt_bf16_f32),
    unary main_arg3 main_v3 (transpose S2048x4x1408 [1, 0, 2] · transposes_S4x2048x1408_S2048x4x1408_1_0_2),
    reshape main_v3 main_v4 rfl shapeCasts_S2048x4x1408_S2048x5632,
    unary main_v4 main_v5 (extf (F := Ideal) .f32 · bitsLt_bf16_f32),
    unary main_arg0 main_v6 (extf (F := Ideal) .f32 · bitsLt_bf16_f32),
    unary main_arg1 main_v7 (extf (F := Ideal) .f32 · bitsLt_bf16_f32),
    binary main_v7 main_v5 main_v8 product,
    binary main_v6 main_v2 main_v9 product,
    binary main_v8 main_v9 main_v10 plus ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., binary_bufs_sub .., binary_bufs_sub .., binary_bufs_sub ..⟩

/-- A gradient times a weight transposed, as the reference computes it. -/
def back (x : Vec Ideal S4096x5632 .bf16) (w : Vec Ideal S4x2048x1408 .bf16) : Vec Ideal S4096x2048 .f32 :=
  product (extf (F := Ideal) .f32 x bitsLt_bf16_f32) (extf (F := Ideal) .f32 (shapeCast S2048x5632 (transpose S2048x4x1408 [1, 0, 2] w transposes_S4x2048x1408_S2048x4x1408_1_0_2) shapeCasts_S2048x4x1408_S2048x5632) bitsLt_bf16_f32)
/-- The result as the reference computes it. -/
def value (x u : Vec Ideal S4096x5632 .bf16) (y v : Vec Ideal S4x2048x1408 .bf16) : Vec Ideal S4096x2048 .f32 :=
  plus (back u v) (back x y)

theorem run (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD) : Thread nD τ).loc main_v10) = value (m (((0 : Dev nD) : Thread nD τ).loc main_arg0)) (m (((0 : Dev nD) : Thread nD τ).loc main_arg1)) (m (((0 : Dev nD) : Thread nD τ).loc main_arg2)) (m (((0 : Dev nD) : Thread nD τ).loc main_arg3))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2)
      ∧ r.2.mem (((0 : Dev nD) : Thread nD τ).loc main_arg3) = m (((0 : Dev nD) : Thread nD τ).loc main_arg3) :=
  (θ_run defs _ _).mono (fun _ h => ⟨(h 0 main_v10).trans (by after_results; rfl),
      (h 0 main_arg0).trans (by after_results), (h 0 main_arg1).trans (by after_results), (h 0 main_arg2).trans (by after_results), (h 0 main_arg3).trans (by after_results)⟩)
    (run_seq scopedRefs_eq scopedSems_eq defs main (fun _ => ops) main_eq (fun _ => ops_sub) m ρ)

theorem frame : Cert.quiescent_Reference8Ideal := fun m ρ _ =>
  (θ_run defs _ _).mono (fun r h => ⟨fun c => (by obtain rfl : c = 0 := Subsingleton.elim _ _; exact h.2),
      sem_eq_zero_of_no_sems (by decide) r.2⟩)
    (run m ρ)

theorem back_apply (x : S4096x5632.Idx → EReal) (w : S4x2048x1408.Idx → EReal) (p : Fin 4096) (q : Fin 2048) :
    (back x w (ix2 p q) : EReal) = Cert.Kernel8Ideal.Value.part x w 5632 p.val q.val := by
  unfold back Cert.Kernel8Ideal.Value.part
  pointwise [product]
  rw [dot_first]
  refine Finset.sum_congr rfl fun k _ => (?_ : (_ : EReal) = _)
  rw [ext2_in x p.isLt k.isLt, cols_in w (by omega) q.isLt (by omega)]

/-- An entry: the two products' sum, in the other order. -/
theorem value_eq (x u : S4096x5632.Idx → EReal) (y v : S4x2048x1408.Idx → EReal) :
    (value x u y v : S4096x2048.Idx → EReal) = Cert.Kernel8Ideal.Value.res x u y v := by
  funext i
  obtain ⟨p, q, rfl⟩ : ∃ (p : Fin 4096) (q : Fin 2048), i = ix2 p q := ⟨i 0, i 1, eq_ix2 i⟩
  show (back u v (ix2 p q) : EReal) + back x y (ix2 p q) = _
  rw [back_apply, back_apply, add_comm]
  rfl

/-- Both compute the same array. -/
theorem algebraic : Cert.algebraic_Kernel8Ideal_Reference8Ideal := by
  intro m ρ m' ρ' _ hagree
  refine ⟨fun c => Cert.Kernel8Ideal.Value.result m c, Cert.Kernel8Ideal.Value.run m ρ, ?_⟩
  refine (θ_run defs _ _).mono (fun _ h c => ?_) (run m' ρ')
  obtain rfl : c = 0 := Subsingleton.elim _ _
  refine ⟨h.1.trans ?_, h.2⟩
  rw [(hagree 0).1, (hagree 0).2.1, (hagree 0).2.2.1, (hagree 0).2.2.2]
  exact value_eq _ _ _ _

end Cert.Reference8Ideal.Value
-- ==== Proof.ProjDh.lean ====
/-
  The gradient the input projection sends back to its input: the accumulator after each point, and the result array.
-/
module

public import proofs.«01_k».proof.Defs
public import proofs.«01_k».proof.Proof.Gen.Kernel9Ideal.Frame
public import proofs.«01_k».proof.Proof.Dots
public import Idealize.ShloMosaic.Lib.Pipeline.Value
public import Idealize.ShloMosaic.Lib.KernelVsHost
public import Idealize.ShloMosaic.Lib.Tactic

@[expose] public section

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen Cert.Dots

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ### One point's stores -/

/-- The first point of a block of the result: the accumulator is set to the point's product and the forget gates'. -/
theorem accA (c : Dev nD) (t : Fin cfg0.N) (h0 : t.val % 4 = 0) :
    (outsAt0 m c t.val t.isLt).2 = k0_pay1 (iblk m c 0 t) (X0_1 m c t) (iblk m c 2 t) (iblk m c 3 t) := by
  rw [outsAt0_A m c t h0 (by omega) (by omega)]
  dsimp only
  unfold sout0_A_0
  rw [View.read_writes_eq_canon _ _ _ (fun _ => scover0_A_0 ..)]
  unfold kernelRun0_A
  dsimp only
  rw [View.canon_unit_zero hz]
  simp only [View.readAt_eq_ld, (hs0_0 t).read_unread, (hs0_1 t).read_unread, (hs0_2 t).read_unread, (hs0_3 t).read_unread, View.ld_unit_zero (S := S512x1280) hz, View.ld_unit_zero (S := S1280x2048) hz, View.ld_unit_zero (S := S512x128) hz, View.ld_unit_zero (S := S128x2048) hz]

/-- A later point: the accumulator grows by the point's product. -/
theorem accBC (c : Dev nD) (t : Fin cfg0.N) (h0 : ¬t.val % 4 = 0) :
    (outsAt0 m c t.val t.isLt).2 = k0_pay2 (iblk m c 0 t) (X0_1 m c t) (outsAt0 m c (t.val - 1) (Nat.lt_of_le_of_lt (Nat.sub_le _ _) t.isLt)).2 := by
  by_cases h2 : t.val % 4 = 3
  · rw [outsAt0_C m c t h0 (by omega) h2]
    dsimp only
    unfold sout0_C_0
    rw [View.read_writes_eq_canon _ _ _ (fun _ => scover0_C_0 ..)]
    unfold kernelRun0_C
    dsimp only
    sl_unfold_words
    rw [View.canon_unit_zero hz]
    simp only [View.readAt_eq_ld, (hs0_0 t).read_unread, (hs0_1 t).read_unread, (hs0_2 t).read_unread, (hs0_3 t).read_unread, (Memref.isWhole_whole _).read_unread, View.ld_unit_zero (S := S512x1280) hz, View.ld_unit_zero (S := S1280x2048) hz, View.ld_unit_zero (S := S512x2048) hz, View.ld_unit_zero (S := S512x128) hz, View.ld_unit_zero (S := S128x2048) hz]
  · rw [outsAt0_B m c t h0 (by omega) h2]
    dsimp only
    unfold sout0_B_0
    rw [View.read_writes_eq_canon _ _ _ (fun _ => scover0_B_0 ..)]
    unfold kernelRun0_B
    dsimp only
    rw [View.canon_unit_zero hz]
    simp only [View.readAt_eq_ld, (hs0_0 t).read_unread, (hs0_1 t).read_unread, (hs0_2 t).read_unread, (hs0_3 t).read_unread, (Memref.isWhole_whole _).read_unread, View.ld_unit_zero (S := S512x1280) hz, View.ld_unit_zero (S := S1280x2048) hz, View.ld_unit_zero (S := S512x2048) hz, View.ld_unit_zero (S := S512x128) hz, View.ld_unit_zero (S := S128x2048) hz]

/-- The last point of a block: what is written is the accumulator. -/
theorem outC (c : Dev nD) (t : Fin cfg0.N) (h2 : t.val % 4 = 3) :
    (outsAt0 m c t.val t.isLt).1 = (outsAt0 m c t.val t.isLt).2 := by
  have h0 : ¬t.val % 4 = 0 := by omega
  rw [accBC m c t h0, outsAt0_C m c t h0 (by omega) h2]
  dsimp only
  unfold out0_C_4
  rw [View.read_writes_eq_canon _ _ _ (fun _ => cover0_C_4 ..)]
  unfold kernelRun0_C
  dsimp only
  sl_unfold_words
  rw [View.canon_unit_zero hz, View.readCov_unit_zero (S := S512x2048) _ hz]
  simp only [View.readAt_eq_ld, (hs0_0 t).read_unread, (hs0_1 t).read_unread, (hs0_2 t).read_unread, (hs0_3 t).read_unread, (Memref.isWhole_whole _).read_unread, View.ld_unit_zero (S := S512x1280) hz, View.ld_unit_zero (S := S1280x2048) hz, View.ld_unit_zero (S := S512x2048) hz, View.ld_unit_zero (S := S512x128) hz, View.ld_unit_zero (S := S128x2048) hz]

/-! ### The blocks -/

/-- The gradients of the projection's own columns, the weight, and the gradients of the forget gates' columns. -/
abbrev arrA (c : Dev nD) : S4096x5120.Idx → EReal := m ((c : Thread nD τ).loc main_arg0)
abbrev arrW (c : Dev nD) : S5136x2048.Idx → EReal := m ((c : Thread nD τ).loc main_arg1)
abbrev arrF (c : Dev nD) : S4096x128.Idx → EReal := m ((c : Thread nD τ).loc main_arg2)

/-- The weight's rows from 5120 on, and zero below them. -/
def tail (w : S5136x2048.Idx → EReal) (i q : ℕ) : EReal := if i < 16 then ext2 w (5120 + i) q else 0

/-- The forget gates' rows of the weight as the call takes them: padded with zero. -/
theorem V_w (c : Dev nD) : V m c main_v1 = (pad S128x2048 ![0, 0] ![112, 0] ![0, 0]
    (extractStridedSlice S16x2048 ![5120, 0] (arrW m c) slices_S5136x2048_S16x2048_5120_0)
    (sitofp (F := Ideal) .bf16 (constantI S_ 32 0#32)) pads_S16x2048_S128x2048_01120_000 h_S_ : S128x2048.Idx → EReal) := by
  show StableHlo.after (List.flatten [hostOps0, hostOps0_1]) _ _ = _
  simp only [hostOps0, hostOps0_1, List.flatten_cons, List.flatten_nil, List.append_nil, List.cons_append, List.nil_append]
  after_results
  rfl

theorem w_tail (w : S5136x2048.Idx → EReal) (y : S128x2048.Idx) :
    (pad S128x2048 ![0, 0] ![112, 0] ![0, 0] (extractStridedSlice S16x2048 ![5120, 0] w slices_S5136x2048_S16x2048_5120_0)
      (sitofp (F := Ideal) .bf16 (constantI S_ 32 0#32)) pads_S16x2048_S128x2048_01120_000 h_S_ : S128x2048.Idx → EReal) y
      = tail w (y 0).val (y 1).val := by
  obtain ⟨a, q, rfl⟩ : ∃ (a : Fin 128) (q : Fin 2048), y = ix2 a q := ⟨y 0, y 1, eq_ix2 y⟩
  show _ = tail w a.val q.val
  unfold tail
  by_cases h : a.val < 16
  · rw [if_pos h]
    refine (pad_apply_of_inside _ _ _ _ _ _ _ _ (ix2 (⟨a.val, h⟩ : Fin 16) q) (fun b => ?_)).trans ?_
    · fin_cases b
      · show a.val = 0 + a.val * (0 + 1); omega
      · show q.val = 0 + q.val * (0 + 1); omega
    · pointwise
      refine ext2_of w _ ?_ ?_
      · rfl
      · rfl
  · rw [if_neg h, pad_apply_of_not_inside (a := 0)]
    · show (((0#32 : BitVec 32).toInt : ℝ) : EReal) = 0
      simp
    · rintro ⟨-, -, h3⟩
      refine h ?_
      change (a.val - 0) / (0 + 1) < 16 at h3
      omega

theorem at0 : ∀ t : Fin cfg0.N, win0_0.index t 0 = t.val / 4 ∧ win0_0.index t 1 = t.val % 4 := by decide +kernel
theorem at1 : ∀ t : Fin cfg0.N, win0_1.index t 0 = t.val % 4 ∧ win0_1.index t 1 = 0 := by decide +kernel
theorem at2 : ∀ t : Fin cfg0.N, win0_2.index t 0 = t.val / 4 ∧ win0_2.index t 1 = 0 := by decide +kernel
theorem at3 : ∀ t : Fin cfg0.N, win0_3.index t 0 = 0 ∧ win0_3.index t 1 = 0 := by decide +kernel
theorem at4 : ∀ t : Fin cfg0.N, win0_4.index t 0 = t.val / 4 ∧ win0_4.index t 1 = 0 := by decide +kernel

theorem blk0 (c : Dev nD) (t : Fin cfg0.N) (k : Fin 1280) (p : Fin 512) :
    (iblk m c 0 t : S512x1280.Idx → EReal) (ix2 p k) = ext2 (arrA m c) (512 * (t.val / 4) + p.val) (1280 * (t.val % 4) + k.val) := by
  unfold iblk
  rw [View.read_apply]
  refine ext2_of (arrA m c) _ ?_ ?_
  · show win0_0.index t 0 * 512 + 1 * p.val = _
    rw [(at0 t).1]; omega
  · show win0_0.index t 1 * 1280 + 1 * k.val = _
    rw [(at0 t).2]; omega

/-- The weight's block at a point, which is inside the weight whole: what the point reads of it. -/
theorem X_at (c : Dev nD) (t : Fin cfg0.N) (k : Fin 1280) (q : Fin 2048) :
    (X0_1 m c t : S1280x2048.Idx → EReal) (ix2 k q) = ext2 (arrW m c) (1280 * (t.val % 4) + k.val) q.val := by
  unfold X0_1 Pipeline.Window.fill
  rw [dif_pos (moved0_1 t (ix2 k q))]
  unfold iblk
  rw [View.read_apply]
  refine ext2_of (arrW m c) _ ?_ ?_
  · show win0_1.index t 0 * 1280 + 1 * k.val = _
    rw [(at1 t).1]; omega
  · show win0_1.index t 1 * 2048 + 1 * q.val = _
    rw [(at1 t).2]; omega

theorem blk2 (c : Dev nD) (t : Fin cfg0.N) (k : Fin 128) (p : Fin 512) :
    (iblk m c 2 t : S512x128.Idx → EReal) (ix2 p k) = ext2 (arrF m c) (512 * (t.val / 4) + p.val) k.val := by
  unfold iblk
  rw [View.read_apply]
  refine ext2_of (arrF m c) _ ?_ ?_
  · show win0_2.index t 0 * 512 + 1 * p.val = _
    rw [(at2 t).1]; omega
  · show win0_2.index t 1 * 128 + 1 * k.val = _
    rw [(at2 t).2]; omega

theorem blk3 (c : Dev nD) (t : Fin cfg0.N) (k : Fin 128) (q : Fin 2048) :
    (iblk m c 3 t : S128x2048.Idx → EReal) (ix2 k q) = tail (arrW m c) k.val q.val := by
  unfold iblk
  rw [View.read_apply]
  show V m c main_v1 _ = _
  rw [V_w]
  refine (w_tail (arrW m c) _).trans ?_
  congr 1
  · show win0_3.index t 0 * 128 + 1 * k.val = _
    rw [(at3 t).1]; omega
  · show win0_3.index t 1 * 2048 + 1 * q.val = _
    rw [(at3 t).2]; omega

/-! ### The accumulator after a point -/

theorem pay1 (x : Vec Ideal S512x1280 .bf16) (y : Vec Ideal S1280x2048 .bf16) (u : Vec Ideal S512x128 .bf16) (v : Vec Ideal S128x2048 .bf16) (p : Fin 512) (q : Fin 2048) :
    k0_pay1 x y u v (ix2 p q) = (∑ k : Fin 1280, x (ix2 p k) * y (ix2 k q)) + ∑ k : Fin 128, u (ix2 p k) * v (ix2 k q) := by
  unfold k0_pay1
  pointwise

theorem pay2 (x : Vec Ideal S512x1280 .bf16) (y : Vec Ideal S1280x2048 .bf16) (a : Vec Ideal S512x2048 .f32) (p : Fin 512) (q : Fin 2048) :
    k0_pay2 x y a (ix2 p q) = a (ix2 p q) + ∑ k : Fin 1280, x (ix2 p k) * y (ix2 k q) := by
  unfold k0_pay2
  pointwise

/-- The forget gates' share of an entry: of the 128 columns, those past the sixteenth meet zeros. -/
def gates (u : S4096x128.Idx → EReal) (w : S5136x2048.Idx → EReal) (p q : ℕ) : EReal :=
  dot (fun i => ext2 u p i) (fun i => ext2 w (5120 + i) q) 16

theorem gates_eq (u : S4096x128.Idx → EReal) (w : S5136x2048.Idx → EReal) (p q : ℕ) :
    (∑ k : Fin 128, ext2 u p k.val * tail w k.val q) = gates u w p q := by
  have h : dot (fun i => ext2 u p i) (fun i => tail w i q) (16 + 112) = gates u w p q := by
    rw [dot_add]
    have hz : (∑ k : Fin 112, ext2 u p (16 + k.val) * tail w (16 + k.val) q) = 0 :=
      Finset.sum_eq_zero fun k _ => by unfold tail; rw [if_neg (by omega), mul_zero]
    rw [hz, add_zero]
    unfold gates dot
    refine Finset.sum_congr rfl fun k hk => ?_
    show ext2 u p k * tail w k q = _
    unfold tail
    rw [if_pos (Finset.mem_range.mp hk)]
  rw [← h, dot_first]

/-- An entry of the product with the weight, over the first `n` of its rows. -/
def part (x : S4096x5120.Idx → EReal) (w : S5136x2048.Idx → EReal) (n p q : ℕ) : EReal :=
  dot (fun i => ext2 x p i) (fun i => ext2 w i q) n

theorem acc_eq (c : Dev nD) : ∀ (n : ℕ) (h : n < cfg0.N) (p : Fin 512) (q : Fin 2048),
    (outsAt0 m c n h).2 (ix2 p q) =
      part (arrA m c) (arrW m c) (1280 * (n % 4) + 1280) (512 * (n / 4) + p.val) q.val + gates (arrF m c) (arrW m c) (512 * (n / 4) + p.val) q.val := by
  intro n
  induction n with
  | zero =>
    intro h p q
    refine (congrFun (accA m c ⟨0, h⟩ rfl) _).trans ?_
    refine (pay1 _ _ _ _ p q).trans ?_
    rw [part, show 1280 * (0 % 4) + 1280 = 1280 from rfl, dot_first, ← gates_eq]
    simp only [blk0, X_at, blk2, blk3]
    simp
  | succ n ih =>
    intro h p q
    by_cases h0 : (n + 1) % 4 = 0
    · refine (congrFun (accA m c ⟨n + 1, h⟩ h0) _).trans ?_
      refine (pay1 _ _ _ _ p q).trans ?_
      rw [part, h0, show 1280 * 0 + 1280 = 1280 from rfl, dot_first, ← gates_eq]
      simp only [blk0, X_at, blk2, blk3, h0, Nat.mul_zero, Nat.zero_add]
    · have e1 : 1280 * (n % 4) + 1280 = 1280 * ((n + 1) % 4) := by omega
      have e2 : 512 * (n / 4) = 512 * ((n + 1) / 4) := by omega
      have hi := ih (Nat.lt_of_succ_lt h) p q
      rw [e1, e2] at hi
      refine (congrFun (accBC m c ⟨n + 1, h⟩ h0) _).trans ?_
      refine (pay2 _ _ _ p q).trans ?_
      rw [part, dot_add, add_right_comm]
      simp only [blk0, X_at]
      exact congrArg (· + _) hi

/-! ### The result array -/

/-- The result, entry by entry. -/
def res (x : S4096x5120.Idx → EReal) (w : S5136x2048.Idx → EReal) (u : S4096x128.Idx → EReal) : S4096x2048.Idx → EReal :=
  fun j => part x w 5120 (j 0).val (j 1).val + gates u w (j 0).val (j 1).val

abbrev result (c : Dev nD) := res (arrA m c) (arrW m c) (arrF m c)

theorem flushed (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  show (cfg0.win 4).cut (grid0.coords t) ((dats m 0 c).after 4 t) = _
  rw [after0_4, outC m c t h3]
  funext y
  rw [View.read_apply]
  have e (z : S512x2048.Idx) : ix2 (z 0) (z 1) = z := (eq_ix2 z).symm
  have ea := acc_eq m c t.val t.isLt (y 0) (y 1)
  have er : 512 * (t.val / 4) + (y 0).val = win0_4.index t 0 * 512 + 1 * (y 0).val := by rw [(at4 t).1]; omega
  have ec : (y 1).val = win0_4.index t 1 * 2048 + 1 * (y 1).val := by rw [(at4 t).2]; omega
  rw [h3, er] at ea
  refine (congrArg (outsAt0 m c t.val t.isLt).2 (e y)).symm.trans (ea.trans ?_)
  refine Eq.trans (congrArg (fun n => part (arrA m c) (arrW m c) 5120 (win0_4.index t 0 * 512 + 1 * (y 0).val) n
    + gates (arrF m c) (arrW m c) (win0_4.index t 0 * 512 + 1 * (y 0).val) n) ec) ?_
  rfl

/-- The point that writes the block an index of the result lies in. -/
def ptOf (y : S4096x2048.Idx) : Fin cfg0.N :=
  ⟨4 * ((y 0).val / 512) + 3, by
    have h0 : (y 0).val < 4096 := (y 0).isLt
    rw [show cfg0.N = 32 from N_0]; omega⟩

theorem final (c : Dev nD) : (dats m 0 c).arrAt 4 cfg0.N = result m c :=
  (dats m 0 c).arrAt_eq_of_cover 4 (result m c) (flushed m c) fun (y : S4096x2048.Idx) =>
    ⟨ptOf y, (flush0_4 (ptOf y)).mpr (by show (4 * ((y 0).val / 512) + 3) % 4 = 3; omega), by
      show y ∈ ((View.whole main_v2).slice (win0_4.rect (ptOf y))).set
      rw [View.set_slice_whole, Rect.mem_set_unit]
      have h0 : (y 0).val < 4096 := (y 0).isLt
      have h1 : (y 1).val < 2048 := (y 1).isLt
      obtain ⟨e0, e1⟩ := at4 (ptOf y)
      have hv : (ptOf y).val = 4 * ((y 0).val / 512) + 3 := rfl
      rw [hv] at e0
      intro a
      match a with
      | ⟨0, _⟩ => show win0_4.index (ptOf y) 0 * 512 ≤ (y 0).val ∧ (y 0).val < win0_4.index (ptOf y) 0 * 512 + 512
                  rw [e0]; omega
      | ⟨1, _⟩ => show win0_4.index (ptOf y) 1 * 2048 ≤ (y 1).val ∧ (y 1).val < win0_4.index (ptOf y) 1 * 2048 + 2048
                  rw [e1]; omega⟩

/-- The run: the result, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 4).trans (final m c), (h.2 c)⟩)
    (θ_run_and (run_main m ρ) (unchanged m ρ))

end Cert.Kernel9Ideal.Value
-- ==== Proof.ProjDhRef.lean ====
/-
  The reference of the gradient sent back through the input projection: its run, its result entry by entry, and that the
  kernel's is the same.
-/
module

public import proofs.«01_k».proof.Defs
public import proofs.«01_k».proof.Proof.Gen.Reference9Ideal
public import proofs.«01_k».proof.Proof.ProjDh
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference9Ideal.Value

open Cert.Reference9Ideal Cert.Reference9Ideal.Gen Cert.Dots Idealize.ShloMosaic.StableHlo

/-- The product of a matrix with another transposed. -/
abbrev product (l : Vec Ideal S4096x5136 .f32) (r : Vec Ideal S2048x5136 .f32) : Vec Ideal S4096x2048 .f32 :=
  Host.dotGeneral (F := Ideal) (φ₁ := .f32) (φ₂ := .f32) dot_S4096x5136_S2048x5136_S4096x2048_1_1_0_0_n_n none l r
/-- The two groups of columns side by side. -/
abbrev beside (a : Vec Ideal S4096x5120 .bf16) (b : Vec Ideal S4096x16 .bf16) : Vec Ideal S4096x5136 .bf16 :=
  concatenate S4096x5136 1 [⟨S4096x5120, a⟩, ⟨S4096x16, b⟩] concatenates_S4096x5120_S4096x16_S4096x5136_d1

/-- The reference's operations, in order. -/
abbrev ops : List (HloOp τ sig (Elt Ideal)) :=
  [ unary main_arg2 main_v0 (extractStridedSlice S4096x16 ![0, 0] · slices_S4096x128_S4096x16_0_0),
    binary main_arg0 main_v0 main_v1 beside,
    unary main_v1 main_v2 (extf (F := Ideal) .f32 · bitsLt_bf16_f32),
    unary main_arg1 main_v3 (extf (F := Ideal) .f32 · bitsLt_bf16_f32),
    unary main_v3 main_v4 (transpose S2048x5136 [1, 0] · transposes_S5136x2048_S2048x5136_1_0),
    binary main_v2 main_v4 main_v5 product ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨unary_bufs_sub .., binary_bufs_sub .., unary_bufs_sub .., unary_bufs_sub .., unary_bufs_sub .., binary_bufs_sub ..⟩

/-- The result as the reference computes it. -/
def value (x : Vec Ideal S4096x5120 .bf16) (w : Vec Ideal S5136x2048 .bf16) (u : Vec Ideal S4096x128 .bf16) : Vec Ideal S4096x2048 .f32 :=
  product (extf (F := Ideal) .f32 (beside x (extractStridedSlice S4096x16 ![0, 0] u slices_S4096x128_S4096x16_0_0)) bitsLt_bf16_f32)
    (transpose S2048x5136 [1, 0] (extf (F := Ideal) .f32 w bitsLt_bf16_f32) transposes_S5136x2048_S2048x5136_1_0)

theorem run (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD) : Thread nD τ).loc main_v5) = value (m (((0 : Dev nD) : Thread nD τ).loc main_arg0)) (m (((0 : Dev nD) : Thread nD τ).loc main_arg1)) (m (((0 : Dev nD) : Thread nD τ).loc main_arg2))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2) :=
  (θ_run defs _ _).mono (fun _ h => ⟨(h 0 main_v5).trans (by after_results; rfl),
      (h 0 main_arg0).trans (by after_results), (h 0 main_arg1).trans (by after_results), (h 0 main_arg2).trans (by after_results)⟩)
    (run_seq scopedRefs_eq scopedSems_eq defs main (fun _ => ops) main_eq (fun _ => ops_sub) m ρ)

theorem frame : Cert.quiescent_Reference9Ideal := fun m ρ _ =>
  (θ_run defs _ _).mono (fun r h => ⟨fun c => (by obtain rfl : c = 0 := Subsingleton.elim _ _; exact h.2),
      sem_eq_zero_of_no_sems (by decide) r.2⟩)
    (run m ρ)

/-- The columns side by side, read at one of the first group. -/
theorem beside_left (a : S4096x5120.Idx → EReal) (b : S4096x16.Idx → EReal) (p : Fin 4096) (k : Fin 5136) (hk : k.val < 5120) :
    (beside a b (ix2 p k) : EReal) = ext2 a p.val k.val := by
  rw [ext2_in a p.isLt hk]
  refine concatenate_pair_apply_left (t := S4096x5136) (s₁ := S4096x5120) (s₂ := S4096x16) 1 a b concatenates_S4096x5120_S4096x16_S4096x5136_d1 (ix2 p k) rfl (ix2 p (⟨k.val, hk⟩ : Fin 5120)) fun j => ?_
  fin_cases j <;> rfl

/-- The columns side by side, read at one of the second group. -/
theorem beside_right (a : S4096x5120.Idx → EReal) (u : S4096x128.Idx → EReal) (p : Fin 4096) (k : Fin 5136) (j : ℕ) (hk : k.val = 5120 + j) :
    (beside a (extractStridedSlice S4096x16 ![0, 0] u slices_S4096x128_S4096x16_0_0) (ix2 p k) : EReal) = ext2 u p.val j := by
  have hj : j < 16 := by have := k.isLt; omega
  refine (concatenate_pair_apply_right (t := S4096x5136) (s₁ := S4096x5120) (s₂ := S4096x16) 1 a _ concatenates_S4096x5120_S4096x16_S4096x5136_d1 (ix2 p k) rfl rfl (ix2 p (⟨j, hj⟩ : Fin 16)) (fun d hd => ?_) ?_).trans ?_
  · fin_cases d
    · rfl
    · exact absurd rfl hd
  · show j + 5120 = k.val
    omega
  · pointwise
    refine ext2_of u _ ?_ ?_
    · rfl
    · rfl

/-- An entry: the sum over the first 5120 columns and the sum over the forget gates'. -/
theorem value_eq (x : S4096x5120.Idx → EReal) (w : S5136x2048.Idx → EReal) (u : S4096x128.Idx → EReal) :
    (value x w u : S4096x2048.Idx → EReal) = Cert.Kernel9Ideal.Value.res x w u := by
  funext i
  obtain ⟨p, q, rfl⟩ : ∃ (p : Fin 4096) (q : Fin 2048), i = ix2 p q := ⟨i 0, i 1, eq_ix2 i⟩
  show _ = dot (fun i => ext2 x p.val i) (fun i => ext2 w i q.val) 5120 + dot (fun i => ext2 u p.val i) (fun i => ext2 w (5120 + i) q.val) 16
  have hs : (value x w u (ix2 p q) : EReal) = dot (fun i => if i < 5120 then ext2 x p.val i else ext2 u p.val (i - 5120)) (fun i => ext2 w i q.val) (5120 + 16) := by
    rw [dot_first]
    refine Eq.trans (b := ∑ k : Fin 5136, (beside x (extractStridedSlice S4096x16 ![0, 0] u slices_S4096x128_S4096x16_0_0) (ix2 p k) : EReal) * w (ix2 k q)) ?_ ?_
    · unfold value
      generalize beside x (extractStridedSlice S4096x16 ![0, 0] u slices_S4096x128_S4096x16_0_0) = b
      pointwise [product]
    · refine Finset.sum_congr rfl fun k _ => (?_ : (_ : EReal) = _)
      rw [ext2_in w k.isLt q.isLt]
      refine congrArg (· * w (ix2 k q)) (?_ : (_ : EReal) = _)
      show _ = if k.val < 5120 then ext2 x p.val k.val else ext2 u p.val (k.val - 5120)
      by_cases hk : k.val < 5120
      · rw [if_pos hk]
        exact beside_left x _ p k hk
      · rw [if_neg hk]
        exact beside_right x u p k _ (by omega)
  rw [hs, dot_add]
  refine congrArg₂ (· + ·) ?_ ?_
  · unfold dot
    refine Finset.sum_congr rfl fun k hk => (?_ : (_ : EReal) = _)
    show (if k < 5120 then ext2 x p.val k else ext2 u p.val (k - 5120)) * ext2 w k q.val = _
    rw [if_pos (Finset.mem_range.mp hk)]
  · rw [dot_first]
    refine Finset.sum_congr rfl fun k _ => (?_ : (_ : EReal) = _)
    show (if 5120 + k.val < 5120 then ext2 x p.val (5120 + k.val) else ext2 u p.val (5120 + k.val - 5120)) * ext2 w (5120 + k.val) q.val = _
    rw [if_neg (by omega), Nat.add_sub_cancel_left]

/-- Both compute the same array. -/
theorem algebraic : Cert.algebraic_Kernel9Ideal_Reference9Ideal := by
  intro m ρ m' ρ' _ hagree
  refine ⟨fun c => Cert.Kernel9Ideal.Value.result m c, Cert.Kernel9Ideal.Value.run m ρ, ?_⟩
  refine (θ_run defs _ _).mono (fun _ h c => ?_) (run m' ρ')
  obtain rfl : c = 0 := Subsingleton.elim _ _
  refine ⟨h.1.trans ?_, h.2⟩
  rw [(hagree 0).1, (hagree 0).2.1, (hagree 0).2.2]
  exact value_eq _ _ _

end Cert.Reference9Ideal.Value
-- ==== Proof.ProjDwMain.lean ====
/-
  The gradient of the input projection's weight, at the projection's own columns: the accumulator after each point,
  and the rows of the result array the call writes.
-/
module

public import proofs.«01_k».proof.Defs
public import proofs.«01_k».proof.Proof.Gen.Kernel10Ideal.Frame
public import proofs.«01_k».proof.Proof.Dots
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen Cert.Dots

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ### One point's stores -/

/-- The first point of a block of the result: the accumulator is set to the product of the point's blocks. -/
theorem accA (c : Dev nD) (t : Fin cfg0.N) (h0 : t.val % 4 = 0) :
    (outsAt0 m c t.val t.isLt).2 = k0_pay1 (iblk m c 0 t) (iblk m c 1 t) := by
  rw [outsAt0_A m c t h0 (by omega) (by omega)]
  dsimp only
  unfold sout0_A_0
  rw [View.read_writes_eq_canon _ _ _ (fun _ => scover0_A_0 ..)]
  unfold kernelRun0_A
  dsimp only
  rw [View.canon_unit_zero hz]
  simp only [View.readAt_eq_ld, (hs0_0 t).read_unread, (hs0_1 t).read_unread, View.ld_unit_zero (S := S1024x1280) hz, View.ld_unit_zero (S := S1024x1024) hz]

/-- A later point: the accumulator grows by the product of the point's blocks. -/
theorem accBC (c : Dev nD) (t : Fin cfg0.N) (h0 : ¬t.val % 4 = 0) :
    (outsAt0 m c t.val t.isLt).2 = k0_pay2 (iblk m c 0 t) (iblk m c 1 t) (outsAt0 m c (t.val - 1) (Nat.lt_of_le_of_lt (Nat.sub_le _ _) t.isLt)).2 := by
  by_cases h2 : t.val % 4 = 3
  · rw [outsAt0_C m c t h0 (by omega) h2]
    dsimp only
    unfold sout0_C_0
    rw [View.read_writes_eq_canon _ _ _ (fun _ => scover0_C_0 ..)]
    unfold kernelRun0_C
    dsimp only
    sl_unfold_words
    rw [View.canon_unit_zero hz]
    simp only [View.readAt_eq_ld, (hs0_0 t).read_unread, (hs0_1 t).read_unread, (Memref.isWhole_whole _).read_unread, View.ld_unit_zero (S := S1024x1280) hz, View.ld_unit_zero (S := S1024x1024) hz, View.ld_unit_zero (S := S1280x1024) hz]
  · rw [outsAt0_B m c t h0 (by omega) h2]
    dsimp only
    unfold sout0_B_0
    rw [View.read_writes_eq_canon _ _ _ (fun _ => scover0_B_0 ..)]
    unfold kernelRun0_B
    dsimp only
    rw [View.canon_unit_zero hz]
    simp only [View.readAt_eq_ld, (hs0_0 t).read_unread, (hs0_1 t).read_unread, (Memref.isWhole_whole _).read_unread, View.ld_unit_zero (S := S1024x1280) hz, View.ld_unit_zero (S := S1024x1024) hz, View.ld_unit_zero (S := S1280x1024) hz]

/-- The last point of a block: what is written is made of the accumulator, in the result's own format. -/
theorem outC (c : Dev nD) (t : Fin cfg0.N) (h2 : t.val % 4 = 3) :
    (outsAt0 m c t.val t.isLt).1 = k0_pay3 (outsAt0 m c t.val t.isLt).2 := by
  have h0 : ¬t.val % 4 = 0 := by omega
  rw [accBC m c t h0, outsAt0_C m c t h0 (by omega) h2]
  dsimp only
  unfold out0_C_2
  rw [View.read_writes_eq_canon _ _ _ (fun _ => cover0_C_2 ..)]
  unfold kernelRun0_C
  dsimp only
  sl_unfold_words
  rw [View.canon_unit_zero hz3, View.readCov_unit_zero (S := S1280x1024) _ hz]
  simp only [View.readAt_eq_ld, (hs0_0 t).read_unread, (hs0_1 t).read_unread, (Memref.isWhole_whole _).read_unread, View.ld_unit_zero (S := S1024x1280) hz, View.ld_unit_zero (S := S1024x1024) hz, View.ld_unit_zero (S := S1280x1024) hz]

/-! ### The blocks -/

/-- An input array. -/
abbrev arrA (c : Dev nD) : S4096x5120.Idx → EReal := m ((c : Thread nD τ).loc main_arg0)
/-- An input array. -/
abbrev arrB (c : Dev nD) : S4096x2048.Idx → EReal := m ((c : Thread nD τ).loc main_arg1)

/-- The two factors, each read at the contracted position first. -/
def fA (x : S4096x5120.Idx → EReal) (i p : ℕ) : EReal := ext2 x i p
def fB (x : S4096x2048.Idx → EReal) (i q : ℕ) : EReal := ext2 x i q

theorem at0 : ∀ t : Fin cfg0.N, win0_0.index t 0 = t.val % 4 ∧ win0_0.index t 1 = t.val / 8 := by decide +kernel
theorem at1 : ∀ t : Fin cfg0.N, win0_1.index t 0 = t.val % 4 ∧ win0_1.index t 1 = t.val / 4 % 2 := by decide +kernel
theorem at2 : ∀ t : Fin cfg0.N, win0_2.index t 0 = t.val / 4 % 2 ∧ win0_2.index t 1 = t.val / 8 ∧ win0_2.index t 2 = 0 := by decide +kernel

theorem blk0 (c : Dev nD) (t : Fin cfg0.N) (k : Fin 1024) (p : Fin 1280) :
    (iblk m c 0 t : S1024x1280.Idx → EReal) (ix2 k p) = fA (arrA m c) (1024 * (t.val % 4) + k.val) (1280 * (t.val / 8) + p.val) := by
  unfold iblk
  rw [View.read_apply]
  refine ext2_of (arrA m c) _ ?_ ?_
  · show win0_0.index t 0 * 1024 + 1 * k.val = _
    rw [(at0 t).1]; omega
  · show win0_0.index t 1 * 1280 + 1 * p.val = _
    rw [(at0 t).2]; omega

theorem blk1 (c : Dev nD) (t : Fin cfg0.N) (k : Fin 1024) (q : Fin 1024) :
    (iblk m c 1 t : S1024x1024.Idx → EReal) (ix2 k q) = fB (arrB m c) (1024 * (t.val % 4) + k.val) (1024 * (t.val / 4 % 2) + q.val) := by
  unfold iblk
  rw [View.read_apply]
  refine ext2_of (arrB m c) _ ?_ ?_
  · show win0_1.index t 0 * 1024 + 1 * k.val = _
    rw [(at1 t).1]; omega
  · show win0_1.index t 1 * 1024 + 1 * q.val = _
    rw [(at1 t).2]; omega

/-! ### The accumulator after a point -/

theorem pay1 (x : Vec Ideal S1024x1280 .bf16) (y : Vec Ideal S1024x1024 .bf16) (p : Fin 1280) (q : Fin 1024) :
    k0_pay1 x y (ix2 p q) = ∑ k : Fin 1024, x (ix2 k p) * y (ix2 k q) := by
  unfold k0_pay1
  pointwise

theorem pay2 (x : Vec Ideal S1024x1280 .bf16) (y : Vec Ideal S1024x1024 .bf16) (a : Vec Ideal S1280x1024 .f32) (p : Fin 1280) (q : Fin 1024) :
    k0_pay2 x y a (ix2 p q) = a (ix2 p q) + ∑ k : Fin 1024, x (ix2 k p) * y (ix2 k q) := by
  unfold k0_pay2
  pointwise

theorem pay3 (a : Vec Ideal S1280x1024 .f32) (z : Fin 1) (p : Fin 1280) (q : Fin 1024) :
    k0_pay3 a (ix3 z p q) = a (ix2 p q) := by
  unfold k0_pay3
  pointwise

theorem pay3_at (a : Vec Ideal S1280x1024 .f32) (y : S1x1280x1024.Idx) :
    k0_pay3 a y = a (ix2 (y 1) (y 2)) := by
  obtain ⟨z, p, q, rfl⟩ : ∃ (z : Fin 1) (p : Fin 1280) (q : Fin 1024), y = ix3 z p q := ⟨y 0, y 1, y 2, eq_ix3 y⟩
  exact pay3 a z p q

/-- An entry of the product, over the first `n` of the contracted positions. -/
def part (x : S4096x5120.Idx → EReal) (y : S4096x2048.Idx → EReal) (n p q : ℕ) : EReal :=
  dot (fun i => fA x i p) (fun i => fB y i q) n

theorem acc_eq (c : Dev nD) : ∀ (n : ℕ) (h : n < cfg0.N) (p : Fin 1280) (q : Fin 1024),
    (outsAt0 m c n h).2 (ix2 p q) = part (arrA m c) (arrB m c) (1024 * (n % 4) + 1024) (1280 * (n / 8) + p.val) (1024 * (n / 4 % 2) + q.val) := by
  intro n
  induction n with
  | zero =>
    intro h p q
    refine (congrFun (accA m c ⟨0, h⟩ rfl) _).trans ?_
    rw [pay1, part, show 1024 * (0 % 4) + 1024 = 1024 from rfl, dot_first]
    simp only [blk0, blk1]
    simp
  | succ n ih =>
    intro h p q
    by_cases h0 : (n + 1) % 4 = 0
    · refine (congrFun (accA m c ⟨n + 1, h⟩ h0) _).trans ?_
      rw [pay1, part, h0, show 1024 * 0 + 1024 = 1024 from rfl, dot_first]
      simp only [blk0, blk1, h0, Nat.mul_zero, Nat.zero_add]
    · have e1 : 1024 * (n % 4) + 1024 = 1024 * ((n + 1) % 4) := by omega
      have e2 : 1280 * (n / 8) = 1280 * ((n + 1) / 8) := by omega
      have e3 : 1024 * (n / 4 % 2) = 1024 * ((n + 1) / 4 % 2) := by omega
      have hi := ih (Nat.lt_of_succ_lt h) p q
      rw [e1, e2, e3] at hi
      refine (congrFun (accBC m c ⟨n + 1, h⟩ h0) _).trans ?_
      rw [pay2, part, dot_add]
      simp only [blk0, blk1]
      exact congrArg (· + _) hi

/-! ### The result array -/

/-- The result, entry by entry. -/
def res (x : S4096x5120.Idx → EReal) (y : S4096x2048.Idx → EReal) : S2x5136x1024.Idx → EReal :=
  fun y' => part x y 4096 ((y'  1).val) (1024 * (y'  0).val + (y'  2).val)

abbrev result (c : Dev nD) := res (arrA m c) (arrB m c)

theorem flushed (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  show (cfg0.win 2).cut (grid0.coords t) ((dats m 0 c).after 2 t) = _
  rw [after0_2, outC m c t h3]
  funext y
  rw [View.read_apply]
  refine (pay3_at _ ((cfg0.win 2).xinj (grid0.coords t) y)).trans ?_
  have ea := acc_eq m c t.val t.isLt ((cfg0.win 2).xinj (grid0.coords t) y 1) ((cfg0.win 2).xinj (grid0.coords t) y 2)
  have hy : (y 0).val = 0 := by have := ((cfg0.win 2).xinj (grid0.coords t) y 0).isLt; change (y 0).val < 1 at this; omega
  have er : 1280 * (t.val / 8) + (y 1).val = win0_2.index t 1 * 1280 + 1 * (y 1).val := by rw [(at2 t).2.1]; omega
  have ec : 1024 * (t.val / 4 % 2) + (y 2).val
      = 1024 * (win0_2.index t 0 * 1 + 1 * (y 0).val) + (win0_2.index t 2 * 1024 + 1 * (y 2).val) := by rw [(at2 t).1, (at2 t).2.2, hy]; omega
  rw [h3] at ea
  change (outsAt0 m c t.val t.isLt).2 _ = part (arrA m c) (arrB m c) 4096 (1280 * (t.val / 8) + (y 1).val) (1024 * (t.val / 4 % 2) + (y 2).val) at ea
  rw [er, ec] at ea
  exact ea

/-- The point that writes the block an index of the result lies in, of a row that is written. -/
def ptOf (y : S2x5136x1024.Idx) (hr : (y 1).val < 5120) : Fin cfg0.N :=
  ⟨8 * ((y 1).val / 1280) + 4 * (y 0).val + 3, by
    have h0 : (y 0).val < 2 := (y 0).isLt
    rw [show cfg0.N = 32 from N_0]; omega⟩

/-- No block that is written overhangs the array. -/
theorem xsize2 : ∀ t : Fin cfg0.N, ∀ a, win0_2.xsize (grid0.coords t) a = win0_2.size a := by decide +kernel

/-- The array at a row that is written. -/
theorem final (c : Dev nD) (y : S2x5136x1024.Idx) (hr : (y 1).val < 5120) : (dats m 0 c).arrAt 2 cfg0.N y = result m c y :=
  ((dats m 0 c).arrAt_eq_piecewise 2 (result m c) (flushed m c) y).trans (if_pos
    ⟨ptOf y hr, (flush0_2 (ptOf y hr)).mpr (by show (8 * ((y 1).val / 1280) + 4 * (y 0).val + 3) % 4 = 3; omega), by
      show y ∈ ((View.whole main_v0).slice (win0_2.rect (ptOf y hr))).set
      rw [View.set_slice_whole, Rect.mem_set_unit]
      have h0 : (y 0).val < 2 := (y 0).isLt
      have h2 : (y 2).val < 1024 := (y 2).isLt
      obtain ⟨e0, e1, e2⟩ := at2 (ptOf y hr)
      have hv : (ptOf y hr).val = 8 * ((y 1).val / 1280) + 4 * (y 0).val + 3 := rfl
      rw [hv] at e0 e1
      intro a
      match a with
      | ⟨0, _⟩ => show win0_2.index (ptOf y hr) 0 * 1 ≤ (y 0).val ∧ (y 0).val < win0_2.index (ptOf y hr) 0 * 1 + win0_2.xsize (grid0.coords (ptOf y hr)) 0
                  rw [xsize2, e0]; show _ ∧ _ < _ + 1; omega
      | ⟨1, _⟩ => show win0_2.index (ptOf y hr) 1 * 1280 ≤ (y 1).val ∧ (y 1).val < win0_2.index (ptOf y hr) 1 * 1280 + win0_2.xsize (grid0.coords (ptOf y hr)) 1
                  rw [xsize2, e1]; show _ ∧ _ < _ + 1280; omega
      | ⟨2, _⟩ => show win0_2.index (ptOf y hr) 2 * 1024 ≤ (y 2).val ∧ (y 2).val < win0_2.index (ptOf y hr) 2 * 1024 + win0_2.xsize (grid0.coords (ptOf y hr)) 2
                  rw [xsize2, e2]; show _ ∧ _ < _ + 1024; omega⟩)

/-- The run: the result's written rows, the arguments unchanged. -/
theorem run : θ_run defs (onTc (τ := τ) (main (F := Ideal))) ⟨m, fun _ => 0, ρ⟩ fun r => ∀ c : Dev nD,
      (∀ y : S2x5136x1024.Idx, (y 1).val < 5120 → r.2.mem ((c : Thread nD τ).loc main_v0) y = result m c y)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨fun y hr => (congrFun ((h.1 c).1 2) y).trans (final m c y hr), (h.2 c)⟩)
    (θ_run_and (run_main m ρ) (unchanged m ρ))

end Cert.Kernel10Ideal.Value
-- ==== Proof.ProjDwMainRef.lean ====
/-
  The reference of the input projection's weight gradient at the projection's own columns: its run, its result entry by
  entry, and that the kernel's written rows are the same.
-/
module

public import proofs.«01_k».proof.Defs
public import proofs.«01_k».proof.Proof.Gen.Reference10Ideal
public import proofs.«01_k».proof.Proof.ProjDwMain
public import Idealize.ShloMosaic.Lib.KernelVsHost
public import proofs.«01_k».proof.Proof.Gen.On_written
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference10Ideal.Value

open Cert.Reference10Ideal Cert.Reference10Ideal.Gen Cert.Dots Idealize.ShloMosaic.StableHlo

/-- The product of one matrix transposed with another. -/
abbrev product (l : Vec Ideal S4096x5120 .f32) (r : Vec Ideal S4096x2048 .f32) : Vec Ideal S5120x2048 .f32 :=
  Host.dotGeneral (F := Ideal) (φ₁ := .f32) (φ₂ := .f32) dot_S4096x5120_S4096x2048_S5120x2048_0_0_1_1_n_n none l r
/-- The number zero, as the host makes it of an integer, and an array with sixteen rows of a number added below. -/
abbrev number (v : IVec S_ 32) : Vec Ideal S_ .bf16 := sitofp (F := Ideal) .bf16 v
abbrev longer (x : Vec Ideal S2x5120x1024 .bf16) (v : Vec Ideal S_ .bf16) : Vec Ideal S2x5136x1024 .bf16 :=
  pad S2x5136x1024 ![0, 0, 0] ![0, 16, 0] ![0, 0, 0] x v pads_S2x5120x1024_S2x5136x1024_000_0160_000 h_S_

/-- The reference's operations, in order. -/
abbrev ops : List (HloOp τ sig (Elt Ideal)) :=
  [ unary main_arg1 main_v0 (extf (F := Ideal) .f32 · bitsLt_bf16_f32),
    unary main_arg0 main_v1 (extf (F := Ideal) .f32 · bitsLt_bf16_f32),
    binary main_v1 main_v0 main_v2 product,
    unary main_v2 main_v3 (transpose S2048x5120 [1, 0] · transposes_S5120x2048_S2048x5120_1_0),
    unary main_v3 main_v4 (truncf (F := Ideal) .bf16 · bitsLt_bf16_f32),
    unary main_v4 main_v5 (transpose S5120x2048 [1, 0] · transposes_S2048x5120_S5120x2048_1_0),
    reshape main_v5 main_v6 rfl shapeCasts_S5120x2048_S5120x2x1024,
    unary main_v6 main_v7 (transpose S2x5120x1024 [1, 0, 2] · transposes_S5120x2x1024_S2x5120x1024_1_0_2),
    nullary main_c (constantI S_ 32 0#32),
    unary main_c main_call0_v0 number,
    binary main_v7 main_call0_v0 main_v8 longer ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨unary_bufs_sub .., unary_bufs_sub .., binary_bufs_sub .., unary_bufs_sub .., unary_bufs_sub .., unary_bufs_sub .., reshape_bufs_sub .., unary_bufs_sub .., nullary_bufs_sub .., unary_bufs_sub .., binary_bufs_sub ..⟩

/-- The result's written rows as the reference computes them. -/
def inner (x : Vec Ideal S4096x5120 .bf16) (y : Vec Ideal S4096x2048 .bf16) : Vec Ideal S2x5120x1024 .bf16 :=
  transpose S2x5120x1024 [1, 0, 2] (shapeCast S5120x2x1024 (transpose S5120x2048 [1, 0] (truncf (F := Ideal) .bf16
    (transpose S2048x5120 [1, 0] (product (extf (F := Ideal) .f32 x bitsLt_bf16_f32) (extf (F := Ideal) .f32 y bitsLt_bf16_f32)) transposes_S5120x2048_S2048x5120_1_0) bitsLt_bf16_f32)
    transposes_S2048x5120_S5120x2048_1_0) shapeCasts_S5120x2048_S5120x2x1024) transposes_S5120x2x1024_S2x5120x1024_1_0_2
/-- The result as the reference computes it. -/
def value (x : Vec Ideal S4096x5120 .bf16) (y : Vec Ideal S4096x2048 .bf16) : Vec Ideal S2x5136x1024 .bf16 :=
  longer (inner x y) (number (constantI S_ 32 0#32))

theorem run (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD) : Thread nD τ).loc main_v8) = value (m (((0 : Dev nD) : Thread nD τ).loc main_arg0)) (m (((0 : Dev nD) : Thread nD τ).loc main_arg1))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1) :=
  (θ_run defs _ _).mono (fun _ h => ⟨(h 0 main_v8).trans (by after_results; rfl),
      (h 0 main_arg0).trans (by after_results), (h 0 main_arg1).trans (by after_results)⟩)
    (run_seq scopedRefs_eq scopedSems_eq defs main (fun _ => ops) main_eq (fun _ => ops_sub) m ρ)

theorem frame : Cert.quiescent_Reference10Ideal := fun m ρ _ =>
  (θ_run defs _ _).mono (fun r h => ⟨fun c => (by obtain rfl : c = 0 := Subsingleton.elim _ _; exact h.2),
      sem_eq_zero_of_no_sems (by decide) r.2⟩)
    (run m ρ)

theorem inner_apply (x : S4096x5120.Idx → EReal) (y : S4096x2048.Idx → EReal) (n : Fin 2) (p : Fin 5120) (q : Fin 1024) :
    (inner x y (ix3 n p q) : EReal) = Cert.Kernel10Ideal.Value.part x y 4096 p.val (1024 * n.val + q.val) := by
  show _ = dot (fun i => ext2 x i p.val) (fun i => ext2 y i (1024 * n.val + q.val)) 4096
  unfold inner
  pointwise [product]
  rw [dot_first]
  refine Finset.sum_congr rfl fun k _ => (?_ : (_ : EReal) = _)
  rw [ext2_in x k.isLt (by omega), ext2_in y k.isLt (by omega)]
  first
  | done
  | (congr 2 <;> (apply congrArg₂ ix2 <;> apply Fin.ext <;> dsimp only <;> omega))

/-- A written row's entry: the sum, over all rows, of the products of the two columns. -/
theorem value_eq (x : S4096x5120.Idx → EReal) (y : S4096x2048.Idx → EReal) (i : S2x5136x1024.Idx) (hr : (i 1).val < 5120) :
    (value x y i : EReal) = Cert.Kernel10Ideal.Value.res x y i := by
  obtain ⟨n, p, q, rfl⟩ : ∃ (n : Fin 2) (p : Fin 5136) (q : Fin 1024), i = ix3 n p q := ⟨i 0, i 1, i 2, eq_ix3 i⟩
  refine (pad_apply_of_inside ![0, 0, 0] ![0, 16, 0] ![0, 0, 0] (inner x y) _ pads_S2x5120x1024_S2x5136x1024_000_0160_000 h_S_ _ (ix3 n (⟨p.val, hr⟩ : Fin 5120) q) (fun b => ?_)).trans (inner_apply x y n ⟨p.val, hr⟩ q)
  fin_cases b
  · show n.val = 0 + n.val * (0 + 1); omega
  · show p.val = 0 + p.val * (0 + 1); omega
  · show q.val = 0 + q.val * (0 + 1); omega

theorem below : ∀ p : Fin 5136, IntOp.cmpi .slt (BitVec.ofNat 32 p.val) 5120#32 = 1#1 → p.val < 5120 := by decide +kernel

/-- Where the mask is set the row is one of the written ones. -/
theorem written (x : FVec Ideal S4096x5120 .bf16) (y : FVec Ideal S4096x2048 .bf16) (i : S2x5136x1024.Idx)
    (h : Cert.On_written.fn (F := Ideal) x y i = 1#1) : (i 1).val < 5120 := by
  obtain ⟨n, p, q, rfl⟩ : ∃ (n : Fin 2) (p : Fin 5136) (q : Fin 1024), i = ix3 n p q := ⟨i 0, i 1, i 2, eq_ix3 i⟩
  show p.val < 5120
  by_contra hn
  refine absurd h ?_
  unfold Cert.On_written.fn
  pointwise
  exact fun h' => hn (below p h')

/-- Both compute the same array, at the written rows. -/
theorem algebraic : Cert.algebraic_Kernel10Ideal_Reference10Ideal_on_written := by
  intro m ρ m' ρ' _ hagree
  refine ⟨fun c => Cert.Kernel10Ideal.Value.result m c, ?_, ?_⟩
  · exact (θ_run Cert.Kernel10Ideal.defs _ _).mono (fun _ h c => ⟨fun i hi => (h c).1 i (written _ _ i hi), (h c).2⟩)
      (Cert.Kernel10Ideal.Value.run m ρ)
  · refine (θ_run defs _ _).mono (fun _ h c => ?_) (run m' ρ')
    obtain rfl : c = 0 := Subsingleton.elim _ _
    refine ⟨fun i hi => (congrFun h.1 i).trans ?_, h.2⟩
    rw [(hagree 0).1, (hagree 0).2]
    exact value_eq _ _ i (written _ _ i hi)

end Cert.Reference10Ideal.Value
-- ==== Proof.FfnUp.lean ====
/-
  The gate and the up projection and their gated product: the blocks each point writes, and the result arrays.
-/
module

public import proofs.«01_k».proof.Defs
public import proofs.«01_k».proof.Proof.Gen.Kernel11Ideal.Frame
public import proofs.«01_k».proof.Proof.Dots
public import proofs.«01_k».proof.Proof.Gate
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen Cert.Dots Cert.Gate

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ### The blocks -/

/-- An input array. -/
abbrev arrX (c : Dev nD) : S4096x2048.Idx → EReal := m ((c : Thread nD τ).loc main_arg0)
/-- An input array. -/
abbrev arrU (c : Dev nD) : S4x2048x1408.Idx → EReal := m ((c : Thread nD τ).loc main_arg1)
/-- An input array. -/
abbrev arrV (c : Dev nD) : S4x2048x1408.Idx → EReal := m ((c : Thread nD τ).loc main_arg2)

theorem at0 : ∀ t : Fin cfg0.N, win0_0.index t 0 = t.val % 8 ∧ win0_0.index t 1 = 0 := by decide +kernel
theorem at1 : ∀ t : Fin cfg0.N, win0_1.index t 0 = t.val / 8 ∧ win0_1.index t 1 = 0 ∧ win0_1.index t 2 = 0 := by decide +kernel
theorem at2 : ∀ t : Fin cfg0.N, win0_2.index t 0 = t.val % 8 ∧ win0_2.index t 1 = 0 := by decide +kernel
theorem at3 : ∀ t : Fin cfg0.N, win0_3.index t 0 = t.val / 8 ∧ win0_3.index t 1 = 0 ∧ win0_3.index t 2 = 0 := by decide +kernel
theorem at4 : ∀ t : Fin cfg0.N, win0_4.index t 0 = t.val % 8 ∧ win0_4.index t 1 = t.val / 8 := by decide +kernel
theorem at5 : ∀ t : Fin cfg0.N, win0_5.index t 0 = t.val % 8 ∧ win0_5.index t 1 = t.val / 8 := by decide +kernel
theorem at6 : ∀ t : Fin cfg0.N, win0_6.index t 0 = t.val % 8 ∧ win0_6.index t 1 = t.val / 8 := by decide +kernel

theorem blk0 (c : Dev nD) (t : Fin cfg0.N) (p : Fin 512) (k : Fin 2048) :
    (iblk m c 0 t : S512x2048.Idx → EReal) (ix2 p k) = ext2 (arrX m c) (512 * (t.val % 8) + p.val) k.val := by
  unfold iblk
  rw [View.read_apply]
  show V m c main_arg0 _ = _
  rw [V_main_arg0]
  refine ext2_of (arrX m c) _ ?_ ?_
  · show win0_0.index t 0 * 512 + 1 * p.val = _
    rw [(at0 t).1]; omega
  · show win0_0.index t 1 * 2048 + 1 * k.val = _
    rw [(at0 t).2]; omega

theorem blk1 (c : Dev nD) (t : Fin cfg0.N) (q : Fin 1408) (k : Fin 2048) :
    (iblk m c 1 t : S1x2048x1408.Idx → EReal) (ix3 0 k q) = cols (arrU m c) k.val (1408 * (t.val / 8) + q.val) := by
  unfold iblk
  rw [View.read_apply]
  show V m c main_arg1 _ = _
  rw [V_main_arg1]
  refine cols_of (arrU m c) _ ?_ ?_ ?_
  · show win0_1.index t 0 * 1 + 1 * 0 = _
    rw [(at1 t).1]; omega
  · show win0_1.index t 1 * 2048 + 1 * k.val = _
    rw [(at1 t).2.1]; omega
  · show win0_1.index t 2 * 1408 + 1 * q.val = _
    rw [(at1 t).2.2]; omega

theorem blk2 (c : Dev nD) (t : Fin cfg0.N) (p : Fin 512) (k : Fin 2048) :
    (iblk m c 2 t : S512x2048.Idx → EReal) (ix2 p k) = ext2 (arrX m c) (512 * (t.val % 8) + p.val) k.val := by
  unfold iblk
  rw [View.read_apply]
  show V m c main_arg0 _ = _
  rw [V_main_arg0]
  refine ext2_of (arrX m c) _ ?_ ?_
  · show win0_2.index t 0 * 512 + 1 * p.val = _
    rw [(at2 t).1]; omega
  · show win0_2.index t 1 * 2048 + 1 * k.val = _
    rw [(at2 t).2]; omega

theorem blk3 (c : Dev nD) (t : Fin cfg0.N) (q : Fin 1408) (k : Fin 2048) :
    (iblk m c 3 t : S1x2048x1408.Idx → EReal) (ix3 0 k q) = cols (arrV m c) k.val (1408 * (t.val / 8) + q.val) := by
  unfold iblk
  rw [View.read_apply]
  show V m c main_arg2 _ = _
  rw [V_main_arg2]
  refine cols_of (arrV m c) _ ?_ ?_ ?_
  · show win0_3.index t 0 * 1 + 1 * 0 = _
    rw [(at3 t).1]; omega
  · show win0_3.index t 1 * 2048 + 1 * k.val = _
    rw [(at3 t).2.1]; omega
  · show win0_3.index t 2 * 1408 + 1 * q.val = _
    rw [(at3 t).2.2]; omega

/-- An entry of the input times a weight. -/
def prod (x : S4096x2048.Idx → EReal) (w : S4x2048x1408.Idx → EReal) (i j : ℕ) : EReal :=
  dot (fun k => ext2 x i k) (fun k => cols w k j) 2048

/-- The gated product. -/
def mid (x : S4096x2048.Idx → EReal) (u v : S4x2048x1408.Idx → EReal) (i j : ℕ) : EReal :=
  prod x u i j * sg (prod x u i j) * prod x v i j

theorem pay1 (x : Vec Ideal S512x2048 .bf16) (y : Vec Ideal S1x2048x1408 .bf16) (p : Fin 512) (q : Fin 1408) :
    k0_pay1 x y (ix2 p q) = ∑ k : Fin 2048, x (ix2 p k) * y (ix3 0 k q) := by
  unfold k0_pay1
  pointwise

theorem pay2 (x : Vec Ideal S512x2048 .bf16) (y : Vec Ideal S1x2048x1408 .bf16) (p : Fin 512) (q : Fin 1408) :
    k0_pay2 x y (ix2 p q) = ∑ k : Fin 2048, x (ix2 p k) * y (ix3 0 k q) := by
  unfold k0_pay2
  pointwise

theorem pay3 (x : Vec Ideal S512x2048 .bf16) (y : Vec Ideal S1x2048x1408 .bf16) (p : Fin 512) (q : Fin 1408) :
    k0_pay3 x y (ix2 p q) = k0_pay1 x y (ix2 p q) := rfl

theorem pay4 (x : Vec Ideal S512x2048 .bf16) (y : Vec Ideal S1x2048x1408 .bf16) (p : Fin 512) (q : Fin 1408) :
    k0_pay4 x y (ix2 p q) = k0_pay2 x y (ix2 p q) := rfl

theorem pay5 (x : Vec Ideal S512x2048 .bf16) (u : Vec Ideal S1x2048x1408 .bf16) (z : Vec Ideal S512x2048 .bf16) (v : Vec Ideal S1x2048x1408 .bf16) (p : Fin 512) (q : Fin 1408) :
    k0_pay5 x u z v (ix2 p q)
      = k0_pay1 x u (ix2 p q) * sg (k0_pay1 x u (ix2 p q)) * k0_pay2 z v (ix2 p q) := by
  unfold k0_pay5 sg
  pointwise
  rw [zero_sub]

theorem hdotA (c : Dev nD) (t : Fin cfg0.N) (p : Fin 512) (q : Fin 1408) :
    k0_pay1 (iblk m c 0 t) (iblk m c 1 t) (ix2 p q)
      = prod (arrX m c) (arrU m c) (512 * (t.val % 8) + p.val) (1408 * (t.val / 8) + q.val) := by
  refine (pay1 _ _ p q).trans ?_
  unfold prod
  rw [dot_first]
  refine Finset.sum_congr rfl fun k _ => (?_ : (_ : EReal) = _)
  rw [blk0, blk1]

theorem hdotB (c : Dev nD) (t : Fin cfg0.N) (p : Fin 512) (q : Fin 1408) :
    k0_pay2 (iblk m c 2 t) (iblk m c 3 t) (ix2 p q)
      = prod (arrX m c) (arrV m c) (512 * (t.val % 8) + p.val) (1408 * (t.val / 8) + q.val) := by
  refine (pay2 _ _ p q).trans ?_
  unfold prod
  rw [dot_first]
  refine Finset.sum_congr rfl fun k _ => (?_ : (_ : EReal) = _)
  rw [blk2, blk3]

/-! ### The result arrays -/

/-- A result, entry by entry. -/
def res4 (x : S4096x2048.Idx → EReal) (u : S4x2048x1408.Idx → EReal) : S4096x5632.Idx → EReal := fun i => prod x u (i 0).val (i 1).val

abbrev result4 (c : Dev nD) := res4 (arrX m c) (arrU m c)

theorem out_at4 (c : Dev nD) (t : Fin cfg0.N) (y : S512x1408.Idx) :
    out0_4 (iblk m c 0 t) (iblk m c 1 t) (iblk m c 2 t) (iblk m c 3 t) y = prod (arrX m c) (arrU m c) (512 * (t.val % 8) + (y 0).val) (1408 * (t.val / 8) + (y 1).val) := by
  obtain ⟨p, q, rfl⟩ : ∃ (p : Fin 512) (q : Fin 1408), y = ix2 p q := ⟨y 0, y 1, eq_ix2 y⟩
  unfold out0_4
  rw [View.canon_unit_zero hz]
  simp only [View.ld_unit_zero (S := S1x2048x1408) hz3, View.ld_unit_zero (S := S512x2048) hz]
  show _ = prod (arrX m c) (arrU m c) (512 * (t.val % 8) + p.val) (1408 * (t.val / 8) + q.val)
  rw [pay3, hdotA m c t]

theorem flushed4 (c : Dev nD) (t : Fin cfg0.N) (hf : (cfg0.win 4).flush t = true) :
    (dats m 0 c).flushed 4 t = ((cfg0.win 4).blk t).view.read (Elt Ideal) (result4 m c) := by
  show (cfg0.win 4).cut (grid0.coords t) ((dats m 0 c).after 4 t) = _
  rw [after0_4]
  funext y
  rw [View.read_apply]
  refine (out_at4 m c t y).trans ?_
  have er : 512 * (t.val % 8) + (y 0).val = win0_4.index t 0 * 512 + 1 * (y 0).val := by rw [(at4 t).1]; omega
  have ec : 1408 * (t.val / 8) + (y 1).val = win0_4.index t 1 * 1408 + 1 * (y 1).val := by rw [(at4 t).2]; omega
  rw [er, ec]
  rfl

/-- A result, entry by entry. -/
def res5 (x : S4096x2048.Idx → EReal) (v : S4x2048x1408.Idx → EReal) : S4096x5632.Idx → EReal := fun i => prod x v (i 0).val (i 1).val

abbrev result5 (c : Dev nD) := res5 (arrX m c) (arrV m c)

theorem out_at5 (c : Dev nD) (t : Fin cfg0.N) (y : S512x1408.Idx) :
    out0_5 (iblk m c 0 t) (iblk m c 1 t) (iblk m c 2 t) (iblk m c 3 t) y = prod (arrX m c) (arrV m c) (512 * (t.val % 8) + (y 0).val) (1408 * (t.val / 8) + (y 1).val) := by
  obtain ⟨p, q, rfl⟩ : ∃ (p : Fin 512) (q : Fin 1408), y = ix2 p q := ⟨y 0, y 1, eq_ix2 y⟩
  unfold out0_5
  rw [View.canon_unit_zero hz]
  simp only [View.ld_unit_zero (S := S1x2048x1408) hz3, View.ld_unit_zero (S := S512x2048) hz]
  show _ = prod (arrX m c) (arrV m c) (512 * (t.val % 8) + p.val) (1408 * (t.val / 8) + q.val)
  rw [pay4, hdotB m c t]

theorem flushed5 (c : Dev nD) (t : Fin cfg0.N) (hf : (cfg0.win 5).flush t = true) :
    (dats m 0 c).flushed 5 t = ((cfg0.win 5).blk t).view.read (Elt Ideal) (result5 m c) := by
  show (cfg0.win 5).cut (grid0.coords t) ((dats m 0 c).after 5 t) = _
  rw [after0_5]
  funext y
  rw [View.read_apply]
  refine (out_at5 m c t y).trans ?_
  have er : 512 * (t.val % 8) + (y 0).val = win0_5.index t 0 * 512 + 1 * (y 0).val := by rw [(at5 t).1]; omega
  have ec : 1408 * (t.val / 8) + (y 1).val = win0_5.index t 1 * 1408 + 1 * (y 1).val := by rw [(at5 t).2]; omega
  rw [er, ec]
  rfl

/-- A result, entry by entry. -/
def res6 (x : S4096x2048.Idx → EReal) (u : S4x2048x1408.Idx → EReal) (v : S4x2048x1408.Idx → EReal) : S4096x5632.Idx → EReal := fun i => mid x u v (i 0).val (i 1).val

abbrev result6 (c : Dev nD) := res6 (arrX m c) (arrU m c) (arrV m c)

theorem out_at6 (c : Dev nD) (t : Fin cfg0.N) (y : S512x1408.Idx) :
    out0_6 (iblk m c 0 t) (iblk m c 1 t) (iblk m c 2 t) (iblk m c 3 t) y = mid (arrX m c) (arrU m c) (arrV m c) (512 * (t.val % 8) + (y 0).val) (1408 * (t.val / 8) + (y 1).val) := by
  obtain ⟨p, q, rfl⟩ : ∃ (p : Fin 512) (q : Fin 1408), y = ix2 p q := ⟨y 0, y 1, eq_ix2 y⟩
  unfold out0_6
  rw [View.canon_unit_zero hz]
  simp only [View.ld_unit_zero (S := S1x2048x1408) hz3, View.ld_unit_zero (S := S512x2048) hz]
  show _ = mid (arrX m c) (arrU m c) (arrV m c) (512 * (t.val % 8) + p.val) (1408 * (t.val / 8) + q.val)
  rw [pay5, hdotA m c t, hdotB m c t]
  rfl

theorem flushed6 (c : Dev nD) (t : Fin cfg0.N) (hf : (cfg0.win 6).flush t = true) :
    (dats m 0 c).flushed 6 t = ((cfg0.win 6).blk t).view.read (Elt Ideal) (result6 m c) := by
  show (cfg0.win 6).cut (grid0.coords t) ((dats m 0 c).after 6 t) = _
  rw [after0_6]
  funext y
  rw [View.read_apply]
  refine (out_at6 m c t y).trans ?_
  have er : 512 * (t.val % 8) + (y 0).val = win0_6.index t 0 * 512 + 1 * (y 0).val := by rw [(at6 t).1]; omega
  have ec : 1408 * (t.val / 8) + (y 1).val = win0_6.index t 1 * 1408 + 1 * (y 1).val := by rw [(at6 t).2]; omega
  rw [er, ec]
  rfl

/-- The point that writes the block an index of a result lies in. -/
def ptOf (y : S4096x5632.Idx) : Fin cfg0.N :=
  ⟨8 * ((y 1).val / 1408) + (y 0).val / 512, by
    have h0 : (y 0).val < 4096 := (y 0).isLt
    have h1 : (y 1).val < 5632 := (y 1).isLt
    rw [show cfg0.N = 32 from N_0]; omega⟩

theorem final4 (c : Dev nD) : (dats m 0 c).arrAt 4 cfg0.N = result4 m c :=
  (dats m 0 c).arrAt_eq_of_cover 4 (result4 m c) (flushed4 m c) fun (y : S4096x5632.Idx) =>
    ⟨ptOf y, flush0_4 (ptOf y), by
      show y ∈ ((View.whole main_v0_0).slice (win0_4.rect (ptOf y))).set
      rw [View.set_slice_whole, Rect.mem_set_unit]
      have h0 : (y 0).val < 4096 := (y 0).isLt
      have h1 : (y 1).val < 5632 := (y 1).isLt
      obtain ⟨e0, e1⟩ := at4 (ptOf y)
      have hv : (ptOf y).val = 8 * ((y 1).val / 1408) + (y 0).val / 512 := rfl
      rw [hv] at e0 e1
      intro a
      match a with
      | ⟨0, _⟩ => show win0_4.index (ptOf y) 0 * 512 ≤ (y 0).val ∧ (y 0).val < win0_4.index (ptOf y) 0 * 512 + 512
                  rw [e0]; omega
      | ⟨1, _⟩ => show win0_4.index (ptOf y) 1 * 1408 ≤ (y 1).val ∧ (y 1).val < win0_4.index (ptOf y) 1 * 1408 + 1408
                  rw [e1]; omega⟩

theorem final5 (c : Dev nD) : (dats m 0 c).arrAt 5 cfg0.N = result5 m c :=
  (dats m 0 c).arrAt_eq_of_cover 5 (result5 m c) (flushed5 m c) fun (y : S4096x5632.Idx) =>
    ⟨ptOf y, flush0_5 (ptOf y), by
      show y ∈ ((View.whole main_v0_1).slice (win0_5.rect (ptOf y))).set
      rw [View.set_slice_whole, Rect.mem_set_unit]
      have h0 : (y 0).val < 4096 := (y 0).isLt
      have h1 : (y 1).val < 5632 := (y 1).isLt
      obtain ⟨e0, e1⟩ := at5 (ptOf y)
      have hv : (ptOf y).val = 8 * ((y 1).val / 1408) + (y 0).val / 512 := rfl
      rw [hv] at e0 e1
      intro a
      match a with
      | ⟨0, _⟩ => show win0_5.index (ptOf y) 0 * 512 ≤ (y 0).val ∧ (y 0).val < win0_5.index (ptOf y) 0 * 512 + 512
                  rw [e0]; omega
      | ⟨1, _⟩ => show win0_5.index (ptOf y) 1 * 1408 ≤ (y 1).val ∧ (y 1).val < win0_5.index (ptOf y) 1 * 1408 + 1408
                  rw [e1]; omega⟩

theorem final6 (c : Dev nD) : (dats m 0 c).arrAt 6 cfg0.N = result6 m c :=
  (dats m 0 c).arrAt_eq_of_cover 6 (result6 m c) (flushed6 m c) fun (y : S4096x5632.Idx) =>
    ⟨ptOf y, flush0_6 (ptOf y), by
      show y ∈ ((View.whole main_v0_2).slice (win0_6.rect (ptOf y))).set
      rw [View.set_slice_whole, Rect.mem_set_unit]
      have h0 : (y 0).val < 4096 := (y 0).isLt
      have h1 : (y 1).val < 5632 := (y 1).isLt
      obtain ⟨e0, e1⟩ := at6 (ptOf y)
      have hv : (ptOf y).val = 8 * ((y 1).val / 1408) + (y 0).val / 512 := rfl
      rw [hv] at e0 e1
      intro a
      match a with
      | ⟨0, _⟩ => show win0_6.index (ptOf y) 0 * 512 ≤ (y 0).val ∧ (y 0).val < win0_6.index (ptOf y) 0 * 512 + 512
                  rw [e0]; omega
      | ⟨1, _⟩ => show win0_6.index (ptOf y) 1 * 1408 ≤ (y 1).val ∧ (y 1).val < win0_6.index (ptOf y) 1 * 1408 + 1408
                  rw [e1]; omega⟩

/-- The run: the results, the arguments unchanged. -/
theorem run : θ_run defs (onTc (τ := τ) (main (F := Ideal))) ⟨m, fun _ => 0, ρ⟩ fun r => ∀ c : Dev nD,
      r.2.mem ((c : Thread nD τ).loc main_v0_0) = result4 m c
      ∧ r.2.mem ((c : Thread nD τ).loc main_v0_1) = result5 m c
      ∧ r.2.mem ((c : Thread nD τ).loc main_v0_2) = result6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 4).trans (final4 m c), ((h.1 c).1 5).trans (final5 m c), ((h.1 c).1 6).trans (final6 m c), (h.2 c)⟩)
    (θ_run_and (run_main m ρ) (unchanged m ρ))

end Cert.Kernel11Ideal.Value
-- ==== Proof.FfnUpRef.lean ====
/-
  The reference of the gate and up projections and their gated product: its run, its results entry by entry, and that the
  kernel's are the same.
-/
module

public import proofs.«01_k».proof.Defs
public import proofs.«01_k».proof.Proof.Gen.Reference11Ideal
public import proofs.«01_k».proof.Proof.FfnUp
public import proofs.«01_k».proof.Proof.Gate
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference11Ideal.Value

open Cert.Reference11Ideal Cert.Reference11Ideal.Gen Cert.Dots Cert.Gate Idealize.ShloMosaic.StableHlo

/-- Matrices of the hidden width, and the arithmetic on them, entry by entry. -/
abbrev Mat := FVec Ideal S4096x5632 .f32
abbrev plus (l r : Mat) : Mat := addf l r
abbrev minus (l r : Mat) : Mat := subf l r
abbrev times (l r : Mat) : Mat := mulf l r
abbrev over (l r : Mat) : Mat := Host.divf l r
abbrev neg (l : Mat) : Mat := Host.negf l
abbrev ex (l : Mat) : Mat := Host.exp l
/-- The number one, and the matrix of ones. -/
abbrev one : FVec Ideal S_ .f32 := constant (F := Ideal) S_ .f32 0x3F800000#32
abbrev spread (l : FVec Ideal S_ .f32) : Mat := broadcastInDim S4096x5632 ![] bcast_S_S4096x5632 l
/-- The logistic function, as the host computes it. -/
def logistic (a : Mat) : Mat := over (spread one) (plus (spread one) (ex (neg a)))

theorem logistic_apply (a : Mat) (p : Fin 4096) (q : Fin 5632) : (logistic a (ix2 p q) : EReal) = sg (a (ix2 p q)) := by
  unfold logistic sg
  pointwise

/-- The product of two matrices. -/
abbrev product (l : Vec Ideal S4096x2048 .f32) (r : Vec Ideal S2048x5632 .f32) : Mat :=
  Host.dotGeneral (F := Ideal) (φ₁ := .f32) (φ₂ := .f32) dot_S4096x2048_S2048x5632_S4096x5632_1_0_0_1_n_n none l r

/-- The input times a weight, as the reference computes it. -/
def lin (x : Vec Ideal S4096x2048 .bf16) (w : Vec Ideal S4x2048x1408 .bf16) : Mat :=
  product (extf (F := Ideal) .f32 x bitsLt_bf16_f32) (extf (F := Ideal) .f32 (shapeCast S2048x5632 (transpose S2048x4x1408 [1, 0, 2] w transposes_S4x2048x1408_S2048x4x1408_1_0_2) shapeCasts_S2048x4x1408_S2048x5632) bitsLt_bf16_f32)
/-- The results as the reference computes them. -/
def valueP (x : Vec Ideal S4096x2048 .bf16) (w : Vec Ideal S4x2048x1408 .bf16) : Vec Ideal S4096x5632 .bf16 :=
  truncf (F := Ideal) .bf16 (lin x w) bitsLt_bf16_f32
def valueM (x : Vec Ideal S4096x2048 .bf16) (u v : Vec Ideal S4x2048x1408 .bf16) : Vec Ideal S4096x5632 .bf16 :=
  truncf (F := Ideal) .bf16 (times (times (lin x u) (logistic (lin x u))) (lin x v)) bitsLt_bf16_f32

/-- The reference's operations, in order. -/
abbrev ops : List (HloOp τ sig (Elt Ideal)) :=
  [ unary main_arg0 main_v0 (extf (F := Ideal) .f32 · bitsLt_bf16_f32),
    unary main_arg1 main_v1 (transpose S2048x4x1408 [1, 0, 2] · transposes_S4x2048x1408_S2048x4x1408_1_0_2),
    reshape main_v1 main_v2 rfl shapeCasts_S2048x4x1408_S2048x5632,
    unary main_v2 main_v3 (extf (F := Ideal) .f32 · bitsLt_bf16_f32),
    binary main_v0 main_v3 main_v4 product,
    unary main_arg2 main_v5 (transpose S2048x4x1408 [1, 0, 2] · transposes_S4x2048x1408_S2048x4x1408_1_0_2),
    reshape main_v5 main_v6 rfl shapeCasts_S2048x4x1408_S2048x5632,
    unary main_v6 main_v7 (extf (F := Ideal) .f32 · bitsLt_bf16_f32),
    binary main_v0 main_v7 main_v8 product,
    unary main_v4 main_v9 (truncf (F := Ideal) .bf16 · bitsLt_bf16_f32),
    unary main_v8 main_v10 (truncf (F := Ideal) .bf16 · bitsLt_bf16_f32),
    unary main_v4 main_call0_v0 neg,
    unary main_call0_v0 main_call0_v1 ex,
    nullary main_call0_cst one,
    unary main_call0_cst main_call0_v2 spread,
    binary main_call0_v2 main_call0_v1 main_call0_v3 plus,
    nullary main_call0_cst_0 one,
    unary main_call0_cst_0 main_call0_v4 spread,
    binary main_call0_v4 main_call0_v3 main_call0_v5 over,
    binary main_v4 main_call0_v5 main_v11 times,
    binary main_v11 main_v8 main_v12 times,
    unary main_v12 main_v13 (truncf (F := Ideal) .bf16 · bitsLt_bf16_f32) ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨unary_bufs_sub .., unary_bufs_sub .., reshape_bufs_sub .., unary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub ..⟩

theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD) : Thread nD τ).loc main_v9) = valueP (m (((0 : Dev nD) : Thread nD τ).loc main_arg0)) (m (((0 : Dev nD) : Thread nD τ).loc main_arg1))
        ∧ r.2.mem (((0 : Dev nD) : Thread nD τ).loc main_v10) = valueP (m (((0 : Dev nD) : Thread nD τ).loc main_arg0)) (m (((0 : Dev nD) : Thread nD τ).loc main_arg2))
        ∧ r.2.mem (((0 : Dev nD) : Thread nD τ).loc main_v13) = valueM (m (((0 : Dev nD) : Thread nD τ).loc main_arg0)) (m (((0 : Dev nD) : Thread nD τ).loc main_arg1)) (m (((0 : Dev nD) : Thread nD τ).loc main_arg2)))
      ∧ (r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)
        ∧ r.2.mem (((0 : Dev nD) : Thread nD τ).loc main_arg2) = m (((0 : Dev nD) : Thread nD τ).loc main_arg2)) :=
  (θ_run defs _ _).mono (fun _ h => ⟨⟨(h 0 main_v9).trans (by after_results; rfl),
        (h 0 main_v10).trans (by after_results; rfl),
        (h 0 main_v13).trans (by after_results; rfl)⟩,
      ⟨(h 0 main_arg0).trans (by after_results), (h 0 main_arg1).trans (by after_results), (h 0 main_arg2).trans (by after_results)⟩⟩)
    (run_seq scopedRefs_eq scopedSems_eq defs main (fun _ => ops) main_eq (fun _ => ops_sub) m ρ)

theorem frame : Cert.quiescent_Reference11Ideal := fun m ρ _ =>
  (θ_run defs _ _).mono (fun r h => ⟨fun c => (by obtain rfl : c = 0 := Subsingleton.elim _ _; exact h.2),
      sem_eq_zero_of_no_sems (by decide) r.2⟩)
    (run m ρ)

theorem lin_apply (x : S4096x2048.Idx → EReal) (w : S4x2048x1408.Idx → EReal) (p : Fin 4096) (q : Fin 5632) :
    (lin x w (ix2 p q) : EReal) = Cert.Kernel11Ideal.Value.prod x w p.val q.val := by
  unfold lin Cert.Kernel11Ideal.Value.prod
  pointwise [product]
  rw [dot_first]
  refine Finset.sum_congr rfl fun k _ => (?_ : (_ : EReal) = _)
  rw [ext2_in x p.isLt k.isLt, cols_in w (by omega) k.isLt (by omega)]

theorem valueP_eq (x : S4096x2048.Idx → EReal) (w : S4x2048x1408.Idx → EReal) :
    (valueP x w : S4096x5632.Idx → EReal) = Cert.Kernel11Ideal.Value.res4 x w := by
  funext i
  obtain ⟨p, q, rfl⟩ : ∃ (p : Fin 4096) (q : Fin 5632), i = ix2 p q := ⟨i 0, i 1, eq_ix2 i⟩
  exact lin_apply x w p q

theorem valueM_eq (x : S4096x2048.Idx → EReal) (u v : S4x2048x1408.Idx → EReal) :
    (valueM x u v : S4096x5632.Idx → EReal) = Cert.Kernel11Ideal.Value.res6 x u v := by
  funext i
  obtain ⟨p, q, rfl⟩ : ∃ (p : Fin 4096) (q : Fin 5632), i = ix2 p q := ⟨i 0, i 1, eq_ix2 i⟩
  show _ = Cert.Kernel11Ideal.Value.prod x u p.val q.val * sg (Cert.Kernel11Ideal.Value.prod x u p.val q.val) * Cert.Kernel11Ideal.Value.prod x v p.val q.val
  rw [← lin_apply, ← lin_apply, ← logistic_apply]
  unfold valueM
  pointwise

/-- Both compute the same arrays. -/
theorem algebraic : Cert.algebraic_Kernel11Ideal_Reference11Ideal := by
  intro m ρ m' ρ' _ hagree
  refine ⟨fun c => Cert.Kernel11Ideal.Value.result4 m c, fun c => Cert.Kernel11Ideal.Value.result5 m c, fun c => Cert.Kernel11Ideal.Value.result6 m c, Cert.Kernel11Ideal.Value.run m ρ, ?_⟩
  refine (θ_run defs _ _).mono (fun _ h c => ?_) (run m' ρ')
  obtain rfl : c = 0 := Subsingleton.elim _ _
  refine ⟨h.1.1.trans ?_, h.1.2.1.trans ?_, h.1.2.2.trans ?_, h.2⟩
  · rw [(hagree 0).1, (hagree 0).2.1]
    exact valueP_eq _ _
  · rw [(hagree 0).1, (hagree 0).2.2]
    exact valueP_eq _ _
  · rw [(hagree 0).1, (hagree 0).2.1, (hagree 0).2.2]
    exact valueM_eq _ _ _

end Cert.Reference11Ideal.Value
-- ==== Proof.ProjMain.lean ====
/-
  The input projection: the block each point writes, and the result array.
-/
module

public import proofs.«01_k».proof.Defs
public import proofs.«01_k».proof.Proof.Gen.Kernel12Ideal.Frame
public import proofs.«01_k».proof.Proof.Dots
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel12Ideal.Value

open Cert.Kernel12Ideal Cert.Kernel12Ideal.Gen Cert.Dots

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ### One point's store -/

theorem out_eq (c : Dev nD) (t : Fin cfg0.N) : outsAt0 m c t = k0_pay1 (iblk m c 0 t) (X0_1 m c t) := by
  unfold outsAt0 out0_A_2
  rw [View.read_writes_eq_canon _ _ _ (fun _ => cover0_A_2 ..)]
  unfold kernelRun0_A
  dsimp only
  rw [View.canon_unit_zero hz]
  simp only [View.readAt_eq_ld, (hs0_0 t).read_unread, (hs0_1 t).read_unread, View.ld_unit_zero (S := S512x2048) hz, View.ld_unit_zero (S := S1024x2048) hz]

/-! ### The blocks -/

/-- The input and the weight. -/
abbrev arrH (c : Dev nD) : S4096x2048.Idx → EReal := m ((c : Thread nD τ).loc main_arg0)
abbrev arrW (c : Dev nD) : S5136x2048.Idx → EReal := m ((c : Thread nD τ).loc main_arg1)

theorem at0 : ∀ t : Fin cfg0.N, win0_0.index t 0 = t.val % 8 ∧ win0_0.index t 1 = 0 := by decide +kernel
theorem at1 : ∀ t : Fin cfg0.N, win0_1.index t 0 = t.val / 8 ∧ win0_1.index t 1 = 0 := by decide +kernel
theorem at2 : ∀ t : Fin cfg0.N, win0_2.index t 0 = t.val % 8 ∧ win0_2.index t 1 = t.val / 8 := by decide +kernel

theorem blk0 (c : Dev nD) (t : Fin cfg0.N) (p : Fin 512) (k : Fin 2048) :
    (iblk m c 0 t : S512x2048.Idx → EReal) (ix2 p k) = ext2 (arrH m c) (512 * (t.val % 8) + p.val) k.val := by
  unfold iblk
  rw [View.read_apply]
  refine ext2_of (arrH m c) _ ?_ ?_
  · show win0_0.index t 0 * 512 + 1 * p.val = _
    rw [(at0 t).1]; omega
  · show win0_0.index t 1 * 2048 + 1 * k.val = _
    rw [(at0 t).2]; omega

/-- The weight's block at a point, which is inside the weight whole: what the point reads of it. -/
theorem X_at (c : Dev nD) (t : Fin cfg0.N) (k : Fin 1024) (q : Fin 2048) :
    (X0_1 m c t : S1024x2048.Idx → EReal) (ix2 k q) = ext2 (arrW m c) (1024 * (t.val / 8) + k.val) q.val := by
  unfold X0_1 Pipeline.Window.fill
  rw [dif_pos (moved0_1 t (ix2 k q))]
  unfold iblk
  rw [View.read_apply]
  refine ext2_of (arrW m c) _ ?_ ?_
  · show win0_1.index t 0 * 1024 + 1 * k.val = _
    rw [(at1 t).1]; omega
  · show win0_1.index t 1 * 2048 + 1 * q.val = _
    rw [(at1 t).2]; omega

theorem pay1 (x : Vec Ideal S512x2048 .bf16) (y : Vec Ideal S1024x2048 .bf16) (p : Fin 512) (q : Fin 1024) :
    k0_pay1 x y (ix2 p q) = ∑ k : Fin 2048, x (ix2 p k) * y (ix2 q k) := by
  unfold k0_pay1
  pointwise

/-! ### The result array -/

/-- An entry of the product of the input with the weight transposed. -/
def prod (x : S4096x2048.Idx → EReal) (w : S5136x2048.Idx → EReal) (p q : ℕ) : EReal :=
  dot (fun i => ext2 x p i) (fun i => ext2 w q i) 2048

/-- The result, entry by entry. -/
def res (x : S4096x2048.Idx → EReal) (w : S5136x2048.Idx → EReal) : S4096x5120.Idx → EReal :=
  fun j => prod x w (j 0).val (j 1).val

abbrev result (c : Dev nD) := res (arrH m c) (arrW m c)

theorem out_at (c : Dev nD) (t : Fin cfg0.N) (p : Fin 512) (q : Fin 1024) :
    (outsAt0 m c t : S512x1024.Idx → EReal) (ix2 p q) = prod (arrH m c) (arrW m c) (512 * (t.val % 8) + p.val) (1024 * (t.val / 8) + q.val) := by
  rw [out_eq]
  refine (pay1 _ _ p q).trans ?_
  unfold prod
  rw [dot_first]
  refine Finset.sum_congr rfl fun k _ => (?_ : (_ : EReal) = _)
  rw [blk0, X_at]

theorem flushed (c : Dev nD) (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  funext y
  rw [View.read_apply]
  have e (z : S512x1024.Idx) : ix2 (z 0) (z 1) = z := (eq_ix2 z).symm
  have er : 512 * (t.val % 8) + (y 0).val = win0_2.index t 0 * 512 + 1 * (y 0).val := by rw [(at2 t).1]; omega
  have ec : 1024 * (t.val / 8) + (y 1).val = win0_2.index t 1 * 1024 + 1 * (y 1).val := by rw [(at2 t).2]; omega
  have ea := out_at m c t (y 0) (y 1)
  rw [er, ec] at ea
  refine (congrArg (outsAt0 m c t) (e y)).symm.trans (ea.trans ?_)
  rfl

/-- The point that writes the block an index of the result lies in. -/
def ptOf (y : S4096x5120.Idx) : Fin cfg0.N :=
  ⟨8 * ((y 1).val / 1024) + (y 0).val / 512, by
    have h0 : (y 0).val < 4096 := (y 0).isLt
    have h1 : (y 1).val < 5120 := (y 1).isLt
    rw [show cfg0.N = 40 from N_0]; omega⟩

theorem final (c : Dev nD) : (dats m 0 c).arrAt 2 cfg0.N = result m c :=
  (dats m 0 c).arrAt_eq_of_cover 2 (result m c) (flushed m c) fun (y : S4096x5120.Idx) =>
    ⟨ptOf y, flush0_2 (ptOf y), by
      show y ∈ ((View.whole main_v0).slice (win0_2.rect (ptOf y))).set
      rw [View.set_slice_whole, Rect.mem_set_unit]
      have h0 : (y 0).val < 4096 := (y 0).isLt
      have h1 : (y 1).val < 5120 := (y 1).isLt
      obtain ⟨e0, e1⟩ := at2 (ptOf y)
      have hv : (ptOf y).val = 8 * ((y 1).val / 1024) + (y 0).val / 512 := rfl
      rw [hv] at e0 e1
      intro a
      match a with
      | ⟨0, _⟩ => show win0_2.index (ptOf y) 0 * 512 ≤ (y 0).val ∧ (y 0).val < win0_2.index (ptOf y) 0 * 512 + 512
                  rw [e0]; omega
      | ⟨1, _⟩ => show win0_2.index (ptOf y) 1 * 1024 ≤ (y 1).val ∧ (y 1).val < win0_2.index (ptOf y) 1 * 1024 + 1024
                  rw [e1]; omega⟩

/-- The run: the result, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final m c), (h.2 c)⟩)
    (θ_run_and (run_main m ρ) (unchanged m ρ))

end Cert.Kernel12Ideal.Value
-- ==== Proof.ProjMainRef.lean ====
/-
  The reference of the input projection: its run, its result entry by entry, and that the kernel's is the same.
-/
module

public import proofs.«01_k».proof.Defs
public import proofs.«01_k».proof.Proof.Gen.Reference12Ideal
public import proofs.«01_k».proof.Proof.ProjMain
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference12Ideal.Value

open Cert.Reference12Ideal Cert.Reference12Ideal.Gen Cert.Dots Idealize.ShloMosaic.StableHlo

/-- The product of two matrices. -/
abbrev product (l : Vec Ideal S4096x2048 .f32) (r : Vec Ideal S2048x5120 .f32) : Vec Ideal S4096x5120 .f32 :=
  Host.dotGeneral (F := Ideal) (φ₁ := .f32) (φ₂ := .f32) dot_S4096x2048_S2048x5120_S4096x5120_1_0_0_1_n_n none l r

/-- The reference's operations, in order. -/
abbrev ops : List (HloOp τ sig (Elt Ideal)) :=
  [ unary main_arg0 main_v0 (extf (F := Ideal) .f32 · bitsLt_bf16_f32),
    unary main_arg1 main_v1 (extractStridedSlice S5120x2048 ![0, 0] · slices_S5136x2048_S5120x2048_0_0),
    unary main_v1 main_v2 (extf (F := Ideal) .f32 · bitsLt_bf16_f32),
    unary main_v2 main_v3 (transpose S2048x5120 [1, 0] · transposes_S5120x2048_S2048x5120_1_0),
    binary main_v0 main_v3 main_v4 product,
    unary main_v4 main_v5 (truncf (F := Ideal) .bf16 · bitsLt_bf16_f32) ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨unary_bufs_sub .., unary_bufs_sub .., unary_bufs_sub .., unary_bufs_sub .., binary_bufs_sub .., unary_bufs_sub ..⟩

/-- The result as the reference computes it. -/
def value (x : Vec Ideal S4096x2048 .bf16) (w : Vec Ideal S5136x2048 .bf16) : Vec Ideal S4096x5120 .bf16 :=
  truncf (F := Ideal) .bf16 (product (extf (F := Ideal) .f32 x bitsLt_bf16_f32)
    (transpose S2048x5120 [1, 0] (extf (F := Ideal) .f32 (extractStridedSlice S5120x2048 ![0, 0] w slices_S5136x2048_S5120x2048_0_0) bitsLt_bf16_f32) transposes_S5120x2048_S2048x5120_1_0)) bitsLt_bf16_f32

theorem run (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD) : Thread nD τ).loc main_v5) = value (m (((0 : Dev nD) : Thread nD τ).loc main_arg0)) (m (((0 : Dev nD) : Thread nD τ).loc main_arg1))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1) :=
  (θ_run defs _ _).mono (fun _ h => ⟨(h 0 main_v5).trans (by after_results; rfl),
      (h 0 main_arg0).trans (by after_results), (h 0 main_arg1).trans (by after_results)⟩)
    (run_seq scopedRefs_eq scopedSems_eq defs main (fun _ => ops) main_eq (fun _ => ops_sub) m ρ)

theorem frame : Cert.quiescent_Reference12Ideal := fun m ρ _ =>
  (θ_run defs _ _).mono (fun r h => ⟨fun c => (by obtain rfl : c = 0 := Subsingleton.elim _ _; exact h.2),
      sem_eq_zero_of_no_sems (by decide) r.2⟩)
    (run m ρ)

/-- An entry: the sum of the products along a row of the input and a row of the weight. -/
theorem value_eq (x : S4096x2048.Idx → EReal) (w : S5136x2048.Idx → EReal) :
    (value x w : S4096x5120.Idx → EReal) = Cert.Kernel12Ideal.Value.res x w := by
  funext i
  obtain ⟨p, q, rfl⟩ : ∃ (p : Fin 4096) (q : Fin 5120), i = ix2 p q := ⟨i 0, i 1, eq_ix2 i⟩
  show _ = dot (fun i => ext2 x p.val i) (fun i => ext2 w q.val i) 2048
  unfold value
  pointwise [product]
  rw [dot_first]
  refine Finset.sum_congr rfl fun k _ => (?_ : (_ : EReal) = _)
  rw [ext2_in x p.isLt k.isLt, ext2_in w (by omega) k.isLt]
  first
  | done
  | (congr 2
     apply congrArg₂ ix2 <;> apply Fin.ext <;> dsimp only <;> omega)

/-- Both compute the same array. -/
theorem algebraic : Cert.algebraic_Kernel12Ideal_Reference12Ideal := by
  intro m ρ m' ρ' _ hagree
  refine ⟨fun c => Cert.Kernel12Ideal.Value.result m c, Cert.Kernel12Ideal.Value.run m ρ, ?_⟩
  refine (θ_run defs _ _).mono (fun _ h c => ?_) (run m' ρ')
  obtain rfl : c = 0 := Subsingleton.elim _ _
  refine ⟨h.1.trans ?_, h.2⟩
  rw [(hagree 0).1, (hagree 0).2]
  exact value_eq _ _

end Cert.Reference12Ideal.Value
-- ==== Proof.RmsBwd.lean ====
/-
  The gradient of a root-mean-square norm: the blocks each point writes, the gain's gradient after each point, and the
  result arrays.
-/
module

public import proofs.«01_k».proof.Defs
public import proofs.«01_k».proof.Proof.Gen.Kernel13Ideal.Frame
public import proofs.«01_k».proof.Proof.Dots
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel13Ideal.Value

open Cert.Kernel13Ideal Cert.Kernel13Ideal.Gen Cert.Dots

variable (m : (ℓ : Loc nD τ sig) → Buf (Elt Ideal) ℓ) (ρ : Dev nD → PrngReg)

set_option maxRecDepth 8000

theorem hz : (![0, 0] : Fin 2 → Nat) = fun _ => 0 := funext fun a => by fin_cases a <;> rfl

/-! ### The arrays, and what is computed of them -/

/-- The gradient that arrives. -/
abbrev arrH (c : Dev nD) : S4096x2048.Idx → EReal := m ((c : Thread nD τ).loc main_arg0)
/-- The norm's input. -/
abbrev arrX (c : Dev nD) : S4096x2048.Idx → EReal := m ((c : Thread nD τ).loc main_arg1)
/-- The gain. -/
abbrev arrG (c : Dev nD) : S2048.Idx → EReal := m ((c : Thread nD τ).loc main_arg2)
/-- The residual's gradient. -/
abbrev arrD (c : Dev nD) : S4096x2048.Idx → EReal := m ((c : Thread nD τ).loc main_arg3)

/-- A row's mean. -/
def mean (s : EReal) : EReal := Ideal.div s ((2048 : ℝ) : EReal)

/-- The small number under the root. -/
def eps : EReal := Ideal.ofBits .f32 0x358637BD#32

/-- The inverse root of a row's mean square. -/
def inv (x : S4096x2048.Idx → EReal) (i : ℕ) : EReal :=
  Ideal.rsqrt (mean (dot (fun k => ext2 x i k) (fun k => ext2 x i k) 2048) + eps)

/-- The gain at a column. -/
def gain (g : S2048.Idx → EReal) (j : ℕ) : EReal := if h : j < 2048 then g (ix1 ⟨j, h⟩) else 0

theorem gain_in (g : S2048.Idx → EReal) {j : ℕ} (h : j < 2048) : gain g j = g (ix1 ⟨j, h⟩) := dif_pos h

/-- The normalised input. -/
def xh (x : S4096x2048.Idx → EReal) (i j : ℕ) : EReal := ext2 x i j * inv x i

/-- The gradient of the norm's input, added to the residual's. -/
def dx (h x : S4096x2048.Idx → EReal) (g : S2048.Idx → EReal) (d : S4096x2048.Idx → EReal) (i j : ℕ) : EReal :=
  ext2 d i j + inv x i * (ext2 h i j * gain g j - xh x i j * mean (dot (fun k => ext2 h i k * gain g k) (fun k => xh x i k) 2048))

/-- The gain's gradient, of the first `n` rows. -/
def dg (h x : S4096x2048.Idx → EReal) (n j : ℕ) : EReal := dot (fun i => ext2 h i j) (fun i => xh x i j) n

/-! ### What the host computes before the call -/

theorem number : Ideal.ofBits .f32 0x45000000#32 = ((2048 : ℝ) : EReal) := by
  simp [Ideal.ofBits, Ideal.ieee]
  rw [← EReal.coe_mul]
  norm_num

theorem number' : (Ideal.ofBits .f32 1157627904#32 : EReal) = ((2048 : ℝ) : EReal) := number

theorem V_inv (c : Dev nD) (p : Fin 4096) (z : Fin 1) : (V m c main_v7 : S4096x1.Idx → EReal) (ix2 p z) = inv (arrX m c) p.val := by
  refine Eq.trans (b := (Host.rsqrt (F := Ideal) (addf (Host.divf (broadcastInDim S4096x1 ![0] bcast_S4096_S4096x1_0
      (Host.reduceAdd (F := Ideal) (mulf (m ((c : Thread nD τ).loc main_arg1)) (m ((c : Thread nD τ).loc main_arg1))) (constant (F := Ideal) S_ .f32 0x00000000#32) reducesTo_S4096x2048_S4096_d1 h_S_))
      (broadcastInDim S4096x1 ![] bcast_S_S4096x1 (constant (F := Ideal) S_ .f32 0x45000000#32)))
      (broadcastInDim S4096x1 ![] bcast_S_S4096x1 (constant (F := Ideal) S_ .f32 0x358637BD#32))) : S4096x1.Idx → EReal) (ix2 p z)) ?_ ?_
  · refine congrFun ?_ _
    unfold V hostOps0
    after_results
  · unfold inv mean eps
    pointwise
    rw [number', dot_first]
    refine congrArg (fun s => Ideal.rsqrt (Ideal.div s _ + _)) (Finset.sum_congr rfl fun k _ => (?_ : (_ : EReal) = _))
    rw [ext2_in _ p.isLt k.isLt]

theorem V_gain (c : Dev nD) (z : Fin 1) (q : Fin 2048) : (V m c main_v8 : S1x2048.Idx → EReal) (ix2 z q) = gain (arrG m c) q.val := by
  refine Eq.trans (b := shapeCast S1x2048 (m ((c : Thread nD τ).loc main_arg2) : Vec Ideal S2048 .f32) shapeCasts_S2048_S1x2048 (ix2 z q)) ?_ ?_
  · refine congrFun ?_ _
    unfold V hostOps0
    after_results
    rfl
  · rw [gain_in _ q.isLt]
    refine shapeCast_apply (s := S2048) (t := S1x2048) _ _ _ _ ?_
    rw [Shape.rowMajor_val_one, Shape.rowMajor_val_two]
    have hz0 : z.val = 0 := by omega
    show q.val = z.val * 2048 + q.val
    omega

theorem pay2 (x : Vec Ideal S256x2048 .f32) (r : Vec Ideal S256x1 .f32) (p : Fin 256) (q : Fin 2048) :
    k0_pay2 x r (ix2 p q) = x (ix2 p q) * r (ix2 p 0) := by
  unfold k0_pay2
  pointwise

theorem pay3 (x : Vec Ideal S256x2048 .f32) (r : Vec Ideal S256x1 .f32) (h : Vec Ideal S256x2048 .f32) (g : Vec Ideal S1x2048 .f32) (d : Vec Ideal S256x2048 .f32) (p : Fin 256) (q : Fin 2048) :
    k0_pay3 x r h g d r (ix2 p q) = d (ix2 p q) + r (ix2 p 0) * (h (ix2 p q) * g (ix2 0 q)
      - x (ix2 p q) * r (ix2 p 0) * mean (∑ k : Fin 2048, h (ix2 p k) * g (ix2 0 k) * (x (ix2 p k) * r (ix2 p 0)))) := by
  unfold k0_pay3 mean
  rw [← number']
  pointwise [pay2]

theorem pay4 (x : Vec Ideal S256x2048 .f32) (r : Vec Ideal S256x1 .f32) (h : Vec Ideal S256x2048 .f32) (g : Vec Ideal S1x2048 .f32) (d : Vec Ideal S256x2048 .f32) (p : Fin 256) (q : Fin 2048) :
    k0_pay4 x r h g d r (ix2 p q) = k0_pay3 x r h g d r (ix2 p q) := by
  unfold k0_pay4
  pointwise

theorem pay5 (x : Vec Ideal S256x2048 .f32) (r : Vec Ideal S256x1 .f32) (h : Vec Ideal S256x2048 .f32) (z : Fin 1) (q : Fin 2048) :
    k0_pay5 x r h (ix2 z q) = ∑ k : Fin 256, h (ix2 k q) * (x (ix2 k q) * r (ix2 k 0)) := by
  unfold k0_pay5
  pointwise [pay2]

theorem pay1 (a b : Vec Ideal S1x2048 .f32) (z : Fin 1) (q : Fin 2048) : k0_pay1 a b (ix2 z q) = b (ix2 z q) + a (ix2 z q) := by
  unfold k0_pay1
  pointwise

/-! ### One point's stores -/

/-- The first point: the block of the gradient. -/
theorem dxA (c : Dev nD) (t : Fin cfg0.N) (h : t.val = 0) :
    (outsAt0 m c t.val t.isLt).1 = k0_pay3 (iblk m c 1 t) (iblk m c 2 t) (iblk m c 0 t) (iblk m c 3 t) (iblk m c 4 t) (iblk m c 2 t) := by
  have hN : t.val < 16 := lt_of_lt_of_eq t.isLt N_0
  rw [outsAt0_A m c t (by omega) (by omega)]
  dsimp only
  unfold out0_A_5
  rw [View.read_writes_eq_canon _ _ _ (fun _ => cover0_A_5 ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_7 t).read_unread, (Memref.isWhole_whole _).read_unread, View.ld_unit_zero (S := S256x2048) hz, View.ld_unit_zero (S := S256x1) hz, View.ld_unit_zero (S := S1x2048) hz]

/-- A later point: the block of the gradient. -/
theorem dxB (c : Dev nD) (t : Fin cfg0.N) (h : ¬t.val = 0) :
    (outsAt0 m c t.val t.isLt).1 = k0_pay3 (iblk m c 1 t) (iblk m c 2 t) (iblk m c 0 t) (iblk m c 3 t) (iblk m c 4 t) (iblk m c 2 t) := by
  have hN : t.val < 16 := lt_of_lt_of_eq t.isLt N_0
  rw [outsAt0_B m c t (by omega) (by omega)]
  dsimp only
  unfold out0_B_5
  rw [View.read_writes_eq_canon _ _ _ (fun _ => cover0_B_5 ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_7 t).read_unread, (Memref.isWhole_whole _).read_unread, View.ld_unit_zero (S := S256x2048) hz, View.ld_unit_zero (S := S256x1) hz, View.ld_unit_zero (S := S1x2048) hz]

/-- The first point: the block of the gradient, in the narrow format. -/
theorem dbA (c : Dev nD) (t : Fin cfg0.N) (h : t.val = 0) :
    (outsAt0 m c t.val t.isLt).2.1 = k0_pay4 (iblk m c 1 t) (iblk m c 2 t) (iblk m c 0 t) (iblk m c 3 t) (iblk m c 4 t) (iblk m c 2 t) := by
  have hN : t.val < 16 := lt_of_lt_of_eq t.isLt N_0
  rw [outsAt0_A m c t (by omega) (by omega)]
  dsimp only
  unfold out0_A_6
  rw [View.read_writes_eq_canon _ _ _ (fun _ => cover0_A_6 ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_7 t).read_unread, (Memref.isWhole_whole _).read_unread, View.ld_unit_zero (S := S256x2048) hz, View.ld_unit_zero (S := S256x1) hz, View.ld_unit_zero (S := S1x2048) hz]

/-- A later point: the block of the gradient, in the narrow format. -/
theorem dbB (c : Dev nD) (t : Fin cfg0.N) (h : ¬t.val = 0) :
    (outsAt0 m c t.val t.isLt).2.1 = k0_pay4 (iblk m c 1 t) (iblk m c 2 t) (iblk m c 0 t) (iblk m c 3 t) (iblk m c 4 t) (iblk m c 2 t) := by
  have hN : t.val < 16 := lt_of_lt_of_eq t.isLt N_0
  rw [outsAt0_B m c t (by omega) (by omega)]
  dsimp only
  unfold out0_B_6
  rw [View.read_writes_eq_canon _ _ _ (fun _ => cover0_B_6 ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_7 t).read_unread, (Memref.isWhole_whole _).read_unread, View.ld_unit_zero (S := S256x2048) hz, View.ld_unit_zero (S := S256x1) hz, View.ld_unit_zero (S := S1x2048) hz]

/-- The first point: the gain's gradient is set. -/
theorem dgA (c : Dev nD) (t : Fin cfg0.N) (h : t.val = 0) :
    (outsAt0 m c t.val t.isLt).2.2 = k0_pay5 (iblk m c 1 t) (iblk m c 2 t) (iblk m c 0 t) := by
  have hN : t.val < 16 := lt_of_lt_of_eq t.isLt N_0
  rw [outsAt0_A m c t (by omega) (by omega)]
  dsimp only
  unfold out0_A_7
  rw [View.read_writes_eq_canon _ _ _ (fun _ => cover0_A_7 ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_7 t).read_unread, (Memref.isWhole_whole _).read_unread, View.ld_unit_zero (S := S256x2048) hz, View.ld_unit_zero (S := S256x1) hz, View.ld_unit_zero (S := S1x2048) hz]

/-- A later point: the gain's gradient grows. -/
theorem dgB (c : Dev nD) (t : Fin cfg0.N) (h : ¬t.val = 0) :
    (outsAt0 m c t.val t.isLt).2.2 = k0_pay1 (k0_pay5 (iblk m c 1 t) (iblk m c 2 t) (iblk m c 0 t)) (outsAt0 m c (t.val - 1) (Nat.lt_of_le_of_lt (Nat.sub_le _ _) t.isLt)).2.2 := by
  have hN : t.val < 16 := lt_of_lt_of_eq t.isLt N_0
  rw [outsAt0_B m c t (by omega) (by omega)]
  dsimp only
  unfold out0_B_7
  rw [View.read_writes_eq_canon _ _ _ (fun _ => cover0_B_7 ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_7 t).read_unread, (Memref.isWhole_whole _).read_unread, View.ld_unit_zero (S := S256x2048) hz, View.ld_unit_zero (S := S256x1) hz, View.ld_unit_zero (S := S1x2048) hz]

/-! ### The blocks -/

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = t.val ∧ win0_2.index t 1 = 0 := by decide +kernel
theorem at4 : ∀ t : Fin cfg0.N, win0_4.index t 0 = t.val ∧ win0_4.index t 1 = 0 := by decide +kernel
theorem at5 : ∀ t : Fin cfg0.N, win0_5.index t 0 = t.val ∧ win0_5.index t 1 = 0 := by decide +kernel
theorem at6 : ∀ t : Fin cfg0.N, win0_6.index t 0 = t.val ∧ win0_6.index t 1 = 0 := by decide +kernel
theorem at3 : ∀ t : Fin cfg0.N, win0_3.index t 0 = 0 ∧ win0_3.index t 1 = 0 := by decide +kernel
theorem at7 : ∀ t : Fin cfg0.N, win0_7.index t 0 = 0 ∧ win0_7.index t 1 = 0 := by decide +kernel

theorem blk0 (c : Dev nD) (t : Fin cfg0.N) (p : Fin 256) (k : Fin 2048) :
    (iblk m c 0 t : S256x2048.Idx → EReal) (ix2 p k) = ext2 (arrH m c) (256 * t.val + p.val) k.val := by
  unfold iblk
  rw [View.read_apply]
  show V m c main_arg0 _ = _
  rw [V_main_arg0]
  refine ext2_of (arrH m c) _ ?_ ?_
  · show win0_0.index t 0 * 256 + 1 * p.val = _
    rw [(at0 t).1]; omega
  · show win0_0.index t 1 * 2048 + 1 * k.val = _
    rw [(at0 t).2]; omega

theorem blk1 (c : Dev nD) (t : Fin cfg0.N) (p : Fin 256) (k : Fin 2048) :
    (iblk m c 1 t : S256x2048.Idx → EReal) (ix2 p k) = ext2 (arrX m c) (256 * t.val + p.val) k.val := by
  unfold iblk
  rw [View.read_apply]
  show V m c main_arg1 _ = _
  rw [V_main_arg1]
  refine ext2_of (arrX m c) _ ?_ ?_
  · show win0_1.index t 0 * 256 + 1 * p.val = _
    rw [(at1 t).1]; omega
  · show win0_1.index t 1 * 2048 + 1 * k.val = _
    rw [(at1 t).2]; omega

theorem blk4 (c : Dev nD) (t : Fin cfg0.N) (p : Fin 256) (k : Fin 2048) :
    (iblk m c 4 t : S256x2048.Idx → EReal) (ix2 p k) = ext2 (arrD m c) (256 * t.val + p.val) k.val := by
  unfold iblk
  rw [View.read_apply]
  show V m c main_arg3 _ = _
  rw [V_main_arg3]
  refine ext2_of (arrD m c) _ ?_ ?_
  · show win0_4.index t 0 * 256 + 1 * p.val = _
    rw [(at4 t).1]; omega
  · show win0_4.index t 1 * 2048 + 1 * k.val = _
    rw [(at4 t).2]; omega

theorem V_inv_at (c : Dev nD) (y : S4096x1.Idx) {i : ℕ} (h : (y 0).val = i) : (V m c main_v7 : S4096x1.Idx → EReal) y = inv (arrX m c) i := by
  subst h
  obtain ⟨p, z, rfl⟩ : ∃ (p : Fin 4096) (z : Fin 1), y = ix2 p z := ⟨y 0, y 1, eq_ix2 y⟩
  exact V_inv m c p z

theorem V_gain_at (c : Dev nD) (y : S1x2048.Idx) {j : ℕ} (h : (y 1).val = j) : (V m c main_v8 : S1x2048.Idx → EReal) y = gain (arrG m c) j := by
  subst h
  obtain ⟨z, q, rfl⟩ : ∃ (z : Fin 1) (q : Fin 2048), y = ix2 z q := ⟨y 0, y 1, eq_ix2 y⟩
  exact V_gain m c z q

theorem blk2 (c : Dev nD) (t : Fin cfg0.N) (p : Fin 256) (z : Fin 1) :
    (iblk m c 2 t : S256x1.Idx → EReal) (ix2 p z) = inv (arrX m c) (256 * t.val + p.val) := by
  unfold iblk
  rw [View.read_apply]
  refine V_inv_at m c _ ?_
  show win0_2.index t 0 * 256 + 1 * p.val = _
  rw [(at2 t).1]; omega

theorem blk3 (c : Dev nD) (t : Fin cfg0.N) (z : Fin 1) (q : Fin 2048) :
    (iblk m c 3 t : S1x2048.Idx → EReal) (ix2 z q) = gain (arrG m c) q.val := by
  unfold iblk
  rw [View.read_apply]
  refine V_gain_at m c _ ?_
  show win0_3.index t 1 * 2048 + 1 * q.val = _
  rw [(at3 t).2]; omega

/-! ### The results at a point -/

theorem dx_pay (c : Dev nD) (t : Fin cfg0.N) (p : Fin 256) (q : Fin 2048) :
    k0_pay3 (iblk m c 1 t) (iblk m c 2 t) (iblk m c 0 t) (iblk m c 3 t) (iblk m c 4 t) (iblk m c 2 t) (ix2 p q)
      = dx (arrH m c) (arrX m c) (arrG m c) (arrD m c) (256 * t.val + p.val) q.val := by
  refine (pay3 _ _ _ _ _ p q).trans ?_
  simp only [blk0, blk1, blk2, blk3, blk4]
  unfold dx xh
  rw [dot_first]

theorem dx_at (c : Dev nD) (t : Fin cfg0.N) (p : Fin 256) (q : Fin 2048) :
    (outsAt0 m c t.val t.isLt).1 (ix2 p q) = dx (arrH m c) (arrX m c) (arrG m c) (arrD m c) (256 * t.val + p.val) q.val := by
  by_cases h : t.val = 0
  · exact (congrFun (dxA m c t h) _).trans (dx_pay m c t p q)
  · exact (congrFun (dxB m c t h) _).trans (dx_pay m c t p q)

theorem db_at (c : Dev nD) (t : Fin cfg0.N) (p : Fin 256) (q : Fin 2048) :
    (outsAt0 m c t.val t.isLt).2.1 (ix2 p q) = dx (arrH m c) (arrX m c) (arrG m c) (arrD m c) (256 * t.val + p.val) q.val := by
  by_cases h : t.val = 0
  · exact (congrFun (dbA m c t h) _).trans ((pay4 _ _ _ _ _ p q).trans (dx_pay m c t p q))
  · exact (congrFun (dbB m c t h) _).trans ((pay4 _ _ _ _ _ p q).trans (dx_pay m c t p q))

theorem dg_at (c : Dev nD) : ∀ (n : ℕ) (h : n < cfg0.N) (z : Fin 1) (q : Fin 2048),
    (outsAt0 m c n h).2.2 (ix2 z q) = dg (arrH m c) (arrX m c) (256 * n + 256) q.val := by
  intro n
  induction n with
  | zero =>
    intro h z q
    refine (congrFun (dgA m c ⟨0, h⟩ rfl) _).trans ?_
    rw [pay5, dg, dot_first]
    simp only [blk0, blk1, blk2]
    simp [xh]
  | succ n ih =>
    intro h z q
    refine (congrFun (dgB m c ⟨n + 1, h⟩ (Nat.succ_ne_zero n)) _).trans ?_
    rw [pay1, pay5, dg, dot_add]
    simp only [blk0, blk1, blk2]
    refine congrArg₂ (· + ·) ((ih (Nat.lt_of_succ_lt h) z q).trans ?_) rfl
    rfl

/-! ### The result arrays -/

/-- The input's gradient, entry by entry. -/
def resX (h x : S4096x2048.Idx → EReal) (g : S2048.Idx → EReal) (d : S4096x2048.Idx → EReal) : S4096x2048.Idx → EReal :=
  fun i => dx h x g d (i 0).val (i 1).val

/-- The gain's gradient, entry by entry. -/
def resG (h x : S4096x2048.Idx → EReal) : S1x2048.Idx → EReal := fun i => dg h x 4096 (i 1).val

abbrev resultX (c : Dev nD) := resX (arrH m c) (arrX m c) (arrG m c) (arrD m c)
abbrev resultG (c : Dev nD) := resG (arrH m c) (arrX m c)

/-- The point that writes the block an index of the input's gradient lies in. -/
def ptOf (y : S4096x2048.Idx) : Fin cfg0.N :=
  ⟨(y 0).val / 256, by
    have h0 : (y 0).val < 4096 := (y 0).isLt
    rw [show cfg0.N = 16 from N_0]; omega⟩

theorem flushed5 (c : Dev nD) (t : Fin cfg0.N) (hf : (cfg0.win 5).flush t = true) :
    (dats m 0 c).flushed 5 t = ((cfg0.win 5).blk t).view.read (Elt Ideal) (resultX m c) := by
  show (cfg0.win 5).cut (grid0.coords t) ((dats m 0 c).after 5 t) = _
  rw [after0_5]
  funext (y : S256x2048.Idx)
  rw [View.read_apply]
  obtain ⟨p, q, rfl⟩ : ∃ (p : Fin 256) (q : Fin 2048), y = ix2 p q := ⟨y 0, y 1, eq_ix2 y⟩
  refine (dx_at m c t p q).trans ?_
  have er : 256 * t.val + p.val = win0_5.index t 0 * 256 + 1 * p.val := by rw [(at5 t).1]; omega
  have ec : q.val = win0_5.index t 1 * 2048 + 1 * q.val := by rw [(at5 t).2]; omega
  conv_lhs => rw [er, ec]
  rfl

theorem final5 (c : Dev nD) : (dats m 0 c).arrAt 5 cfg0.N = resultX m c :=
  (dats m 0 c).arrAt_eq_of_cover 5 (resultX m c) (flushed5 m c) fun (y : S4096x2048.Idx) =>
    ⟨ptOf y, flush0_5 (ptOf y), by
      show y ∈ ((View.whole main_v9_0).slice (win0_5.rect (ptOf y))).set
      rw [View.set_slice_whole, Rect.mem_set_unit]
      have h0 : (y 0).val < 4096 := (y 0).isLt
      have h1 : (y 1).val < 2048 := (y 1).isLt
      obtain ⟨e0, e1⟩ := at5 (ptOf y)
      have hv : (ptOf y).val = (y 0).val / 256 := rfl
      rw [hv] at e0
      intro a
      match a with
      | ⟨0, _⟩ => show win0_5.index (ptOf y) 0 * 256 ≤ (y 0).val ∧ (y 0).val < win0_5.index (ptOf y) 0 * 256 + 256
                  rw [e0]; omega
      | ⟨1, _⟩ => show win0_5.index (ptOf y) 1 * 2048 ≤ (y 1).val ∧ (y 1).val < win0_5.index (ptOf y) 1 * 2048 + 2048
                  rw [e1]; omega⟩

theorem flushed6 (c : Dev nD) (t : Fin cfg0.N) (hf : (cfg0.win 6).flush t = true) :
    (dats m 0 c).flushed 6 t = ((cfg0.win 6).blk t).view.read (Elt Ideal) (resultX m c) := by
  show (cfg0.win 6).cut (grid0.coords t) ((dats m 0 c).after 6 t) = _
  rw [after0_6]
  funext (y : S256x2048.Idx)
  rw [View.read_apply]
  obtain ⟨p, q, rfl⟩ : ∃ (p : Fin 256) (q : Fin 2048), y = ix2 p q := ⟨y 0, y 1, eq_ix2 y⟩
  refine (db_at m c t p q).trans ?_
  have er : 256 * t.val + p.val = win0_6.index t 0 * 256 + 1 * p.val := by rw [(at6 t).1]; omega
  have ec : q.val = win0_6.index t 1 * 2048 + 1 * q.val := by rw [(at6 t).2]; omega
  conv_lhs => rw [er, ec]
  rfl

theorem final6 (c : Dev nD) : (dats m 0 c).arrAt 6 cfg0.N = resultX m c :=
  (dats m 0 c).arrAt_eq_of_cover 6 (resultX m c) (flushed6 m c) fun (y : S4096x2048.Idx) =>
    ⟨ptOf y, flush0_6 (ptOf y), by
      show y ∈ ((View.whole main_v9_1).slice (win0_6.rect (ptOf y))).set
      rw [View.set_slice_whole, Rect.mem_set_unit]
      have h0 : (y 0).val < 4096 := (y 0).isLt
      have h1 : (y 1).val < 2048 := (y 1).isLt
      obtain ⟨e0, e1⟩ := at6 (ptOf y)
      have hv : (ptOf y).val = (y 0).val / 256 := rfl
      rw [hv] at e0
      intro a
      match a with
      | ⟨0, _⟩ => show win0_6.index (ptOf y) 0 * 256 ≤ (y 0).val ∧ (y 0).val < win0_6.index (ptOf y) 0 * 256 + 256
                  rw [e0]; omega
      | ⟨1, _⟩ => show win0_6.index (ptOf y) 1 * 2048 ≤ (y 1).val ∧ (y 1).val < win0_6.index (ptOf y) 1 * 2048 + 2048
                  rw [e1]; omega⟩

theorem flushed7 (c : Dev nD) (t : Fin cfg0.N) (hf : (cfg0.win 7).flush t = true) :
    (dats m 0 c).flushed 7 t = ((cfg0.win 7).blk t).view.read (Elt Ideal) (resultG m c) := by
  have h15 : t.val = 15 := by
    have := (flush0_7 t).mp hf
    have hN : t.val < 16 := lt_of_lt_of_eq t.isLt N_0
    omega
  show (cfg0.win 7).cut (grid0.coords t) ((dats m 0 c).after 7 t) = _
  rw [after0_7]
  funext (y : S1x2048.Idx)
  rw [View.read_apply]
  obtain ⟨z, q, rfl⟩ : ∃ (z : Fin 1) (q : Fin 2048), y = ix2 z q := ⟨y 0, y 1, eq_ix2 y⟩
  refine (dg_at m c t.val t.isLt z q).trans ?_
  have ec : q.val = win0_7.index t 1 * 2048 + 1 * q.val := by rw [(at7 t).2]; omega
  conv_lhs => rw [h15, ec]
  rfl

/-- The last point, which writes the gain's gradient. -/
def lastPt : Fin cfg0.N := ⟨15, by rw [show cfg0.N = 16 from N_0]; omega⟩

theorem final7 (c : Dev nD) : (dats m 0 c).arrAt 7 cfg0.N = resultG m c :=
  (dats m 0 c).arrAt_eq_of_cover 7 (resultG m c) (flushed7 m c) fun (y : S1x2048.Idx) =>
    ⟨lastPt, (flush0_7 lastPt).mpr rfl, by
      show y ∈ ((View.whole main_v9_2).slice (win0_7.rect lastPt)).set
      rw [View.set_slice_whole, Rect.mem_set_unit]
      have h0 : (y 0).val < 1 := (y 0).isLt
      have h1 : (y 1).val < 2048 := (y 1).isLt
      obtain ⟨e0, e1⟩ := at7 lastPt
      intro a
      match a with
      | ⟨0, _⟩ => show win0_7.index lastPt 0 * 1 ≤ (y 0).val ∧ (y 0).val < win0_7.index lastPt 0 * 1 + 1
                  rw [e0]; omega
      | ⟨1, _⟩ => show win0_7.index lastPt 1 * 2048 ≤ (y 1).val ∧ (y 1).val < win0_7.index lastPt 1 * 2048 + 2048
                  rw [e1]; omega⟩

/-- The run: the results, the arguments unchanged. -/
theorem run : θ_run defs (onTc (τ := τ) (main (F := Ideal))) ⟨m, fun _ => 0, ρ⟩ fun r => ∀ c : Dev nD,
      r.2.mem ((c : Thread nD τ).loc main_v9_0) = resultX m c
      ∧ r.2.mem ((c : Thread nD τ).loc main_v9_1) = resultX m c
      ∧ r.2.mem ((c : Thread nD τ).loc main_v9_2) = resultG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 5).trans (final5 m c), ((h.1 c).1 6).trans (final6 m c), ((h.1 c).1 7).trans (final7 m c), (h.2 c)⟩)
    (θ_run_and (run_main m ρ) (unchanged m ρ))

end Cert.Kernel13Ideal.Value
-- ==== Proof.NormLaw.lean ====
/-
  Laws of the extended reals that a norm's gradient needs: a finite non-negative factor goes into a sum, equal terms add
  up to a multiple, and the product rule of an inverse root against the form in which the root's cube is factored.
-/
module

public import proofs.«01_k».proof.Proof.Dots
public import Idealize.ShloMosaic.PureOps.Ideal

@[expose] public section

noncomputable section

open Idealize.ShloMosaic

namespace Cert.NormLaw

open Cert.Dots

/-- A finite non-negative factor distributes over a sum of two. -/
theorem coe_mul_add {r : ℝ} (hr : 0 ≤ r) (a b : EReal) : (r : EReal) * (a + b) = (r : EReal) * a + (r : EReal) * b :=
  EReal.left_distrib_of_nonneg_of_ne_top (by exact_mod_cast hr) (EReal.coe_ne_top r) a b

/-- A finite non-negative factor goes out of a sum of products. -/
theorem dot_coe (f g : ℕ → EReal) {r : ℝ} (hr : 0 ≤ r) (n : ℕ) : dot f (fun k => g k * (r : EReal)) n = (r : EReal) * dot f g n := by
  induction n with
  | zero => simp [dot]
  | succ n ih =>
    unfold dot at ih ⊢
    rw [Finset.sum_range_succ, Finset.sum_range_succ, ih, coe_mul_add hr]
    congr 1
    rw [← mul_assoc, mul_comm (f n * g n)]

/-- A square is not negative. -/
theorem sq_nonneg (a : EReal) : 0 ≤ a * a := by
  induction a with
  | bot => simp
  | top => simp
  | coe r => exact_mod_cast mul_self_nonneg r

theorem dot_sq_nonneg (f : ℕ → EReal) (n : ℕ) : 0 ≤ dot f f n := Finset.sum_nonneg fun k _ => sq_nonneg (f k)

/-- Two equal terms. -/
theorem twice (a : EReal) : a + a = ((2 : ℝ) : EReal) * a := by
  induction a with
  | bot => rw [EReal.coe_mul_bot_of_pos (by norm_num)]; rfl
  | top => rw [EReal.coe_mul_top_of_pos (by norm_num)]; rfl
  | coe r => rw [← EReal.coe_add, ← EReal.coe_mul, two_mul]

/-- A value that is not negative, plus a positive number, is a positive number or infinite. -/
theorem pos_or_top {a : EReal} (ha : 0 ≤ a) {e : ℝ} (he : 0 < e) : a + (e : EReal) = ⊤ ∨ ∃ v : ℝ, 0 < v ∧ a + (e : EReal) = (v : EReal) := by
  induction a with
  | bot => simp at ha
  | top => exact Or.inl (EReal.top_add_coe e)
  | coe r =>
    have hr : 0 ≤ r := by exact_mod_cast ha
    exact Or.inr ⟨r + e, by linarith, (EReal.coe_add r e).symm⟩

/-- The product rule against the factored form. `H` is the gradient times the gain, `X` the input, `S` the sum over the row of
    the products of the two; `v` is the mean square. -/
theorem rule (D H X S V : EReal) (c : ℝ) (hV : V = ⊤ ∨ ∃ v : ℝ, 0 < v ∧ V = (v : EReal)) :
    D + Ideal.rsqrt V * (H - X * Ideal.rsqrt V * ((Ideal.rsqrt V * S) * (c : EReal)))
      = D + (H * Ideal.rsqrt V + X * (S * (((-(1 / 2) : ℝ) : EReal) * Ideal.div (Ideal.rsqrt V) V) * (c : EReal))
        + (S * (((-(1 / 2) : ℝ) : EReal) * Ideal.div (Ideal.rsqrt V) V) * (c : EReal)) * X) := by
  rcases hV with rfl | ⟨v, hv, rfl⟩
  · simp [Ideal.div]
  · have hs : 0 < Real.sqrt v := Real.sqrt_pos.mpr hv
    obtain ⟨r, hr⟩ : ∃ r : ℝ, r = (Real.sqrt v)⁻¹ := ⟨_, rfl⟩
    have hr0 : 0 ≤ r := by rw [hr]; exact (inv_pos.mpr hs).le
    have hrr : r * r = 1 / v := by
      rw [hr, ← mul_inv, Real.mul_self_sqrt hv.le, one_div]
    rw [Ideal.rsqrt_coe, if_neg (not_lt.mpr hv.le), if_neg hv.ne', ← hr, Ideal.div_coe hv.ne']
    congr 1
    rw [sub_eq_add_neg, coe_mul_add hr0, add_assoc, mul_comm H]
    congr 1
    have e1 : S * (((-(1 / 2) : ℝ) : EReal) * ((r : EReal) * ((1 / v : ℝ) : EReal))) * (c : EReal)
        = ((-(1 / 2) * (r * (1 / v)) * c : ℝ) : EReal) * S := by
      push_cast
      ac_rfl
    rw [e1, mul_comm X (((-(1 / 2) * (r * (1 / v)) * c : ℝ) : EReal) * S), twice]
    have e2 : (r : EReal) * -(X * (r : EReal) * ((r : EReal) * S * (c : EReal))) = ((-(r * r * r * c) : ℝ) : EReal) * (S * X) := by
      rw [mul_neg, EReal.coe_neg, neg_mul]
      push_cast
      congr 1
      ac_rfl
    have e3 : -(r * r * r * c) = 2 * (-(1 / 2) * (r * (1 / v)) * c) := by
      rw [← hrr]
      ring
    rw [e2, e3, EReal.coe_mul]
    ac_rfl

end Cert.NormLaw
-- ==== Proof.RmsBwdRef.lean ====
/-
  The reference of the gradient of a root-mean-square norm: its run, its results entry by entry, and that the kernel's are
  the same.
-/
module

public import proofs.«01_k».proof.Defs
public import proofs.«01_k».proof.Proof.Gen.Reference13Ideal
public import proofs.«01_k».proof.Proof.RmsBwd
public import proofs.«01_k».proof.Proof.NormLaw
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

set_option maxRecDepth 8000

noncomputable section

open Idealize.ShloMosaic Idealize.ShloMosaic.TcCoe Idealize.SL.Sem

namespace Cert.Reference13Ideal.Value

open Cert.Reference13Ideal Cert.Reference13Ideal.Gen Cert.Dots Cert.NormLaw Idealize.ShloMosaic.StableHlo

/-- The shapes in use, and the arithmetic on them, entry by entry. -/
abbrev Mat := FVec Ideal S4096x2048 .f32
abbrev Col := FVec Ideal S4096x1 .f32
abbrev Num := FVec Ideal S_ .f32
abbrev plus (l r : Mat) : Mat := addf l r
abbrev times (l r : Mat) : Mat := mulf l r
abbrev plusC (l r : Col) : Col := addf l r
abbrev timesC (l r : Col) : Col := mulf l r
abbrev overC (l r : Col) : Col := Host.divf l r
abbrev rootC (l : Col) : Col := Host.rsqrt l
/-- The numbers in use. -/
abbrev zero : Num := constant (F := Ideal) S_ .f32 0x00000000#32
abbrev width : Num := constant (F := Ideal) S_ .f32 0x45000000#32
abbrev small : Num := constant (F := Ideal) S_ .f32 0x358637BD#32
abbrev half : Num := constant (F := Ideal) S_ .f32 0xBF000000#32
abbrev spread (l : Num) : Col := broadcastInDim S4096x1 ![] bcast_S_S4096x1 l
/-- A column out of a vector, and the matrices whose rows, or columns, are all alike. -/
abbrev col (l : FVec Ideal S4096 .f32) : Col := broadcastInDim S4096x1 ![0] bcast_S4096_S4096x1_0 l
abbrev wide (l : Col) : Mat := broadcastInDim S4096x2048 ![0, 1] bcast_S4096x1_S4096x2048_0_1 l
abbrev wideV (l : FVec Ideal S4096 .f32) : Mat := broadcastInDim S4096x2048 ![0] bcast_S4096_S4096x2048_0 l
abbrev row (l : FVec Ideal S2048 .f32) : FVec Ideal S1x2048 .f32 := broadcastInDim S1x2048 ![1] bcast_S2048_S1x2048_1 l
abbrev tall (l : FVec Ideal S1x2048 .f32) : Mat := broadcastInDim S4096x2048 ![0, 1] bcast_S1x2048_S4096x2048_0_1 l
/-- Sums: over a row, over a column, and over an axis of one. -/
abbrev sumR (l : Mat) (z : Num) : FVec Ideal S4096 .f32 := Host.reduceAdd l z reducesTo_S4096x2048_S4096_d1 h_S_
abbrev sumC (l : Mat) (z : Num) : FVec Ideal S2048 .f32 := Host.reduceAdd l z reducesTo_S4096x2048_S2048_d0 h_S_
abbrev sumR1 (l : Col) (z : Num) : FVec Ideal S4096 .f32 := Host.reduceAdd l z reducesTo_S4096x1_S4096_d1 h_S_
abbrev sumC1 (l : FVec Ideal S1x2048 .f32) (z : Num) : FVec Ideal S2048 .f32 := Host.reduceAdd l z reducesTo_S1x2048_S2048_d0 h_S_

/-- The mean square of each row, and its inverse root. -/
def var (x : Mat) : Col := plusC (overC (col (sumR (times x x) zero)) (spread width)) (spread small)
def root (x : Mat) : Col := rootC (var x)
/-- The gradient times the gain. -/
def gained (h : Mat) (g : FVec Ideal S2048 .f32) : Mat := times h (tall (row g))
/-- The gradient of each row's squares. -/
def square (h x : Mat) (g : FVec Ideal S2048 .f32) : FVec Ideal S4096 .f32 :=
  sumR1 (overC (timesC (shapeCast S4096x1 (sumR (times x (gained h g)) zero) shapeCasts_S4096_S4096x1)
    (timesC (spread half) (overC (root x) (var x)))) (spread width)) zero
/-- The results as the reference computes them. -/
def valueX (h x : Mat) (g : FVec Ideal S2048 .f32) (d : Mat) : Mat :=
  plus d (plus (plus (times (gained h g) (wide (root x))) (times x (wideV (square h x g)))) (times (wideV (square h x g)) x))
def valueB (h x : Mat) (g : FVec Ideal S2048 .f32) (d : Mat) : FVec Ideal S4096x2048 .bf16 :=
  truncf (F := Ideal) .bf16 (valueX h x g d) bitsLt_bf16_f32
def valueG (h x : Mat) : FVec Ideal S1x2048 .f32 :=
  shapeCast S1x2048 (sumC1 (shapeCast S1x2048 (sumC (times (times x (wide (root x))) h) zero) shapeCasts_S2048_S1x2048) zero) shapeCasts_S2048_S1x2048

/-- The reference's operations, in order. -/
abbrev ops : List (HloOp τ sig (Elt Ideal)) :=
  [ binary main_arg1 main_arg1 main_v0 times,
    nullary main_cst zero,
    binary main_v0 main_cst main_v1 sumR,
    unary main_v1 main_v2 col,
    nullary main_cst_0 width,
    unary main_cst_0 main_v3 spread,
    binary main_v2 main_v3 main_v4 overC,
    nullary main_cst_1 small,
    unary main_cst_1 main_v5 spread,
    binary main_v4 main_v5 main_v6 plusC,
    unary main_v6 main_v7 rootC,
    binary main_v7 main_v6 main_v8 overC,
    nullary main_cst_2 half,
    unary main_cst_2 main_v9 spread,
    binary main_v9 main_v8 main_v10 timesC,
    unary main_v7 main_v11 wide,
    binary main_arg1 main_v11 main_v12 times,
    unary main_arg2 main_v13 row,
    unary main_v13 main_v14 tall,
    binary main_v12 main_v14 main_v15 times,
    binary main_v12 main_arg0 main_v16 times,
    nullary main_cst_3 zero,
    binary main_v16 main_cst_3 main_v17 sumC,
    reshape main_v17 main_v18 rfl shapeCasts_S2048_S1x2048,
    unary main_v13 main_v19 tall,
    binary main_arg0 main_v19 main_v20 times,
    nullary main_cst_4 zero,
    binary main_v18 main_cst_4 main_v21 sumC1,
    binary main_arg1 main_v20 main_v22 times,
    nullary main_cst_5 zero,
    binary main_v22 main_cst_5 main_v23 sumR,
    reshape main_v23 main_v24 rfl shapeCasts_S4096_S4096x1,
    unary main_v7 main_v25 wide,
    binary main_v20 main_v25 main_v26 times,
    binary main_v24 main_v10 main_v27 timesC,
    nullary main_cst_6 width,
    unary main_cst_6 main_v28 spread,
    binary main_v27 main_v28 main_v29 overC,
    nullary main_cst_7 zero,
    binary main_v29 main_cst_7 main_v30 sumR1,
    unary main_v30 main_v31 wideV,
    binary main_arg1 main_v31 main_v32 times,
    binary main_v26 main_v32 main_v33 plus,
    binary main_v31 main_arg1 main_v34 times,
    binary main_v33 main_v34 main_v35 plus,
    binary main_arg3 main_v35 main_v36 plus,
    unary main_v36 main_v37 (truncf (F := Ideal) .bf16 · bitsLt_bf16_f32),
    reshape main_v21 main_v38 rfl shapeCasts_S2048_S1x2048 ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., nullary_bufs_sub .., binary_bufs_sub .., reshape_bufs_sub .., unary_bufs_sub .., binary_bufs_sub .., nullary_bufs_sub .., binary_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., binary_bufs_sub .., unary_bufs_sub .., reshape_bufs_sub ..⟩

theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD) : Thread nD τ).loc main_v36) = valueX (m (((0 : Dev nD) : Thread nD τ).loc main_arg0)) (m (((0 : Dev nD) : Thread nD τ).loc main_arg1)) (m (((0 : Dev nD) : Thread nD τ).loc main_arg2)) (m (((0 : Dev nD) : Thread nD τ).loc main_arg3))
        ∧ r.2.mem (((0 : Dev nD) : Thread nD τ).loc main_v37) = valueB (m (((0 : Dev nD) : Thread nD τ).loc main_arg0)) (m (((0 : Dev nD) : Thread nD τ).loc main_arg1)) (m (((0 : Dev nD) : Thread nD τ).loc main_arg2)) (m (((0 : Dev nD) : Thread nD τ).loc main_arg3))
        ∧ r.2.mem (((0 : Dev nD) : Thread nD τ).loc main_v38) = valueG (m (((0 : Dev nD) : Thread nD τ).loc main_arg0)) (m (((0 : Dev nD) : Thread nD τ).loc main_arg1)))
      ∧ (r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)
        ∧ r.2.mem (((0 : Dev nD) : Thread nD τ).loc main_arg2) = m (((0 : Dev nD) : Thread nD τ).loc main_arg2)
        ∧ r.2.mem (((0 : Dev nD) : Thread nD τ).loc main_arg3) = m (((0 : Dev nD) : Thread nD τ).loc main_arg3)) :=
  (θ_run defs _ _).mono (fun _ h => ⟨⟨(h 0 main_v36).trans (by after_results; rfl), (h 0 main_v37).trans (by after_results; rfl),
        (h 0 main_v38).trans (by after_results; rfl)⟩,
      ⟨(h 0 main_arg0).trans (by after_results), (h 0 main_arg1).trans (by after_results), (h 0 main_arg2).trans (by after_results), (h 0 main_arg3).trans (by after_results)⟩⟩)
    (run_seq scopedRefs_eq scopedSems_eq defs main (fun _ => ops) main_eq (fun _ => ops_sub) m ρ)

theorem frame : Cert.quiescent_Reference13Ideal := fun m ρ _ =>
  (θ_run defs _ _).mono (fun r h => ⟨fun c => (by obtain rfl : c = 0 := Subsingleton.elim _ _; exact h.2),
      sem_eq_zero_of_no_sems (by decide) r.2⟩)
    (run m ρ)

open Cert.Kernel13Ideal.Value (inv mean eps gain xh dx dg resX resG number number')

theorem half_eq : (Ideal.ofBits .f32 0xBF000000#32 : EReal) = ((-(1 / 2) : ℝ) : EReal) := by
  simp [Ideal.ofBits, Ideal.ieee]
  rw [← EReal.coe_mul]
  norm_num

theorem eps_eq : ∃ e : ℝ, 0 < e ∧ eps = (e : EReal) := by
  refine ⟨8796093 / 8796093022208, by norm_num, ?_⟩
  unfold eps
  simp [Ideal.ofBits, Ideal.ieee]
  rw [← EReal.coe_mul]
  norm_num

/-- A row's mean square, with the small number. -/
def ms (x : S4096x2048.Idx → EReal) (i : ℕ) : EReal := mean (dot (fun k => ext2 x i k) (fun k => ext2 x i k) 2048) + eps

theorem inv_eq (x : S4096x2048.Idx → EReal) (i : ℕ) : inv x i = Ideal.rsqrt (ms x i) := rfl

theorem var_apply (x : S4096x2048.Idx → EReal) (p : Fin 4096) (z : Fin 1) : (var x (ix2 p z) : EReal) = ms x p.val := by
  unfold var ms mean eps
  pointwise
  rw [number', dot_first]
  refine congrArg (fun s => Ideal.div s _ + _) (Finset.sum_congr rfl fun k _ => (?_ : (_ : EReal) = _))
  rw [ext2_in _ p.isLt k.isLt]

theorem root_apply (x : S4096x2048.Idx → EReal) (p : Fin 4096) (z : Fin 1) : (root x (ix2 p z) : EReal) = inv x p.val := by
  rw [inv_eq, ← var_apply x p z]
  unfold root
  pointwise

theorem gained_apply (h : S4096x2048.Idx → EReal) (g : S2048.Idx → EReal) (p : Fin 4096) (q : Fin 2048) :
    (gained h g (ix2 p q) : EReal) = h (ix2 p q) * g (ix1 q) := by
  unfold gained
  pointwise

/-- The sum over a row of the products of the input and the gained gradient. -/
def rs (h x : S4096x2048.Idx → EReal) (g : S2048.Idx → EReal) (i : ℕ) : EReal := dot (fun k => ext2 h i k * gain g k) (fun k => ext2 x i k) 2048

theorem rs_apply (h x : S4096x2048.Idx → EReal) (g : S2048.Idx → EReal) (p : Fin 4096) (z : Fin 1) :
    (shapeCast S4096x1 (sumR (times x (gained h g)) zero) shapeCasts_S4096_S4096x1 (ix2 p z) : EReal) = rs h x g p.val := by
  refine Eq.trans (b := sumR (times x (gained h g)) zero (ix1 p)) ?_ ?_
  · refine shapeCast_apply (s := S4096) (t := S4096x1) _ _ _ _ ?_
    rw [Shape.rowMajor_val_one, Shape.rowMajor_val_two]
    have hz0 : z.val = 0 := by omega
    show p.val = p.val * 1 + z.val
    omega
  · pointwise [gained_apply]
    unfold rs
    rw [dot_first]
    refine Finset.sum_congr rfl fun k _ => (?_ : (_ : EReal) = _)
    rw [ext2_in h p.isLt k.isLt, ext2_in x p.isLt k.isLt, Cert.Kernel13Ideal.Value.gain_in g k.isLt, mul_comm]

theorem square_apply (h x : S4096x2048.Idx → EReal) (g : S2048.Idx → EReal) (p : Fin 4096) :
    (square h x g (ix1 p) : EReal) = rs h x g p.val * (((-(1 / 2) : ℝ) : EReal) * Ideal.div (inv x p.val) (ms x p.val)) * ((1 / 2048 : ℝ) : EReal) := by
  rw [← Ideal.div_coe (by norm_num : (2048 : ℝ) ≠ 0), ← rs_apply h x g p 0, ← root_apply x p 0, ← var_apply x p 0, ← half_eq, ← number']
  unfold square
  pointwise
  exact Fin.sum_univ_one _

theorem valueX_eq (h x : S4096x2048.Idx → EReal) (g : S2048.Idx → EReal) (d : S4096x2048.Idx → EReal) :
    (valueX h x g d : S4096x2048.Idx → EReal) = resX h x g d := by
  funext i
  obtain ⟨p, q, rfl⟩ : ∃ (p : Fin 4096) (q : Fin 2048), i = ix2 p q := ⟨i 0, i 1, eq_ix2 i⟩
  show _ = dx h x g d p.val q.val
  have hms : ms x p.val = ⊤ ∨ ∃ v : ℝ, 0 < v ∧ ms x p.val = (v : EReal) := by
    obtain ⟨e, he, hee⟩ := eps_eq
    unfold ms mean
    rw [hee]
    refine pos_or_top ?_ he
    rw [Ideal.div_coe (by norm_num : (2048 : ℝ) ≠ 0)]
    exact mul_nonneg (dot_sq_nonneg _ _) (by exact_mod_cast (by norm_num : (0 : ℝ) ≤ 1 / 2048))
  have hr : ∃ r : ℝ, 0 ≤ r ∧ inv x p.val = (r : EReal) := by
    rw [inv_eq]
    rcases hms with e | ⟨v, hv, e⟩
    · rw [e]; exact ⟨0, le_refl _, by simp⟩
    · rw [e, Ideal.rsqrt_coe, if_neg (not_lt.mpr hv.le), if_neg hv.ne']
      exact ⟨_, inv_nonneg.mpr (Real.sqrt_nonneg v), rfl⟩
  have hs : dot (fun k => ext2 h p.val k * gain g k) (fun k => xh x p.val k) 2048 = inv x p.val * rs h x g p.val := by
    obtain ⟨r, hr0, hre⟩ := hr
    unfold xh
    rw [hre]
    exact dot_coe _ _ hr0 _
  unfold dx xh mean
  rw [show dot (fun k => ext2 h p.val k * gain g k) (fun k => ext2 x p.val k * inv x p.val) 2048 = inv x p.val * rs h x g p.val from hs,
    Ideal.div_coe (by norm_num : (2048 : ℝ) ≠ 0), ext2_in h p.isLt q.isLt, ext2_in x p.isLt q.isLt, ext2_in d p.isLt q.isLt, Cert.Kernel13Ideal.Value.gain_in g q.isLt]
  refine Eq.trans ?_ (rule (d (ix2 p q)) (h (ix2 p q) * g (ix1 q)) (x (ix2 p q)) (rs h x g p.val) (ms x p.val) (1 / 2048) hms).symm
  rw [← inv_eq, ← square_apply, ← gained_apply, ← root_apply x p 0]
  unfold valueX
  pointwise

theorem valueB_eq (h x : S4096x2048.Idx → EReal) (g : S2048.Idx → EReal) (d : S4096x2048.Idx → EReal) :
    (valueB h x g d : S4096x2048.Idx → EReal) = resX h x g d := by
  rw [← valueX_eq]
  rfl

theorem valueG_eq (h x : S4096x2048.Idx → EReal) : (valueG h x : S1x2048.Idx → EReal) = resG h x := by
  funext i
  obtain ⟨z, q, rfl⟩ : ∃ (z : Fin 1) (q : Fin 2048), i = ix2 z q := ⟨i 0, i 1, eq_ix2 i⟩
  show _ = dg h x 4096 q.val
  have hc : ∀ (v : FVec Ideal S2048 .f32) (z' : Fin 1), shapeCast S1x2048 v shapeCasts_S2048_S1x2048 (ix2 z' q) = v (ix1 q) := by
    intro v z'
    refine shapeCast_apply (s := S2048) (t := S1x2048) _ _ _ _ ?_
    rw [Shape.rowMajor_val_one, Shape.rowMajor_val_two]
    have hz0 : z'.val = 0 := by omega
    show q.val = z'.val * 2048 + q.val
    omega
  refine (hc _ z).trans ?_
  refine Eq.trans (b := shapeCast S1x2048 (sumC (times (times x (wide (root x))) h) zero) shapeCasts_S2048_S1x2048 (ix2 (0 : Fin 1) q)) ?_ ?_
  · pointwise
    exact Fin.sum_univ_one _
  · refine (hc _ 0).trans ?_
    pointwise [root_apply]
    unfold dg xh
    rw [dot_first]
    refine Finset.sum_congr rfl fun k _ => (?_ : (_ : EReal) = _)
    rw [ext2_in h k.isLt q.isLt, ext2_in x k.isLt q.isLt, mul_comm]

/-- Both compute the same arrays. -/
theorem algebraic : Cert.algebraic_Kernel13Ideal_Reference13Ideal := by
  intro m ρ m' ρ' _ hagree
  refine ⟨fun c => Cert.Kernel13Ideal.Value.resultX m c, fun c => Cert.Kernel13Ideal.Value.resultX m c, fun c => Cert.Kernel13Ideal.Value.resultG m c, Cert.Kernel13Ideal.Value.run m ρ, ?_⟩
  refine (θ_run defs _ _).mono (fun _ h c => ?_) (run m' ρ')
  obtain rfl : c = 0 := Subsingleton.elim _ _
  refine ⟨h.1.1.trans ?_, h.1.2.1.trans ?_, h.1.2.2.trans ?_, h.2⟩
  · rw [(hagree 0).1, (hagree 0).2.1, (hagree 0).2.2.1, (hagree 0).2.2.2]
    exact valueX_eq _ _ _ _
  · rw [(hagree 0).1, (hagree 0).2.1, (hagree 0).2.2.1, (hagree 0).2.2.2]
    exact valueB_eq _ _ _ _
  · rw [(hagree 0).1, (hagree 0).2.1]
    exact valueG_eq _ _

end Cert.Reference13Ideal.Value
-- ==== Proof.FfnGate.lean ====
/-
  The gate projection of the feed-forward block: the block each point writes, and the result array.
-/
module

public import proofs.«01_k».proof.Defs
public import proofs.«01_k».proof.Proof.Gen.Kernel14Ideal.Frame
public import proofs.«01_k».proof.Proof.Dots
public import proofs.«01_k».proof.Proof.Gate
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel14Ideal.Value

open Cert.Kernel14Ideal Cert.Kernel14Ideal.Gen Cert.Dots Cert.Gate

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ### The blocks -/

/-- An input array. -/
abbrev arrX (c : Dev nD) : S4096x2048.Idx → EReal := m ((c : Thread nD τ).loc main_arg0)
/-- An input array. -/
abbrev arrU (c : Dev nD) : S4x2048x1408.Idx → EReal := m ((c : Thread nD τ).loc main_arg1)

theorem at0 : ∀ t : Fin cfg0.N, win0_0.index t 0 = t.val % 8 ∧ win0_0.index t 1 = 0 := by decide +kernel
theorem at1 : ∀ t : Fin cfg0.N, win0_1.index t 0 = t.val / 8 ∧ win0_1.index t 1 = 0 ∧ win0_1.index t 2 = 0 := by decide +kernel
theorem at2 : ∀ t : Fin cfg0.N, win0_2.index t 0 = t.val % 8 ∧ win0_2.index t 1 = t.val / 8 := by decide +kernel

theorem blk0 (c : Dev nD) (t : Fin cfg0.N) (p : Fin 512) (k : Fin 2048) :
    (iblk m c 0 t : S512x2048.Idx → EReal) (ix2 p k) = ext2 (arrX m c) (512 * (t.val % 8) + p.val) k.val := by
  unfold iblk
  rw [View.read_apply]
  show V m c main_arg0 _ = _
  rw [V_main_arg0]
  refine ext2_of (arrX m c) _ ?_ ?_
  · show win0_0.index t 0 * 512 + 1 * p.val = _
    rw [(at0 t).1]; omega
  · show win0_0.index t 1 * 2048 + 1 * k.val = _
    rw [(at0 t).2]; omega

theorem blk1 (c : Dev nD) (t : Fin cfg0.N) (q : Fin 1408) (k : Fin 2048) :
    (iblk m c 1 t : S1x2048x1408.Idx → EReal) (ix3 0 k q) = cols (arrU m c) k.val (1408 * (t.val / 8) + q.val) := by
  unfold iblk
  rw [View.read_apply]
  show V m c main_arg1 _ = _
  rw [V_main_arg1]
  refine cols_of (arrU m c) _ ?_ ?_ ?_
  · show win0_1.index t 0 * 1 + 1 * 0 = _
    rw [(at1 t).1]; omega
  · show win0_1.index t 1 * 2048 + 1 * k.val = _
    rw [(at1 t).2.1]; omega
  · show win0_1.index t 2 * 1408 + 1 * q.val = _
    rw [(at1 t).2.2]; omega

/-- An entry of the input times a weight. -/
def prod (x : S4096x2048.Idx → EReal) (w : S4x2048x1408.Idx → EReal) (i j : ℕ) : EReal :=
  dot (fun k => ext2 x i k) (fun k => cols w k j) 2048

theorem pay1 (x : Vec Ideal S512x2048 .bf16) (y : Vec Ideal S1x2048x1408 .bf16) (p : Fin 512) (q : Fin 1408) :
    k0_pay1 x y (ix2 p q) = ∑ k : Fin 2048, x (ix2 p k) * y (ix3 0 k q) := by
  unfold k0_pay1
  pointwise

theorem hdotA (c : Dev nD) (t : Fin cfg0.N) (p : Fin 512) (q : Fin 1408) :
    k0_pay1 (iblk m c 0 t) (iblk m c 1 t) (ix2 p q)
      = prod (arrX m c) (arrU m c) (512 * (t.val % 8) + p.val) (1408 * (t.val / 8) + q.val) := by
  refine (pay1 _ _ p q).trans ?_
  unfold prod
  rw [dot_first]
  refine Finset.sum_congr rfl fun k _ => (?_ : (_ : EReal) = _)
  rw [blk0, blk1]

/-! ### The result array -/

/-- A result, entry by entry. -/
def res2 (x : S4096x2048.Idx → EReal) (u : S4x2048x1408.Idx → EReal) : S4096x5632.Idx → EReal := fun i => prod x u (i 0).val (i 1).val

abbrev result2 (c : Dev nD) := res2 (arrX m c) (arrU m c)

theorem out_at2 (c : Dev nD) (t : Fin cfg0.N) (y : S512x1408.Idx) :
    out0_2 (iblk m c 0 t) (iblk m c 1 t) y = prod (arrX m c) (arrU m c) (512 * (t.val % 8) + (y 0).val) (1408 * (t.val / 8) + (y 1).val) := by
  obtain ⟨p, q, rfl⟩ : ∃ (p : Fin 512) (q : Fin 1408), y = ix2 p q := ⟨y 0, y 1, eq_ix2 y⟩
  unfold out0_2
  rw [View.canon_unit_zero hz]
  simp only [View.ld_unit_zero (S := S1x2048x1408) hz3, View.ld_unit_zero (S := S512x2048) hz]
  show _ = prod (arrX m c) (arrU m c) (512 * (t.val % 8) + p.val) (1408 * (t.val / 8) + q.val)
  rw [hdotA m c t]

theorem flushed2 (c : Dev nD) (t : Fin cfg0.N) (hf : (cfg0.win 2).flush t = true) :
    (dats m 0 c).flushed 2 t = ((cfg0.win 2).blk t).view.read (Elt Ideal) (result2 m c) := by
  show (cfg0.win 2).cut (grid0.coords t) ((dats m 0 c).after 2 t) = _
  rw [after0_2]
  funext y
  rw [View.read_apply]
  refine (out_at2 m c t y).trans ?_
  have er : 512 * (t.val % 8) + (y 0).val = win0_2.index t 0 * 512 + 1 * (y 0).val := by rw [(at2 t).1]; omega
  have ec : 1408 * (t.val / 8) + (y 1).val = win0_2.index t 1 * 1408 + 1 * (y 1).val := by rw [(at2 t).2]; omega
  rw [er, ec]
  rfl

/-- The point that writes the block an index of a result lies in. -/
def ptOf (y : S4096x5632.Idx) : Fin cfg0.N :=
  ⟨8 * ((y 1).val / 1408) + (y 0).val / 512, by
    have h0 : (y 0).val < 4096 := (y 0).isLt
    have h1 : (y 1).val < 5632 := (y 1).isLt
    rw [show cfg0.N = 32 from N_0]; omega⟩

theorem final2 (c : Dev nD) : (dats m 0 c).arrAt 2 cfg0.N = result2 m c :=
  (dats m 0 c).arrAt_eq_of_cover 2 (result2 m c) (flushed2 m c) fun (y : S4096x5632.Idx) =>
    ⟨ptOf y, flush0_2 (ptOf y), by
      show y ∈ ((View.whole main_v0).slice (win0_2.rect (ptOf y))).set
      rw [View.set_slice_whole, Rect.mem_set_unit]
      have h0 : (y 0).val < 4096 := (y 0).isLt
      have h1 : (y 1).val < 5632 := (y 1).isLt
      obtain ⟨e0, e1⟩ := at2 (ptOf y)
      have hv : (ptOf y).val = 8 * ((y 1).val / 1408) + (y 0).val / 512 := rfl
      rw [hv] at e0 e1
      intro a
      match a with
      | ⟨0, _⟩ => show win0_2.index (ptOf y) 0 * 512 ≤ (y 0).val ∧ (y 0).val < win0_2.index (ptOf y) 0 * 512 + 512
                  rw [e0]; omega
      | ⟨1, _⟩ => show win0_2.index (ptOf y) 1 * 1408 ≤ (y 1).val ∧ (y 1).val < win0_2.index (ptOf y) 1 * 1408 + 1408
                  rw [e1]; omega⟩

/-- The run: the result, the arguments unchanged. -/
theorem run : θ_run defs (onTc (τ := τ) (main (F := Ideal))) ⟨m, fun _ => 0, ρ⟩ fun r => ∀ c : Dev nD,
      r.2.mem ((c : Thread nD τ).loc main_v0) = result2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final2 m c), (h.2 c)⟩)
    (θ_run_and (run_main m ρ) (unchanged m ρ))

end Cert.Kernel14Ideal.Value
-- ==== Proof.FfnGateRef.lean ====
/-
  The reference of the gate and up projections and their gated product: its run, its results entry by entry, and that the
  kernel's are the same.
-/
module

public import proofs.«01_k».proof.Defs
public import proofs.«01_k».proof.Proof.Gen.Reference14Ideal
public import proofs.«01_k».proof.Proof.FfnGate
public import proofs.«01_k».proof.Proof.Gate
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference14Ideal.Value

open Cert.Reference14Ideal Cert.Reference14Ideal.Gen Cert.Dots Cert.Gate Idealize.ShloMosaic.StableHlo

/-- Matrices of the hidden width. -/
abbrev Mat := FVec Ideal S4096x5632 .f32

/-- The product of two matrices. -/
abbrev product (l : Vec Ideal S4096x2048 .f32) (r : Vec Ideal S2048x5632 .f32) : Mat :=
  Host.dotGeneral (F := Ideal) (φ₁ := .f32) (φ₂ := .f32) dot_S4096x2048_S2048x5632_S4096x5632_1_0_0_1_n_n none l r

/-- The input times a weight, as the reference computes it. -/
def lin (x : Vec Ideal S4096x2048 .bf16) (w : Vec Ideal S4x2048x1408 .bf16) : Mat :=
  product (extf (F := Ideal) .f32 x bitsLt_bf16_f32) (extf (F := Ideal) .f32 (shapeCast S2048x5632 (transpose S2048x4x1408 [1, 0, 2] w transposes_S4x2048x1408_S2048x4x1408_1_0_2) shapeCasts_S2048x4x1408_S2048x5632) bitsLt_bf16_f32)
/-- The results as the reference computes them. -/
def valueP (x : Vec Ideal S4096x2048 .bf16) (w : Vec Ideal S4x2048x1408 .bf16) : Vec Ideal S4096x5632 .bf16 :=
  truncf (F := Ideal) .bf16 (lin x w) bitsLt_bf16_f32

/-- The reference's operations, in order. -/
abbrev ops : List (HloOp τ sig (Elt Ideal)) :=
  [ unary main_arg0 main_v0 (extf (F := Ideal) .f32 · bitsLt_bf16_f32),
    unary main_arg1 main_v1 (transpose S2048x4x1408 [1, 0, 2] · transposes_S4x2048x1408_S2048x4x1408_1_0_2),
    reshape main_v1 main_v2 rfl shapeCasts_S2048x4x1408_S2048x5632,
    unary main_v2 main_v3 (extf (F := Ideal) .f32 · bitsLt_bf16_f32),
    binary main_v0 main_v3 main_v4 product,
    unary main_v4 main_v5 (truncf (F := Ideal) .bf16 · bitsLt_bf16_f32) ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨unary_bufs_sub .., unary_bufs_sub .., reshape_bufs_sub .., unary_bufs_sub .., binary_bufs_sub .., unary_bufs_sub ..⟩

theorem run (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD) : Thread nD τ).loc main_v5) = valueP (m (((0 : Dev nD) : Thread nD τ).loc main_arg0)) (m (((0 : Dev nD) : Thread nD τ).loc main_arg1))
      ∧ (r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)) :=
  (θ_run defs _ _).mono (fun _ h => ⟨(h 0 main_v5).trans (by after_results; rfl),
      ⟨(h 0 main_arg0).trans (by after_results), (h 0 main_arg1).trans (by after_results)⟩⟩)
    (run_seq scopedRefs_eq scopedSems_eq defs main (fun _ => ops) main_eq (fun _ => ops_sub) m ρ)

theorem frame : Cert.quiescent_Reference14Ideal := fun m ρ _ =>
  (θ_run defs _ _).mono (fun r h => ⟨fun c => (by obtain rfl : c = 0 := Subsingleton.elim _ _; exact h.2),
      sem_eq_zero_of_no_sems (by decide) r.2⟩)
    (run m ρ)

theorem lin_apply (x : S4096x2048.Idx → EReal) (w : S4x2048x1408.Idx → EReal) (p : Fin 4096) (q : Fin 5632) :
    (lin x w (ix2 p q) : EReal) = Cert.Kernel14Ideal.Value.prod x w p.val q.val := by
  unfold lin Cert.Kernel14Ideal.Value.prod
  pointwise [product]
  rw [dot_first]
  refine Finset.sum_congr rfl fun k _ => (?_ : (_ : EReal) = _)
  rw [ext2_in x p.isLt k.isLt, cols_in w (by omega) k.isLt (by omega)]

theorem valueP_eq (x : S4096x2048.Idx → EReal) (w : S4x2048x1408.Idx → EReal) :
    (valueP x w : S4096x5632.Idx → EReal) = Cert.Kernel14Ideal.Value.res2 x w := by
  funext i
  obtain ⟨p, q, rfl⟩ : ∃ (p : Fin 4096) (q : Fin 5632), i = ix2 p q := ⟨i 0, i 1, eq_ix2 i⟩
  exact lin_apply x w p q

/-- Both compute the same array. -/
theorem algebraic : Cert.algebraic_Kernel14Ideal_Reference14Ideal := by
  intro m ρ m' ρ' _ hagree
  refine ⟨fun c => Cert.Kernel14Ideal.Value.result2 m c, Cert.Kernel14Ideal.Value.run m ρ, ?_⟩
  refine (θ_run defs _ _).mono (fun _ h c => ?_) (run m' ρ')
  obtain rfl : c = 0 := Subsingleton.elim _ _
  refine ⟨h.1.trans ?_, h.2⟩
  rw [(hagree 0).1, (hagree 0).2]
  exact valueP_eq _ _

end Cert.Reference14Ideal.Value
-- ==== Proof.FfnUpmul.lean ====
/-
  The up projection and its product with the gate: the blocks each point writes, and the result arrays.
-/
module

public import proofs.«01_k».proof.Defs
public import proofs.«01_k».proof.Proof.Gen.Kernel15Ideal.Frame
public import proofs.«01_k».proof.Proof.Dots
public import proofs.«01_k».proof.Proof.Gate
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel15Ideal.Value

open Cert.Kernel15Ideal Cert.Kernel15Ideal.Gen Cert.Dots Cert.Gate

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ### The blocks -/

/-- An input array. -/
abbrev arrX (c : Dev nD) : S4096x2048.Idx → EReal := m ((c : Thread nD τ).loc main_arg0)
/-- An input array. -/
abbrev arrU (c : Dev nD) : S4x2048x1408.Idx → EReal := m ((c : Thread nD τ).loc main_arg1)
/-- An input array. -/
abbrev arrA (c : Dev nD) : S4096x5632.Idx → EReal := m ((c : Thread nD τ).loc main_arg2)

theorem at0 : ∀ t : Fin cfg0.N, win0_0.index t 0 = t.val % 8 ∧ win0_0.index t 1 = 0 := by decide +kernel
theorem at1 : ∀ t : Fin cfg0.N, win0_1.index t 0 = t.val / 8 ∧ win0_1.index t 1 = 0 ∧ win0_1.index t 2 = 0 := by decide +kernel
theorem at2 : ∀ t : Fin cfg0.N, win0_2.index t 0 = t.val % 8 ∧ win0_2.index t 1 = t.val / 8 := by decide +kernel
theorem at3 : ∀ t : Fin cfg0.N, win0_3.index t 0 = t.val % 8 ∧ win0_3.index t 1 = t.val / 8 := by decide +kernel
theorem at4 : ∀ t : Fin cfg0.N, win0_4.index t 0 = t.val % 8 ∧ win0_4.index t 1 = t.val / 8 := by decide +kernel

theorem blk0 (c : Dev nD) (t : Fin cfg0.N) (p : Fin 512) (k : Fin 2048) :
    (iblk m c 0 t : S512x2048.Idx → EReal) (ix2 p k) = ext2 (arrX m c) (512 * (t.val % 8) + p.val) k.val := by
  unfold iblk
  rw [View.read_apply]
  show V m c main_arg0 _ = _
  rw [V_main_arg0]
  refine ext2_of (arrX m c) _ ?_ ?_
  · show win0_0.index t 0 * 512 + 1 * p.val = _
    rw [(at0 t).1]; omega
  · show win0_0.index t 1 * 2048 + 1 * k.val = _
    rw [(at0 t).2]; omega

theorem blk1 (c : Dev nD) (t : Fin cfg0.N) (q : Fin 1408) (k : Fin 2048) :
    (iblk m c 1 t : S1x2048x1408.Idx → EReal) (ix3 0 k q) = cols (arrU m c) k.val (1408 * (t.val / 8) + q.val) := by
  unfold iblk
  rw [View.read_apply]
  show V m c main_arg1 _ = _
  rw [V_main_arg1]
  refine cols_of (arrU m c) _ ?_ ?_ ?_
  · show win0_1.index t 0 * 1 + 1 * 0 = _
    rw [(at1 t).1]; omega
  · show win0_1.index t 1 * 2048 + 1 * k.val = _
    rw [(at1 t).2.1]; omega
  · show win0_1.index t 2 * 1408 + 1 * q.val = _
    rw [(at1 t).2.2]; omega

theorem blk2 (c : Dev nD) (t : Fin cfg0.N) (p : Fin 512) (q : Fin 1408) :
    (iblk m c 2 t : S512x1408.Idx → EReal) (ix2 p q) = ext2 (arrA m c) (512 * (t.val % 8) + p.val) (1408 * (t.val / 8) + q.val) := by
  unfold iblk
  rw [View.read_apply]
  show V m c main_arg2 _ = _
  rw [V_main_arg2]
  refine ext2_of (arrA m c) _ ?_ ?_
  · show win0_2.index t 0 * 512 + 1 * p.val = _
    rw [(at2 t).1]; omega
  · show win0_2.index t 1 * 1408 + 1 * q.val = _
    rw [(at2 t).2]; omega

/-- An entry of the input times a weight. -/
def prod (x : S4096x2048.Idx → EReal) (w : S4x2048x1408.Idx → EReal) (i j : ℕ) : EReal :=
  dot (fun k => ext2 x i k) (fun k => cols w k j) 2048

/-- The gated product: the gate, through its activation, times the up projection. -/
def mid (x : S4096x2048.Idx → EReal) (u : S4x2048x1408.Idx → EReal) (a : S4096x5632.Idx → EReal) (i j : ℕ) : EReal :=
  ext2 a i j * sg (ext2 a i j) * prod x u i j

theorem pay1 (x : Vec Ideal S512x2048 .bf16) (y : Vec Ideal S1x2048x1408 .bf16) (p : Fin 512) (q : Fin 1408) :
    k0_pay1 x y (ix2 p q) = ∑ k : Fin 2048, x (ix2 p k) * y (ix3 0 k q) := by
  unfold k0_pay1
  pointwise

theorem pay2 (x : Vec Ideal S512x2048 .bf16) (y : Vec Ideal S1x2048x1408 .bf16) (p : Fin 512) (q : Fin 1408) :
    k0_pay2 x y (ix2 p q) = k0_pay1 x y (ix2 p q) := rfl

theorem pay3 (x : Vec Ideal S512x2048 .bf16) (u : Vec Ideal S1x2048x1408 .bf16) (z : Vec Ideal S512x1408 .bf16) (p : Fin 512) (q : Fin 1408) :
    (k0_pay3 x u z (ix2 p q) : EReal) = z (ix2 p q) * sg (z (ix2 p q)) * k0_pay1 x u (ix2 p q) := by
  unfold k0_pay3 sg
  pointwise
  rw [zero_sub]

theorem hdotA (c : Dev nD) (t : Fin cfg0.N) (p : Fin 512) (q : Fin 1408) :
    k0_pay1 (iblk m c 0 t) (iblk m c 1 t) (ix2 p q)
      = prod (arrX m c) (arrU m c) (512 * (t.val % 8) + p.val) (1408 * (t.val / 8) + q.val) := by
  refine (pay1 _ _ p q).trans ?_
  unfold prod
  rw [dot_first]
  refine Finset.sum_congr rfl fun k _ => (?_ : (_ : EReal) = _)
  rw [blk0, blk1]

/-! ### The result arrays -/

/-- A result, entry by entry. -/
def res3 (x : S4096x2048.Idx → EReal) (u : S4x2048x1408.Idx → EReal) : S4096x5632.Idx → EReal := fun i => prod x u (i 0).val (i 1).val

abbrev result3 (c : Dev nD) := res3 (arrX m c) (arrU m c)

theorem out_at3 (c : Dev nD) (t : Fin cfg0.N) (y : S512x1408.Idx) :
    out0_3 (iblk m c 0 t) (iblk m c 1 t) (iblk m c 2 t) y = prod (arrX m c) (arrU m c) (512 * (t.val % 8) + (y 0).val) (1408 * (t.val / 8) + (y 1).val) := by
  obtain ⟨p, q, rfl⟩ : ∃ (p : Fin 512) (q : Fin 1408), y = ix2 p q := ⟨y 0, y 1, eq_ix2 y⟩
  unfold out0_3
  rw [View.canon_unit_zero hz]
  simp only [View.ld_unit_zero (S := S1x2048x1408) hz3, View.ld_unit_zero (S := S512x2048) hz]
  show _ = prod (arrX m c) (arrU m c) (512 * (t.val % 8) + p.val) (1408 * (t.val / 8) + q.val)
  rw [pay2, hdotA m c t]

theorem flushed3 (c : Dev nD) (t : Fin cfg0.N) (hf : (cfg0.win 3).flush t = true) :
    (dats m 0 c).flushed 3 t = ((cfg0.win 3).blk t).view.read (Elt Ideal) (result3 m c) := by
  show (cfg0.win 3).cut (grid0.coords t) ((dats m 0 c).after 3 t) = _
  rw [after0_3]
  funext y
  rw [View.read_apply]
  refine (out_at3 m c t y).trans ?_
  have er : 512 * (t.val % 8) + (y 0).val = win0_3.index t 0 * 512 + 1 * (y 0).val := by rw [(at3 t).1]; omega
  have ec : 1408 * (t.val / 8) + (y 1).val = win0_3.index t 1 * 1408 + 1 * (y 1).val := by rw [(at3 t).2]; omega
  rw [er, ec]
  rfl

/-- A result, entry by entry. -/
def res4 (x : S4096x2048.Idx → EReal) (u : S4x2048x1408.Idx → EReal) (a : S4096x5632.Idx → EReal) : S4096x5632.Idx → EReal := fun i => mid x u a (i 0).val (i 1).val

abbrev result4 (c : Dev nD) := res4 (arrX m c) (arrU m c) (arrA m c)

theorem out_at4 (c : Dev nD) (t : Fin cfg0.N) (y : S512x1408.Idx) :
    out0_4 (iblk m c 0 t) (iblk m c 1 t) (iblk m c 2 t) y = mid (arrX m c) (arrU m c) (arrA m c) (512 * (t.val % 8) + (y 0).val) (1408 * (t.val / 8) + (y 1).val) := by
  obtain ⟨p, q, rfl⟩ : ∃ (p : Fin 512) (q : Fin 1408), y = ix2 p q := ⟨y 0, y 1, eq_ix2 y⟩
  unfold out0_4
  rw [View.canon_unit_zero hz]
  simp only [View.ld_unit_zero (S := S1x2048x1408) hz3, View.ld_unit_zero (S := S512x2048) hz, View.ld_unit_zero (S := S512x1408) hz]
  show _ = mid (arrX m c) (arrU m c) (arrA m c) (512 * (t.val % 8) + p.val) (1408 * (t.val / 8) + q.val)
  rw [pay3, hdotA m c t, blk2]
  rfl

theorem flushed4 (c : Dev nD) (t : Fin cfg0.N) (hf : (cfg0.win 4).flush t = true) :
    (dats m 0 c).flushed 4 t = ((cfg0.win 4).blk t).view.read (Elt Ideal) (result4 m c) := by
  show (cfg0.win 4).cut (grid0.coords t) ((dats m 0 c).after 4 t) = _
  rw [after0_4]
  funext y
  rw [View.read_apply]
  refine (out_at4 m c t y).trans ?_
  have er : 512 * (t.val % 8) + (y 0).val = win0_4.index t 0 * 512 + 1 * (y 0).val := by rw [(at4 t).1]; omega
  have ec : 1408 * (t.val / 8) + (y 1).val = win0_4.index t 1 * 1408 + 1 * (y 1).val := by rw [(at4 t).2]; omega
  rw [er, ec]
  rfl

/-- The point that writes the block an index of a result lies in. -/
def ptOf (y : S4096x5632.Idx) : Fin cfg0.N :=
  ⟨8 * ((y 1).val / 1408) + (y 0).val / 512, by
    have h0 : (y 0).val < 4096 := (y 0).isLt
    have h1 : (y 1).val < 5632 := (y 1).isLt
    rw [show cfg0.N = 32 from N_0]; omega⟩

theorem final3 (c : Dev nD) : (dats m 0 c).arrAt 3 cfg0.N = result3 m c :=
  (dats m 0 c).arrAt_eq_of_cover 3 (result3 m c) (flushed3 m c) fun (y : S4096x5632.Idx) =>
    ⟨ptOf y, flush0_3 (ptOf y), by
      show y ∈ ((View.whole main_v0_0).slice (win0_3.rect (ptOf y))).set
      rw [View.set_slice_whole, Rect.mem_set_unit]
      have h0 : (y 0).val < 4096 := (y 0).isLt
      have h1 : (y 1).val < 5632 := (y 1).isLt
      obtain ⟨e0, e1⟩ := at3 (ptOf y)
      have hv : (ptOf y).val = 8 * ((y 1).val / 1408) + (y 0).val / 512 := rfl
      rw [hv] at e0 e1
      intro a
      match a with
      | ⟨0, _⟩ => show win0_3.index (ptOf y) 0 * 512 ≤ (y 0).val ∧ (y 0).val < win0_3.index (ptOf y) 0 * 512 + 512
                  rw [e0]; omega
      | ⟨1, _⟩ => show win0_3.index (ptOf y) 1 * 1408 ≤ (y 1).val ∧ (y 1).val < win0_3.index (ptOf y) 1 * 1408 + 1408
                  rw [e1]; omega⟩

theorem final4 (c : Dev nD) : (dats m 0 c).arrAt 4 cfg0.N = result4 m c :=
  (dats m 0 c).arrAt_eq_of_cover 4 (result4 m c) (flushed4 m c) fun (y : S4096x5632.Idx) =>
    ⟨ptOf y, flush0_4 (ptOf y), by
      show y ∈ ((View.whole main_v0_1).slice (win0_4.rect (ptOf y))).set
      rw [View.set_slice_whole, Rect.mem_set_unit]
      have h0 : (y 0).val < 4096 := (y 0).isLt
      have h1 : (y 1).val < 5632 := (y 1).isLt
      obtain ⟨e0, e1⟩ := at4 (ptOf y)
      have hv : (ptOf y).val = 8 * ((y 1).val / 1408) + (y 0).val / 512 := rfl
      rw [hv] at e0 e1
      intro a
      match a with
      | ⟨0, _⟩ => show win0_4.index (ptOf y) 0 * 512 ≤ (y 0).val ∧ (y 0).val < win0_4.index (ptOf y) 0 * 512 + 512
                  rw [e0]; omega
      | ⟨1, _⟩ => show win0_4.index (ptOf y) 1 * 1408 ≤ (y 1).val ∧ (y 1).val < win0_4.index (ptOf y) 1 * 1408 + 1408
                  rw [e1]; omega⟩

/-- The run: the results, the arguments unchanged. -/
theorem run : θ_run defs (onTc (τ := τ) (main (F := Ideal))) ⟨m, fun _ => 0, ρ⟩ fun r => ∀ c : Dev nD,
      r.2.mem ((c : Thread nD τ).loc main_v0_0) = result3 m c
      ∧ r.2.mem ((c : Thread nD τ).loc main_v0_1) = result4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 3).trans (final3 m c), ((h.1 c).1 4).trans (final4 m c), (h.2 c)⟩)
    (θ_run_and (run_main m ρ) (unchanged m ρ))

end Cert.Kernel15Ideal.Value
-- ==== Proof.FfnUpmulRef.lean ====
/-
  The reference of the gate and up projections and their gated product: its run, its results entry by entry, and that the
  kernel's are the same.
-/
module

public import proofs.«01_k».proof.Defs
public import proofs.«01_k».proof.Proof.Gen.Reference15Ideal
public import proofs.«01_k».proof.Proof.FfnUpmul
public import proofs.«01_k».proof.Proof.Gate
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference15Ideal.Value

open Cert.Reference15Ideal Cert.Reference15Ideal.Gen Cert.Dots Cert.Gate Idealize.ShloMosaic.StableHlo

/-- Matrices of the hidden width, and the arithmetic on them, entry by entry. -/
abbrev Mat := FVec Ideal S4096x5632 .f32
abbrev plus (l r : Mat) : Mat := addf l r
abbrev minus (l r : Mat) : Mat := subf l r
abbrev times (l r : Mat) : Mat := mulf l r
abbrev over (l r : Mat) : Mat := Host.divf l r
abbrev neg (l : Mat) : Mat := Host.negf l
abbrev ex (l : Mat) : Mat := Host.exp l
/-- The number one, and the matrix of ones. -/
abbrev one : FVec Ideal S_ .f32 := constant (F := Ideal) S_ .f32 0x3F800000#32
abbrev spread (l : FVec Ideal S_ .f32) : Mat := broadcastInDim S4096x5632 ![] bcast_S_S4096x5632 l
/-- The logistic function, as the host computes it. -/
def logistic (a : Mat) : Mat := over (spread one) (plus (spread one) (ex (neg a)))

theorem logistic_apply (a : Mat) (p : Fin 4096) (q : Fin 5632) : (logistic a (ix2 p q) : EReal) = sg (a (ix2 p q)) := by
  unfold logistic sg
  pointwise

/-- The product of two matrices. -/
abbrev product (l : Vec Ideal S4096x2048 .f32) (r : Vec Ideal S2048x5632 .f32) : Mat :=
  Host.dotGeneral (F := Ideal) (φ₁ := .f32) (φ₂ := .f32) dot_S4096x2048_S2048x5632_S4096x5632_1_0_0_1_n_n none l r

/-- The input times a weight, as the reference computes it. -/
def lin (x : Vec Ideal S4096x2048 .bf16) (w : Vec Ideal S4x2048x1408 .bf16) : Mat :=
  product (extf (F := Ideal) .f32 x bitsLt_bf16_f32) (extf (F := Ideal) .f32 (shapeCast S2048x5632 (transpose S2048x4x1408 [1, 0, 2] w transposes_S4x2048x1408_S2048x4x1408_1_0_2) shapeCasts_S2048x4x1408_S2048x5632) bitsLt_bf16_f32)
/-- The results as the reference computes them. -/
def valueP (x : Vec Ideal S4096x2048 .bf16) (w : Vec Ideal S4x2048x1408 .bf16) : Vec Ideal S4096x5632 .bf16 :=
  truncf (F := Ideal) .bf16 (lin x w) bitsLt_bf16_f32
/-- The gate argument, widened. -/
def gate (a : Vec Ideal S4096x5632 .bf16) : Mat := extf (F := Ideal) .f32 a bitsLt_bf16_f32
def valueM (x : Vec Ideal S4096x2048 .bf16) (u : Vec Ideal S4x2048x1408 .bf16) (a : Vec Ideal S4096x5632 .bf16) : Vec Ideal S4096x5632 .bf16 :=
  truncf (F := Ideal) .bf16 (times (times (gate a) (logistic (gate a))) (lin x u)) bitsLt_bf16_f32

/-- The reference's operations, in order. -/
abbrev ops : List (HloOp τ sig (Elt Ideal)) :=
  [ unary main_arg0 main_v0 (extf (F := Ideal) .f32 · bitsLt_bf16_f32),
    unary main_arg1 main_v1 (transpose S2048x4x1408 [1, 0, 2] · transposes_S4x2048x1408_S2048x4x1408_1_0_2),
    reshape main_v1 main_v2 rfl shapeCasts_S2048x4x1408_S2048x5632,
    unary main_v2 main_v3 (extf (F := Ideal) .f32 · bitsLt_bf16_f32),
    binary main_v0 main_v3 main_v4 product,
    unary main_v4 main_v5 (truncf (F := Ideal) .bf16 · bitsLt_bf16_f32),
    unary main_arg2 main_v6 (extf (F := Ideal) .f32 · bitsLt_bf16_f32),
    unary main_v6 main_call0_v0 neg,
    unary main_call0_v0 main_call0_v1 ex,
    nullary main_call0_cst one,
    unary main_call0_cst main_call0_v2 spread,
    binary main_call0_v2 main_call0_v1 main_call0_v3 plus,
    nullary main_call0_cst_0 one,
    unary main_call0_cst_0 main_call0_v4 spread,
    binary main_call0_v4 main_call0_v3 main_call0_v5 over,
    binary main_v6 main_call0_v5 main_v7 times,
    binary main_v7 main_v4 main_v8 times,
    unary main_v8 main_v9 (truncf (F := Ideal) .bf16 · bitsLt_bf16_f32) ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨unary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub ..⟩

theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD) : Thread nD τ).loc main_v5) = valueP (m (((0 : Dev nD) : Thread nD τ).loc main_arg0)) (m (((0 : Dev nD) : Thread nD τ).loc main_arg1))
        ∧ r.2.mem (((0 : Dev nD) : Thread nD τ).loc main_v9) = valueM (m (((0 : Dev nD) : Thread nD τ).loc main_arg0)) (m (((0 : Dev nD) : Thread nD τ).loc main_arg1)) (m (((0 : Dev nD) : Thread nD τ).loc main_arg2)))
      ∧ (r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)
        ∧ r.2.mem (((0 : Dev nD) : Thread nD τ).loc main_arg2) = m (((0 : Dev nD) : Thread nD τ).loc main_arg2)) :=
  (θ_run defs _ _).mono (fun _ h => ⟨⟨(h 0 main_v5).trans (by after_results; rfl),
        (h 0 main_v9).trans (by after_results; rfl)⟩,
      ⟨(h 0 main_arg0).trans (by after_results), (h 0 main_arg1).trans (by after_results), (h 0 main_arg2).trans (by after_results)⟩⟩)
    (run_seq scopedRefs_eq scopedSems_eq defs main (fun _ => ops) main_eq (fun _ => ops_sub) m ρ)

theorem frame : Cert.quiescent_Reference15Ideal := fun m ρ _ =>
  (θ_run defs _ _).mono (fun r h => ⟨fun c => (by obtain rfl : c = 0 := Subsingleton.elim _ _; exact h.2),
      sem_eq_zero_of_no_sems (by decide) r.2⟩)
    (run m ρ)

theorem lin_apply (x : S4096x2048.Idx → EReal) (w : S4x2048x1408.Idx → EReal) (p : Fin 4096) (q : Fin 5632) :
    (lin x w (ix2 p q) : EReal) = Cert.Kernel15Ideal.Value.prod x w p.val q.val := by
  unfold lin Cert.Kernel15Ideal.Value.prod
  pointwise [product]
  rw [dot_first]
  refine Finset.sum_congr rfl fun k _ => (?_ : (_ : EReal) = _)
  rw [ext2_in x p.isLt k.isLt, cols_in w (by omega) k.isLt (by omega)]

theorem valueP_eq (x : S4096x2048.Idx → EReal) (w : S4x2048x1408.Idx → EReal) :
    (valueP x w : S4096x5632.Idx → EReal) = Cert.Kernel15Ideal.Value.res3 x w := by
  funext i
  obtain ⟨p, q, rfl⟩ : ∃ (p : Fin 4096) (q : Fin 5632), i = ix2 p q := ⟨i 0, i 1, eq_ix2 i⟩
  exact lin_apply x w p q

theorem valueM_eq (x : S4096x2048.Idx → EReal) (u : S4x2048x1408.Idx → EReal) (a : S4096x5632.Idx → EReal) :
    (valueM x u a : S4096x5632.Idx → EReal) = Cert.Kernel15Ideal.Value.res4 x u a := by
  funext i
  obtain ⟨p, q, rfl⟩ : ∃ (p : Fin 4096) (q : Fin 5632), i = ix2 p q := ⟨i 0, i 1, eq_ix2 i⟩
  show _ = ext2 a p.val q.val * sg (ext2 a p.val q.val) * Cert.Kernel15Ideal.Value.prod x u p.val q.val
  rw [← lin_apply, ext2_in a p.isLt q.isLt]
  have hg : (gate a (ix2 p q) : EReal) = a (ix2 p q) := rfl
  have hl := logistic_apply (gate a) p q
  rw [hg] at hl
  rw [← hl]
  unfold valueM
  pointwise
  rfl

/-- Both compute the same arrays. -/
theorem algebraic : Cert.algebraic_Kernel15Ideal_Reference15Ideal := by
  intro m ρ m' ρ' _ hagree
  refine ⟨fun c => Cert.Kernel15Ideal.Value.result3 m c, fun c => Cert.Kernel15Ideal.Value.result4 m c, Cert.Kernel15Ideal.Value.run m ρ, ?_⟩
  refine (θ_run defs _ _).mono (fun _ h c => ?_) (run m' ρ')
  obtain rfl : c = 0 := Subsingleton.elim _ _
  refine ⟨h.1.1.trans ?_, h.1.2.trans ?_, h.2⟩
  · rw [(hagree 0).1, (hagree 0).2.1]
    exact valueP_eq _ _
  · rw [(hagree 0).1, (hagree 0).2.1, (hagree 0).2.2]
    exact valueM_eq _ _ _

end Cert.Reference15Ideal.Value
-- ==== Proof.RmsFwd.lean ====
/-
  A root-mean-square norm: the blocks each point writes, and the result arrays.
-/
module

public import proofs.«01_k».proof.Defs
public import proofs.«01_k».proof.Proof.Gen.Kernel16Ideal.Frame
public import proofs.«01_k».proof.Proof.Dots
public import proofs.«01_k».proof.Proof.RmsBwd
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel16Ideal.Value

open Cert.Kernel16Ideal Cert.Kernel16Ideal.Gen Cert.Dots
open Cert.Kernel13Ideal.Value (mean eps gain gain_in xh number')

variable (m : (ℓ : Loc nD τ sig) → Buf (Elt Ideal) ℓ) (ρ : Dev nD → PrngReg)

theorem hz : (![0, 0] : Fin 2 → Nat) = fun _ => 0 := funext fun a => by fin_cases a <;> rfl

/-! ### The arrays -/

/-- The norm's input. -/
abbrev arrX (c : Dev nD) : S4096x2048.Idx → EReal := m ((c : Thread nD τ).loc main_arg0)
/-- The gain. -/
abbrev arrG (c : Dev nD) : S2048.Idx → EReal := m ((c : Thread nD τ).loc main_arg1)

theorem V_gain_at (c : Dev nD) (y : S1x2048.Idx) {j : ℕ} (h : (y 1).val = j) : (V m c main_v0 : S1x2048.Idx → EReal) y = gain (arrG m c) j := by
  subst h
  obtain ⟨z, q, rfl⟩ : ∃ (z : Fin 1) (q : Fin 2048), y = ix2 z q := ⟨y 0, y 1, eq_ix2 y⟩
  refine Eq.trans (b := shapeCast S1x2048 (m ((c : Thread nD τ).loc main_arg1) : Vec Ideal S2048 .f32) shapeCasts_S2048_S1x2048 (ix2 z q)) ?_ ?_
  · refine congrFun ?_ _
    unfold V hostOps0
    after_results
    rfl
  · show _ = gain (arrG m c) q.val
    rw [gain_in _ q.isLt]
    refine shapeCast_apply (s := S2048) (t := S1x2048) _ _ _ _ ?_
    rw [Shape.rowMajor_val_one, Shape.rowMajor_val_two]
    have hz0 : z.val = 0 := by omega
    show q.val = z.val * 2048 + q.val
    omega

/-! ### What a point computes -/

theorem pay1 (x : Vec Ideal S512x2048 .f32) (p : Fin 512) (z : Fin 1) :
    (k0_pay1 x (ix2 p z) : EReal) = Ideal.rsqrt (mean (∑ k : Fin 2048, x (ix2 p k) * x (ix2 p k)) + eps) := by
  unfold k0_pay1 mean eps
  rw [← number']
  pointwise

theorem pay2 (x : Vec Ideal S512x2048 .f32) (g : Vec Ideal S1x2048 .f32) (p : Fin 512) (q : Fin 2048) :
    (k0_pay2 x g (ix2 p q) : EReal) = x (ix2 p q) * k0_pay1 x (ix2 p 0) * g (ix2 0 q) := by
  unfold k0_pay2
  pointwise

/-! ### The blocks -/

theorem at0 : ∀ t : Fin cfg0.N, win0_0.index t 0 = t.val ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = t.val ∧ win0_3.index t 1 = 0 := by decide +kernel

theorem blk0 (c : Dev nD) (t : Fin cfg0.N) (p : Fin 512) (k : Fin 2048) :
    (iblk m c 0 t : S512x2048.Idx → EReal) (ix2 p k) = ext2 (arrX m c) (512 * t.val + p.val) k.val := by
  unfold iblk
  rw [View.read_apply]
  show V m c main_arg0 _ = _
  rw [V_main_arg0]
  refine ext2_of (arrX m c) _ ?_ ?_
  · show win0_0.index t 0 * 512 + 1 * p.val = _
    rw [(at0 t).1]; omega
  · show win0_0.index t 1 * 2048 + 1 * k.val = _
    rw [(at0 t).2]; omega

theorem blk1 (c : Dev nD) (t : Fin cfg0.N) (z : Fin 1) (q : Fin 2048) :
    (iblk m c 1 t : S1x2048.Idx → EReal) (ix2 z q) = gain (arrG m c) q.val := by
  unfold iblk
  rw [View.read_apply]
  refine V_gain_at m c _ ?_
  show win0_1.index t 1 * 2048 + 1 * q.val = _
  rw [(at1 t).2]; omega

/-! ### The results at a point -/

theorem inv_at (c : Dev nD) (t : Fin cfg0.N) (p : Fin 512) (z : Fin 1) :
    (k0_pay1 (iblk m c 0 t) (ix2 p z) : EReal) = Cert.Kernel13Ideal.Value.inv (arrX m c) (512 * t.val + p.val) := by
  refine (pay1 _ p z).trans ?_
  simp only [blk0]
  unfold Cert.Kernel13Ideal.Value.inv
  rw [dot_first]

theorem norm_at (c : Dev nD) (t : Fin cfg0.N) (p : Fin 512) (q : Fin 2048) :
    (k0_pay2 (iblk m c 0 t) (iblk m c 1 t) (ix2 p q) : EReal) = xh (arrX m c) (512 * t.val + p.val) q.val * gain (arrG m c) q.val := by
  refine (pay2 _ _ p q).trans ?_
  rw [inv_at, blk0, blk1]
  rfl

/-! ### The result arrays -/

/-- The normalised input times the gain, entry by entry. -/
def resH (x : S4096x2048.Idx → EReal) (g : S2048.Idx → EReal) : S4096x2048.Idx → EReal :=
  fun i => xh x (i 0).val (i 1).val * gain g (i 1).val

/-- The inverse roots, row by row. -/
def resR (x : S4096x2048.Idx → EReal) : S4096x1.Idx → EReal := fun i => Cert.Kernel13Ideal.Value.inv x (i 0).val

abbrev resultH (c : Dev nD) := resH (arrX m c) (arrG m c)
abbrev resultR (c : Dev nD) := resR (arrX m c)

theorem flushed2 (c : Dev nD) (t : Fin cfg0.N) (hf : (cfg0.win 2).flush t = true) :
    (dats m 0 c).flushed 2 t = ((cfg0.win 2).blk t).view.read (Elt Ideal) (resultH m c) := by
  show (cfg0.win 2).cut (grid0.coords t) ((dats m 0 c).after 2 t) = _
  rw [after0_2]
  funext (y : S512x2048.Idx)
  rw [View.read_apply]
  obtain ⟨p, q, rfl⟩ : ∃ (p : Fin 512) (q : Fin 2048), y = ix2 p q := ⟨y 0, y 1, eq_ix2 y⟩
  refine Eq.trans (b := xh (arrX m c) (512 * t.val + p.val) q.val * gain (arrG m c) q.val) ?_ ?_
  · show out0_2 (iblk m c 0 t) (iblk m c 1 t) (ix2 p q) = _
    unfold out0_2
    rw [View.canon_unit_zero hz]
    simp only [View.ld_unit_zero (S := S512x2048) hz, View.ld_unit_zero (S := S1x2048) hz]
    exact norm_at m c t p q
  · have er : 512 * t.val + p.val = win0_2.index t 0 * 512 + 1 * p.val := by rw [(at2 t).1]; omega
    have ec : q.val = win0_2.index t 1 * 2048 + 1 * q.val := by rw [(at2 t).2]; omega
    conv_lhs => rw [er, ec]
    rfl

theorem flushed3 (c : Dev nD) (t : Fin cfg0.N) (hf : (cfg0.win 3).flush t = true) :
    (dats m 0 c).flushed 3 t = ((cfg0.win 3).blk t).view.read (Elt Ideal) (resultR m c) := by
  show (cfg0.win 3).cut (grid0.coords t) ((dats m 0 c).after 3 t) = _
  rw [after0_3]
  funext (y : S512x1.Idx)
  rw [View.read_apply]
  obtain ⟨p, z, rfl⟩ : ∃ (p : Fin 512) (z : Fin 1), y = ix2 p z := ⟨y 0, y 1, eq_ix2 y⟩
  refine Eq.trans (b := Cert.Kernel13Ideal.Value.inv (arrX m c) (512 * t.val + p.val)) ?_ ?_
  · show out0_3 (iblk m c 0 t) (iblk m c 1 t) (ix2 p z) = _
    unfold out0_3
    rw [View.canon_unit_zero hz]
    simp only [View.ld_unit_zero (S := S512x2048) hz]
    exact inv_at m c t p z
  · have er : 512 * t.val + p.val = win0_3.index t 0 * 512 + 1 * p.val := by rw [(at3 t).1]; omega
    conv_lhs => rw [er]
    rfl

/-- The point that writes the rows a row number lies in. -/
def ptOf (i : Fin 4096) : Fin cfg0.N := ⟨i.val / 512, by rw [show cfg0.N = 8 from N_0]; omega⟩

theorem final2 (c : Dev nD) : (dats m 0 c).arrAt 2 cfg0.N = resultH m c :=
  (dats m 0 c).arrAt_eq_of_cover 2 (resultH m c) (flushed2 m c) fun (y : S4096x2048.Idx) =>
    ⟨ptOf (y 0), flush0_2 (ptOf (y 0)), by
      show y ∈ ((View.whole main_v1_0).slice (win0_2.rect (ptOf (y 0)))).set
      rw [View.set_slice_whole, Rect.mem_set_unit]
      have h0 : (y 0).val < 4096 := (y 0).isLt
      have h1 : (y 1).val < 2048 := (y 1).isLt
      obtain ⟨e0, e1⟩ := at2 (ptOf (y 0))
      have hv : (ptOf (y 0)).val = (y 0).val / 512 := rfl
      rw [hv] at e0
      intro a
      match a with
      | ⟨0, _⟩ => show win0_2.index (ptOf (y 0)) 0 * 512 ≤ (y 0).val ∧ (y 0).val < win0_2.index (ptOf (y 0)) 0 * 512 + 512
                  rw [e0]; omega
      | ⟨1, _⟩ => show win0_2.index (ptOf (y 0)) 1 * 2048 ≤ (y 1).val ∧ (y 1).val < win0_2.index (ptOf (y 0)) 1 * 2048 + 2048
                  rw [e1]; omega⟩

theorem final3 (c : Dev nD) : (dats m 0 c).arrAt 3 cfg0.N = resultR m c :=
  (dats m 0 c).arrAt_eq_of_cover 3 (resultR m c) (flushed3 m c) fun (y : S4096x1.Idx) =>
    ⟨ptOf (y 0), flush0_3 (ptOf (y 0)), by
      show y ∈ ((View.whole main_v1_1).slice (win0_3.rect (ptOf (y 0)))).set
      rw [View.set_slice_whole, Rect.mem_set_unit]
      have h0 : (y 0).val < 4096 := (y 0).isLt
      have h1 : (y 1).val < 1 := (y 1).isLt
      obtain ⟨e0, e1⟩ := at3 (ptOf (y 0))
      have hv : (ptOf (y 0)).val = (y 0).val / 512 := rfl
      rw [hv] at e0
      intro a
      match a with
      | ⟨0, _⟩ => show win0_3.index (ptOf (y 0)) 0 * 512 ≤ (y 0).val ∧ (y 0).val < win0_3.index (ptOf (y 0)) 0 * 512 + 512
                  rw [e0]; omega
      | ⟨1, _⟩ => show win0_3.index (ptOf (y 0)) 1 * 1 ≤ (y 1).val ∧ (y 1).val < win0_3.index (ptOf (y 0)) 1 * 1 + 1
                  rw [e1]; omega⟩

/-- The run: the results, the arguments unchanged. -/
theorem run : θ_run defs (onTc (τ := τ) (main (F := Ideal))) ⟨m, fun _ => 0, ρ⟩ fun r => ∀ c : Dev nD,
      r.2.mem ((c : Thread nD τ).loc main_v1_0) = resultH m c
      ∧ r.2.mem ((c : Thread nD τ).loc main_v1_1) = resultR m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final2 m c), ((h.1 c).1 3).trans (final3 m c), (h.2 c)⟩)
    (θ_run_and (run_main m ρ) (unchanged m ρ))

end Cert.Kernel16Ideal.Value
-- ==== Proof.RmsFwdRef.lean ====
/-
  The reference of the root-mean-square norm: its run, its results entry by entry, and that the
  kernel's are the same.
-/
module

public import proofs.«01_k».proof.Defs
public import proofs.«01_k».proof.Proof.Gen.Reference16Ideal
public import proofs.«01_k».proof.Proof.RmsFwd
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference16Ideal.Value

open Cert.Reference16Ideal Cert.Reference16Ideal.Gen Cert.Dots Idealize.ShloMosaic.StableHlo

/-- The shapes in use, and the arithmetic on them, entry by entry. -/
abbrev Mat := FVec Ideal S4096x2048 .f32
abbrev Col := FVec Ideal S4096x1 .f32
abbrev Num := FVec Ideal S_ .f32
abbrev times (l r : Mat) : Mat := mulf l r
abbrev plusC (l r : Col) : Col := addf l r
abbrev overC (l r : Col) : Col := Host.divf l r
abbrev rootC (l : Col) : Col := Host.rsqrt l
/-- The numbers in use. -/
abbrev zero : Num := constant (F := Ideal) S_ .f32 0x00000000#32
abbrev width : Num := constant (F := Ideal) S_ .f32 0x45000000#32
abbrev small : Num := constant (F := Ideal) S_ .f32 0x358637BD#32
abbrev spread (l : Num) : Col := broadcastInDim S4096x1 ![] bcast_S_S4096x1 l
/-- A column out of a vector, and the matrices whose rows, or columns, are all alike. -/
abbrev col (l : FVec Ideal S4096 .f32) : Col := broadcastInDim S4096x1 ![0] bcast_S4096_S4096x1_0 l
abbrev wide (l : Col) : Mat := broadcastInDim S4096x2048 ![0, 1] bcast_S4096x1_S4096x2048_0_1 l
abbrev row (l : FVec Ideal S2048 .f32) : FVec Ideal S1x2048 .f32 := broadcastInDim S1x2048 ![1] bcast_S2048_S1x2048_1 l
abbrev tall (l : FVec Ideal S1x2048 .f32) : Mat := broadcastInDim S4096x2048 ![0, 1] bcast_S1x2048_S4096x2048_0_1 l
/-- The sum over a row. -/
abbrev sumR (l : Mat) (z : Num) : FVec Ideal S4096 .f32 := Host.reduceAdd l z reducesTo_S4096x2048_S4096_d1 h_S_

/-- The results as the reference computes them. -/
def valueR (x : Mat) : Col := rootC (plusC (overC (col (sumR (times x x) zero)) (spread width)) (spread small))
def valueH (x : Mat) (g : FVec Ideal S2048 .f32) : FVec Ideal S4096x2048 .bf16 :=
  truncf (F := Ideal) .bf16 (times (times x (wide (valueR x))) (tall (row g))) bitsLt_bf16_f32

/-- The reference's operations, in order. -/
abbrev ops : List (HloOp τ sig (Elt Ideal)) :=
  [ binary main_arg0 main_arg0 main_v0 times,
    nullary main_cst zero,
    binary main_v0 main_cst main_v1 sumR,
    unary main_v1 main_v2 col,
    nullary main_cst_0 width,
    unary main_cst_0 main_v3 spread,
    binary main_v2 main_v3 main_v4 overC,
    nullary main_cst_1 small,
    unary main_cst_1 main_v5 spread,
    binary main_v4 main_v5 main_v6 plusC,
    unary main_v6 main_v7 rootC,
    unary main_v7 main_v8 wide,
    binary main_arg0 main_v8 main_v9 times,
    unary main_arg1 main_v10 row,
    unary main_v10 main_v11 tall,
    binary main_v9 main_v11 main_v12 times,
    unary main_v12 main_v13 (truncf (F := Ideal) .bf16 · bitsLt_bf16_f32) ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub ..⟩

theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD) : Thread nD τ).loc main_v13) = valueH (m (((0 : Dev nD) : Thread nD τ).loc main_arg0)) (m (((0 : Dev nD) : Thread nD τ).loc main_arg1))
        ∧ r.2.mem (((0 : Dev nD) : Thread nD τ).loc main_v7) = valueR (m (((0 : Dev nD) : Thread nD τ).loc main_arg0)))
      ∧ (r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)) :=
  (θ_run defs _ _).mono (fun _ h => ⟨⟨(h 0 main_v13).trans (by after_results; rfl),
        (h 0 main_v7).trans (by after_results; rfl)⟩,
      ⟨(h 0 main_arg0).trans (by after_results), (h 0 main_arg1).trans (by after_results)⟩⟩)
    (run_seq scopedRefs_eq scopedSems_eq defs main (fun _ => ops) main_eq (fun _ => ops_sub) m ρ)

theorem frame : Cert.quiescent_Reference16Ideal := fun m ρ _ =>
  (θ_run defs _ _).mono (fun r h => ⟨fun c => (by obtain rfl : c = 0 := Subsingleton.elim _ _; exact h.2),
      sem_eq_zero_of_no_sems (by decide) r.2⟩)
    (run m ρ)

open Cert.Kernel13Ideal.Value (mean eps gain gain_in xh number')
open Cert.Kernel16Ideal.Value (resH resR)

theorem root_apply (x : S4096x2048.Idx → EReal) (p : Fin 4096) (z : Fin 1) : (valueR x (ix2 p z) : EReal) = Cert.Kernel13Ideal.Value.inv x p.val := by
  unfold valueR Cert.Kernel13Ideal.Value.inv mean eps
  pointwise
  rw [number', dot_first]
  refine congrArg (fun s => Ideal.rsqrt (Ideal.div s _ + _)) (Finset.sum_congr rfl fun k _ => (?_ : (_ : EReal) = _))
  rw [ext2_in _ p.isLt k.isLt]

theorem valueR_eq (x : S4096x2048.Idx → EReal) : (valueR x : S4096x1.Idx → EReal) = resR x := by
  funext i
  obtain ⟨p, z, rfl⟩ : ∃ (p : Fin 4096) (z : Fin 1), i = ix2 p z := ⟨i 0, i 1, eq_ix2 i⟩
  exact root_apply x p z

theorem valueH_eq (x : S4096x2048.Idx → EReal) (g : S2048.Idx → EReal) : (valueH x g : S4096x2048.Idx → EReal) = resH x g := by
  funext i
  obtain ⟨p, q, rfl⟩ : ∃ (p : Fin 4096) (q : Fin 2048), i = ix2 p q := ⟨i 0, i 1, eq_ix2 i⟩
  show _ = ext2 x p.val q.val * Cert.Kernel13Ideal.Value.inv x p.val * gain g q.val
  rw [ext2_in x p.isLt q.isLt, gain_in g q.isLt, ← root_apply x p 0]
  unfold valueH
  pointwise

/-- Both compute the same arrays. -/
theorem algebraic : Cert.algebraic_Kernel16Ideal_Reference16Ideal := by
  intro m ρ m' ρ' _ hagree
  refine ⟨fun c => Cert.Kernel16Ideal.Value.resultH m c, fun c => Cert.Kernel16Ideal.Value.resultR m c, Cert.Kernel16Ideal.Value.run m ρ, ?_⟩
  refine (θ_run defs _ _).mono (fun _ h c => ?_) (run m' ρ')
  obtain rfl : c = 0 := Subsingleton.elim _ _
  refine ⟨h.1.1.trans ?_, h.1.2.trans ?_, h.2⟩
  · rw [(hagree 0).1, (hagree 0).2]
    exact valueH_eq _ _
  · rw [(hagree 0).1]
    exact valueR_eq _

end Cert.Reference16Ideal.Value
-- ==== Proof.FgateBwd.lean ====
/-
  The gradient of the forget gate: the sums from each row to the last, the blocks each point writes, and the result arrays.
-/
module

public import proofs.«01_k».proof.Defs
public import proofs.«01_k».proof.Proof.Gen.Kernel17Ideal.Frame
public import proofs.«01_k».proof.Proof.Dots
public import Idealize.ShloMosaic.Lib.Pipeline.Value
public import Idealize.ShloMosaic.Lib.Tactic
public import Idealize.ShloMosaic.Lib.WordCmp

@[expose] public section

noncomputable section

open Idealize.ShloMosaic Idealize.ShloMosaic.TcCoe Idealize.SL.Sem
open Idealize.ShloMosaic.Pipeline (Dat)

namespace Cert.Kernel17Ideal.Value

open Cert.Kernel17Ideal Cert.Kernel17Ideal.Gen Cert.Dots

variable (m : (ℓ : Loc nD τ sig) → Buf (Elt Ideal) ℓ) (ρ : Dev nD → PrngReg)

set_option maxRecDepth 8000

theorem hz : (![0, 0] : Fin 2 → Nat) = fun _ => 0 := funext fun a => by fin_cases a <;> rfl

/-! ### The arrays, and what is computed of them -/

/-- The gradient of the running sums. -/
abbrev arrC (c : Dev nD) : S4096x128.Idx → EReal := m ((c : Thread nD τ).loc main_arg0)
/-- The forget gate's input. -/
abbrev arrF (c : Dev nD) : S4096x128.Idx → EReal := m ((c : Thread nD τ).loc main_arg1)

/-- The sum of a column from a row to the last. -/
def sfx (x : S4096x128.Idx → EReal) (i j : ℕ) : EReal := ∑ k ∈ Finset.Ico i 4096, ext2 x k j

/-- The derivative of the logarithm of the logistic function. -/
def off (a : EReal) : EReal := Ideal.div 1 (1 + Ideal.exp a)

/-- The gradient of the gate's input: nothing beyond the sixteen columns in use. -/
def df (x f : S4096x128.Idx → EReal) (i j : ℕ) : EReal := if j < 16 then sfx x i j * off (ext2 f i j) else 0

/-- The gradient of the gate's bias, of the rows from `i` on. -/
def db (x f : S4096x128.Idx → EReal) (i j : ℕ) : EReal := ∑ k ∈ Finset.Ico i 4096, df x f k j

/-! ### The stored values, entry by entry -/

/-- A number of rows from `p` on, of a block's, picked out by zeros and ones. -/
theorem pick (g : ℕ → EReal) (p b : ℕ) : ∑ k : Fin 512, (if p ≤ k.val then (1 : EReal) else 0) * g (b + k.val) = ∑ k ∈ Finset.Ico (b + p) (b + 512), g k := by
  rw [← Finset.sum_range (fun k => (if p ≤ k then (1 : EReal) else 0) * g (b + k))]
  simp only [ite_mul, one_mul, zero_mul]
  rw [← Finset.sum_filter]
  have e : (Finset.range 512).filter (fun k => p ≤ k) = Finset.Ico p 512 := by
    ext k
    simp only [Finset.mem_filter, Finset.mem_range, Finset.mem_Ico]
    omega
  rw [e, Finset.sum_Ico_add g p 512 b, add_comm p b, add_comm 512 b]

theorem sfx_step (x : S4096x128.Idx → EReal) (j p n : ℕ) (hp : p ≤ 512) (hn : n + 512 ≤ 4096) :
    (∑ k ∈ Finset.Ico (n + p) (n + 512), ext2 x k j) + sfx x (n + 512) j = sfx x (n + p) j :=
  Finset.sum_Ico_consecutive _ (by omega) hn

theorem db_step (x f : S4096x128.Idx → EReal) (j n : ℕ) (hn : n + 512 ≤ 4096) :
    db x f (n + 512) j + (∑ p : Fin 512, df x f (n + p.val) j) = db x f n j := by
  rw [add_comm, ← Finset.sum_range (fun p => df x f (n + p) j), Finset.range_eq_Ico, Finset.sum_Ico_add (fun k => df x f k j) 0 512 n, zero_add, add_comm 512 n]
  exact Finset.sum_Ico_consecutive _ (by omega) hn

/-- One word is at least another: one, or zero, as a number. -/
theorem bit (p k : Fin 512) :
    (FloatOps.sitofp .f32 (BitVec.setWidth 32 (IntOp.cmpi CmpIPredicate.sge (BitVec.ofNat 32 k.val) (BitVec.ofNat 32 p.val))) : Ideal .f32)
      = (if p.val ≤ k.val then (1 : EReal) else 0) := by
  have hp := p.isLt
  have hk := k.isLt
  rw [WordCmp.cmpi_sge_ofNat (by omega) (by omega)]
  by_cases h : p.val ≤ k.val
  · rw [if_pos h, decide_eq_true h]
    show (((1 : Int) : ℝ) : EReal) = 1
    norm_num
  · rw [if_neg h, decide_eq_false h]
    show (((0 : Int) : ℝ) : EReal) = 0
    norm_num

theorem pay3 (z : Fin 1) (q : Fin 128) : (k0_pay3 (F := Ideal) (ix2 z q) : EReal) = 0 := by
  unfold k0_pay3
  pointwise

theorem pay4 (x : Vec Ideal S512x128 .f32) (r : Vec Ideal S1x128 .f32) (p : Fin 512) (q : Fin 128) :
    k0_pay4 x r (ix2 p q) = (∑ k : Fin 512, (if p.val ≤ k.val then (1 : EReal) else 0) * x (ix2 k q)) + r (ix2 0 q) := by
  unfold k0_pay4
  pointwise
  simp only [bit]

theorem pay5 (x : Vec Ideal S512x128 .f32) (r : Vec Ideal S1x128 .f32) (z : Fin 1) (q : Fin 128) :
    k0_pay5 x r (ix2 z q) = k0_pay4 x r (ix2 0 q) := by
  unfold k0_pay5
  pointwise

theorem pay6 (x : Vec Ideal S512x128 .f32) (r : Vec Ideal S1x128 .f32) (f : Vec Ideal S512x128 .f32) (p : Fin 512) (q : Fin 128) :
    k0_pay6 x r f (ix2 p q) = if q.val < 16 then k0_pay4 x r (ix2 p q) * off (f (ix2 p q)) else 0 := by
  unfold k0_pay6
  pointwise
  have hq := q.isLt
  have e : (0 : EReal) - (0 - f (ix2 p q)) = f (ix2 p q) := by
    rw [sub_eq_add_neg, sub_eq_add_neg, zero_add, zero_add, neg_neg]
  rw [e, show (16#32 : BitVec 32) = BitVec.ofNat 32 16 from rfl, WordCmp.cmpi_slt_ofNat (by omega) (by omega)]
  by_cases h : q.val < 16
  · rw [if_pos h, decide_eq_true h]
    rfl
  · rw [if_neg h, decide_eq_false h]
    rfl

theorem pay7 (x : Vec Ideal S512x128 .f32) (r : Vec Ideal S1x128 .f32) (f : Vec Ideal S512x128 .f32) (p : Fin 512) (q : Fin 128) :
    k0_pay7 x r f (ix2 p q) = k0_pay6 x r f (ix2 p q) := by
  unfold k0_pay7
  pointwise

theorem pay8 (x : Vec Ideal S512x128 .f32) (r : Vec Ideal S1x128 .f32) (f : Vec Ideal S512x128 .f32) (q : Fin 128) :
    k0_pay8 x r f (ix1 q) = ∑ p : Fin 512, k0_pay6 x r f (ix2 p q) := by
  unfold k0_pay8
  pointwise

theorem pay1 (v : FVec Ideal S128 .f32) (z : Fin 1) (q : Fin 128) : (k0_pay1 v (ix2 z q) : EReal) = v (ix1 q) := by
  unfold k0_pay1
  refine shapeCast_apply (s := S128) (t := S1x128) _ _ _ _ ?_
  rw [Shape.rowMajor_val_one, Shape.rowMajor_val_two]
  have hz0 : z.val = 0 := by omega
  show q.val = z.val * 128 + q.val
  omega

theorem pay2 (v : FVec Ideal S128 .f32) (b : Vec Ideal S1x128 .f32) (z : Fin 1) (q : Fin 128) : (k0_pay2 v b (ix2 z q) : EReal) = b (ix2 z q) + v (ix1 q) := by
  unfold k0_pay2
  pointwise [pay1]

/-! ### One point's stores -/

/-- The first point: the block of the gradient. -/
theorem dfA (c : Dev nD) (t : Fin cfg0.N) (h : t.val = 0) :
    (outsAt0 m c t.val t.isLt).1 = k0_pay7 (iblk m c 0 t) (k0_pay3 (F := Ideal)) (iblk m c 1 t) := by
  have hN : t.val < 8 := lt_of_lt_of_eq t.isLt N_0
  rw [outsAt0_A m c t (by omega) (by omega) (by omega)]
  dsimp only
  unfold out0_A_2
  rw [View.read_writes_eq_canon _ _ _ (fun _ => cover0_A_2 ..)]
  unfold kernelRun0_A
  dsimp only
  sl_unfold_words
  rw [View.canon_unit_zero hz]
  simp only [View.readAt_eq_ld, (hs0_0 t).read_unread, (hs0_1 t).read_unread, View.readCov_cons_toLoadRect, View.ld_unit_zero (S := S512x128) hz, View.ld_unit_zero (S := S1x128) hz]

/-- The first point: the bias's gradient. -/
theorem dbA (c : Dev nD) (t : Fin cfg0.N) (h : t.val = 0) :
    (outsAt0 m c t.val t.isLt).2.1 = k0_pay1 (k0_pay8 (iblk m c 0 t) (k0_pay3 (F := Ideal)) (iblk m c 1 t)) := by
  have hN : t.val < 8 := lt_of_lt_of_eq t.isLt N_0
  rw [outsAt0_A m c t (by omega) (by omega) (by omega)]
  dsimp only
  unfold out0_A_3
  rw [View.read_writes_eq_canon _ _ _ (fun _ => cover0_A_3 ..)]
  unfold kernelRun0_A
  dsimp only
  sl_unfold_words
  rw [View.canon_unit_zero hz]
  simp only [View.readAt_eq_ld, (hs0_0 t).read_unread, (hs0_1 t).read_unread, View.readCov_cons_toLoadRect, View.ld_unit_zero (S := S512x128) hz, View.ld_unit_zero (S := S1x128) hz]

/-- The first point: the sum carried on. -/
theorem caA (c : Dev nD) (t : Fin cfg0.N) (h : t.val = 0) :
    (outsAt0 m c t.val t.isLt).2.2 = k0_pay5 (iblk m c 0 t) (k0_pay3 (F := Ideal)) := by
  have hN : t.val < 8 := lt_of_lt_of_eq t.isLt N_0
  rw [outsAt0_A m c t (by omega) (by omega) (by omega)]
  dsimp only
  unfold sout0_A_0
  rw [View.read_writes_eq_canon _ _ _ (fun _ => scover0_A_0 ..)]
  unfold kernelRun0_A
  dsimp only
  sl_unfold_words
  rw [View.canon_cons_unit_zero hz]
  simp only [View.readAt_eq_ld, (hs0_0 t).read_unread, (hs0_1 t).read_unread, View.readCov_cons_toLoadRect, View.ld_unit_zero (S := S512x128) hz, View.ld_unit_zero (S := S1x128) hz]

/-- A later point: the block of the gradient. -/
theorem dfB (c : Dev nD) (t : Fin cfg0.N) (h : ¬t.val = 0) :
    (outsAt0 m c t.val t.isLt).1 = k0_pay7 (iblk m c 0 t) (outsAt0 m c (t.val - 1) (Nat.lt_of_le_of_lt (Nat.sub_le _ _) t.isLt)).2.2 (iblk m c 1 t) := by
  have hN : t.val < 8 := lt_of_lt_of_eq t.isLt N_0
  rw [outsAt0_B m c t (by omega) (by omega) (by omega)]
  dsimp only
  unfold out0_B_2
  rw [View.read_writes_eq_canon _ _ _ (fun _ => cover0_B_2 ..)]
  unfold kernelRun0_B
  dsimp only
  sl_unfold_words
  rw [View.canon_unit_zero hz]
  simp only [View.readAt_eq_ld, (hs0_0 t).read_unread, (hs0_1 t).read_unread, (hs0_3 t).read_unread, (Memref.isWhole_whole _).read_unread, View.ld_unit_zero (S := S512x128) hz, View.ld_unit_zero (S := S1x128) hz]

/-- A later point: the bias's gradient. -/
theorem dbB (c : Dev nD) (t : Fin cfg0.N) (h : ¬t.val = 0) :
    (outsAt0 m c t.val t.isLt).2.1 = k0_pay2 (k0_pay8 (iblk m c 0 t) (outsAt0 m c (t.val - 1) (Nat.lt_of_le_of_lt (Nat.sub_le _ _) t.isLt)).2.2 (iblk m c 1 t)) (outsAt0 m c (t.val - 1) (Nat.lt_of_le_of_lt (Nat.sub_le _ _) t.isLt)).2.1 := by
  have hN : t.val < 8 := lt_of_lt_of_eq t.isLt N_0
  rw [outsAt0_B m c t (by omega) (by omega) (by omega)]
  dsimp only
  unfold out0_B_3
  rw [View.read_writes_eq_canon _ _ _ (fun _ => cover0_B_3 ..)]
  unfold kernelRun0_B
  dsimp only
  sl_unfold_words
  rw [View.canon_unit_zero hz]
  simp only [View.readAt_eq_ld, (hs0_0 t).read_unread, (hs0_1 t).read_unread, (hs0_3 t).read_unread, (Memref.isWhole_whole _).read_unread, View.ld_unit_zero (S := S512x128) hz, View.ld_unit_zero (S := S1x128) hz]

/-- A later point: the sum carried on. -/
theorem caB (c : Dev nD) (t : Fin cfg0.N) (h : ¬t.val = 0) :
    (outsAt0 m c t.val t.isLt).2.2 = k0_pay5 (iblk m c 0 t) (outsAt0 m c (t.val - 1) (Nat.lt_of_le_of_lt (Nat.sub_le _ _) t.isLt)).2.2 := by
  have hN : t.val < 8 := lt_of_lt_of_eq t.isLt N_0
  rw [outsAt0_B m c t (by omega) (by omega) (by omega)]
  dsimp only
  unfold sout0_B_0
  rw [View.read_writes_eq_canon _ _ _ (fun _ => scover0_B_0 ..)]
  unfold kernelRun0_B
  dsimp only
  sl_unfold_words
  rw [View.canon_unit_zero hz]
  simp only [View.readAt_eq_ld, (hs0_0 t).read_unread, (hs0_1 t).read_unread, (hs0_3 t).read_unread, (Memref.isWhole_whole _).read_unread, View.ld_unit_zero (S := S512x128) hz, View.ld_unit_zero (S := S1x128) hz]

/-! ### The blocks -/

theorem at0 : ∀ t : Fin cfg0.N, win0_0.index t 0 = 7 - t.val ∧ win0_0.index t 1 = 0 := by decide +kernel
theorem at1 : ∀ t : Fin cfg0.N, win0_1.index t 0 = 7 - t.val ∧ win0_1.index t 1 = 0 := by decide +kernel
theorem at2 : ∀ t : Fin cfg0.N, win0_2.index t 0 = 7 - t.val ∧ win0_2.index t 1 = 0 := by decide +kernel
theorem at3 : ∀ t : Fin cfg0.N, win0_3.index t 0 = 0 ∧ win0_3.index t 1 = 0 := by decide +kernel

theorem blk0 (c : Dev nD) (t : Fin cfg0.N) (p : Fin 512) (q : Fin 128) :
    (iblk m c 0 t : S512x128.Idx → EReal) (ix2 p q) = ext2 (arrC m c) (512 * (7 - t.val) + p.val) q.val := by
  unfold iblk
  rw [View.read_apply]
  show V m c main_arg0 _ = _
  rw [V_main_arg0]
  refine ext2_of (arrC m c) _ ?_ ?_
  · show win0_0.index t 0 * 512 + 1 * p.val = _
    rw [(at0 t).1]; omega
  · show win0_0.index t 1 * 128 + 1 * q.val = _
    rw [(at0 t).2]; omega

theorem blk1 (c : Dev nD) (t : Fin cfg0.N) (p : Fin 512) (q : Fin 128) :
    (iblk m c 1 t : S512x128.Idx → EReal) (ix2 p q) = ext2 (arrF m c) (512 * (7 - t.val) + p.val) q.val := by
  unfold iblk
  rw [View.read_apply]
  show V m c main_arg1 _ = _
  rw [V_main_arg1]
  refine ext2_of (arrF m c) _ ?_ ?_
  · show win0_1.index t 0 * 512 + 1 * p.val = _
    rw [(at1 t).1]; omega
  · show win0_1.index t 1 * 128 + 1 * q.val = _
    rw [(at1 t).2]; omega

/-! ### The results at a point -/

/-- The sums of a block, given the sum from the block after it on. -/
theorem sums (c : Dev nD) (t : Fin cfg0.N) (r : Vec Ideal S1x128 .f32)
    (hr : ∀ q : Fin 128, (r (ix2 0 q) : EReal) = sfx (arrC m c) (512 * (7 - t.val) + 512) q.val) (p : Fin 512) (q : Fin 128) :
    k0_pay4 (iblk m c 0 t) r (ix2 p q) = sfx (arrC m c) (512 * (7 - t.val) + p.val) q.val := by
  have hN : t.val < 8 := lt_of_lt_of_eq t.isLt N_0
  have hp := p.isLt
  rw [pay4, hr]
  simp only [blk0]
  rw [pick (fun k => ext2 (arrC m c) k q.val)]
  exact sfx_step _ _ _ _ (by omega) (by omega)

theorem grads (c : Dev nD) (t : Fin cfg0.N) (r : Vec Ideal S1x128 .f32)
    (hr : ∀ q : Fin 128, (r (ix2 0 q) : EReal) = sfx (arrC m c) (512 * (7 - t.val) + 512) q.val) (p : Fin 512) (q : Fin 128) :
    k0_pay6 (iblk m c 0 t) r (iblk m c 1 t) (ix2 p q) = df (arrC m c) (arrF m c) (512 * (7 - t.val) + p.val) q.val := by
  rw [pay6, sums m c t r hr, blk1]
  rfl

/-- The sum carried into the first point. -/
theorem first (c : Dev nD) (t : Fin cfg0.N) (h : t.val = 0) (q : Fin 128) :
    (k0_pay3 (F := Ideal) (ix2 0 q) : EReal) = sfx (arrC m c) (512 * (7 - t.val) + 512) q.val := by
  rw [pay3, h]
  exact (Finset.sum_eq_zero fun k hk => absurd (Finset.mem_Ico.mp hk) (by omega)).symm

theorem ca_at (c : Dev nD) : ∀ (n : ℕ) (h : n < cfg0.N) (q : Fin 128),
    ((outsAt0 m c n h).2.2 (ix2 0 q) : EReal) = sfx (arrC m c) (512 * (7 - n)) q.val := by
  intro n
  induction n with
  | zero =>
    intro h q
    refine (congrFun (caA m c ⟨0, h⟩ rfl) _).trans ?_
    rw [pay5]
    exact sums m c ⟨0, h⟩ _ (first m c ⟨0, h⟩ rfl) 0 q
  | succ n ih =>
    intro h q
    have hN : n + 1 < 8 := lt_of_lt_of_eq h N_0
    refine (congrFun (caB m c ⟨n + 1, h⟩ (Nat.succ_ne_zero n)) _).trans ?_
    rw [pay5]
    refine sums m c ⟨n + 1, h⟩ _ (fun q => (ih (Nat.lt_of_succ_lt h) q).trans ?_) 0 q
    show sfx _ _ _ = sfx _ (512 * (7 - (n + 1)) + 512) _
    rw [show 512 * (7 - (n + 1)) + 512 = 512 * (7 - n) by omega]

/-- The sum carried into a later point. -/
theorem next (c : Dev nD) (t : Fin cfg0.N) (h : ¬t.val = 0) (q : Fin 128) :
    ((outsAt0 m c (t.val - 1) (Nat.lt_of_le_of_lt (Nat.sub_le _ _) t.isLt)).2.2 (ix2 0 q) : EReal) = sfx (arrC m c) (512 * (7 - t.val) + 512) q.val := by
  have hN : t.val < 8 := lt_of_lt_of_eq t.isLt N_0
  rw [ca_at, show 512 * (7 - t.val) + 512 = 512 * (7 - (t.val - 1)) by omega]

theorem df_at (c : Dev nD) (t : Fin cfg0.N) (p : Fin 512) (q : Fin 128) :
    ((outsAt0 m c t.val t.isLt).1 (ix2 p q) : EReal) = df (arrC m c) (arrF m c) (512 * (7 - t.val) + p.val) q.val := by
  by_cases h : t.val = 0
  · exact (congrFun (dfA m c t h) _).trans ((pay7 _ _ _ p q).trans (grads m c t _ (first m c t h) p q))
  · exact (congrFun (dfB m c t h) _).trans ((pay7 _ _ _ p q).trans (grads m c t _ (next m c t h) p q))

theorem db_at (c : Dev nD) : ∀ (n : ℕ) (h : n < cfg0.N) (z : Fin 1) (q : Fin 128),
    ((outsAt0 m c n h).2.1 (ix2 z q) : EReal) = db (arrC m c) (arrF m c) (512 * (7 - n)) q.val := by
  intro n
  induction n with
  | zero =>
    intro h z q
    refine (congrFun (dbA m c ⟨0, h⟩ rfl) _).trans ?_
    rw [pay1, pay8]
    simp only [grads m c ⟨0, h⟩ _ (first m c ⟨0, h⟩ rfl)]
    rw [← db_step _ _ _ _ (by omega : 512 * (7 - 0) + 512 ≤ 4096)]
    exact ((congrArg (· + _) (Finset.sum_eq_zero fun k hk => absurd (Finset.mem_Ico.mp hk) (by omega))).trans (zero_add _)).symm
  | succ n ih =>
    intro h z q
    have hN : n + 1 < 8 := lt_of_lt_of_eq h N_0
    refine (congrFun (dbB m c ⟨n + 1, h⟩ (Nat.succ_ne_zero n)) _).trans ?_
    rw [pay2, pay8]
    simp only [grads m c ⟨n + 1, h⟩ _ (next m c ⟨n + 1, h⟩ (Nat.succ_ne_zero n))]
    rw [← db_step _ _ _ _ (by omega : 512 * (7 - (n + 1)) + 512 ≤ 4096), show 512 * (7 - (n + 1)) + 512 = 512 * (7 - n) by omega]
    exact congrArg (· + _) (ih (Nat.lt_of_succ_lt h) z q)

/-! ### The result arrays -/

/-- The gradient of the gate's input, entry by entry. -/
def resF (x f : S4096x128.Idx → EReal) : S4096x128.Idx → EReal := fun i => df x f (i 0).val (i 1).val

/-- The gradient of the gate's bias, entry by entry. -/
def resB (x f : S4096x128.Idx → EReal) : S1x128.Idx → EReal := fun i => db x f 0 (i 1).val

abbrev resultF (c : Dev nD) := resF (arrC m c) (arrF m c)
abbrev resultB (c : Dev nD) := resB (arrC m c) (arrF m c)

/-- The point that writes the block an index lies in. -/
def ptOf (y : S4096x128.Idx) : Fin cfg0.N :=
  ⟨7 - (y 0).val / 512, by
    rw [show cfg0.N = 8 from N_0]; omega⟩

theorem flushed2 (c : Dev nD) (t : Fin cfg0.N) (hf : (cfg0.win 2).flush t = true) :
    (dats m 0 c).flushed 2 t = ((cfg0.win 2).blk t).view.read (Elt Ideal) (resultF m c) := by
  show (cfg0.win 2).cut (grid0.coords t) ((dats m 0 c).after 2 t) = _
  rw [after0_2]
  funext (y : S512x128.Idx)
  rw [View.read_apply]
  obtain ⟨p, q, rfl⟩ : ∃ (p : Fin 512) (q : Fin 128), y = ix2 p q := ⟨y 0, y 1, eq_ix2 y⟩
  refine (df_at m c t p q).trans ?_
  have er : 512 * (7 - t.val) + p.val = win0_2.index t 0 * 512 + 1 * p.val := by rw [(at2 t).1]; omega
  have ec : q.val = win0_2.index t 1 * 128 + 1 * q.val := by rw [(at2 t).2]; omega
  conv_lhs => rw [er, ec]
  rfl

theorem final2 (c : Dev nD) : (dats m 0 c).arrAt 2 cfg0.N = resultF m c :=
  (dats m 0 c).arrAt_eq_of_cover 2 (resultF m c) (flushed2 m c) fun (y : S4096x128.Idx) =>
    ⟨ptOf y, flush0_2 (ptOf y), by
      show y ∈ ((View.whole main_v0_0).slice (win0_2.rect (ptOf y))).set
      rw [View.set_slice_whole, Rect.mem_set_unit]
      have h0 : (y 0).val < 4096 := (y 0).isLt
      have h1 : (y 1).val < 128 := (y 1).isLt
      obtain ⟨e0, e1⟩ := at2 (ptOf y)
      have hv : (ptOf y).val = 7 - (y 0).val / 512 := rfl
      rw [hv] at e0
      intro a
      match a with
      | ⟨0, _⟩ => show win0_2.index (ptOf y) 0 * 512 ≤ (y 0).val ∧ (y 0).val < win0_2.index (ptOf y) 0 * 512 + 512
                  rw [e0]; omega
      | ⟨1, _⟩ => show win0_2.index (ptOf y) 1 * 128 ≤ (y 1).val ∧ (y 1).val < win0_2.index (ptOf y) 1 * 128 + 128
                  rw [e1]; omega⟩

theorem flushed3 (c : Dev nD) (t : Fin cfg0.N) (hf : (cfg0.win 3).flush t = true) :
    (dats m 0 c).flushed 3 t = ((cfg0.win 3).blk t).view.read (Elt Ideal) (resultB m c) := by
  have h7 : t.val = 7 := by
    have := (flush0_3 t).mp hf
    have hN : t.val < 8 := lt_of_lt_of_eq t.isLt N_0
    omega
  show (cfg0.win 3).cut (grid0.coords t) ((dats m 0 c).after 3 t) = _
  rw [after0_3]
  funext (y : S1x128.Idx)
  rw [View.read_apply]
  obtain ⟨z, q, rfl⟩ : ∃ (z : Fin 1) (q : Fin 128), y = ix2 z q := ⟨y 0, y 1, eq_ix2 y⟩
  refine (db_at m c t.val t.isLt z q).trans ?_
  have ec : q.val = win0_3.index t 1 * 128 + 1 * q.val := by rw [(at3 t).2]; omega
  conv_lhs => rw [h7, ec]
  rfl

/-- The last point, which writes the bias's gradient. -/
def lastPt : Fin cfg0.N := ⟨7, by rw [show cfg0.N = 8 from N_0]; omega⟩

theorem final3 (c : Dev nD) : (dats m 0 c).arrAt 3 cfg0.N = resultB m c :=
  (dats m 0 c).arrAt_eq_of_cover 3 (resultB m c) (flushed3 m c) fun (y : S1x128.Idx) =>
    ⟨lastPt, (flush0_3 lastPt).mpr rfl, by
      show y ∈ ((View.whole main_v0_1).slice (win0_3.rect lastPt)).set
      rw [View.set_slice_whole, Rect.mem_set_unit]
      have h0 : (y 0).val < 1 := (y 0).isLt
      have h1 : (y 1).val < 128 := (y 1).isLt
      obtain ⟨e0, e1⟩ := at3 lastPt
      intro a
      match a with
      | ⟨0, _⟩ => show win0_3.index lastPt 0 * 1 ≤ (y 0).val ∧ (y 0).val < win0_3.index lastPt 0 * 1 + 1
                  rw [e0]; omega
      | ⟨1, _⟩ => show win0_3.index lastPt 1 * 128 ≤ (y 1).val ∧ (y 1).val < win0_3.index lastPt 1 * 128 + 128
                  rw [e1]; omega⟩

/-- The run: the results, the arguments unchanged. -/
theorem run : θ_run defs (onTc (τ := τ) (main (F := Ideal))) ⟨m, fun _ => 0, ρ⟩ fun r => ∀ c : Dev nD,
      r.2.mem ((c : Thread nD τ).loc main_v0_0) = resultF m c
      ∧ r.2.mem ((c : Thread nD τ).loc main_v0_1) = resultB m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final2 m c), ((h.1 c).1 3).trans (final3 m c), (h.2 c)⟩)
    (θ_run_and (run_main m ρ) (unchanged m ρ))

end Cert.Kernel17Ideal.Value
-- ==== Proof.FgateBwdRef.lean ====
/-
  The reference of the gradient of the forget gate: its run, its results entry by entry, and that the kernel's are the same.
-/
module

public import proofs.«01_k».proof.Defs
public import proofs.«01_k».proof.Proof.Gen.Reference17Ideal
public import proofs.«01_k».proof.Proof.FgateBwd
public import Idealize.ShloMosaic.Lib.Routing.OpsOne
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

set_option maxRecDepth 8000

noncomputable section

open Idealize.ShloMosaic Idealize.ShloMosaic.TcCoe Idealize.SL.Sem

namespace Cert.Reference17Ideal.Value

open Cert.Reference17Ideal Cert.Reference17Ideal.Gen Cert.Dots Idealize.ShloMosaic.StableHlo

/-- The shapes in use, and the arithmetic on them, entry by entry. -/
abbrev Mat := FVec Ideal S4096x16 .f32
abbrev Num := FVec Ideal S_ .f32
abbrev Bits := IVec S4096x16 1
abbrev plus (l r : Mat) : Mat := addf l r
abbrev minus (l r : Mat) : Mat := subf l r
abbrev times (l r : Mat) : Mat := mulf l r
abbrev most (l r : Mat) : Mat := maximumf l r
abbrev neg (l : Mat) : Mat := Host.negf l
abbrev ex (l : Mat) : Mat := Host.exp l
abbrev size (l : Mat) : Mat := Host.absf l
abbrev lg (l : Mat) : Mat := Host.log1p l
abbrev differ (l r : Mat) : Bits := cmpf .une l r
abbrev same (l r : Mat) : Bits := cmpf .oeq l r
abbrev sameN (l r : Num) : IVec S_ 1 := cmpf .oeq l r
abbrev pick (b : Bits) (l r : Mat) : Mat := select b l r
abbrev pickN (b : IVec S_ 1) (l r : Num) : Num := select b l r
/-- The numbers in use. -/
abbrev zero : Num := constant (F := Ideal) S_ .f32 0x00000000#32
abbrev top : Num := constant (F := Ideal) S_ .f32 0x7F800000#32
abbrev none : IVec S_ 32 := constantI S_ 32 0#32
abbrev asFloat (l : IVec S_ 32) : Num := sitofp (F := Ideal) .f32 l
/-- Constants spread out. -/
abbrev spread (l : Num) : Mat := broadcastInDim S4096x16 ![] bcast_S_S4096x16 l
abbrev spreadV (l : Num) : FVec Ideal S16 .f32 := broadcastInDim S16 ![] bcast_S_S16 l
abbrev keep (l : Num) : Num := broadcastInDim S_ ![] bcast_S_S_ l
abbrev row (l : FVec Ideal S16 .f32) : FVec Ideal S1x16 .f32 := broadcastInDim S1x16 ![1] bcast_S16_S1x16_1 l
abbrev tall (l : FVec Ideal S1x16 .f32) : Mat := broadcastInDim S4096x16 ![0, 1] bcast_S1x16_S4096x16_0_1 l
/-- The columns in use, and back. -/
abbrev cut (l : FVec Ideal S4096x128 .f32) : Mat := extractStridedSlice S4096x16 ![0, 0] l slices_S4096x128_S4096x16_0_0
abbrev widen (l : Mat) (v : Num) : FVec Ideal S4096x128 .f32 := pad S4096x128 ![0, 0] ![0, 112] ![0, 0] l v pads_S4096x16_S4096x128_000_01120 h_S_
abbrev widenR (l : FVec Ideal S1x16 .f32) (v : Num) : FVec Ideal S1x128 .f32 := pad S1x128 ![0, 0] ![0, 112] ![0, 0] l v pads_S1x16_S1x128_000_01120 h_S_
/-- Sums: down to a row, from a row on, over a column, and over an axis of one. -/
abbrev sumsFrom (l : Mat) (v : Num) : Mat := Host.reduceWindowAdd ![4096, 1] ![1, 1] ![4095, 0] ![0, 0] l v reduceWindows_S4096x16_S4096x16_w4096s1p4095_0_w1s1p0_0 h_S_
abbrev sumsTo (l : Mat) (v : Num) : Mat := Host.reduceWindowAdd ![4096, 1] ![1, 1] ![0, 0] ![4095, 0] l v reduceWindows_S4096x16_S4096x16_w4096s1p0_4095_w1s1p0_0 h_S_
abbrev sumC (l : Mat) (v : Num) : FVec Ideal S16 .f32 := Host.reduceAdd l v reducesTo_S4096x16_S16_d0 h_S_
abbrev sumC1 (l : FVec Ideal S1x16 .f32) (v : Num) : FVec Ideal S16 .f32 := Host.reduceAdd l v reducesTo_S1x16_S16_d0 h_S_

/-- The gate's input with its bias, negated. -/
def inp (f : FVec Ideal S4096x128 .f32) : Mat := neg (plus (cut f) (tall (row (spreadV zero))))
/-- The logarithm of one more than the exponential. -/
def soft (x : Mat) : Mat :=
  pick (differ (minus x (spread zero)) (minus x (spread zero))) (plus x (spread zero)) (plus (most x (spread zero)) (lg (ex (neg (size (minus x (spread zero)))))))
/-- Its derivative. -/
def slope (x : Mat) : Mat :=
  ex (minus (pick (same x (spread top)) (spread zero) x) (pick (same (soft x) (spread top)) (spread zero) (soft x)))
/-- The gradient of the gate's input, in the columns in use. -/
def grad (c f : FVec Ideal S4096x128 .f32) : Mat := neg (times (neg (sumsTo (cut c) (keep zero))) (slope (inp f)))
/-- The results as the reference computes them. -/
def valueF (c f : FVec Ideal S4096x128 .f32) : FVec Ideal S4096x128 .bf16 :=
  truncf (F := Ideal) .bf16 (widen (grad c f) (asFloat none)) bitsLt_bf16_f32
def valueB (c f : FVec Ideal S4096x128 .f32) : FVec Ideal S1x128 .f32 :=
  widenR (shapeCast S1x16 (sumC1 (shapeCast S1x16 (sumC (grad c f) zero) shapeCasts_S16_S1x16) zero) shapeCasts_S16_S1x16) (asFloat none)

/-- The reference's operations, in order. -/
abbrev ops : List (HloOp τ sig (Elt Ideal)) :=
  [ unary main_arg1 main_v0 cut,
    nullary main_cst zero,
    unary main_cst main_v1 spreadV,
    unary main_v1 main_v2 row,
    unary main_v2 main_v3 tall,
    binary main_v0 main_v3 main_v4 plus,
    unary main_v4 main_call0_v0 neg,
    nullary main_call0_call0_cst zero,
    unary main_call0_call0_cst main_call0_call0_v0 spread,
    binary main_call0_v0 main_call0_call0_v0 main_call0_call0_v1 most,
    unary main_call0_call0_cst main_call0_call0_v2 spread,
    binary main_call0_v0 main_call0_call0_v2 main_call0_call0_v3 minus,
    binary main_call0_call0_v3 main_call0_call0_v3 main_call0_call0_v4 differ,
    unary main_call0_call0_cst main_call0_call0_v5 spread,
    binary main_call0_v0 main_call0_call0_v5 main_call0_call0_v6 plus,
    unary main_call0_call0_v3 main_call0_call0_v7 size,
    unary main_call0_call0_v7 main_call0_call0_v8 neg,
    unary main_call0_call0_v8 main_call0_call0_v9 ex,
    unary main_call0_call0_v9 main_call0_call0_v10 lg,
    binary main_call0_call0_v1 main_call0_call0_v10 main_call0_call0_v11 plus,
    ternary main_call0_call0_v4 main_call0_call0_v6 main_call0_call0_v11 main_call0_v1_0 pick,
    nullary main_call0_call0_cst_0 top,
    unary main_call0_call0_cst_0 main_call0_call0_v13 spread,
    binary main_call0_v0 main_call0_call0_v13 main_call0_call0_v14 same,
    nullary main_call0_call0_cst_1 zero,
    unary main_call0_call0_cst_1 main_call0_call0_v15 spread,
    ternary main_call0_call0_v14 main_call0_call0_v15 main_call0_v0 main_call0_call0_v16 pick,
    nullary main_call0_call0_cst_2 top,
    unary main_call0_call0_cst_2 main_call0_call0_v17 spread,
    binary main_call0_v1_0 main_call0_call0_v17 main_call0_call0_v18 same,
    nullary main_call0_call0_cst_3 zero,
    unary main_call0_call0_cst_3 main_call0_call0_v19 spread,
    ternary main_call0_call0_v18 main_call0_call0_v19 main_call0_v1_0 main_call0_call0_v20 pick,
    binary main_call0_call0_v16 main_call0_call0_v20 main_call0_call0_v21 minus,
    unary main_call0_call0_v21 main_v5_1 ex,
    nullary main_call0_call0_cst_4 zero,
    nullary main_call0_call0_cst_5 top,
    binary main_call0_call0_cst_4 main_call0_call0_cst_5 main_call0_call0_v23 sameN,
    nullary main_call0_call0_cst_6 zero,
    nullary main_call0_call0_cst_7 zero,
    ternary main_call0_call0_v23 main_call0_call0_cst_7 main_call0_call0_cst_6 main_call0_call0_v24 pickN,
    nullary main_call0_call0_cst_8 top,
    unary main_call0_call0_cst_8 main_call0_call0_v25 spread,
    binary main_call0_v1_0 main_call0_call0_v25 main_call0_call0_v26 same,
    nullary main_call0_call0_cst_9 zero,
    unary main_call0_call0_cst_9 main_call0_call0_v27 spread,
    ternary main_call0_call0_v26 main_call0_call0_v27 main_call0_v1_0 main_call0_call0_v28 pick,
    unary main_call0_call0_v24 main_call0_call0_v29 spread,
    binary main_call0_call0_v29 main_call0_call0_v28 main_call0_call0_v30 minus,
    unary main_call0_call0_v30 main_call0_call0_v31 ex,
    nullary main_call0_call0_cst_10 zero,
    unary main_call0_call0_cst_10 main_call0_call0_v32 spread,
    binary main_call0_call0_v32 main_call0_call0_v31 main_v5_2 times,
    unary main_call0_v1_0 main_v5_0 neg,
    nullary main_call1_call0_cst zero,
    unary main_call1_call0_cst main_call1_call0_v0 keep,
    binary main_v5_0 main_call1_call0_v0 main_v6 sumsFrom,
    unary main_arg0 main_v7 cut,
    nullary main_call2_call0_cst zero,
    unary main_call2_call0_cst main_call2_call0_v0 keep,
    binary main_v7 main_call2_call0_v0 main_v8 sumsTo,
    unary main_v8 main_call3_v0 neg,
    binary main_call3_v0 main_v5_1 main_call3_v1 times,
    unary main_call3_v1 main_v9 neg,
    nullary main_cst_0 zero,
    binary main_v9 main_cst_0 main_v10 sumC,
    reshape main_v10 main_v11 rfl shapeCasts_S16_S1x16,
    nullary main_cst_1 zero,
    binary main_v11 main_cst_1 main_v12 sumC1,
    nullary main_c none,
    unary main_c main_call4_v0 asFloat,
    binary main_v9 main_call4_v0 main_v13 widen,
    unary main_v13 main_v14 (truncf (F := Ideal) .bf16 · bitsLt_bf16_f32),
    reshape main_v12 main_v15 rfl shapeCasts_S16_S1x16,
    nullary main_c_2 none,
    unary main_c_2 main_call5_v0 asFloat,
    binary main_v15 main_call5_v0 main_v16 widenR ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨unary_bufs_sub .., nullary_bufs_sub .., unary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., binary_bufs_sub .., unary_bufs_sub .., nullary_bufs_sub .., nullary_bufs_sub .., binary_bufs_sub .., nullary_bufs_sub .., nullary_bufs_sub .., ternary_bufs_sub .., nullary_bufs_sub .., unary_bufs_sub .., binary_bufs_sub .., nullary_bufs_sub .., unary_bufs_sub .., ternary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., binary_bufs_sub .., unary_bufs_sub .., nullary_bufs_sub .., binary_bufs_sub .., reshape_bufs_sub .., nullary_bufs_sub .., binary_bufs_sub .., nullary_bufs_sub .., unary_bufs_sub .., binary_bufs_sub .., unary_bufs_sub .., reshape_bufs_sub .., nullary_bufs_sub .., unary_bufs_sub .., binary_bufs_sub ..⟩

theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD) : Thread nD τ).loc main_v14) = valueF (m (((0 : Dev nD) : Thread nD τ).loc main_arg0)) (m (((0 : Dev nD) : Thread nD τ).loc main_arg1))
        ∧ r.2.mem (((0 : Dev nD) : Thread nD τ).loc main_v16) = valueB (m (((0 : Dev nD) : Thread nD τ).loc main_arg0)) (m (((0 : Dev nD) : Thread nD τ).loc main_arg1)))
      ∧ (r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)) :=
  (θ_run defs _ _).mono (fun _ h => ⟨⟨(h 0 main_v14).trans (by after_results; rfl), (h 0 main_v16).trans (by after_results; rfl)⟩,
      ⟨(h 0 main_arg0).trans (by after_results), (h 0 main_arg1).trans (by after_results)⟩⟩)
    (run_seq scopedRefs_eq scopedSems_eq defs main (fun _ => ops) main_eq (fun _ => ops_sub) m ρ)

theorem frame : Cert.quiescent_Reference17Ideal := fun m ρ _ =>
  (θ_run defs _ _).mono (fun r h => ⟨fun c => (by obtain rfl : c = 0 := Subsingleton.elim _ _; exact h.2),
      sem_eq_zero_of_no_sems (by decide) r.2⟩)
    (run m ρ)

open Cert.Kernel17Ideal.Value (sfx off df db resF resB)

/-! ### The derivative, of one number -/

/-- The logarithm of one more than the exponential of a number. -/
def softE (x : EReal) : EReal := max x 0 + Ideal.log1p (Ideal.exp (-max x (-x)))

theorem soft_top : softE ⊤ = ⊤ := by
  have e : (1 : EReal) + 0 = ((1 : ℝ) : EReal) := by rw [add_zero, EReal.coe_one]
  unfold softE Ideal.log1p
  rw [max_eq_left (le_top), max_eq_left le_top, EReal.neg_top, Ideal.exp_bot, e, Ideal.log_coe, if_neg (by norm_num), Real.log_one]
  exact EReal.top_add_coe 0

theorem soft_bot : softE ⊥ = 0 := by
  have e : (1 : EReal) + 0 = ((1 : ℝ) : EReal) := by rw [add_zero, EReal.coe_one]
  unfold softE Ideal.log1p
  rw [max_eq_right bot_le, max_eq_right bot_le, EReal.neg_bot, EReal.neg_top, Ideal.exp_bot, e, Ideal.log_coe, if_neg (by norm_num), Real.log_one]
  exact zero_add _

theorem soft_coe (r : ℝ) : softE r = ((Real.log (1 + Real.exp r) : ℝ) : EReal) := by
  have hp : 0 < 1 + Real.exp (-max r (-r)) := by positivity
  unfold softE Ideal.log1p
  rw [← EReal.coe_neg, ← EReal.coe_zero, ← EReal.coe_strictMono.monotone.map_max, ← EReal.coe_strictMono.monotone.map_max, ← EReal.coe_neg, Ideal.exp_coe, ← EReal.coe_one, ← EReal.coe_add, Ideal.log_coe,
    if_neg (not_le.mpr hp), ← EReal.coe_add]
  congr 1
  rcases le_total 0 r with h | h
  · rw [max_eq_left h, max_eq_left (by linarith)]
    have e : 1 + Real.exp r = Real.exp r * (1 + Real.exp (-r)) := by
      rw [mul_add, mul_one, ← Real.exp_add, add_neg_cancel, Real.exp_zero, add_comm]
    rw [e, Real.log_mul (Real.exp_pos r).ne' (by positivity), Real.log_exp]
  · rw [max_eq_right h, max_eq_right (by linarith), neg_neg, zero_add]

/-- Its derivative at the negation of a number. -/
theorem slope_eq (a : EReal) :
    Ideal.exp ((if -a = ⊤ then 0 else -a) - (if softE (-a) = ⊤ then 0 else softE (-a))) = off a := by
  have e1 : (1 : EReal) + 0 = ((1 : ℝ) : EReal) := by rw [add_zero, EReal.coe_one]
  unfold off
  induction a with
  | top =>
    have e : (1 : EReal) + ⊤ = ⊤ := EReal.coe_add_top 1
    rw [EReal.neg_top, soft_bot, if_neg (by simp), if_neg (by simp), sub_zero, Ideal.exp_bot, Ideal.exp_top, e, Ideal.div, if_neg EReal.top_ne_zero, EReal.inv_top, mul_zero]
  | bot =>
    rw [EReal.neg_bot, soft_top, if_pos rfl, sub_zero, Ideal.exp_bot, e1, ← EReal.coe_zero, Ideal.exp_coe, Real.exp_zero, Ideal.div_coe one_ne_zero]
    simp
  | coe r =>
    have hp : (1 : ℝ) + Real.exp r ≠ 0 := by positivity
    rw [← EReal.coe_neg, soft_coe, if_neg (EReal.coe_ne_top _), if_neg (EReal.coe_ne_top _), ← EReal.coe_sub, Ideal.exp_coe, Ideal.exp_coe, ← EReal.coe_one, ← EReal.coe_add,
      Ideal.div_coe hp, EReal.coe_one, one_mul]
    congr 1
    rw [Real.exp_sub, Real.exp_log (by positivity), Real.exp_neg]
    have h1 := (Real.exp_pos r).ne'
    field_simp
    ring

/-! ### The sums from a row on -/

theorem foldl_add {N : ℕ} (f : EReal → Fin N → EReal) (g : ℕ → EReal) (hf : ∀ r n, f r n = r + g n.val) (v : EReal) :
    (List.finRange N).foldl f v = v + ∑ k ∈ Finset.range N, g k := by
  have h : ∀ (l : List (Fin N)) (v : EReal), l.foldl f v = v + (l.map fun n => g n.val).sum := by
    intro l
    induction l with
    | nil => intro v; simp
    | cons a l ih => intro v; rw [List.foldl_cons, ih, hf, List.map_cons, List.sum_cons, add_assoc]
  rw [h, ← Fin.sum_univ_eq_sum_range, Fin.sum_univ_def]

theorem sums_rows {R Rm1 C : ℕ} (hR : Rm1 + 1 = R) (x : (⟨2, ![R, C]⟩ : Shape).Idx → EReal) (v : (⟨0, ![]⟩ : Shape).Idx → EReal) (hv : ∀ i, v i = 0)
    (h : (⟨2, ![R, C]⟩ : Shape).ReduceWindows (![R, 1] : Fin 2 → Nat) ![1, 1] ![0, 0] ![Rm1, 0] ⟨2, ![R, C]⟩) (hu : 0 < (⟨0, ![]⟩ : Shape).numel) (p : Fin R) (q : Fin C) :
    Host.reduceWindow (· + ·) ![R, 1] ![1, 1] ![0, 0] ![Rm1, 0] x v h hu (ix2 p q) = ∑ k ∈ Finset.Ico p.val R, ext2 x k q.val := by
  have hp := p.isLt
  have hq := q.isLt
  unfold Host.reduceWindow
  refine (foldl_add _ (fun n => ext2 x (p.val + n) q.val) (fun r n => ?_) _).trans ?_
  · have hw0 : ((Routing.shape2 R 1).rowMajor.symm n 0).val = n.val := by rw [Routing.symm_col]; rfl
    have hw1 : ((Routing.shape2 R 1).rowMajor.symm n 1).val = 0 := by rw [Routing.symm_col]; rfl
    dsimp only
    refine congrArg (r + ·) ?_
    split
    · next hin =>
      refine ext2_of x _ ?_ ?_
      · show p.val * 1 + ((Routing.shape2 R 1).rowMajor.symm n 0).val - 0 = _
        rw [hw0]; omega
      · show q.val * 1 + ((Routing.shape2 R 1).rowMajor.symm n 1).val - 0 = _
        rw [hw1]; omega
    · next hin =>
      refine (hv _).trans (Eq.symm (dif_neg fun hlt => hin fun a => ?_))
      match a with
      | ⟨0, _⟩ =>
        show 0 ≤ p.val * 1 + ((Routing.shape2 R 1).rowMajor.symm n 0).val ∧ p.val * 1 + ((Routing.shape2 R 1).rowMajor.symm n 0).val - 0 < R
        rw [hw0]; omega
      | ⟨1, _⟩ =>
        show 0 ≤ q.val * 1 + ((Routing.shape2 R 1).rowMajor.symm n 1).val ∧ q.val * 1 + ((Routing.shape2 R 1).rowMajor.symm n 1).val - 0 < C
        rw [hw1]; omega
  · show v _ + ∑ k ∈ Finset.range (Routing.shape2 R 1).numel, ext2 x (p.val + k) q.val = _
    rw [hv, zero_add, Routing.numel_col, Finset.range_eq_Ico, Finset.sum_Ico_add (fun k => ext2 x k q.val) 0 R p.val, zero_add,
      ← Finset.sum_Ico_consecutive _ (Nat.le_of_lt hp) (by omega : R ≤ R + p.val)]
    refine (congrArg (_ + ·) (Finset.sum_eq_zero fun k hk => dif_neg fun h => ?_)).trans (add_zero _)
    have := (Finset.mem_Ico.mp hk).1
    omega

theorem sums_apply (x : Mat) (v : Num) (hv : ∀ i, (v i : EReal) = 0) (p : Fin 4096) (q : Fin 16) :
    (sumsTo x v (ix2 p q) : EReal) = ∑ k ∈ Finset.Ico p.val 4096, ext2 x k q.val := by
  unfold sumsTo Host.reduceWindowAdd
  refine Eq.trans (b := Ideal.hostReduceWindowAdd _ _ _ _ _ x (v (Shape.Idx.first h_S_)) (ix2 p q)) rfl ?_
  unfold Ideal.hostReduceWindowAdd
  exact sums_rows (R := 4096) (Rm1 := 4095) (C := 16) rfl x _ (fun _ => hv _) _ _ p q

/-! ### The results -/

theorem cut_apply (a : S4096x128.Idx → EReal) (p : Fin 4096) (q : Fin 16) : (cut a (ix2 p q) : EReal) = ext2 a p.val q.val := by
  rw [ext2_in a p.isLt (by omega)]
  pointwise

theorem inf_eq : (Ideal.ofBits .f32 0x7F800000#32 : EReal) = ⊤ := by simp [Ideal.ofBits, Ideal.ieee]

theorem inf_eq' : (Ideal.ofBits .f32 2139095040#32 : EReal) = ⊤ := inf_eq

/-- The integer nought as a number. -/
theorem none_eq : (FloatOps.sitofp .f32 (0#32 : BitVec 32) : Ideal .f32) = (0 : EReal) := by
  show (((0 : Int) : ℝ) : EReal) = 0
  norm_num

theorem inp_apply (f : S4096x128.Idx → EReal) (p : Fin 4096) (q : Fin 16) : (inp f (ix2 p q) : EReal) = -ext2 f p.val q.val := by
  rw [← cut_apply]
  unfold inp
  pointwise

theorem soft_apply (x : Mat) (i : S4096x16.Idx) : (soft x i : EReal) = softE (x i) := by
  unfold soft softE
  pointwise
  rw [if_neg (fun h => h rfl)]
  rfl

theorem slope_apply (x : Mat) (i : S4096x16.Idx) :
    (slope x i : EReal) = Ideal.exp ((if (x i : EReal) = ⊤ then 0 else x i) - (if softE (x i) = ⊤ then 0 else softE (x i))) := by
  unfold slope
  pointwise [soft_apply]
  rw [inf_eq']

theorem grad_apply (c f : S4096x128.Idx → EReal) (p : Fin 4096) (q : Fin 16) : (grad c f (ix2 p q) : EReal) = df c f p.val q.val := by
  have e : (sumsTo (cut c) (keep zero) (ix2 p q) : EReal) = sfx c p.val q.val := by
    refine (sums_apply _ _ (fun i => ?_) p q).trans (Finset.sum_congr rfl fun k hk => ?_)
    · pointwise
    · have hk := (Finset.mem_Ico.mp hk).2
      rw [ext2_in (cut c) hk q.isLt]
      exact cut_apply c ⟨k, hk⟩ q
  unfold df
  rw [if_pos q.isLt, ← slope_eq, ← inp_apply, ← slope_apply, ← e]
  unfold grad
  pointwise
  rw [neg_mul, neg_neg]

theorem valueF_eq (c f : S4096x128.Idx → EReal) : (valueF c f : S4096x128.Idx → EReal) = resF c f := by
  funext i
  obtain ⟨p, q, rfl⟩ : ∃ (p : Fin 4096) (q : Fin 128), i = ix2 p q := ⟨i 0, i 1, eq_ix2 i⟩
  show _ = df c f p.val q.val
  unfold valueF
  pointwise
  split
  · next h => exact grad_apply c f p ⟨q.val, h⟩
  · next h => exact none_eq.trans (if_neg h).symm

theorem valueB_eq (c f : S4096x128.Idx → EReal) : (valueB c f : S1x128.Idx → EReal) = resB c f := by
  funext i
  obtain ⟨z, q, rfl⟩ : ∃ (z : Fin 1) (q : Fin 128), i = ix2 z q := ⟨i 0, i 1, eq_ix2 i⟩
  show _ = db c f 0 q.val
  unfold valueB
  pointwise
  split
  · next h =>
    refine (Fin.sum_univ_one _).trans ?_
    unfold db
    rw [← Finset.range_eq_Ico, Finset.sum_range]
    exact Finset.sum_congr rfl fun k _ => grad_apply c f k ⟨q.val, h⟩
  · next h => exact none_eq.trans (Finset.sum_eq_zero fun k _ => if_neg h).symm

/-- Both compute the same arrays. -/
theorem algebraic : Cert.algebraic_Kernel17Ideal_Reference17Ideal := by
  intro m ρ m' ρ' _ hagree
  refine ⟨fun c => Cert.Kernel17Ideal.Value.resultF m c, fun c => Cert.Kernel17Ideal.Value.resultB m c, Cert.Kernel17Ideal.Value.run m ρ, ?_⟩
  refine (θ_run defs _ _).mono (fun _ h c => ?_) (run m' ρ')
  obtain rfl : c = 0 := Subsingleton.elim _ _
  refine ⟨h.1.1.trans ?_, h.1.2.trans ?_, h.2⟩
  · rw [(hagree 0).1, (hagree 0).2]
    exact valueF_eq _ _
  · rw [(hagree 0).1, (hagree 0).2]
    exact valueB_eq _ _

end Cert.Reference17Ideal.Value
-- ==== Proof.Adam.lean ====
/-
  One step of the optimiser, of one entry: the new moments and the change of the weight.
-/
module

public import proofs.«01_k».proof.Proof.Dots
public import Idealize.ShloMosaic.Lib.Pointwise

@[expose] public section

noncomputable section

open Idealize.ShloMosaic

namespace Cert.Adam

open Cert.Dots

/-- A number given by its bits. -/
abbrev num (b : BitVec 32) : EReal := Ideal.ofBits .f32 b

/-- The new first moment, of the old one and the gradient. -/
def mom (m g : EReal) : EReal := num 0x3F666666#32 * m + num 0x3DCCCCCD#32 * g

/-- The new second moment. -/
def var (v g : EReal) : EReal := num 0x3F7FBE77#32 * v + num 0x3A83126F#32 * (g * g)

/-- The change of the weight. -/
def step (w m v g : EReal) : EReal :=
  num 0xBA83126F#32 * (Ideal.div (Ideal.div (mom m g) (num 0x3F26BD02#32)) (Ideal.sqrt (Ideal.div (var v g) (num 0x3C231ACC#32)) + num 0x322BCC77#32) + num 0x3C23D70A#32 * w)

/-- A matrix, given its entries by row and column. -/
theorem mat_ext {a b : ℕ} {x : (⟨2, ![a, b]⟩ : Shape).Idx → EReal} {f : ℕ → ℕ → EReal}
    (h : ∀ (p : Fin a) (q : Fin b), x (ix2 p q) = f p.val q.val) : x = fun i => f (i 0).val (i 1).val :=
  funext fun i => (congrArg x (eq_ix2 i)).trans (h (i 0) (i 1))

end Cert.Adam
-- ==== Proof.AdamUp.lean ====
/-
  One step of the optimiser on the gate's and the up projection's weights: the blocks each point writes, and the result arrays.
-/
module

public import proofs.«01_k».proof.Defs
public import proofs.«01_k».proof.Proof.Gen.Kernel18Ideal.Frame
public import proofs.«01_k».proof.Proof.Dots
public import proofs.«01_k».proof.Proof.Adam
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel18Ideal.Value

open Cert.Kernel18Ideal Cert.Kernel18Ideal.Gen Cert.Dots Cert.Adam

variable (m : (ℓ : Loc nD τ sig) → Buf (Elt Ideal) ℓ) (ρ : Dev nD → PrngReg)

theorem hz : (![0, 0] : Fin 2 → Nat) = fun _ => 0 := funext fun a => by fin_cases a <;> rfl

/-! ### The blocks: the weight, its moments, and the gradient's parts -/

abbrev arrW (c : Dev nD) : S2048x1408.Idx → EReal := m ((c : Thread nD τ).loc main_arg0)
abbrev arrM (c : Dev nD) : S2048x1408.Idx → EReal := m ((c : Thread nD τ).loc main_arg1)
abbrev arrV (c : Dev nD) : S2048x1408.Idx → EReal := m ((c : Thread nD τ).loc main_arg2)
abbrev arrG (c : Dev nD) : S2048x1408.Idx → EReal := m ((c : Thread nD τ).loc main_arg3)
abbrev arrH (c : Dev nD) : S2048x1408.Idx → EReal := m ((c : Thread nD τ).loc main_arg4)

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = t.val ∧ win0_3.index t 1 = 0 := by decide +kernel
theorem at4 : ∀ t : Fin cfg0.N, win0_4.index t 0 = t.val ∧ win0_4.index t 1 = 0 := by decide +kernel
theorem at5 : ∀ t : Fin cfg0.N, win0_5.index t 0 = t.val ∧ win0_5.index t 1 = 0 := by decide +kernel
theorem at6 : ∀ t : Fin cfg0.N, win0_6.index t 0 = t.val ∧ win0_6.index t 1 = 0 := by decide +kernel
theorem at7 : ∀ t : Fin cfg0.N, win0_7.index t 0 = t.val ∧ win0_7.index t 1 = 0 := by decide +kernel
theorem at8 : ∀ t : Fin cfg0.N, win0_8.index t 0 = t.val ∧ win0_8.index t 1 = 0 := by decide +kernel

theorem blk0 (c : Dev nD) (t : Fin cfg0.N) (p : Fin 256) (q : Fin 1408) :
    (iblk m c 0 t : S256x1408.Idx → EReal) (ix2 p q) = ext2 (arrW m c) (256 * t.val + p.val) (q.val) := by
  unfold iblk
  rw [View.read_apply]
  show V m c main_arg0 _ = _
  rw [V_main_arg0]
  refine ext2_of (arrW m c) _ ?_ ?_
  · show win0_0.index t 0 * 256 + 1 * p.val = _
    rw [(at0 t).1]; omega
  · show win0_0.index t 1 * 1408 + 1 * q.val = _
    rw [(at0 t).2]; omega

theorem blk1 (c : Dev nD) (t : Fin cfg0.N) (p : Fin 256) (q : Fin 1408) :
    (iblk m c 1 t : S256x1408.Idx → EReal) (ix2 p q) = ext2 (arrM m c) (256 * t.val + p.val) (q.val) := by
  unfold iblk
  rw [View.read_apply]
  show V m c main_arg1 _ = _
  rw [V_main_arg1]
  refine ext2_of (arrM m c) _ ?_ ?_
  · show win0_1.index t 0 * 256 + 1 * p.val = _
    rw [(at1 t).1]; omega
  · show win0_1.index t 1 * 1408 + 1 * q.val = _
    rw [(at1 t).2]; omega

theorem blk2 (c : Dev nD) (t : Fin cfg0.N) (p : Fin 256) (q : Fin 1408) :
    (iblk m c 2 t : S256x1408.Idx → EReal) (ix2 p q) = ext2 (arrV m c) (256 * t.val + p.val) (q.val) := by
  unfold iblk
  rw [View.read_apply]
  show V m c main_arg2 _ = _
  rw [V_main_arg2]
  refine ext2_of (arrV m c) _ ?_ ?_
  · show win0_2.index t 0 * 256 + 1 * p.val = _
    rw [(at2 t).1]; omega
  · show win0_2.index t 1 * 1408 + 1 * q.val = _
    rw [(at2 t).2]; omega

theorem blk3 (c : Dev nD) (t : Fin cfg0.N) (p : Fin 256) (q : Fin 1408) :
    (iblk m c 3 t : S256x1408.Idx → EReal) (ix2 p q) = ext2 (arrG m c) (256 * t.val + p.val) (q.val) := by
  unfold iblk
  rw [View.read_apply]
  show V m c main_arg3 _ = _
  rw [V_main_arg3]
  refine ext2_of (arrG m c) _ ?_ ?_
  · show win0_3.index t 0 * 256 + 1 * p.val = _
    rw [(at3 t).1]; omega
  · show win0_3.index t 1 * 1408 + 1 * q.val = _
    rw [(at3 t).2]; omega

theorem blk4 (c : Dev nD) (t : Fin cfg0.N) (p : Fin 256) (q : Fin 1408) :
    (iblk m c 4 t : S256x1408.Idx → EReal) (ix2 p q) = ext2 (arrH m c) (256 * t.val + p.val) (q.val) := by
  unfold iblk
  rw [View.read_apply]
  show V m c main_arg4 _ = _
  rw [V_main_arg4]
  refine ext2_of (arrH m c) _ ?_ ?_
  · show win0_4.index t 0 * 256 + 1 * p.val = _
    rw [(at4 t).1]; omega
  · show win0_4.index t 1 * 1408 + 1 * q.val = _
    rw [(at4 t).2]; omega

/-! ### One step, entry by entry -/

def newG (w m v g h : S2048x1408.Idx → EReal) (i j : ℕ) : EReal := ext2 g i j + ext2 h i j
def newM (w m v g h : S2048x1408.Idx → EReal) (i j : ℕ) : EReal := mom (ext2 m i j) (ext2 g i j + ext2 h i j)
def newV (w m v g h : S2048x1408.Idx → EReal) (i j : ℕ) : EReal := var (ext2 v i j) (ext2 g i j + ext2 h i j)
def newD (w m v g h : S2048x1408.Idx → EReal) (i j : ℕ) : EReal := step (ext2 w i j) (ext2 m i j) (ext2 v i j) (ext2 g i j + ext2 h i j)

theorem pay1 (a b : Vec Ideal S256x1408 .f32) (y : S256x1408.Idx) : (k0_pay1 a b y : EReal) = a y + b y := rfl
theorem pay2 (a b m : Vec Ideal S256x1408 .f32) (y : S256x1408.Idx) : (k0_pay2 a b m y : EReal) = mom (m y) (a y + b y) := rfl
theorem pay3 (a b v : Vec Ideal S256x1408 .f32) (y : S256x1408.Idx) : (k0_pay3 a b v y : EReal) = var (v y) (a y + b y) := rfl
theorem pay4 (a b m v w : Vec Ideal S256x1408 .f32) (y : S256x1408.Idx) : (k0_pay4 a b m v w y : EReal) = step (w y) (m y) (v y) (a y + b y) := rfl

/-! ### The result arrays -/

abbrev resultG (c : Dev nD) : S2048x1408.Idx → EReal := fun i => newG (arrW m c) (arrM m c) (arrV m c) (arrG m c) (arrH m c) (i 0).val (i 1).val

theorem at_outG (c : Dev nD) (t : Fin cfg0.N) (y : S256x1408.Idx) :
    (out0_5 (iblk m c 0 t) (iblk m c 1 t) (iblk m c 2 t) (iblk m c 3 t) (iblk m c 4 t) y : EReal) = newG (arrW m c) (arrM m c) (arrV m c) (arrG m c) (arrH m c) (256 * t.val + (y 0).val) ((y 1).val) := by
  obtain ⟨p, q, rfl⟩ : ∃ (p : Fin 256) (q : Fin 1408), y = ix2 p q := ⟨y 0, y 1, eq_ix2 y⟩
  unfold out0_5
  rw [View.canon_unit_zero hz]
  simp only [View.ld_unit_zero (S := S256x1408) hz]
  show _ = newG (arrW m c) (arrM m c) (arrV m c) (arrG m c) (arrH m c) (256 * t.val + p.val) (q.val)
  rw [pay1, blk3, blk4]
  rfl

theorem flushedG (c : Dev nD) (t : Fin cfg0.N) (hf : (cfg0.win 5).flush t = true) :
    (dats m 0 c).flushed 5 t = ((cfg0.win 5).blk t).view.read (Elt Ideal) (resultG m c) := by
  show (cfg0.win 5).cut (grid0.coords t) ((dats m 0 c).after 5 t) = _
  rw [after0_5]
  funext y
  rw [View.read_apply]
  refine (at_outG m c t y).trans ?_
  have er : 256 * t.val + (y 0).val = win0_5.index t 0 * 256 + 1 * (y 0).val := by rw [(at5 t).1]; omega
  have ec : (y 1).val = win0_5.index t 1 * 1408 + 1 * (y 1).val := by rw [(at5 t).2]; omega
  conv_lhs => rw [er, ec]
  rfl

abbrev resultD (c : Dev nD) : S2048x1408.Idx → EReal := fun i => newD (arrW m c) (arrM m c) (arrV m c) (arrG m c) (arrH m c) (i 0).val (i 1).val

theorem at_outD (c : Dev nD) (t : Fin cfg0.N) (y : S256x1408.Idx) :
    (out0_6 (iblk m c 0 t) (iblk m c 1 t) (iblk m c 2 t) (iblk m c 3 t) (iblk m c 4 t) y : EReal) = newD (arrW m c) (arrM m c) (arrV m c) (arrG m c) (arrH m c) (256 * t.val + (y 0).val) ((y 1).val) := by
  obtain ⟨p, q, rfl⟩ : ∃ (p : Fin 256) (q : Fin 1408), y = ix2 p q := ⟨y 0, y 1, eq_ix2 y⟩
  unfold out0_6
  rw [View.canon_unit_zero hz]
  simp only [View.ld_unit_zero (S := S256x1408) hz]
  show _ = newD (arrW m c) (arrM m c) (arrV m c) (arrG m c) (arrH m c) (256 * t.val + p.val) (q.val)
  rw [pay4, blk0, blk1, blk2, blk3, blk4]
  rfl

theorem flushedD (c : Dev nD) (t : Fin cfg0.N) (hf : (cfg0.win 6).flush t = true) :
    (dats m 0 c).flushed 6 t = ((cfg0.win 6).blk t).view.read (Elt Ideal) (resultD m c) := by
  show (cfg0.win 6).cut (grid0.coords t) ((dats m 0 c).after 6 t) = _
  rw [after0_6]
  funext y
  rw [View.read_apply]
  refine (at_outD m c t y).trans ?_
  have er : 256 * t.val + (y 0).val = win0_6.index t 0 * 256 + 1 * (y 0).val := by rw [(at6 t).1]; omega
  have ec : (y 1).val = win0_6.index t 1 * 1408 + 1 * (y 1).val := by rw [(at6 t).2]; omega
  conv_lhs => rw [er, ec]
  rfl

abbrev resultM (c : Dev nD) : S2048x1408.Idx → EReal := fun i => newM (arrW m c) (arrM m c) (arrV m c) (arrG m c) (arrH m c) (i 0).val (i 1).val

theorem at_outM (c : Dev nD) (t : Fin cfg0.N) (y : S256x1408.Idx) :
    (out0_7 (iblk m c 0 t) (iblk m c 1 t) (iblk m c 2 t) (iblk m c 3 t) (iblk m c 4 t) y : EReal) = newM (arrW m c) (arrM m c) (arrV m c) (arrG m c) (arrH m c) (256 * t.val + (y 0).val) ((y 1).val) := by
  obtain ⟨p, q, rfl⟩ : ∃ (p : Fin 256) (q : Fin 1408), y = ix2 p q := ⟨y 0, y 1, eq_ix2 y⟩
  unfold out0_7
  rw [View.canon_unit_zero hz]
  simp only [View.ld_unit_zero (S := S256x1408) hz]
  show _ = newM (arrW m c) (arrM m c) (arrV m c) (arrG m c) (arrH m c) (256 * t.val + p.val) (q.val)
  rw [pay2, blk1, blk3, blk4]
  rfl

theorem flushedM (c : Dev nD) (t : Fin cfg0.N) (hf : (cfg0.win 7).flush t = true) :
    (dats m 0 c).flushed 7 t = ((cfg0.win 7).blk t).view.read (Elt Ideal) (resultM m c) := by
  show (cfg0.win 7).cut (grid0.coords t) ((dats m 0 c).after 7 t) = _
  rw [after0_7]
  funext y
  rw [View.read_apply]
  refine (at_outM m c t y).trans ?_
  have er : 256 * t.val + (y 0).val = win0_7.index t 0 * 256 + 1 * (y 0).val := by rw [(at7 t).1]; omega
  have ec : (y 1).val = win0_7.index t 1 * 1408 + 1 * (y 1).val := by rw [(at7 t).2]; omega
  conv_lhs => rw [er, ec]
  rfl

abbrev resultV (c : Dev nD) : S2048x1408.Idx → EReal := fun i => newV (arrW m c) (arrM m c) (arrV m c) (arrG m c) (arrH m c) (i 0).val (i 1).val

theorem at_outV (c : Dev nD) (t : Fin cfg0.N) (y : S256x1408.Idx) :
    (out0_8 (iblk m c 0 t) (iblk m c 1 t) (iblk m c 2 t) (iblk m c 3 t) (iblk m c 4 t) y : EReal) = newV (arrW m c) (arrM m c) (arrV m c) (arrG m c) (arrH m c) (256 * t.val + (y 0).val) ((y 1).val) := by
  obtain ⟨p, q, rfl⟩ : ∃ (p : Fin 256) (q : Fin 1408), y = ix2 p q := ⟨y 0, y 1, eq_ix2 y⟩
  unfold out0_8
  rw [View.canon_unit_zero hz]
  simp only [View.ld_unit_zero (S := S256x1408) hz]
  show _ = newV (arrW m c) (arrM m c) (arrV m c) (arrG m c) (arrH m c) (256 * t.val + p.val) (q.val)
  rw [pay3, blk2, blk3, blk4]
  rfl

theorem flushedV (c : Dev nD) (t : Fin cfg0.N) (hf : (cfg0.win 8).flush t = true) :
    (dats m 0 c).flushed 8 t = ((cfg0.win 8).blk t).view.read (Elt Ideal) (resultV m c) := by
  show (cfg0.win 8).cut (grid0.coords t) ((dats m 0 c).after 8 t) = _
  rw [after0_8]
  funext y
  rw [View.read_apply]
  refine (at_outV m c t y).trans ?_
  have er : 256 * t.val + (y 0).val = win0_8.index t 0 * 256 + 1 * (y 0).val := by rw [(at8 t).1]; omega
  have ec : (y 1).val = win0_8.index t 1 * 1408 + 1 * (y 1).val := by rw [(at8 t).2]; omega
  conv_lhs => rw [er, ec]
  rfl

/-- The point that writes the block an index of a result lies in. -/
def ptOf (y : S2048x1408.Idx) : Fin cfg0.N :=
  ⟨(y 0).val / 256, by
    have h0 : (y 0).val < 2048 := (y 0).isLt
    have h1 : (y 1).val < 1408 := (y 1).isLt
    rw [show cfg0.N = 8 from N_0]; omega⟩

theorem finalG (c : Dev nD) : (dats m 0 c).arrAt 5 cfg0.N = resultG m c :=
  (dats m 0 c).arrAt_eq_of_cover 5 (resultG m c) (flushedG m c) fun (y : S2048x1408.Idx) =>
    ⟨ptOf y, flush0_5 (ptOf y), by
      show y ∈ ((View.whole main_v0_0).slice (win0_5.rect (ptOf y))).set
      rw [View.set_slice_whole, Rect.mem_set_unit]
      have h0 : (y 0).val < 2048 := (y 0).isLt
      have h1 : (y 1).val < 1408 := (y 1).isLt
      obtain ⟨e0, e1⟩ := at5 (ptOf y)
      have hv : (ptOf y).val = (y 0).val / 256 := rfl
      rw [hv] at e0
      intro a
      match a with
      | ⟨0, _⟩ => show win0_5.index (ptOf y) 0 * 256 ≤ (y 0).val ∧ (y 0).val < win0_5.index (ptOf y) 0 * 256 + 256
                  rw [e0]; omega
      | ⟨1, _⟩ => show win0_5.index (ptOf y) 1 * 1408 ≤ (y 1).val ∧ (y 1).val < win0_5.index (ptOf y) 1 * 1408 + 1408
                  rw [e1]; omega⟩

theorem finalD (c : Dev nD) : (dats m 0 c).arrAt 6 cfg0.N = resultD m c :=
  (dats m 0 c).arrAt_eq_of_cover 6 (resultD m c) (flushedD m c) fun (y : S2048x1408.Idx) =>
    ⟨ptOf y, flush0_6 (ptOf y), by
      show y ∈ ((View.whole main_v0_1).slice (win0_6.rect (ptOf y))).set
      rw [View.set_slice_whole, Rect.mem_set_unit]
      have h0 : (y 0).val < 2048 := (y 0).isLt
      have h1 : (y 1).val < 1408 := (y 1).isLt
      obtain ⟨e0, e1⟩ := at6 (ptOf y)
      have hv : (ptOf y).val = (y 0).val / 256 := rfl
      rw [hv] at e0
      intro a
      match a with
      | ⟨0, _⟩ => show win0_6.index (ptOf y) 0 * 256 ≤ (y 0).val ∧ (y 0).val < win0_6.index (ptOf y) 0 * 256 + 256
                  rw [e0]; omega
      | ⟨1, _⟩ => show win0_6.index (ptOf y) 1 * 1408 ≤ (y 1).val ∧ (y 1).val < win0_6.index (ptOf y) 1 * 1408 + 1408
                  rw [e1]; omega⟩

theorem finalM (c : Dev nD) : (dats m 0 c).arrAt 7 cfg0.N = resultM m c :=
  (dats m 0 c).arrAt_eq_of_cover 7 (resultM m c) (flushedM m c) fun (y : S2048x1408.Idx) =>
    ⟨ptOf y, flush0_7 (ptOf y), by
      show y ∈ ((View.whole main_v0_2).slice (win0_7.rect (ptOf y))).set
      rw [View.set_slice_whole, Rect.mem_set_unit]
      have h0 : (y 0).val < 2048 := (y 0).isLt
      have h1 : (y 1).val < 1408 := (y 1).isLt
      obtain ⟨e0, e1⟩ := at7 (ptOf y)
      have hv : (ptOf y).val = (y 0).val / 256 := rfl
      rw [hv] at e0
      intro a
      match a with
      | ⟨0, _⟩ => show win0_7.index (ptOf y) 0 * 256 ≤ (y 0).val ∧ (y 0).val < win0_7.index (ptOf y) 0 * 256 + 256
                  rw [e0]; omega
      | ⟨1, _⟩ => show win0_7.index (ptOf y) 1 * 1408 ≤ (y 1).val ∧ (y 1).val < win0_7.index (ptOf y) 1 * 1408 + 1408
                  rw [e1]; omega⟩

theorem finalV (c : Dev nD) : (dats m 0 c).arrAt 8 cfg0.N = resultV m c :=
  (dats m 0 c).arrAt_eq_of_cover 8 (resultV m c) (flushedV m c) fun (y : S2048x1408.Idx) =>
    ⟨ptOf y, flush0_8 (ptOf y), by
      show y ∈ ((View.whole main_v0_3).slice (win0_8.rect (ptOf y))).set
      rw [View.set_slice_whole, Rect.mem_set_unit]
      have h0 : (y 0).val < 2048 := (y 0).isLt
      have h1 : (y 1).val < 1408 := (y 1).isLt
      obtain ⟨e0, e1⟩ := at8 (ptOf y)
      have hv : (ptOf y).val = (y 0).val / 256 := rfl
      rw [hv] at e0
      intro a
      match a with
      | ⟨0, _⟩ => show win0_8.index (ptOf y) 0 * 256 ≤ (y 0).val ∧ (y 0).val < win0_8.index (ptOf y) 0 * 256 + 256
                  rw [e0]; omega
      | ⟨1, _⟩ => show win0_8.index (ptOf y) 1 * 1408 ≤ (y 1).val ∧ (y 1).val < win0_8.index (ptOf y) 1 * 1408 + 1408
                  rw [e1]; omega⟩

/-- The run: the results, the arguments unchanged. -/
theorem run : θ_run defs (onTc (τ := τ) (main (F := Ideal))) ⟨m, fun _ => 0, ρ⟩ fun r => ∀ c : Dev nD,
      r.2.mem ((c : Thread nD τ).loc main_v0_0) = resultG m c
      ∧ r.2.mem ((c : Thread nD τ).loc main_v0_1) = resultD m c
      ∧ r.2.mem ((c : Thread nD τ).loc main_v0_2) = resultM m c
      ∧ r.2.mem ((c : Thread nD τ).loc main_v0_3) = resultV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 5).trans (finalG m c), ((h.1 c).1 6).trans (finalD m c), ((h.1 c).1 7).trans (finalM m c), ((h.1 c).1 8).trans (finalV m c), (h.2 c)⟩)
    (θ_run_and (run_main m ρ) (unchanged m ρ))

end Cert.Kernel18Ideal.Value
-- ==== Proof.AdamUpRef.lean ====
/-
  The reference of one step of the optimiser on the gate's and the up projection's weights: its run, its results entry by entry, and that the kernel's are
  the same.
-/
module

public import proofs.«01_k».proof.Defs
public import proofs.«01_k».proof.Proof.Gen.Reference18Ideal
public import proofs.«01_k».proof.Proof.AdamUp
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference18Ideal.Value

open Cert.Reference18Ideal Cert.Reference18Ideal.Gen Cert.Dots Cert.Adam Idealize.ShloMosaic.StableHlo

/-- The arithmetic on the matrices, entry by entry. -/
abbrev Mat := FVec Ideal S2048x1408 .f32
abbrev plus (l r : Mat) : Mat := addf l r
abbrev times (l r : Mat) : Mat := mulf l r
abbrev over (l r : Mat) : Mat := Host.divf l r
abbrev root (l : Mat) : Mat := Host.sqrt l
/-- A number, and the matrix with nothing else. -/
abbrev cst (b : BitVec 32) : FVec Ideal S_ .f32 := constant (F := Ideal) S_ .f32 b
abbrev spread (l : FVec Ideal S_ .f32) : Mat := broadcastInDim S2048x1408 ![] bcast_S_S2048x1408 l

/-- The results as the reference computes them: the gradient, the change of the weight, and the new moments. -/
def valueG (w m v g h : Mat) : Mat := plus g h
def valueM (w m v g h : Mat) : Mat := plus (times (spread (cst 0x3F666666#32)) m) (times (spread (cst 0x3DCCCCCD#32)) (plus g h))
def valueV (w m v g h : Mat) : Mat := plus (times (spread (cst 0x3F7FBE77#32)) v) (times (spread (cst 0x3A83126F#32)) (times (plus g h) (plus g h)))
def valueD (w m v g h : Mat) : Mat :=
  times (spread (cst 0xBA83126F#32)) (plus (over (over (valueM w m v g h) (spread (cst 0x3F26BD02#32)))
    (plus (root (over (valueV w m v g h) (spread (cst 0x3C231ACC#32)))) (spread (cst 0x322BCC77#32)))) (times (spread (cst 0x3C23D70A#32)) w))

/-- The reference's operations, in order. -/
abbrev ops : List (HloOp τ sig (Elt Ideal)) :=
  [ binary main_arg3 main_arg4 main_v0 plus,
    nullary main_cst (cst 0x3F666666#32),
    unary main_cst main_v1 spread,
    binary main_v1 main_arg1 main_v2 times,
    nullary main_cst_0 (cst 0x3DCCCCCD#32),
    unary main_cst_0 main_v3 spread,
    binary main_v3 main_v0 main_v4 times,
    binary main_v2 main_v4 main_v5 plus,
    nullary main_cst_1 (cst 0x3F7FBE77#32),
    unary main_cst_1 main_v6 spread,
    binary main_v6 main_arg2 main_v7 times,
    binary main_v0 main_v0 main_v8 times,
    nullary main_cst_2 (cst 0x3A83126F#32),
    unary main_cst_2 main_v9 spread,
    binary main_v9 main_v8 main_v10 times,
    binary main_v7 main_v10 main_v11 plus,
    nullary main_cst_3 (cst 0x3F26BD02#32),
    unary main_cst_3 main_v12 spread,
    binary main_v5 main_v12 main_v13 over,
    nullary main_cst_4 (cst 0x3C231ACC#32),
    unary main_cst_4 main_v14 spread,
    binary main_v11 main_v14 main_v15 over,
    unary main_v15 main_v16 root,
    nullary main_cst_5 (cst 0x322BCC77#32),
    unary main_cst_5 main_v17 spread,
    binary main_v16 main_v17 main_v18 plus,
    binary main_v13 main_v18 main_v19 over,
    nullary main_cst_6 (cst 0x3C23D70A#32),
    unary main_cst_6 main_v20 spread,
    binary main_v20 main_arg0 main_v21 times,
    binary main_v19 main_v21 main_v22 plus,
    nullary main_cst_7 (cst 0xBA83126F#32),
    unary main_cst_7 main_v23 spread,
    binary main_v23 main_v22 main_v24 times ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD) : Thread nD τ).loc main_v0) = valueG (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))
        ∧ r.2.mem (((0 : Dev nD) : Thread nD τ).loc main_v24) = valueD (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))
        ∧ r.2.mem (((0 : Dev nD) : Thread nD τ).loc main_v5) = valueM (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))
        ∧ r.2.mem (((0 : Dev nD) : Thread nD τ).loc main_v11) = valueV (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)))
      ∧ (r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)
        ∧ r.2.mem (((0 : Dev nD) : Thread nD τ).loc main_arg2) = m (((0 : Dev nD) : Thread nD τ).loc main_arg2)
        ∧ r.2.mem (((0 : Dev nD) : Thread nD τ).loc main_arg3) = m (((0 : Dev nD) : Thread nD τ).loc main_arg3)
        ∧ r.2.mem (((0 : Dev nD) : Thread nD τ).loc main_arg4) = m (((0 : Dev nD) : Thread nD τ).loc main_arg4)) :=
  (θ_run defs _ _).mono (fun _ h => ⟨⟨(h 0 main_v0).trans (by after_results; rfl),
        (h 0 main_v24).trans (by after_results; rfl),
        (h 0 main_v5).trans (by after_results; rfl),
        (h 0 main_v11).trans (by after_results; rfl)⟩,
      ⟨(h 0 main_arg0).trans (by after_results), (h 0 main_arg1).trans (by after_results), (h 0 main_arg2).trans (by after_results), (h 0 main_arg3).trans (by after_results), (h 0 main_arg4).trans (by after_results)⟩⟩)
    (run_seq scopedRefs_eq scopedSems_eq defs main (fun _ => ops) main_eq (fun _ => ops_sub) m ρ)

theorem frame : Cert.quiescent_Reference18Ideal := fun m ρ _ =>
  (θ_run defs _ _).mono (fun r h => ⟨fun c => (by obtain rfl : c = 0 := Subsingleton.elim _ _; exact h.2),
      sem_eq_zero_of_no_sems (by decide) r.2⟩)
    (run m ρ)

open Cert.Kernel18Ideal.Value (newG newD newM newV)

/-! ### The results -/

theorem valueG_eq (w m v g h : S2048x1408.Idx → EReal) : (valueG w m v g h : S2048x1408.Idx → EReal) = fun i => newG w m v g h (i 0).val (i 1).val :=
  mat_ext fun p q => by
    simp only [newG, ext2_in _ p.isLt q.isLt]
    rfl

theorem valueD_eq (w m v g h : S2048x1408.Idx → EReal) : (valueD w m v g h : S2048x1408.Idx → EReal) = fun i => newD w m v g h (i 0).val (i 1).val :=
  mat_ext fun p q => by
    simp only [newD, ext2_in _ p.isLt q.isLt]
    rfl

theorem valueM_eq (w m v g h : S2048x1408.Idx → EReal) : (valueM w m v g h : S2048x1408.Idx → EReal) = fun i => newM w m v g h (i 0).val (i 1).val :=
  mat_ext fun p q => by
    simp only [newM, ext2_in _ p.isLt q.isLt]
    rfl

theorem valueV_eq (w m v g h : S2048x1408.Idx → EReal) : (valueV w m v g h : S2048x1408.Idx → EReal) = fun i => newV w m v g h (i 0).val (i 1).val :=
  mat_ext fun p q => by
    simp only [newV, ext2_in _ p.isLt q.isLt]
    rfl

/-- Both compute the same arrays. -/
theorem algebraic : Cert.algebraic_Kernel18Ideal_Reference18Ideal := by
  intro m ρ m' ρ' _ hagree
  refine ⟨fun c => Cert.Kernel18Ideal.Value.resultG m c, fun c => Cert.Kernel18Ideal.Value.resultD m c,
    fun c => Cert.Kernel18Ideal.Value.resultM m c, fun c => Cert.Kernel18Ideal.Value.resultV m c, Cert.Kernel18Ideal.Value.run m ρ, ?_⟩
  refine (θ_run defs _ _).mono (fun _ h c => ?_) (run m' ρ')
  obtain rfl : c = 0 := Subsingleton.elim _ _
  obtain ⟨e0, e1, e2, e3, e4⟩ := hagree 0
  refine ⟨h.1.1.trans ?_, h.1.2.1.trans ?_, h.1.2.2.1.trans ?_, h.1.2.2.2.trans ?_, h.2⟩ <;> rw [e0, e1, e2, e3, e4]
  exacts [valueG_eq .., valueD_eq .., valueM_eq .., valueV_eq ..]

end Cert.Reference18Ideal.Value
-- ==== Proof.AdamDown.lean ====
/-
  One step of the optimiser on the down weights: the blocks each point writes, and the result arrays.
-/
module

public import proofs.«01_k».proof.Defs
public import proofs.«01_k».proof.Proof.Gen.Kernel19Ideal.Frame
public import proofs.«01_k».proof.Proof.Dots
public import proofs.«01_k».proof.Proof.Adam
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel19Ideal.Value

open Cert.Kernel19Ideal Cert.Kernel19Ideal.Gen Cert.Dots Cert.Adam

variable (m : (ℓ : Loc nD τ sig) → Buf (Elt Ideal) ℓ) (ρ : Dev nD → PrngReg)

theorem hz : (![0, 0] : Fin 2 → Nat) = fun _ => 0 := funext fun a => by fin_cases a <;> rfl

/-! ### The blocks: the weight, its moments, and the gradient's parts -/

abbrev arrW (c : Dev nD) : S1408x2048.Idx → EReal := m ((c : Thread nD τ).loc main_arg0)
abbrev arrM (c : Dev nD) : S1408x2048.Idx → EReal := m ((c : Thread nD τ).loc main_arg1)
abbrev arrV (c : Dev nD) : S1408x2048.Idx → EReal := m ((c : Thread nD τ).loc main_arg2)
abbrev arrG (c : Dev nD) : S1408x2048.Idx → EReal := m ((c : Thread nD τ).loc main_arg3)
abbrev arrH (c : Dev nD) : S1408x2048.Idx → EReal := m ((c : Thread nD τ).loc main_arg4)

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = t.val ∧ win0_3.index t 1 = 0 := by decide +kernel
theorem at4 : ∀ t : Fin cfg0.N, win0_4.index t 0 = t.val ∧ win0_4.index t 1 = 0 := by decide +kernel
theorem at5 : ∀ t : Fin cfg0.N, win0_5.index t 0 = t.val ∧ win0_5.index t 1 = 0 := by decide +kernel
theorem at6 : ∀ t : Fin cfg0.N, win0_6.index t 0 = t.val ∧ win0_6.index t 1 = 0 := by decide +kernel
theorem at7 : ∀ t : Fin cfg0.N, win0_7.index t 0 = t.val ∧ win0_7.index t 1 = 0 := by decide +kernel
theorem at8 : ∀ t : Fin cfg0.N, win0_8.index t 0 = t.val ∧ win0_8.index t 1 = 0 := by decide +kernel

theorem blk0 (c : Dev nD) (t : Fin cfg0.N) (p : Fin 176) (q : Fin 2048) :
    (iblk m c 0 t : S176x2048.Idx → EReal) (ix2 p q) = ext2 (arrW m c) (176 * t.val + p.val) (q.val) := by
  unfold iblk
  rw [View.read_apply]
  show V m c main_arg0 _ = _
  rw [V_main_arg0]
  refine ext2_of (arrW m c) _ ?_ ?_
  · show win0_0.index t 0 * 176 + 1 * p.val = _
    rw [(at0 t).1]; omega
  · show win0_0.index t 1 * 2048 + 1 * q.val = _
    rw [(at0 t).2]; omega

theorem blk1 (c : Dev nD) (t : Fin cfg0.N) (p : Fin 176) (q : Fin 2048) :
    (iblk m c 1 t : S176x2048.Idx → EReal) (ix2 p q) = ext2 (arrM m c) (176 * t.val + p.val) (q.val) := by
  unfold iblk
  rw [View.read_apply]
  show V m c main_arg1 _ = _
  rw [V_main_arg1]
  refine ext2_of (arrM m c) _ ?_ ?_
  · show win0_1.index t 0 * 176 + 1 * p.val = _
    rw [(at1 t).1]; omega
  · show win0_1.index t 1 * 2048 + 1 * q.val = _
    rw [(at1 t).2]; omega

theorem blk2 (c : Dev nD) (t : Fin cfg0.N) (p : Fin 176) (q : Fin 2048) :
    (iblk m c 2 t : S176x2048.Idx → EReal) (ix2 p q) = ext2 (arrV m c) (176 * t.val + p.val) (q.val) := by
  unfold iblk
  rw [View.read_apply]
  show V m c main_arg2 _ = _
  rw [V_main_arg2]
  refine ext2_of (arrV m c) _ ?_ ?_
  · show win0_2.index t 0 * 176 + 1 * p.val = _
    rw [(at2 t).1]; omega
  · show win0_2.index t 1 * 2048 + 1 * q.val = _
    rw [(at2 t).2]; omega

theorem blk3 (c : Dev nD) (t : Fin cfg0.N) (p : Fin 176) (q : Fin 2048) :
    (iblk m c 3 t : S176x2048.Idx → EReal) (ix2 p q) = ext2 (arrG m c) (176 * t.val + p.val) (q.val) := by
  unfold iblk
  rw [View.read_apply]
  show V m c main_arg3 _ = _
  rw [V_main_arg3]
  refine ext2_of (arrG m c) _ ?_ ?_
  · show win0_3.index t 0 * 176 + 1 * p.val = _
    rw [(at3 t).1]; omega
  · show win0_3.index t 1 * 2048 + 1 * q.val = _
    rw [(at3 t).2]; omega

theorem blk4 (c : Dev nD) (t : Fin cfg0.N) (p : Fin 176) (q : Fin 2048) :
    (iblk m c 4 t : S176x2048.Idx → EReal) (ix2 p q) = ext2 (arrH m c) (176 * t.val + p.val) (q.val) := by
  unfold iblk
  rw [View.read_apply]
  show V m c main_arg4 _ = _
  rw [V_main_arg4]
  refine ext2_of (arrH m c) _ ?_ ?_
  · show win0_4.index t 0 * 176 + 1 * p.val = _
    rw [(at4 t).1]; omega
  · show win0_4.index t 1 * 2048 + 1 * q.val = _
    rw [(at4 t).2]; omega

/-! ### One step, entry by entry -/

def newG (w m v g h : S1408x2048.Idx → EReal) (i j : ℕ) : EReal := ext2 g i j + ext2 h i j
def newM (w m v g h : S1408x2048.Idx → EReal) (i j : ℕ) : EReal := mom (ext2 m i j) (ext2 g i j + ext2 h i j)
def newV (w m v g h : S1408x2048.Idx → EReal) (i j : ℕ) : EReal := var (ext2 v i j) (ext2 g i j + ext2 h i j)
def newD (w m v g h : S1408x2048.Idx → EReal) (i j : ℕ) : EReal := step (ext2 w i j) (ext2 m i j) (ext2 v i j) (ext2 g i j + ext2 h i j)

theorem pay1 (a b : Vec Ideal S176x2048 .f32) (y : S176x2048.Idx) : (k0_pay1 a b y : EReal) = a y + b y := rfl
theorem pay2 (a b m : Vec Ideal S176x2048 .f32) (y : S176x2048.Idx) : (k0_pay2 a b m y : EReal) = mom (m y) (a y + b y) := rfl
theorem pay3 (a b v : Vec Ideal S176x2048 .f32) (y : S176x2048.Idx) : (k0_pay3 a b v y : EReal) = var (v y) (a y + b y) := rfl
theorem pay4 (a b m v w : Vec Ideal S176x2048 .f32) (y : S176x2048.Idx) : (k0_pay4 a b m v w y : EReal) = step (w y) (m y) (v y) (a y + b y) := rfl

/-! ### The result arrays -/

abbrev resultG (c : Dev nD) : S1408x2048.Idx → EReal := fun i => newG (arrW m c) (arrM m c) (arrV m c) (arrG m c) (arrH m c) (i 0).val (i 1).val

theorem at_outG (c : Dev nD) (t : Fin cfg0.N) (y : S176x2048.Idx) :
    (out0_5 (iblk m c 0 t) (iblk m c 1 t) (iblk m c 2 t) (iblk m c 3 t) (iblk m c 4 t) y : EReal) = newG (arrW m c) (arrM m c) (arrV m c) (arrG m c) (arrH m c) (176 * t.val + (y 0).val) ((y 1).val) := by
  obtain ⟨p, q, rfl⟩ : ∃ (p : Fin 176) (q : Fin 2048), y = ix2 p q := ⟨y 0, y 1, eq_ix2 y⟩
  unfold out0_5
  rw [View.canon_unit_zero hz]
  simp only [View.ld_unit_zero (S := S176x2048) hz]
  show _ = newG (arrW m c) (arrM m c) (arrV m c) (arrG m c) (arrH m c) (176 * t.val + p.val) (q.val)
  rw [pay1, blk3, blk4]
  rfl

theorem flushedG (c : Dev nD) (t : Fin cfg0.N) (hf : (cfg0.win 5).flush t = true) :
    (dats m 0 c).flushed 5 t = ((cfg0.win 5).blk t).view.read (Elt Ideal) (resultG m c) := by
  show (cfg0.win 5).cut (grid0.coords t) ((dats m 0 c).after 5 t) = _
  rw [after0_5]
  funext y
  rw [View.read_apply]
  refine (at_outG m c t y).trans ?_
  have er : 176 * t.val + (y 0).val = win0_5.index t 0 * 176 + 1 * (y 0).val := by rw [(at5 t).1]; omega
  have ec : (y 1).val = win0_5.index t 1 * 2048 + 1 * (y 1).val := by rw [(at5 t).2]; omega
  conv_lhs => rw [er, ec]
  rfl

abbrev resultD (c : Dev nD) : S1408x2048.Idx → EReal := fun i => newD (arrW m c) (arrM m c) (arrV m c) (arrG m c) (arrH m c) (i 0).val (i 1).val

theorem at_outD (c : Dev nD) (t : Fin cfg0.N) (y : S176x2048.Idx) :
    (out0_6 (iblk m c 0 t) (iblk m c 1 t) (iblk m c 2 t) (iblk m c 3 t) (iblk m c 4 t) y : EReal) = newD (arrW m c) (arrM m c) (arrV m c) (arrG m c) (arrH m c) (176 * t.val + (y 0).val) ((y 1).val) := by
  obtain ⟨p, q, rfl⟩ : ∃ (p : Fin 176) (q : Fin 2048), y = ix2 p q := ⟨y 0, y 1, eq_ix2 y⟩
  unfold out0_6
  rw [View.canon_unit_zero hz]
  simp only [View.ld_unit_zero (S := S176x2048) hz]
  show _ = newD (arrW m c) (arrM m c) (arrV m c) (arrG m c) (arrH m c) (176 * t.val + p.val) (q.val)
  rw [pay4, blk0, blk1, blk2, blk3, blk4]
  rfl

theorem flushedD (c : Dev nD) (t : Fin cfg0.N) (hf : (cfg0.win 6).flush t = true) :
    (dats m 0 c).flushed 6 t = ((cfg0.win 6).blk t).view.read (Elt Ideal) (resultD m c) := by
  show (cfg0.win 6).cut (grid0.coords t) ((dats m 0 c).after 6 t) = _
  rw [after0_6]
  funext y
  rw [View.read_apply]
  refine (at_outD m c t y).trans ?_
  have er : 176 * t.val + (y 0).val = win0_6.index t 0 * 176 + 1 * (y 0).val := by rw [(at6 t).1]; omega
  have ec : (y 1).val = win0_6.index t 1 * 2048 + 1 * (y 1).val := by rw [(at6 t).2]; omega
  conv_lhs => rw [er, ec]
  rfl

abbrev resultM (c : Dev nD) : S1408x2048.Idx → EReal := fun i => newM (arrW m c) (arrM m c) (arrV m c) (arrG m c) (arrH m c) (i 0).val (i 1).val

theorem at_outM (c : Dev nD) (t : Fin cfg0.N) (y : S176x2048.Idx) :
    (out0_7 (iblk m c 0 t) (iblk m c 1 t) (iblk m c 2 t) (iblk m c 3 t) (iblk m c 4 t) y : EReal) = newM (arrW m c) (arrM m c) (arrV m c) (arrG m c) (arrH m c) (176 * t.val + (y 0).val) ((y 1).val) := by
  obtain ⟨p, q, rfl⟩ : ∃ (p : Fin 176) (q : Fin 2048), y = ix2 p q := ⟨y 0, y 1, eq_ix2 y⟩
  unfold out0_7
  rw [View.canon_unit_zero hz]
  simp only [View.ld_unit_zero (S := S176x2048) hz]
  show _ = newM (arrW m c) (arrM m c) (arrV m c) (arrG m c) (arrH m c) (176 * t.val + p.val) (q.val)
  rw [pay2, blk1, blk3, blk4]
  rfl

theorem flushedM (c : Dev nD) (t : Fin cfg0.N) (hf : (cfg0.win 7).flush t = true) :
    (dats m 0 c).flushed 7 t = ((cfg0.win 7).blk t).view.read (Elt Ideal) (resultM m c) := by
  show (cfg0.win 7).cut (grid0.coords t) ((dats m 0 c).after 7 t) = _
  rw [after0_7]
  funext y
  rw [View.read_apply]
  refine (at_outM m c t y).trans ?_
  have er : 176 * t.val + (y 0).val = win0_7.index t 0 * 176 + 1 * (y 0).val := by rw [(at7 t).1]; omega
  have ec : (y 1).val = win0_7.index t 1 * 2048 + 1 * (y 1).val := by rw [(at7 t).2]; omega
  conv_lhs => rw [er, ec]
  rfl

abbrev resultV (c : Dev nD) : S1408x2048.Idx → EReal := fun i => newV (arrW m c) (arrM m c) (arrV m c) (arrG m c) (arrH m c) (i 0).val (i 1).val

theorem at_outV (c : Dev nD) (t : Fin cfg0.N) (y : S176x2048.Idx) :
    (out0_8 (iblk m c 0 t) (iblk m c 1 t) (iblk m c 2 t) (iblk m c 3 t) (iblk m c 4 t) y : EReal) = newV (arrW m c) (arrM m c) (arrV m c) (arrG m c) (arrH m c) (176 * t.val + (y 0).val) ((y 1).val) := by
  obtain ⟨p, q, rfl⟩ : ∃ (p : Fin 176) (q : Fin 2048), y = ix2 p q := ⟨y 0, y 1, eq_ix2 y⟩
  unfold out0_8
  rw [View.canon_unit_zero hz]
  simp only [View.ld_unit_zero (S := S176x2048) hz]
  show _ = newV (arrW m c) (arrM m c) (arrV m c) (arrG m c) (arrH m c) (176 * t.val + p.val) (q.val)
  rw [pay3, blk2, blk3, blk4]
  rfl

theorem flushedV (c : Dev nD) (t : Fin cfg0.N) (hf : (cfg0.win 8).flush t = true) :
    (dats m 0 c).flushed 8 t = ((cfg0.win 8).blk t).view.read (Elt Ideal) (resultV m c) := by
  show (cfg0.win 8).cut (grid0.coords t) ((dats m 0 c).after 8 t) = _
  rw [after0_8]
  funext y
  rw [View.read_apply]
  refine (at_outV m c t y).trans ?_
  have er : 176 * t.val + (y 0).val = win0_8.index t 0 * 176 + 1 * (y 0).val := by rw [(at8 t).1]; omega
  have ec : (y 1).val = win0_8.index t 1 * 2048 + 1 * (y 1).val := by rw [(at8 t).2]; omega
  conv_lhs => rw [er, ec]
  rfl

/-- The point that writes the block an index of a result lies in. -/
def ptOf (y : S1408x2048.Idx) : Fin cfg0.N :=
  ⟨(y 0).val / 176, by
    have h0 : (y 0).val < 1408 := (y 0).isLt
    have h1 : (y 1).val < 2048 := (y 1).isLt
    rw [show cfg0.N = 8 from N_0]; omega⟩

theorem finalG (c : Dev nD) : (dats m 0 c).arrAt 5 cfg0.N = resultG m c :=
  (dats m 0 c).arrAt_eq_of_cover 5 (resultG m c) (flushedG m c) fun (y : S1408x2048.Idx) =>
    ⟨ptOf y, flush0_5 (ptOf y), by
      show y ∈ ((View.whole main_v0_0).slice (win0_5.rect (ptOf y))).set
      rw [View.set_slice_whole, Rect.mem_set_unit]
      have h0 : (y 0).val < 1408 := (y 0).isLt
      have h1 : (y 1).val < 2048 := (y 1).isLt
      obtain ⟨e0, e1⟩ := at5 (ptOf y)
      have hv : (ptOf y).val = (y 0).val / 176 := rfl
      rw [hv] at e0
      intro a
      match a with
      | ⟨0, _⟩ => show win0_5.index (ptOf y) 0 * 176 ≤ (y 0).val ∧ (y 0).val < win0_5.index (ptOf y) 0 * 176 + 176
                  rw [e0]; omega
      | ⟨1, _⟩ => show win0_5.index (ptOf y) 1 * 2048 ≤ (y 1).val ∧ (y 1).val < win0_5.index (ptOf y) 1 * 2048 + 2048
                  rw [e1]; omega⟩

theorem finalD (c : Dev nD) : (dats m 0 c).arrAt 6 cfg0.N = resultD m c :=
  (dats m 0 c).arrAt_eq_of_cover 6 (resultD m c) (flushedD m c) fun (y : S1408x2048.Idx) =>
    ⟨ptOf y, flush0_6 (ptOf y), by
      show y ∈ ((View.whole main_v0_1).slice (win0_6.rect (ptOf y))).set
      rw [View.set_slice_whole, Rect.mem_set_unit]
      have h0 : (y 0).val < 1408 := (y 0).isLt
      have h1 : (y 1).val < 2048 := (y 1).isLt
      obtain ⟨e0, e1⟩ := at6 (ptOf y)
      have hv : (ptOf y).val = (y 0).val / 176 := rfl
      rw [hv] at e0
      intro a
      match a with
      | ⟨0, _⟩ => show win0_6.index (ptOf y) 0 * 176 ≤ (y 0).val ∧ (y 0).val < win0_6.index (ptOf y) 0 * 176 + 176
                  rw [e0]; omega
      | ⟨1, _⟩ => show win0_6.index (ptOf y) 1 * 2048 ≤ (y 1).val ∧ (y 1).val < win0_6.index (ptOf y) 1 * 2048 + 2048
                  rw [e1]; omega⟩

theorem finalM (c : Dev nD) : (dats m 0 c).arrAt 7 cfg0.N = resultM m c :=
  (dats m 0 c).arrAt_eq_of_cover 7 (resultM m c) (flushedM m c) fun (y : S1408x2048.Idx) =>
    ⟨ptOf y, flush0_7 (ptOf y), by
      show y ∈ ((View.whole main_v0_2).slice (win0_7.rect (ptOf y))).set
      rw [View.set_slice_whole, Rect.mem_set_unit]
      have h0 : (y 0).val < 1408 := (y 0).isLt
      have h1 : (y 1).val < 2048 := (y 1).isLt
      obtain ⟨e0, e1⟩ := at7 (ptOf y)
      have hv : (ptOf y).val = (y 0).val / 176 := rfl
      rw [hv] at e0
      intro a
      match a with
      | ⟨0, _⟩ => show win0_7.index (ptOf y) 0 * 176 ≤ (y 0).val ∧ (y 0).val < win0_7.index (ptOf y) 0 * 176 + 176
                  rw [e0]; omega
      | ⟨1, _⟩ => show win0_7.index (ptOf y) 1 * 2048 ≤ (y 1).val ∧ (y 1).val < win0_7.index (ptOf y) 1 * 2048 + 2048
                  rw [e1]; omega⟩

theorem finalV (c : Dev nD) : (dats m 0 c).arrAt 8 cfg0.N = resultV m c :=
  (dats m 0 c).arrAt_eq_of_cover 8 (resultV m c) (flushedV m c) fun (y : S1408x2048.Idx) =>
    ⟨ptOf y, flush0_8 (ptOf y), by
      show y ∈ ((View.whole main_v0_3).slice (win0_8.rect (ptOf y))).set
      rw [View.set_slice_whole, Rect.mem_set_unit]
      have h0 : (y 0).val < 1408 := (y 0).isLt
      have h1 : (y 1).val < 2048 := (y 1).isLt
      obtain ⟨e0, e1⟩ := at8 (ptOf y)
      have hv : (ptOf y).val = (y 0).val / 176 := rfl
      rw [hv] at e0
      intro a
      match a with
      | ⟨0, _⟩ => show win0_8.index (ptOf y) 0 * 176 ≤ (y 0).val ∧ (y 0).val < win0_8.index (ptOf y) 0 * 176 + 176
                  rw [e0]; omega
      | ⟨1, _⟩ => show win0_8.index (ptOf y) 1 * 2048 ≤ (y 1).val ∧ (y 1).val < win0_8.index (ptOf y) 1 * 2048 + 2048
                  rw [e1]; omega⟩

/-- The run: the results, the arguments unchanged. -/
theorem run : θ_run defs (onTc (τ := τ) (main (F := Ideal))) ⟨m, fun _ => 0, ρ⟩ fun r => ∀ c : Dev nD,
      r.2.mem ((c : Thread nD τ).loc main_v0_0) = resultG m c
      ∧ r.2.mem ((c : Thread nD τ).loc main_v0_1) = resultD m c
      ∧ r.2.mem ((c : Thread nD τ).loc main_v0_2) = resultM m c
      ∧ r.2.mem ((c : Thread nD τ).loc main_v0_3) = resultV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 5).trans (finalG m c), ((h.1 c).1 6).trans (finalD m c), ((h.1 c).1 7).trans (finalM m c), ((h.1 c).1 8).trans (finalV m c), (h.2 c)⟩)
    (θ_run_and (run_main m ρ) (unchanged m ρ))

end Cert.Kernel19Ideal.Value
-- ==== Proof.AdamDownRef.lean ====
/-
  The reference of one step of the optimiser on the down weights: its run, its results entry by entry, and that the kernel's are
  the same.
-/
module

public import proofs.«01_k».proof.Defs
public import proofs.«01_k».proof.Proof.Gen.Reference19Ideal
public import proofs.«01_k».proof.Proof.AdamDown
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference19Ideal.Value

open Cert.Reference19Ideal Cert.Reference19Ideal.Gen Cert.Dots Cert.Adam Idealize.ShloMosaic.StableHlo

/-- The arithmetic on the matrices, entry by entry. -/
abbrev Mat := FVec Ideal S1408x2048 .f32
abbrev plus (l r : Mat) : Mat := addf l r
abbrev times (l r : Mat) : Mat := mulf l r
abbrev over (l r : Mat) : Mat := Host.divf l r
abbrev root (l : Mat) : Mat := Host.sqrt l
/-- A number, and the matrix with nothing else. -/
abbrev cst (b : BitVec 32) : FVec Ideal S_ .f32 := constant (F := Ideal) S_ .f32 b
abbrev spread (l : FVec Ideal S_ .f32) : Mat := broadcastInDim S1408x2048 ![] bcast_S_S1408x2048 l

/-- The results as the reference computes them: the gradient, the change of the weight, and the new moments. -/
def valueG (w m v g h : Mat) : Mat := plus g h
def valueM (w m v g h : Mat) : Mat := plus (times (spread (cst 0x3F666666#32)) m) (times (spread (cst 0x3DCCCCCD#32)) (plus g h))
def valueV (w m v g h : Mat) : Mat := plus (times (spread (cst 0x3F7FBE77#32)) v) (times (spread (cst 0x3A83126F#32)) (times (plus g h) (plus g h)))
def valueD (w m v g h : Mat) : Mat :=
  times (spread (cst 0xBA83126F#32)) (plus (over (over (valueM w m v g h) (spread (cst 0x3F26BD02#32)))
    (plus (root (over (valueV w m v g h) (spread (cst 0x3C231ACC#32)))) (spread (cst 0x322BCC77#32)))) (times (spread (cst 0x3C23D70A#32)) w))

/-- The reference's operations, in order. -/
abbrev ops : List (HloOp τ sig (Elt Ideal)) :=
  [ binary main_arg3 main_arg4 main_v0 plus,
    nullary main_cst (cst 0x3F666666#32),
    unary main_cst main_v1 spread,
    binary main_v1 main_arg1 main_v2 times,
    nullary main_cst_0 (cst 0x3DCCCCCD#32),
    unary main_cst_0 main_v3 spread,
    binary main_v3 main_v0 main_v4 times,
    binary main_v2 main_v4 main_v5 plus,
    nullary main_cst_1 (cst 0x3F7FBE77#32),
    unary main_cst_1 main_v6 spread,
    binary main_v6 main_arg2 main_v7 times,
    binary main_v0 main_v0 main_v8 times,
    nullary main_cst_2 (cst 0x3A83126F#32),
    unary main_cst_2 main_v9 spread,
    binary main_v9 main_v8 main_v10 times,
    binary main_v7 main_v10 main_v11 plus,
    nullary main_cst_3 (cst 0x3F26BD02#32),
    unary main_cst_3 main_v12 spread,
    binary main_v5 main_v12 main_v13 over,
    nullary main_cst_4 (cst 0x3C231ACC#32),
    unary main_cst_4 main_v14 spread,
    binary main_v11 main_v14 main_v15 over,
    unary main_v15 main_v16 root,
    nullary main_cst_5 (cst 0x322BCC77#32),
    unary main_cst_5 main_v17 spread,
    binary main_v16 main_v17 main_v18 plus,
    binary main_v13 main_v18 main_v19 over,
    nullary main_cst_6 (cst 0x3C23D70A#32),
    unary main_cst_6 main_v20 spread,
    binary main_v20 main_arg0 main_v21 times,
    binary main_v19 main_v21 main_v22 plus,
    nullary main_cst_7 (cst 0xBA83126F#32),
    unary main_cst_7 main_v23 spread,
    binary main_v23 main_v22 main_v24 times ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD) : Thread nD τ).loc main_v0) = valueG (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))
        ∧ r.2.mem (((0 : Dev nD) : Thread nD τ).loc main_v24) = valueD (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))
        ∧ r.2.mem (((0 : Dev nD) : Thread nD τ).loc main_v5) = valueM (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))
        ∧ r.2.mem (((0 : Dev nD) : Thread nD τ).loc main_v11) = valueV (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)))
      ∧ (r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)
        ∧ r.2.mem (((0 : Dev nD) : Thread nD τ).loc main_arg2) = m (((0 : Dev nD) : Thread nD τ).loc main_arg2)
        ∧ r.2.mem (((0 : Dev nD) : Thread nD τ).loc main_arg3) = m (((0 : Dev nD) : Thread nD τ).loc main_arg3)
        ∧ r.2.mem (((0 : Dev nD) : Thread nD τ).loc main_arg4) = m (((0 : Dev nD) : Thread nD τ).loc main_arg4)) :=
  (θ_run defs _ _).mono (fun _ h => ⟨⟨(h 0 main_v0).trans (by after_results; rfl),
        (h 0 main_v24).trans (by after_results; rfl),
        (h 0 main_v5).trans (by after_results; rfl),
        (h 0 main_v11).trans (by after_results; rfl)⟩,
      ⟨(h 0 main_arg0).trans (by after_results), (h 0 main_arg1).trans (by after_results), (h 0 main_arg2).trans (by after_results), (h 0 main_arg3).trans (by after_results), (h 0 main_arg4).trans (by after_results)⟩⟩)
    (run_seq scopedRefs_eq scopedSems_eq defs main (fun _ => ops) main_eq (fun _ => ops_sub) m ρ)

theorem frame : Cert.quiescent_Reference19Ideal := fun m ρ _ =>
  (θ_run defs _ _).mono (fun r h => ⟨fun c => (by obtain rfl : c = 0 := Subsingleton.elim _ _; exact h.2),
      sem_eq_zero_of_no_sems (by decide) r.2⟩)
    (run m ρ)

open Cert.Kernel19Ideal.Value (newG newD newM newV)

/-! ### The results -/

theorem valueG_eq (w m v g h : S1408x2048.Idx → EReal) : (valueG w m v g h : S1408x2048.Idx → EReal) = fun i => newG w m v g h (i 0).val (i 1).val :=
  mat_ext fun p q => by
    simp only [newG, ext2_in _ p.isLt q.isLt]
    rfl

theorem valueD_eq (w m v g h : S1408x2048.Idx → EReal) : (valueD w m v g h : S1408x2048.Idx → EReal) = fun i => newD w m v g h (i 0).val (i 1).val :=
  mat_ext fun p q => by
    simp only [newD, ext2_in _ p.isLt q.isLt]
    rfl

theorem valueM_eq (w m v g h : S1408x2048.Idx → EReal) : (valueM w m v g h : S1408x2048.Idx → EReal) = fun i => newM w m v g h (i 0).val (i 1).val :=
  mat_ext fun p q => by
    simp only [newM, ext2_in _ p.isLt q.isLt]
    rfl

theorem valueV_eq (w m v g h : S1408x2048.Idx → EReal) : (valueV w m v g h : S1408x2048.Idx → EReal) = fun i => newV w m v g h (i 0).val (i 1).val :=
  mat_ext fun p q => by
    simp only [newV, ext2_in _ p.isLt q.isLt]
    rfl

/-- Both compute the same arrays. -/
theorem algebraic : Cert.algebraic_Kernel19Ideal_Reference19Ideal := by
  intro m ρ m' ρ' _ hagree
  refine ⟨fun c => Cert.Kernel19Ideal.Value.resultG m c, fun c => Cert.Kernel19Ideal.Value.resultD m c,
    fun c => Cert.Kernel19Ideal.Value.resultM m c, fun c => Cert.Kernel19Ideal.Value.resultV m c, Cert.Kernel19Ideal.Value.run m ρ, ?_⟩
  refine (θ_run defs _ _).mono (fun _ h c => ?_) (run m' ρ')
  obtain rfl : c = 0 := Subsingleton.elim _ _
  obtain ⟨e0, e1, e2, e3, e4⟩ := hagree 0
  refine ⟨h.1.1.trans ?_, h.1.2.1.trans ?_, h.1.2.2.1.trans ?_, h.1.2.2.2.trans ?_, h.2⟩ <;> rw [e0, e1, e2, e3, e4]
  exacts [valueG_eq .., valueD_eq .., valueM_eq .., valueV_eq ..]

end Cert.Reference19Ideal.Value
-- ==== Proof.AdamIn.lean ====
/-
  One step of the optimiser on the input projection's weight: the blocks each point writes, and the result arrays.
-/
module

public import proofs.«01_k».proof.Defs
public import proofs.«01_k».proof.Proof.Gen.Kernel20Ideal.Frame
public import proofs.«01_k».proof.Proof.Dots
public import proofs.«01_k».proof.Proof.Adam
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel20Ideal.Value

open Cert.Kernel20Ideal Cert.Kernel20Ideal.Gen Cert.Dots Cert.Adam

variable (m : (ℓ : Loc nD τ sig) → Buf (Elt Ideal) ℓ) (ρ : Dev nD → PrngReg)

theorem hz : (![0, 0] : Fin 2 → Nat) = fun _ => 0 := funext fun a => by fin_cases a <;> rfl

/-! ### The blocks: the weight, its moments, and the gradient's parts -/

abbrev arrW (c : Dev nD) : S1284x2048.Idx → EReal := m ((c : Thread nD τ).loc main_arg0)
abbrev arrM (c : Dev nD) : S1284x2048.Idx → EReal := m ((c : Thread nD τ).loc main_arg1)
abbrev arrV (c : Dev nD) : S1284x2048.Idx → EReal := m ((c : Thread nD τ).loc main_arg2)
abbrev arrG (c : Dev nD) : S1284x2048.Idx → EReal := m ((c : Thread nD τ).loc main_arg3)
abbrev arrH (c : Dev nD) : S1284x2048.Idx → EReal := m ((c : Thread nD τ).loc main_arg4)

theorem at0 : ∀ t : Fin cfg0.N, win0_0.index t 0 = 0 ∧ win0_0.index t 1 = t.val := by decide +kernel
theorem at1 : ∀ t : Fin cfg0.N, win0_1.index t 0 = 0 ∧ win0_1.index t 1 = t.val := by decide +kernel
theorem at2 : ∀ t : Fin cfg0.N, win0_2.index t 0 = 0 ∧ win0_2.index t 1 = t.val := by decide +kernel
theorem at3 : ∀ t : Fin cfg0.N, win0_3.index t 0 = 0 ∧ win0_3.index t 1 = t.val := by decide +kernel
theorem at4 : ∀ t : Fin cfg0.N, win0_4.index t 0 = 0 ∧ win0_4.index t 1 = t.val := by decide +kernel
theorem at5 : ∀ t : Fin cfg0.N, win0_5.index t 0 = 0 ∧ win0_5.index t 1 = t.val := by decide +kernel
theorem at6 : ∀ t : Fin cfg0.N, win0_6.index t 0 = 0 ∧ win0_6.index t 1 = t.val := by decide +kernel
theorem at7 : ∀ t : Fin cfg0.N, win0_7.index t 0 = 0 ∧ win0_7.index t 1 = t.val := by decide +kernel
theorem at8 : ∀ t : Fin cfg0.N, win0_8.index t 0 = 0 ∧ win0_8.index t 1 = t.val := by decide +kernel

theorem blk0 (c : Dev nD) (t : Fin cfg0.N) (p : Fin 1284) (q : Fin 256) :
    (iblk m c 0 t : S1284x256.Idx → EReal) (ix2 p q) = ext2 (arrW m c) (p.val) (256 * t.val + q.val) := by
  unfold iblk
  rw [View.read_apply]
  show V m c main_arg0 _ = _
  rw [V_main_arg0]
  refine ext2_of (arrW m c) _ ?_ ?_
  · show win0_0.index t 0 * 1284 + 1 * p.val = _
    rw [(at0 t).1]; omega
  · show win0_0.index t 1 * 256 + 1 * q.val = _
    rw [(at0 t).2]; omega

theorem blk1 (c : Dev nD) (t : Fin cfg0.N) (p : Fin 1284) (q : Fin 256) :
    (iblk m c 1 t : S1284x256.Idx → EReal) (ix2 p q) = ext2 (arrM m c) (p.val) (256 * t.val + q.val) := by
  unfold iblk
  rw [View.read_apply]
  show V m c main_arg1 _ = _
  rw [V_main_arg1]
  refine ext2_of (arrM m c) _ ?_ ?_
  · show win0_1.index t 0 * 1284 + 1 * p.val = _
    rw [(at1 t).1]; omega
  · show win0_1.index t 1 * 256 + 1 * q.val = _
    rw [(at1 t).2]; omega

theorem blk2 (c : Dev nD) (t : Fin cfg0.N) (p : Fin 1284) (q : Fin 256) :
    (iblk m c 2 t : S1284x256.Idx → EReal) (ix2 p q) = ext2 (arrV m c) (p.val) (256 * t.val + q.val) := by
  unfold iblk
  rw [View.read_apply]
  show V m c main_arg2 _ = _
  rw [V_main_arg2]
  refine ext2_of (arrV m c) _ ?_ ?_
  · show win0_2.index t 0 * 1284 + 1 * p.val = _
    rw [(at2 t).1]; omega
  · show win0_2.index t 1 * 256 + 1 * q.val = _
    rw [(at2 t).2]; omega

theorem blk3 (c : Dev nD) (t : Fin cfg0.N) (p : Fin 1284) (q : Fin 256) :
    (iblk m c 3 t : S1284x256.Idx → EReal) (ix2 p q) = ext2 (arrG m c) (p.val) (256 * t.val + q.val) := by
  unfold iblk
  rw [View.read_apply]
  show V m c main_arg3 _ = _
  rw [V_main_arg3]
  refine ext2_of (arrG m c) _ ?_ ?_
  · show win0_3.index t 0 * 1284 + 1 * p.val = _
    rw [(at3 t).1]; omega
  · show win0_3.index t 1 * 256 + 1 * q.val = _
    rw [(at3 t).2]; omega

theorem blk4 (c : Dev nD) (t : Fin cfg0.N) (p : Fin 1284) (q : Fin 256) :
    (iblk m c 4 t : S1284x256.Idx → EReal) (ix2 p q) = ext2 (arrH m c) (p.val) (256 * t.val + q.val) := by
  unfold iblk
  rw [View.read_apply]
  show V m c main_arg4 _ = _
  rw [V_main_arg4]
  refine ext2_of (arrH m c) _ ?_ ?_
  · show win0_4.index t 0 * 1284 + 1 * p.val = _
    rw [(at4 t).1]; omega
  · show win0_4.index t 1 * 256 + 1 * q.val = _
    rw [(at4 t).2]; omega

/-! ### One step, entry by entry -/

def newG (w m v g h : S1284x2048.Idx → EReal) (i j : ℕ) : EReal := ext2 g i j + ext2 h i j
def newM (w m v g h : S1284x2048.Idx → EReal) (i j : ℕ) : EReal := mom (ext2 m i j) (ext2 g i j + ext2 h i j)
def newV (w m v g h : S1284x2048.Idx → EReal) (i j : ℕ) : EReal := var (ext2 v i j) (ext2 g i j + ext2 h i j)
def newD (w m v g h : S1284x2048.Idx → EReal) (i j : ℕ) : EReal := step (ext2 w i j) (ext2 m i j) (ext2 v i j) (ext2 g i j + ext2 h i j)

theorem pay1 (a b : Vec Ideal S1284x256 .f32) (y : S1284x256.Idx) : (k0_pay1 a b y : EReal) = a y + b y := rfl
theorem pay2 (a b m : Vec Ideal S1284x256 .f32) (y : S1284x256.Idx) : (k0_pay2 a b m y : EReal) = mom (m y) (a y + b y) := rfl
theorem pay3 (a b v : Vec Ideal S1284x256 .f32) (y : S1284x256.Idx) : (k0_pay3 a b v y : EReal) = var (v y) (a y + b y) := rfl
theorem pay4 (a b m v w : Vec Ideal S1284x256 .f32) (y : S1284x256.Idx) : (k0_pay4 a b m v w y : EReal) = step (w y) (m y) (v y) (a y + b y) := rfl

/-! ### The result arrays -/

abbrev resultG (c : Dev nD) : S1284x2048.Idx → EReal := fun i => newG (arrW m c) (arrM m c) (arrV m c) (arrG m c) (arrH m c) (i 0).val (i 1).val

theorem at_outG (c : Dev nD) (t : Fin cfg0.N) (y : S1284x256.Idx) :
    (out0_5 (iblk m c 0 t) (iblk m c 1 t) (iblk m c 2 t) (iblk m c 3 t) (iblk m c 4 t) y : EReal) = newG (arrW m c) (arrM m c) (arrV m c) (arrG m c) (arrH m c) ((y 0).val) (256 * t.val + (y 1).val) := by
  obtain ⟨p, q, rfl⟩ : ∃ (p : Fin 1284) (q : Fin 256), y = ix2 p q := ⟨y 0, y 1, eq_ix2 y⟩
  unfold out0_5
  rw [View.canon_unit_zero hz]
  simp only [View.ld_unit_zero (S := S1284x256) hz]
  show _ = newG (arrW m c) (arrM m c) (arrV m c) (arrG m c) (arrH m c) (p.val) (256 * t.val + q.val)
  rw [pay1, blk3, blk4]
  rfl

theorem flushedG (c : Dev nD) (t : Fin cfg0.N) (hf : (cfg0.win 5).flush t = true) :
    (dats m 0 c).flushed 5 t = ((cfg0.win 5).blk t).view.read (Elt Ideal) (resultG m c) := by
  show (cfg0.win 5).cut (grid0.coords t) ((dats m 0 c).after 5 t) = _
  rw [after0_5]
  funext y
  rw [View.read_apply]
  refine (at_outG m c t y).trans ?_
  have er : (y 0).val = win0_5.index t 0 * 1284 + 1 * (y 0).val := by rw [(at5 t).1]; omega
  have ec : 256 * t.val + (y 1).val = win0_5.index t 1 * 256 + 1 * (y 1).val := by rw [(at5 t).2]; omega
  conv_lhs => rw [er, ec]
  rfl

abbrev resultD (c : Dev nD) : S1284x2048.Idx → EReal := fun i => newD (arrW m c) (arrM m c) (arrV m c) (arrG m c) (arrH m c) (i 0).val (i 1).val

theorem at_outD (c : Dev nD) (t : Fin cfg0.N) (y : S1284x256.Idx) :
    (out0_6 (iblk m c 0 t) (iblk m c 1 t) (iblk m c 2 t) (iblk m c 3 t) (iblk m c 4 t) y : EReal) = newD (arrW m c) (arrM m c) (arrV m c) (arrG m c) (arrH m c) ((y 0).val) (256 * t.val + (y 1).val) := by
  obtain ⟨p, q, rfl⟩ : ∃ (p : Fin 1284) (q : Fin 256), y = ix2 p q := ⟨y 0, y 1, eq_ix2 y⟩
  unfold out0_6
  rw [View.canon_unit_zero hz]
  simp only [View.ld_unit_zero (S := S1284x256) hz]
  show _ = newD (arrW m c) (arrM m c) (arrV m c) (arrG m c) (arrH m c) (p.val) (256 * t.val + q.val)
  rw [pay4, blk0, blk1, blk2, blk3, blk4]
  rfl

theorem flushedD (c : Dev nD) (t : Fin cfg0.N) (hf : (cfg0.win 6).flush t = true) :
    (dats m 0 c).flushed 6 t = ((cfg0.win 6).blk t).view.read (Elt Ideal) (resultD m c) := by
  show (cfg0.win 6).cut (grid0.coords t) ((dats m 0 c).after 6 t) = _
  rw [after0_6]
  funext y
  rw [View.read_apply]
  refine (at_outD m c t y).trans ?_
  have er : (y 0).val = win0_6.index t 0 * 1284 + 1 * (y 0).val := by rw [(at6 t).1]; omega
  have ec : 256 * t.val + (y 1).val = win0_6.index t 1 * 256 + 1 * (y 1).val := by rw [(at6 t).2]; omega
  conv_lhs => rw [er, ec]
  rfl

abbrev resultM (c : Dev nD) : S1284x2048.Idx → EReal := fun i => newM (arrW m c) (arrM m c) (arrV m c) (arrG m c) (arrH m c) (i 0).val (i 1).val

theorem at_outM (c : Dev nD) (t : Fin cfg0.N) (y : S1284x256.Idx) :
    (out0_7 (iblk m c 0 t) (iblk m c 1 t) (iblk m c 2 t) (iblk m c 3 t) (iblk m c 4 t) y : EReal) = newM (arrW m c) (arrM m c) (arrV m c) (arrG m c) (arrH m c) ((y 0).val) (256 * t.val + (y 1).val) := by
  obtain ⟨p, q, rfl⟩ : ∃ (p : Fin 1284) (q : Fin 256), y = ix2 p q := ⟨y 0, y 1, eq_ix2 y⟩
  unfold out0_7
  rw [View.canon_unit_zero hz]
  simp only [View.ld_unit_zero (S := S1284x256) hz]
  show _ = newM (arrW m c) (arrM m c) (arrV m c) (arrG m c) (arrH m c) (p.val) (256 * t.val + q.val)
  rw [pay2, blk1, blk3, blk4]
  rfl

theorem flushedM (c : Dev nD) (t : Fin cfg0.N) (hf : (cfg0.win 7).flush t = true) :
    (dats m 0 c).flushed 7 t = ((cfg0.win 7).blk t).view.read (Elt Ideal) (resultM m c) := by
  show (cfg0.win 7).cut (grid0.coords t) ((dats m 0 c).after 7 t) = _
  rw [after0_7]
  funext y
  rw [View.read_apply]
  refine (at_outM m c t y).trans ?_
  have er : (y 0).val = win0_7.index t 0 * 1284 + 1 * (y 0).val := by rw [(at7 t).1]; omega
  have ec : 256 * t.val + (y 1).val = win0_7.index t 1 * 256 + 1 * (y 1).val := by rw [(at7 t).2]; omega
  conv_lhs => rw [er, ec]
  rfl

abbrev resultV (c : Dev nD) : S1284x2048.Idx → EReal := fun i => newV (arrW m c) (arrM m c) (arrV m c) (arrG m c) (arrH m c) (i 0).val (i 1).val

theorem at_outV (c : Dev nD) (t : Fin cfg0.N) (y : S1284x256.Idx) :
    (out0_8 (iblk m c 0 t) (iblk m c 1 t) (iblk m c 2 t) (iblk m c 3 t) (iblk m c 4 t) y : EReal) = newV (arrW m c) (arrM m c) (arrV m c) (arrG m c) (arrH m c) ((y 0).val) (256 * t.val + (y 1).val) := by
  obtain ⟨p, q, rfl⟩ : ∃ (p : Fin 1284) (q : Fin 256), y = ix2 p q := ⟨y 0, y 1, eq_ix2 y⟩
  unfold out0_8
  rw [View.canon_unit_zero hz]
  simp only [View.ld_unit_zero (S := S1284x256) hz]
  show _ = newV (arrW m c) (arrM m c) (arrV m c) (arrG m c) (arrH m c) (p.val) (256 * t.val + q.val)
  rw [pay3, blk2, blk3, blk4]
  rfl

theorem flushedV (c : Dev nD) (t : Fin cfg0.N) (hf : (cfg0.win 8).flush t = true) :
    (dats m 0 c).flushed 8 t = ((cfg0.win 8).blk t).view.read (Elt Ideal) (resultV m c) := by
  show (cfg0.win 8).cut (grid0.coords t) ((dats m 0 c).after 8 t) = _
  rw [after0_8]
  funext y
  rw [View.read_apply]
  refine (at_outV m c t y).trans ?_
  have er : (y 0).val = win0_8.index t 0 * 1284 + 1 * (y 0).val := by rw [(at8 t).1]; omega
  have ec : 256 * t.val + (y 1).val = win0_8.index t 1 * 256 + 1 * (y 1).val := by rw [(at8 t).2]; omega
  conv_lhs => rw [er, ec]
  rfl

/-- The point that writes the block an index of a result lies in. -/
def ptOf (y : S1284x2048.Idx) : Fin cfg0.N :=
  ⟨(y 1).val / 256, by
    have h0 : (y 0).val < 1284 := (y 0).isLt
    have h1 : (y 1).val < 2048 := (y 1).isLt
    rw [show cfg0.N = 8 from N_0]; omega⟩

theorem finalG (c : Dev nD) : (dats m 0 c).arrAt 5 cfg0.N = resultG m c :=
  (dats m 0 c).arrAt_eq_of_cover 5 (resultG m c) (flushedG m c) fun (y : S1284x2048.Idx) =>
    ⟨ptOf y, flush0_5 (ptOf y), by
      show y ∈ ((View.whole main_v0_0).slice (win0_5.rect (ptOf y))).set
      rw [View.set_slice_whole, Rect.mem_set_unit]
      have h0 : (y 0).val < 1284 := (y 0).isLt
      have h1 : (y 1).val < 2048 := (y 1).isLt
      obtain ⟨e0, e1⟩ := at5 (ptOf y)
      have hv : (ptOf y).val = (y 1).val / 256 := rfl
      rw [hv] at e1
      intro a
      match a with
      | ⟨0, _⟩ => show win0_5.index (ptOf y) 0 * 1284 ≤ (y 0).val ∧ (y 0).val < win0_5.index (ptOf y) 0 * 1284 + 1284
                  rw [e0]; omega
      | ⟨1, _⟩ => show win0_5.index (ptOf y) 1 * 256 ≤ (y 1).val ∧ (y 1).val < win0_5.index (ptOf y) 1 * 256 + 256
                  rw [e1]; omega⟩

theorem finalD (c : Dev nD) : (dats m 0 c).arrAt 6 cfg0.N = resultD m c :=
  (dats m 0 c).arrAt_eq_of_cover 6 (resultD m c) (flushedD m c) fun (y : S1284x2048.Idx) =>
    ⟨ptOf y, flush0_6 (ptOf y), by
      show y ∈ ((View.whole main_v0_1).slice (win0_6.rect (ptOf y))).set
      rw [View.set_slice_whole, Rect.mem_set_unit]
      have h0 : (y 0).val < 1284 := (y 0).isLt
      have h1 : (y 1).val < 2048 := (y 1).isLt
      obtain ⟨e0, e1⟩ := at6 (ptOf y)
      have hv : (ptOf y).val = (y 1).val / 256 := rfl
      rw [hv] at e1
      intro a
      match a with
      | ⟨0, _⟩ => show win0_6.index (ptOf y) 0 * 1284 ≤ (y 0).val ∧ (y 0).val < win0_6.index (ptOf y) 0 * 1284 + 1284
                  rw [e0]; omega
      | ⟨1, _⟩ => show win0_6.index (ptOf y) 1 * 256 ≤ (y 1).val ∧ (y 1).val < win0_6.index (ptOf y) 1 * 256 + 256
                  rw [e1]; omega⟩

theorem finalM (c : Dev nD) : (dats m 0 c).arrAt 7 cfg0.N = resultM m c :=
  (dats m 0 c).arrAt_eq_of_cover 7 (resultM m c) (flushedM m c) fun (y : S1284x2048.Idx) =>
    ⟨ptOf y, flush0_7 (ptOf y), by
      show y ∈ ((View.whole main_v0_2).slice (win0_7.rect (ptOf y))).set
      rw [View.set_slice_whole, Rect.mem_set_unit]
      have h0 : (y 0).val < 1284 := (y 0).isLt
      have h1 : (y 1).val < 2048 := (y 1).isLt
      obtain ⟨e0, e1⟩ := at7 (ptOf y)
      have hv : (ptOf y).val = (y 1).val / 256 := rfl
      rw [hv] at e1
      intro a
      match a with
      | ⟨0, _⟩ => show win0_7.index (ptOf y) 0 * 1284 ≤ (y 0).val ∧ (y 0).val < win0_7.index (ptOf y) 0 * 1284 + 1284
                  rw [e0]; omega
      | ⟨1, _⟩ => show win0_7.index (ptOf y) 1 * 256 ≤ (y 1).val ∧ (y 1).val < win0_7.index (ptOf y) 1 * 256 + 256
                  rw [e1]; omega⟩

theorem finalV (c : Dev nD) : (dats m 0 c).arrAt 8 cfg0.N = resultV m c :=
  (dats m 0 c).arrAt_eq_of_cover 8 (resultV m c) (flushedV m c) fun (y : S1284x2048.Idx) =>
    ⟨ptOf y, flush0_8 (ptOf y), by
      show y ∈ ((View.whole main_v0_3).slice (win0_8.rect (ptOf y))).set
      rw [View.set_slice_whole, Rect.mem_set_unit]
      have h0 : (y 0).val < 1284 := (y 0).isLt
      have h1 : (y 1).val < 2048 := (y 1).isLt
      obtain ⟨e0, e1⟩ := at8 (ptOf y)
      have hv : (ptOf y).val = (y 1).val / 256 := rfl
      rw [hv] at e1
      intro a
      match a with
      | ⟨0, _⟩ => show win0_8.index (ptOf y) 0 * 1284 ≤ (y 0).val ∧ (y 0).val < win0_8.index (ptOf y) 0 * 1284 + 1284
                  rw [e0]; omega
      | ⟨1, _⟩ => show win0_8.index (ptOf y) 1 * 256 ≤ (y 1).val ∧ (y 1).val < win0_8.index (ptOf y) 1 * 256 + 256
                  rw [e1]; omega⟩

/-- The run: the results, the arguments unchanged. -/
theorem run : θ_run defs (onTc (τ := τ) (main (F := Ideal))) ⟨m, fun _ => 0, ρ⟩ fun r => ∀ c : Dev nD,
      r.2.mem ((c : Thread nD τ).loc main_v0_0) = resultG m c
      ∧ r.2.mem ((c : Thread nD τ).loc main_v0_1) = resultD m c
      ∧ r.2.mem ((c : Thread nD τ).loc main_v0_2) = resultM m c
      ∧ r.2.mem ((c : Thread nD τ).loc main_v0_3) = resultV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 5).trans (finalG m c), ((h.1 c).1 6).trans (finalD m c), ((h.1 c).1 7).trans (finalM m c), ((h.1 c).1 8).trans (finalV m c), (h.2 c)⟩)
    (θ_run_and (run_main m ρ) (unchanged m ρ))

end Cert.Kernel20Ideal.Value
-- ==== Proof.AdamInRef.lean ====
/-
  The reference of one step of the optimiser on the input projection's weight: its run, its results entry by entry, and that the kernel's are
  the same.
-/
module

public import proofs.«01_k».proof.Defs
public import proofs.«01_k».proof.Proof.Gen.Reference20Ideal
public import proofs.«01_k».proof.Proof.AdamIn
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference20Ideal.Value

open Cert.Reference20Ideal Cert.Reference20Ideal.Gen Cert.Dots Cert.Adam Idealize.ShloMosaic.StableHlo

/-- The arithmetic on the matrices, entry by entry. -/
abbrev Mat := FVec Ideal S1284x2048 .f32
abbrev plus (l r : Mat) : Mat := addf l r
abbrev times (l r : Mat) : Mat := mulf l r
abbrev over (l r : Mat) : Mat := Host.divf l r
abbrev root (l : Mat) : Mat := Host.sqrt l
/-- A number, and the matrix with nothing else. -/
abbrev cst (b : BitVec 32) : FVec Ideal S_ .f32 := constant (F := Ideal) S_ .f32 b
abbrev spread (l : FVec Ideal S_ .f32) : Mat := broadcastInDim S1284x2048 ![] bcast_S_S1284x2048 l

/-- The results as the reference computes them: the gradient, the change of the weight, and the new moments. -/
def valueG (w m v g h : Mat) : Mat := plus g h
def valueM (w m v g h : Mat) : Mat := plus (times (spread (cst 0x3F666666#32)) m) (times (spread (cst 0x3DCCCCCD#32)) (plus g h))
def valueV (w m v g h : Mat) : Mat := plus (times (spread (cst 0x3F7FBE77#32)) v) (times (spread (cst 0x3A83126F#32)) (times (plus g h) (plus g h)))
def valueD (w m v g h : Mat) : Mat :=
  times (spread (cst 0xBA83126F#32)) (plus (over (over (valueM w m v g h) (spread (cst 0x3F26BD02#32)))
    (plus (root (over (valueV w m v g h) (spread (cst 0x3C231ACC#32)))) (spread (cst 0x322BCC77#32)))) (times (spread (cst 0x3C23D70A#32)) w))

/-- The reference's operations, in order. -/
abbrev ops : List (HloOp τ sig (Elt Ideal)) :=
  [ binary main_arg3 main_arg4 main_v0 plus,
    nullary main_cst (cst 0x3F666666#32),
    unary main_cst main_v1 spread,
    binary main_v1 main_arg1 main_v2 times,
    nullary main_cst_0 (cst 0x3DCCCCCD#32),
    unary main_cst_0 main_v3 spread,
    binary main_v3 main_v0 main_v4 times,
    binary main_v2 main_v4 main_v5 plus,
    nullary main_cst_1 (cst 0x3F7FBE77#32),
    unary main_cst_1 main_v6 spread,
    binary main_v6 main_arg2 main_v7 times,
    binary main_v0 main_v0 main_v8 times,
    nullary main_cst_2 (cst 0x3A83126F#32),
    unary main_cst_2 main_v9 spread,
    binary main_v9 main_v8 main_v10 times,
    binary main_v7 main_v10 main_v11 plus,
    nullary main_cst_3 (cst 0x3F26BD02#32),
    unary main_cst_3 main_v12 spread,
    binary main_v5 main_v12 main_v13 over,
    nullary main_cst_4 (cst 0x3C231ACC#32),
    unary main_cst_4 main_v14 spread,
    binary main_v11 main_v14 main_v15 over,
    unary main_v15 main_v16 root,
    nullary main_cst_5 (cst 0x322BCC77#32),
    unary main_cst_5 main_v17 spread,
    binary main_v16 main_v17 main_v18 plus,
    binary main_v13 main_v18 main_v19 over,
    nullary main_cst_6 (cst 0x3C23D70A#32),
    unary main_cst_6 main_v20 spread,
    binary main_v20 main_arg0 main_v21 times,
    binary main_v19 main_v21 main_v22 plus,
    nullary main_cst_7 (cst 0xBA83126F#32),
    unary main_cst_7 main_v23 spread,
    binary main_v23 main_v22 main_v24 times ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD) : Thread nD τ).loc main_v0) = valueG (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))
        ∧ r.2.mem (((0 : Dev nD) : Thread nD τ).loc main_v24) = valueD (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))
        ∧ r.2.mem (((0 : Dev nD) : Thread nD τ).loc main_v5) = valueM (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))
        ∧ r.2.mem (((0 : Dev nD) : Thread nD τ).loc main_v11) = valueV (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)))
      ∧ (r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)
        ∧ r.2.mem (((0 : Dev nD) : Thread nD τ).loc main_arg2) = m (((0 : Dev nD) : Thread nD τ).loc main_arg2)
        ∧ r.2.mem (((0 : Dev nD) : Thread nD τ).loc main_arg3) = m (((0 : Dev nD) : Thread nD τ).loc main_arg3)
        ∧ r.2.mem (((0 : Dev nD) : Thread nD τ).loc main_arg4) = m (((0 : Dev nD) : Thread nD τ).loc main_arg4)) :=
  (θ_run defs _ _).mono (fun _ h => ⟨⟨(h 0 main_v0).trans (by after_results; rfl),
        (h 0 main_v24).trans (by after_results; rfl),
        (h 0 main_v5).trans (by after_results; rfl),
        (h 0 main_v11).trans (by after_results; rfl)⟩,
      ⟨(h 0 main_arg0).trans (by after_results), (h 0 main_arg1).trans (by after_results), (h 0 main_arg2).trans (by after_results), (h 0 main_arg3).trans (by after_results), (h 0 main_arg4).trans (by after_results)⟩⟩)
    (run_seq scopedRefs_eq scopedSems_eq defs main (fun _ => ops) main_eq (fun _ => ops_sub) m ρ)

theorem frame : Cert.quiescent_Reference20Ideal := fun m ρ _ =>
  (θ_run defs _ _).mono (fun r h => ⟨fun c => (by obtain rfl : c = 0 := Subsingleton.elim _ _; exact h.2),
      sem_eq_zero_of_no_sems (by decide) r.2⟩)
    (run m ρ)

open Cert.Kernel20Ideal.Value (newG newD newM newV)

/-! ### The results -/

theorem valueG_eq (w m v g h : S1284x2048.Idx → EReal) : (valueG w m v g h : S1284x2048.Idx → EReal) = fun i => newG w m v g h (i 0).val (i 1).val :=
  mat_ext fun p q => by
    simp only [newG, ext2_in _ p.isLt q.isLt]
    rfl

theorem valueD_eq (w m v g h : S1284x2048.Idx → EReal) : (valueD w m v g h : S1284x2048.Idx → EReal) = fun i => newD w m v g h (i 0).val (i 1).val :=
  mat_ext fun p q => by
    simp only [newD, ext2_in _ p.isLt q.isLt]
    rfl

theorem valueM_eq (w m v g h : S1284x2048.Idx → EReal) : (valueM w m v g h : S1284x2048.Idx → EReal) = fun i => newM w m v g h (i 0).val (i 1).val :=
  mat_ext fun p q => by
    simp only [newM, ext2_in _ p.isLt q.isLt]
    rfl

theorem valueV_eq (w m v g h : S1284x2048.Idx → EReal) : (valueV w m v g h : S1284x2048.Idx → EReal) = fun i => newV w m v g h (i 0).val (i 1).val :=
  mat_ext fun p q => by
    simp only [newV, ext2_in _ p.isLt q.isLt]
    rfl

/-- Both compute the same arrays. -/
theorem algebraic : Cert.algebraic_Kernel20Ideal_Reference20Ideal := by
  intro m ρ m' ρ' _ hagree
  refine ⟨fun c => Cert.Kernel20Ideal.Value.resultG m c, fun c => Cert.Kernel20Ideal.Value.resultD m c,
    fun c => Cert.Kernel20Ideal.Value.resultM m c, fun c => Cert.Kernel20Ideal.Value.resultV m c, Cert.Kernel20Ideal.Value.run m ρ, ?_⟩
  refine (θ_run defs _ _).mono (fun _ h c => ?_) (run m' ρ')
  obtain rfl : c = 0 := Subsingleton.elim _ _
  obtain ⟨e0, e1, e2, e3, e4⟩ := hagree 0
  refine ⟨h.1.1.trans ?_, h.1.2.1.trans ?_, h.1.2.2.1.trans ?_, h.1.2.2.2.trans ?_, h.2⟩ <;> rw [e0, e1, e2, e3, e4]
  exacts [valueG_eq .., valueD_eq .., valueM_eq .., valueV_eq ..]

end Cert.Reference20Ideal.Value
-- ==== Proof.AdamOut.lean ====
/-
  One step of the optimiser on the output projection's weight: the blocks each point writes, and the result arrays.
-/
module

public import proofs.«01_k».proof.Defs
public import proofs.«01_k».proof.Proof.Gen.Kernel21Ideal.Frame
public import proofs.«01_k».proof.Proof.Dots
public import proofs.«01_k».proof.Proof.Adam
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel21Ideal.Value

open Cert.Kernel21Ideal Cert.Kernel21Ideal.Gen Cert.Dots Cert.Adam

variable (m : (ℓ : Loc nD τ sig) → Buf (Elt Ideal) ℓ) (ρ : Dev nD → PrngReg)

theorem hz : (![0, 0] : Fin 2 → Nat) = fun _ => 0 := funext fun a => by fin_cases a <;> rfl

/-! ### The blocks: the weight, its moments, and the gradient's parts -/

abbrev arrW (c : Dev nD) : S512x2048.Idx → EReal := m ((c : Thread nD τ).loc main_arg0)
abbrev arrM (c : Dev nD) : S512x2048.Idx → EReal := m ((c : Thread nD τ).loc main_arg1)
abbrev arrV (c : Dev nD) : S512x2048.Idx → EReal := m ((c : Thread nD τ).loc main_arg2)
abbrev arrG (c : Dev nD) : S512x2048.Idx → EReal := m ((c : Thread nD τ).loc main_arg3)
abbrev arrH (c : Dev nD) : S512x2048.Idx → EReal := m ((c : Thread nD τ).loc main_arg4)

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = t.val ∧ win0_3.index t 1 = 0 := by decide +kernel
theorem at4 : ∀ t : Fin cfg0.N, win0_4.index t 0 = t.val ∧ win0_4.index t 1 = 0 := by decide +kernel
theorem at5 : ∀ t : Fin cfg0.N, win0_5.index t 0 = t.val ∧ win0_5.index t 1 = 0 := by decide +kernel
theorem at6 : ∀ t : Fin cfg0.N, win0_6.index t 0 = t.val ∧ win0_6.index t 1 = 0 := by decide +kernel
theorem at7 : ∀ t : Fin cfg0.N, win0_7.index t 0 = t.val ∧ win0_7.index t 1 = 0 := by decide +kernel
theorem at8 : ∀ t : Fin cfg0.N, win0_8.index t 0 = t.val ∧ win0_8.index t 1 = 0 := by decide +kernel

theorem blk0 (c : Dev nD) (t : Fin cfg0.N) (p : Fin 256) (q : Fin 2048) :
    (iblk m c 0 t : S256x2048.Idx → EReal) (ix2 p q) = ext2 (arrW m c) (256 * t.val + p.val) (q.val) := by
  unfold iblk
  rw [View.read_apply]
  show V m c main_arg0 _ = _
  rw [V_main_arg0]
  refine ext2_of (arrW m c) _ ?_ ?_
  · show win0_0.index t 0 * 256 + 1 * p.val = _
    rw [(at0 t).1]; omega
  · show win0_0.index t 1 * 2048 + 1 * q.val = _
    rw [(at0 t).2]; omega

theorem blk1 (c : Dev nD) (t : Fin cfg0.N) (p : Fin 256) (q : Fin 2048) :
    (iblk m c 1 t : S256x2048.Idx → EReal) (ix2 p q) = ext2 (arrM m c) (256 * t.val + p.val) (q.val) := by
  unfold iblk
  rw [View.read_apply]
  show V m c main_arg1 _ = _
  rw [V_main_arg1]
  refine ext2_of (arrM m c) _ ?_ ?_
  · show win0_1.index t 0 * 256 + 1 * p.val = _
    rw [(at1 t).1]; omega
  · show win0_1.index t 1 * 2048 + 1 * q.val = _
    rw [(at1 t).2]; omega

theorem blk2 (c : Dev nD) (t : Fin cfg0.N) (p : Fin 256) (q : Fin 2048) :
    (iblk m c 2 t : S256x2048.Idx → EReal) (ix2 p q) = ext2 (arrV m c) (256 * t.val + p.val) (q.val) := by
  unfold iblk
  rw [View.read_apply]
  show V m c main_arg2 _ = _
  rw [V_main_arg2]
  refine ext2_of (arrV m c) _ ?_ ?_
  · show win0_2.index t 0 * 256 + 1 * p.val = _
    rw [(at2 t).1]; omega
  · show win0_2.index t 1 * 2048 + 1 * q.val = _
    rw [(at2 t).2]; omega

theorem blk3 (c : Dev nD) (t : Fin cfg0.N) (p : Fin 256) (q : Fin 2048) :
    (iblk m c 3 t : S256x2048.Idx → EReal) (ix2 p q) = ext2 (arrG m c) (256 * t.val + p.val) (q.val) := by
  unfold iblk
  rw [View.read_apply]
  show V m c main_arg3 _ = _
  rw [V_main_arg3]
  refine ext2_of (arrG m c) _ ?_ ?_
  · show win0_3.index t 0 * 256 + 1 * p.val = _
    rw [(at3 t).1]; omega
  · show win0_3.index t 1 * 2048 + 1 * q.val = _
    rw [(at3 t).2]; omega

theorem blk4 (c : Dev nD) (t : Fin cfg0.N) (p : Fin 256) (q : Fin 2048) :
    (iblk m c 4 t : S256x2048.Idx → EReal) (ix2 p q) = ext2 (arrH m c) (256 * t.val + p.val) (q.val) := by
  unfold iblk
  rw [View.read_apply]
  show V m c main_arg4 _ = _
  rw [V_main_arg4]
  refine ext2_of (arrH m c) _ ?_ ?_
  · show win0_4.index t 0 * 256 + 1 * p.val = _
    rw [(at4 t).1]; omega
  · show win0_4.index t 1 * 2048 + 1 * q.val = _
    rw [(at4 t).2]; omega

/-! ### One step, entry by entry -/

def newG (w m v g h : S512x2048.Idx → EReal) (i j : ℕ) : EReal := ext2 g i j + ext2 h i j
def newM (w m v g h : S512x2048.Idx → EReal) (i j : ℕ) : EReal := mom (ext2 m i j) (ext2 g i j + ext2 h i j)
def newV (w m v g h : S512x2048.Idx → EReal) (i j : ℕ) : EReal := var (ext2 v i j) (ext2 g i j + ext2 h i j)
def newD (w m v g h : S512x2048.Idx → EReal) (i j : ℕ) : EReal := step (ext2 w i j) (ext2 m i j) (ext2 v i j) (ext2 g i j + ext2 h i j)

theorem pay1 (a b : Vec Ideal S256x2048 .f32) (y : S256x2048.Idx) : (k0_pay1 a b y : EReal) = a y + b y := rfl
theorem pay2 (a b m : Vec Ideal S256x2048 .f32) (y : S256x2048.Idx) : (k0_pay2 a b m y : EReal) = mom (m y) (a y + b y) := rfl
theorem pay3 (a b v : Vec Ideal S256x2048 .f32) (y : S256x2048.Idx) : (k0_pay3 a b v y : EReal) = var (v y) (a y + b y) := rfl
theorem pay4 (a b m v w : Vec Ideal S256x2048 .f32) (y : S256x2048.Idx) : (k0_pay4 a b m v w y : EReal) = step (w y) (m y) (v y) (a y + b y) := rfl

/-! ### The result arrays -/

abbrev resultG (c : Dev nD) : S512x2048.Idx → EReal := fun i => newG (arrW m c) (arrM m c) (arrV m c) (arrG m c) (arrH m c) (i 0).val (i 1).val

theorem at_outG (c : Dev nD) (t : Fin cfg0.N) (y : S256x2048.Idx) :
    (out0_5 (iblk m c 0 t) (iblk m c 1 t) (iblk m c 2 t) (iblk m c 3 t) (iblk m c 4 t) y : EReal) = newG (arrW m c) (arrM m c) (arrV m c) (arrG m c) (arrH m c) (256 * t.val + (y 0).val) ((y 1).val) := by
  obtain ⟨p, q, rfl⟩ : ∃ (p : Fin 256) (q : Fin 2048), y = ix2 p q := ⟨y 0, y 1, eq_ix2 y⟩
  unfold out0_5
  rw [View.canon_unit_zero hz]
  simp only [View.ld_unit_zero (S := S256x2048) hz]
  show _ = newG (arrW m c) (arrM m c) (arrV m c) (arrG m c) (arrH m c) (256 * t.val + p.val) (q.val)
  rw [pay1, blk3, blk4]
  rfl

theorem flushedG (c : Dev nD) (t : Fin cfg0.N) (hf : (cfg0.win 5).flush t = true) :
    (dats m 0 c).flushed 5 t = ((cfg0.win 5).blk t).view.read (Elt Ideal) (resultG m c) := by
  show (cfg0.win 5).cut (grid0.coords t) ((dats m 0 c).after 5 t) = _
  rw [after0_5]
  funext y
  rw [View.read_apply]
  refine (at_outG m c t y).trans ?_
  have er : 256 * t.val + (y 0).val = win0_5.index t 0 * 256 + 1 * (y 0).val := by rw [(at5 t).1]; omega
  have ec : (y 1).val = win0_5.index t 1 * 2048 + 1 * (y 1).val := by rw [(at5 t).2]; omega
  conv_lhs => rw [er, ec]
  rfl

abbrev resultD (c : Dev nD) : S512x2048.Idx → EReal := fun i => newD (arrW m c) (arrM m c) (arrV m c) (arrG m c) (arrH m c) (i 0).val (i 1).val

theorem at_outD (c : Dev nD) (t : Fin cfg0.N) (y : S256x2048.Idx) :
    (out0_6 (iblk m c 0 t) (iblk m c 1 t) (iblk m c 2 t) (iblk m c 3 t) (iblk m c 4 t) y : EReal) = newD (arrW m c) (arrM m c) (arrV m c) (arrG m c) (arrH m c) (256 * t.val + (y 0).val) ((y 1).val) := by
  obtain ⟨p, q, rfl⟩ : ∃ (p : Fin 256) (q : Fin 2048), y = ix2 p q := ⟨y 0, y 1, eq_ix2 y⟩
  unfold out0_6
  rw [View.canon_unit_zero hz]
  simp only [View.ld_unit_zero (S := S256x2048) hz]
  show _ = newD (arrW m c) (arrM m c) (arrV m c) (arrG m c) (arrH m c) (256 * t.val + p.val) (q.val)
  rw [pay4, blk0, blk1, blk2, blk3, blk4]
  rfl

theorem flushedD (c : Dev nD) (t : Fin cfg0.N) (hf : (cfg0.win 6).flush t = true) :
    (dats m 0 c).flushed 6 t = ((cfg0.win 6).blk t).view.read (Elt Ideal) (resultD m c) := by
  show (cfg0.win 6).cut (grid0.coords t) ((dats m 0 c).after 6 t) = _
  rw [after0_6]
  funext y
  rw [View.read_apply]
  refine (at_outD m c t y).trans ?_
  have er : 256 * t.val + (y 0).val = win0_6.index t 0 * 256 + 1 * (y 0).val := by rw [(at6 t).1]; omega
  have ec : (y 1).val = win0_6.index t 1 * 2048 + 1 * (y 1).val := by rw [(at6 t).2]; omega
  conv_lhs => rw [er, ec]
  rfl

abbrev resultM (c : Dev nD) : S512x2048.Idx → EReal := fun i => newM (arrW m c) (arrM m c) (arrV m c) (arrG m c) (arrH m c) (i 0).val (i 1).val

theorem at_outM (c : Dev nD) (t : Fin cfg0.N) (y : S256x2048.Idx) :
    (out0_7 (iblk m c 0 t) (iblk m c 1 t) (iblk m c 2 t) (iblk m c 3 t) (iblk m c 4 t) y : EReal) = newM (arrW m c) (arrM m c) (arrV m c) (arrG m c) (arrH m c) (256 * t.val + (y 0).val) ((y 1).val) := by
  obtain ⟨p, q, rfl⟩ : ∃ (p : Fin 256) (q : Fin 2048), y = ix2 p q := ⟨y 0, y 1, eq_ix2 y⟩
  unfold out0_7
  rw [View.canon_unit_zero hz]
  simp only [View.ld_unit_zero (S := S256x2048) hz]
  show _ = newM (arrW m c) (arrM m c) (arrV m c) (arrG m c) (arrH m c) (256 * t.val + p.val) (q.val)
  rw [pay2, blk1, blk3, blk4]
  rfl

theorem flushedM (c : Dev nD) (t : Fin cfg0.N) (hf : (cfg0.win 7).flush t = true) :
    (dats m 0 c).flushed 7 t = ((cfg0.win 7).blk t).view.read (Elt Ideal) (resultM m c) := by
  show (cfg0.win 7).cut (grid0.coords t) ((dats m 0 c).after 7 t) = _
  rw [after0_7]
  funext y
  rw [View.read_apply]
  refine (at_outM m c t y).trans ?_
  have er : 256 * t.val + (y 0).val = win0_7.index t 0 * 256 + 1 * (y 0).val := by rw [(at7 t).1]; omega
  have ec : (y 1).val = win0_7.index t 1 * 2048 + 1 * (y 1).val := by rw [(at7 t).2]; omega
  conv_lhs => rw [er, ec]
  rfl

abbrev resultV (c : Dev nD) : S512x2048.Idx → EReal := fun i => newV (arrW m c) (arrM m c) (arrV m c) (arrG m c) (arrH m c) (i 0).val (i 1).val

theorem at_outV (c : Dev nD) (t : Fin cfg0.N) (y : S256x2048.Idx) :
    (out0_8 (iblk m c 0 t) (iblk m c 1 t) (iblk m c 2 t) (iblk m c 3 t) (iblk m c 4 t) y : EReal) = newV (arrW m c) (arrM m c) (arrV m c) (arrG m c) (arrH m c) (256 * t.val + (y 0).val) ((y 1).val) := by
  obtain ⟨p, q, rfl⟩ : ∃ (p : Fin 256) (q : Fin 2048), y = ix2 p q := ⟨y 0, y 1, eq_ix2 y⟩
  unfold out0_8
  rw [View.canon_unit_zero hz]
  simp only [View.ld_unit_zero (S := S256x2048) hz]
  show _ = newV (arrW m c) (arrM m c) (arrV m c) (arrG m c) (arrH m c) (256 * t.val + p.val) (q.val)
  rw [pay3, blk2, blk3, blk4]
  rfl

theorem flushedV (c : Dev nD) (t : Fin cfg0.N) (hf : (cfg0.win 8).flush t = true) :
    (dats m 0 c).flushed 8 t = ((cfg0.win 8).blk t).view.read (Elt Ideal) (resultV m c) := by
  show (cfg0.win 8).cut (grid0.coords t) ((dats m 0 c).after 8 t) = _
  rw [after0_8]
  funext y
  rw [View.read_apply]
  refine (at_outV m c t y).trans ?_
  have er : 256 * t.val + (y 0).val = win0_8.index t 0 * 256 + 1 * (y 0).val := by rw [(at8 t).1]; omega
  have ec : (y 1).val = win0_8.index t 1 * 2048 + 1 * (y 1).val := by rw [(at8 t).2]; omega
  conv_lhs => rw [er, ec]
  rfl

/-- The point that writes the block an index of a result lies in. -/
def ptOf (y : S512x2048.Idx) : Fin cfg0.N :=
  ⟨(y 0).val / 256, by
    have h0 : (y 0).val < 512 := (y 0).isLt
    have h1 : (y 1).val < 2048 := (y 1).isLt
    rw [show cfg0.N = 2 from N_0]; omega⟩

theorem finalG (c : Dev nD) : (dats m 0 c).arrAt 5 cfg0.N = resultG m c :=
  (dats m 0 c).arrAt_eq_of_cover 5 (resultG m c) (flushedG m c) fun (y : S512x2048.Idx) =>
    ⟨ptOf y, flush0_5 (ptOf y), by
      show y ∈ ((View.whole main_v0_0).slice (win0_5.rect (ptOf y))).set
      rw [View.set_slice_whole, Rect.mem_set_unit]
      have h0 : (y 0).val < 512 := (y 0).isLt
      have h1 : (y 1).val < 2048 := (y 1).isLt
      obtain ⟨e0, e1⟩ := at5 (ptOf y)
      have hv : (ptOf y).val = (y 0).val / 256 := rfl
      rw [hv] at e0
      intro a
      match a with
      | ⟨0, _⟩ => show win0_5.index (ptOf y) 0 * 256 ≤ (y 0).val ∧ (y 0).val < win0_5.index (ptOf y) 0 * 256 + 256
                  rw [e0]; omega
      | ⟨1, _⟩ => show win0_5.index (ptOf y) 1 * 2048 ≤ (y 1).val ∧ (y 1).val < win0_5.index (ptOf y) 1 * 2048 + 2048
                  rw [e1]; omega⟩

theorem finalD (c : Dev nD) : (dats m 0 c).arrAt 6 cfg0.N = resultD m c :=
  (dats m 0 c).arrAt_eq_of_cover 6 (resultD m c) (flushedD m c) fun (y : S512x2048.Idx) =>
    ⟨ptOf y, flush0_6 (ptOf y), by
      show y ∈ ((View.whole main_v0_1).slice (win0_6.rect (ptOf y))).set
      rw [View.set_slice_whole, Rect.mem_set_unit]
      have h0 : (y 0).val < 512 := (y 0).isLt
      have h1 : (y 1).val < 2048 := (y 1).isLt
      obtain ⟨e0, e1⟩ := at6 (ptOf y)
      have hv : (ptOf y).val = (y 0).val / 256 := rfl
      rw [hv] at e0
      intro a
      match a with
      | ⟨0, _⟩ => show win0_6.index (ptOf y) 0 * 256 ≤ (y 0).val ∧ (y 0).val < win0_6.index (ptOf y) 0 * 256 + 256
                  rw [e0]; omega
      | ⟨1, _⟩ => show win0_6.index (ptOf y) 1 * 2048 ≤ (y 1).val ∧ (y 1).val < win0_6.index (ptOf y) 1 * 2048 + 2048
                  rw [e1]; omega⟩

theorem finalM (c : Dev nD) : (dats m 0 c).arrAt 7 cfg0.N = resultM m c :=
  (dats m 0 c).arrAt_eq_of_cover 7 (resultM m c) (flushedM m c) fun (y : S512x2048.Idx) =>
    ⟨ptOf y, flush0_7 (ptOf y), by
      show y ∈ ((View.whole main_v0_2).slice (win0_7.rect (ptOf y))).set
      rw [View.set_slice_whole, Rect.mem_set_unit]
      have h0 : (y 0).val < 512 := (y 0).isLt
      have h1 : (y 1).val < 2048 := (y 1).isLt
      obtain ⟨e0, e1⟩ := at7 (ptOf y)
      have hv : (ptOf y).val = (y 0).val / 256 := rfl
      rw [hv] at e0
      intro a
      match a with
      | ⟨0, _⟩ => show win0_7.index (ptOf y) 0 * 256 ≤ (y 0).val ∧ (y 0).val < win0_7.index (ptOf y) 0 * 256 + 256
                  rw [e0]; omega
      | ⟨1, _⟩ => show win0_7.index (ptOf y) 1 * 2048 ≤ (y 1).val ∧ (y 1).val < win0_7.index (ptOf y) 1 * 2048 + 2048
                  rw [e1]; omega⟩

theorem finalV (c : Dev nD) : (dats m 0 c).arrAt 8 cfg0.N = resultV m c :=
  (dats m 0 c).arrAt_eq_of_cover 8 (resultV m c) (flushedV m c) fun (y : S512x2048.Idx) =>
    ⟨ptOf y, flush0_8 (ptOf y), by
      show y ∈ ((View.whole main_v0_3).slice (win0_8.rect (ptOf y))).set
      rw [View.set_slice_whole, Rect.mem_set_unit]
      have h0 : (y 0).val < 512 := (y 0).isLt
      have h1 : (y 1).val < 2048 := (y 1).isLt
      obtain ⟨e0, e1⟩ := at8 (ptOf y)
      have hv : (ptOf y).val = (y 0).val / 256 := rfl
      rw [hv] at e0
      intro a
      match a with
      | ⟨0, _⟩ => show win0_8.index (ptOf y) 0 * 256 ≤ (y 0).val ∧ (y 0).val < win0_8.index (ptOf y) 0 * 256 + 256
                  rw [e0]; omega
      | ⟨1, _⟩ => show win0_8.index (ptOf y) 1 * 2048 ≤ (y 1).val ∧ (y 1).val < win0_8.index (ptOf y) 1 * 2048 + 2048
                  rw [e1]; omega⟩

/-- The run: the results, the arguments unchanged. -/
theorem run : θ_run defs (onTc (τ := τ) (main (F := Ideal))) ⟨m, fun _ => 0, ρ⟩ fun r => ∀ c : Dev nD,
      r.2.mem ((c : Thread nD τ).loc main_v0_0) = resultG m c
      ∧ r.2.mem ((c : Thread nD τ).loc main_v0_1) = resultD m c
      ∧ r.2.mem ((c : Thread nD τ).loc main_v0_2) = resultM m c
      ∧ r.2.mem ((c : Thread nD τ).loc main_v0_3) = resultV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 5).trans (finalG m c), ((h.1 c).1 6).trans (finalD m c), ((h.1 c).1 7).trans (finalM m c), ((h.1 c).1 8).trans (finalV m c), (h.2 c)⟩)
    (θ_run_and (run_main m ρ) (unchanged m ρ))

end Cert.Kernel21Ideal.Value
-- ==== Proof.AdamOutRef.lean ====
/-
  The reference of one step of the optimiser on the output projection's weight: its run, its results entry by entry, and that the kernel's are
  the same.
-/
module

public import proofs.«01_k».proof.Defs
public import proofs.«01_k».proof.Proof.Gen.Reference21Ideal
public import proofs.«01_k».proof.Proof.AdamOut
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference21Ideal.Value

open Cert.Reference21Ideal Cert.Reference21Ideal.Gen Cert.Dots Cert.Adam Idealize.ShloMosaic.StableHlo

/-- The arithmetic on the matrices, entry by entry. -/
abbrev Mat := FVec Ideal S512x2048 .f32
abbrev plus (l r : Mat) : Mat := addf l r
abbrev times (l r : Mat) : Mat := mulf l r
abbrev over (l r : Mat) : Mat := Host.divf l r
abbrev root (l : Mat) : Mat := Host.sqrt l
/-- A number, and the matrix with nothing else. -/
abbrev cst (b : BitVec 32) : FVec Ideal S_ .f32 := constant (F := Ideal) S_ .f32 b
abbrev spread (l : FVec Ideal S_ .f32) : Mat := broadcastInDim S512x2048 ![] bcast_S_S512x2048 l

/-- The results as the reference computes them: the gradient, the change of the weight, and the new moments. -/
def valueG (w m v g h : Mat) : Mat := plus g h
def valueM (w m v g h : Mat) : Mat := plus (times (spread (cst 0x3F666666#32)) m) (times (spread (cst 0x3DCCCCCD#32)) (plus g h))
def valueV (w m v g h : Mat) : Mat := plus (times (spread (cst 0x3F7FBE77#32)) v) (times (spread (cst 0x3A83126F#32)) (times (plus g h) (plus g h)))
def valueD (w m v g h : Mat) : Mat :=
  times (spread (cst 0xBA83126F#32)) (plus (over (over (valueM w m v g h) (spread (cst 0x3F26BD02#32)))
    (plus (root (over (valueV w m v g h) (spread (cst 0x3C231ACC#32)))) (spread (cst 0x322BCC77#32)))) (times (spread (cst 0x3C23D70A#32)) w))

/-- The reference's operations, in order. -/
abbrev ops : List (HloOp τ sig (Elt Ideal)) :=
  [ binary main_arg3 main_arg4 main_v0 plus,
    nullary main_cst (cst 0x3F666666#32),
    unary main_cst main_v1 spread,
    binary main_v1 main_arg1 main_v2 times,
    nullary main_cst_0 (cst 0x3DCCCCCD#32),
    unary main_cst_0 main_v3 spread,
    binary main_v3 main_v0 main_v4 times,
    binary main_v2 main_v4 main_v5 plus,
    nullary main_cst_1 (cst 0x3F7FBE77#32),
    unary main_cst_1 main_v6 spread,
    binary main_v6 main_arg2 main_v7 times,
    binary main_v0 main_v0 main_v8 times,
    nullary main_cst_2 (cst 0x3A83126F#32),
    unary main_cst_2 main_v9 spread,
    binary main_v9 main_v8 main_v10 times,
    binary main_v7 main_v10 main_v11 plus,
    nullary main_cst_3 (cst 0x3F26BD02#32),
    unary main_cst_3 main_v12 spread,
    binary main_v5 main_v12 main_v13 over,
    nullary main_cst_4 (cst 0x3C231ACC#32),
    unary main_cst_4 main_v14 spread,
    binary main_v11 main_v14 main_v15 over,
    unary main_v15 main_v16 root,
    nullary main_cst_5 (cst 0x322BCC77#32),
    unary main_cst_5 main_v17 spread,
    binary main_v16 main_v17 main_v18 plus,
    binary main_v13 main_v18 main_v19 over,
    nullary main_cst_6 (cst 0x3C23D70A#32),
    unary main_cst_6 main_v20 spread,
    binary main_v20 main_arg0 main_v21 times,
    binary main_v19 main_v21 main_v22 plus,
    nullary main_cst_7 (cst 0xBA83126F#32),
    unary main_cst_7 main_v23 spread,
    binary main_v23 main_v22 main_v24 times ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD) : Thread nD τ).loc main_v0) = valueG (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))
        ∧ r.2.mem (((0 : Dev nD) : Thread nD τ).loc main_v24) = valueD (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))
        ∧ r.2.mem (((0 : Dev nD) : Thread nD τ).loc main_v5) = valueM (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))
        ∧ r.2.mem (((0 : Dev nD) : Thread nD τ).loc main_v11) = valueV (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)))
      ∧ (r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)
        ∧ r.2.mem (((0 : Dev nD) : Thread nD τ).loc main_arg2) = m (((0 : Dev nD) : Thread nD τ).loc main_arg2)
        ∧ r.2.mem (((0 : Dev nD) : Thread nD τ).loc main_arg3) = m (((0 : Dev nD) : Thread nD τ).loc main_arg3)
        ∧ r.2.mem (((0 : Dev nD) : Thread nD τ).loc main_arg4) = m (((0 : Dev nD) : Thread nD τ).loc main_arg4)) :=
  (θ_run defs _ _).mono (fun _ h => ⟨⟨(h 0 main_v0).trans (by after_results; rfl),
        (h 0 main_v24).trans (by after_results; rfl),
        (h 0 main_v5).trans (by after_results; rfl),
        (h 0 main_v11).trans (by after_results; rfl)⟩,
      ⟨(h 0 main_arg0).trans (by after_results), (h 0 main_arg1).trans (by after_results), (h 0 main_arg2).trans (by after_results), (h 0 main_arg3).trans (by after_results), (h 0 main_arg4).trans (by after_results)⟩⟩)
    (run_seq scopedRefs_eq scopedSems_eq defs main (fun _ => ops) main_eq (fun _ => ops_sub) m ρ)

theorem frame : Cert.quiescent_Reference21Ideal := fun m ρ _ =>
  (θ_run defs _ _).mono (fun r h => ⟨fun c => (by obtain rfl : c = 0 := Subsingleton.elim _ _; exact h.2),
      sem_eq_zero_of_no_sems (by decide) r.2⟩)
    (run m ρ)

open Cert.Kernel21Ideal.Value (newG newD newM newV)

/-! ### The results -/

theorem valueG_eq (w m v g h : S512x2048.Idx → EReal) : (valueG w m v g h : S512x2048.Idx → EReal) = fun i => newG w m v g h (i 0).val (i 1).val :=
  mat_ext fun p q => by
    simp only [newG, ext2_in _ p.isLt q.isLt]
    rfl

theorem valueD_eq (w m v g h : S512x2048.Idx → EReal) : (valueD w m v g h : S512x2048.Idx → EReal) = fun i => newD w m v g h (i 0).val (i 1).val :=
  mat_ext fun p q => by
    simp only [newD, ext2_in _ p.isLt q.isLt]
    rfl

theorem valueM_eq (w m v g h : S512x2048.Idx → EReal) : (valueM w m v g h : S512x2048.Idx → EReal) = fun i => newM w m v g h (i 0).val (i 1).val :=
  mat_ext fun p q => by
    simp only [newM, ext2_in _ p.isLt q.isLt]
    rfl

theorem valueV_eq (w m v g h : S512x2048.Idx → EReal) : (valueV w m v g h : S512x2048.Idx → EReal) = fun i => newV w m v g h (i 0).val (i 1).val :=
  mat_ext fun p q => by
    simp only [newV, ext2_in _ p.isLt q.isLt]
    rfl

/-- Both compute the same arrays. -/
theorem algebraic : Cert.algebraic_Kernel21Ideal_Reference21Ideal := by
  intro m ρ m' ρ' _ hagree
  refine ⟨fun c => Cert.Kernel21Ideal.Value.resultG m c, fun c => Cert.Kernel21Ideal.Value.resultD m c,
    fun c => Cert.Kernel21Ideal.Value.resultM m c, fun c => Cert.Kernel21Ideal.Value.resultV m c, Cert.Kernel21Ideal.Value.run m ρ, ?_⟩
  refine (θ_run defs _ _).mono (fun _ h c => ?_) (run m' ρ')
  obtain rfl : c = 0 := Subsingleton.elim _ _
  obtain ⟨e0, e1, e2, e3, e4⟩ := hagree 0
  refine ⟨h.1.1.trans ?_, h.1.2.1.trans ?_, h.1.2.2.1.trans ?_, h.1.2.2.2.trans ?_, h.2⟩ <;> rw [e0, e1, e2, e3, e4]
  exacts [valueG_eq .., valueD_eq .., valueM_eq .., valueV_eq ..]

end Cert.Reference21Ideal.Value
-- ==== Proof.AdamConv.lean ====
/-
  One step of the optimiser on the convolution's weight: the blocks each point writes, and the result arrays.
-/
module

public import proofs.«01_k».proof.Defs
public import proofs.«01_k».proof.Proof.Gen.Kernel22Ideal.Frame
public import proofs.«01_k».proof.Proof.Dots
public import proofs.«01_k».proof.Proof.Adam
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel22Ideal.Value

open Cert.Kernel22Ideal Cert.Kernel22Ideal.Gen Cert.Dots Cert.Adam

variable (m : (ℓ : Loc nD τ sig) → Buf (Elt Ideal) ℓ) (ρ : Dev nD → PrngReg)

theorem hz : (![0, 0] : Fin 2 → Nat) = fun _ => 0 := funext fun a => by fin_cases a <;> rfl

/-! ### The blocks: the weight, its moments, and the gradient -/

abbrev arrW (c : Dev nD) : S31x256.Idx → EReal := m ((c : Thread nD τ).loc main_arg0)
abbrev arrM (c : Dev nD) : S31x256.Idx → EReal := m ((c : Thread nD τ).loc main_arg1)
abbrev arrV (c : Dev nD) : S31x256.Idx → EReal := m ((c : Thread nD τ).loc main_arg2)
abbrev arrG (c : Dev nD) : S31x256.Idx → EReal := m ((c : Thread nD τ).loc main_arg3)

theorem at0 : ∀ t : Fin cfg0.N, win0_0.index t 0 = 0 ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = 0 ∧ win0_3.index t 1 = 0 := by decide +kernel
theorem at4 : ∀ t : Fin cfg0.N, win0_4.index t 0 = 0 ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = 0 := by decide +kernel
theorem at7 : ∀ t : Fin cfg0.N, win0_7.index t 0 = 0 ∧ win0_7.index t 1 = 0 := by decide +kernel

theorem blk0 (c : Dev nD) (t : Fin cfg0.N) (p : Fin 31) (q : Fin 256) :
    (iblk m c 0 t : S31x256.Idx → EReal) (ix2 p q) = ext2 (arrW m c) (p.val) (q.val) := by
  unfold iblk
  rw [View.read_apply]
  show V m c main_arg0 _ = _
  rw [V_main_arg0]
  refine ext2_of (arrW m c) _ ?_ ?_
  · show win0_0.index t 0 * 31 + 1 * p.val = _
    rw [(at0 t).1]; omega
  · show win0_0.index t 1 * 256 + 1 * q.val = _
    rw [(at0 t).2]; omega

theorem blk1 (c : Dev nD) (t : Fin cfg0.N) (p : Fin 31) (q : Fin 256) :
    (iblk m c 1 t : S31x256.Idx → EReal) (ix2 p q) = ext2 (arrM m c) (p.val) (q.val) := by
  unfold iblk
  rw [View.read_apply]
  show V m c main_arg1 _ = _
  rw [V_main_arg1]
  refine ext2_of (arrM m c) _ ?_ ?_
  · show win0_1.index t 0 * 31 + 1 * p.val = _
    rw [(at1 t).1]; omega
  · show win0_1.index t 1 * 256 + 1 * q.val = _
    rw [(at1 t).2]; omega

theorem blk2 (c : Dev nD) (t : Fin cfg0.N) (p : Fin 31) (q : Fin 256) :
    (iblk m c 2 t : S31x256.Idx → EReal) (ix2 p q) = ext2 (arrV m c) (p.val) (q.val) := by
  unfold iblk
  rw [View.read_apply]
  show V m c main_arg2 _ = _
  rw [V_main_arg2]
  refine ext2_of (arrV m c) _ ?_ ?_
  · show win0_2.index t 0 * 31 + 1 * p.val = _
    rw [(at2 t).1]; omega
  · show win0_2.index t 1 * 256 + 1 * q.val = _
    rw [(at2 t).2]; omega

theorem blk3 (c : Dev nD) (t : Fin cfg0.N) (p : Fin 31) (q : Fin 256) :
    (iblk m c 3 t : S31x256.Idx → EReal) (ix2 p q) = ext2 (arrG m c) (p.val) (q.val) := by
  unfold iblk
  rw [View.read_apply]
  show V m c main_arg3 _ = _
  rw [V_main_arg3]
  refine ext2_of (arrG m c) _ ?_ ?_
  · show win0_3.index t 0 * 31 + 1 * p.val = _
    rw [(at3 t).1]; omega
  · show win0_3.index t 1 * 256 + 1 * q.val = _
    rw [(at3 t).2]; omega

/-! ### One step, entry by entry -/

def newG (w m v g : S31x256.Idx → EReal) (i j : ℕ) : EReal := ext2 g i j
def newM (w m v g : S31x256.Idx → EReal) (i j : ℕ) : EReal := mom (ext2 m i j) (ext2 g i j)
def newV (w m v g : S31x256.Idx → EReal) (i j : ℕ) : EReal := var (ext2 v i j) (ext2 g i j)
def newD (w m v g : S31x256.Idx → EReal) (i j : ℕ) : EReal := step (ext2 w i j) (ext2 m i j) (ext2 v i j) (ext2 g i j)

theorem pay1 (g m : Vec Ideal S31x256 .f32) (y : S31x256.Idx) : (k0_pay1 g m y : EReal) = mom (m y) (g y) := rfl
theorem pay2 (g v : Vec Ideal S31x256 .f32) (y : S31x256.Idx) : (k0_pay2 g v y : EReal) = var (v y) (g y) := rfl
theorem pay3 (g m v w : Vec Ideal S31x256 .f32) (y : S31x256.Idx) : (k0_pay3 g m v w y : EReal) = step (w y) (m y) (v y) (g y) := rfl

/-! ### The result arrays -/

abbrev resultG (c : Dev nD) : S31x256.Idx → EReal := fun i => newG (arrW m c) (arrM m c) (arrV m c) (arrG m c) (i 0).val (i 1).val

theorem at_outG (c : Dev nD) (t : Fin cfg0.N) (y : S31x256.Idx) :
    (out0_4 (iblk m c 0 t) (iblk m c 1 t) (iblk m c 2 t) (iblk m c 3 t) y : EReal) = newG (arrW m c) (arrM m c) (arrV m c) (arrG m c) ((y 0).val) ((y 1).val) := by
  obtain ⟨p, q, rfl⟩ : ∃ (p : Fin 31) (q : Fin 256), y = ix2 p q := ⟨y 0, y 1, eq_ix2 y⟩
  unfold out0_4
  rw [View.canon_unit_zero hz]
  show _ = newG (arrW m c) (arrM m c) (arrV m c) (arrG m c) (p.val) (q.val)
  refine (congrFun (View.ld_unit_zero (S := S31x256) hz _ _) _).trans ?_
  rw [blk3]
  rfl

theorem flushedG (c : Dev nD) (t : Fin cfg0.N) (hf : (cfg0.win 4).flush t = true) :
    (dats m 0 c).flushed 4 t = ((cfg0.win 4).blk t).view.read (Elt Ideal) (resultG m c) := by
  show (cfg0.win 4).cut (grid0.coords t) ((dats m 0 c).after 4 t) = _
  rw [after0_4]
  funext y
  rw [View.read_apply]
  refine (at_outG m c t y).trans ?_
  have er : (y 0).val = win0_4.index t 0 * 31 + 1 * (y 0).val := by rw [(at4 t).1]; omega
  have ec : (y 1).val = win0_4.index t 1 * 256 + 1 * (y 1).val := by rw [(at4 t).2]; omega
  conv_lhs => rw [er, ec]
  rfl

abbrev resultD (c : Dev nD) : S31x256.Idx → EReal := fun i => newD (arrW m c) (arrM m c) (arrV m c) (arrG m c) (i 0).val (i 1).val

theorem at_outD (c : Dev nD) (t : Fin cfg0.N) (y : S31x256.Idx) :
    (out0_5 (iblk m c 0 t) (iblk m c 1 t) (iblk m c 2 t) (iblk m c 3 t) y : EReal) = newD (arrW m c) (arrM m c) (arrV m c) (arrG m c) ((y 0).val) ((y 1).val) := by
  obtain ⟨p, q, rfl⟩ : ∃ (p : Fin 31) (q : Fin 256), y = ix2 p q := ⟨y 0, y 1, eq_ix2 y⟩
  unfold out0_5
  rw [View.canon_unit_zero hz]
  simp only [View.ld_unit_zero (S := S31x256) hz]
  show _ = newD (arrW m c) (arrM m c) (arrV m c) (arrG m c) (p.val) (q.val)
  rw [pay3, blk0, blk1, blk2, blk3]
  rfl

theorem flushedD (c : Dev nD) (t : Fin cfg0.N) (hf : (cfg0.win 5).flush t = true) :
    (dats m 0 c).flushed 5 t = ((cfg0.win 5).blk t).view.read (Elt Ideal) (resultD m c) := by
  show (cfg0.win 5).cut (grid0.coords t) ((dats m 0 c).after 5 t) = _
  rw [after0_5]
  funext y
  rw [View.read_apply]
  refine (at_outD m c t y).trans ?_
  have er : (y 0).val = win0_5.index t 0 * 31 + 1 * (y 0).val := by rw [(at5 t).1]; omega
  have ec : (y 1).val = win0_5.index t 1 * 256 + 1 * (y 1).val := by rw [(at5 t).2]; omega
  conv_lhs => rw [er, ec]
  rfl

abbrev resultM (c : Dev nD) : S31x256.Idx → EReal := fun i => newM (arrW m c) (arrM m c) (arrV m c) (arrG m c) (i 0).val (i 1).val

theorem at_outM (c : Dev nD) (t : Fin cfg0.N) (y : S31x256.Idx) :
    (out0_6 (iblk m c 0 t) (iblk m c 1 t) (iblk m c 2 t) (iblk m c 3 t) y : EReal) = newM (arrW m c) (arrM m c) (arrV m c) (arrG m c) ((y 0).val) ((y 1).val) := by
  obtain ⟨p, q, rfl⟩ : ∃ (p : Fin 31) (q : Fin 256), y = ix2 p q := ⟨y 0, y 1, eq_ix2 y⟩
  unfold out0_6
  rw [View.canon_unit_zero hz]
  simp only [View.ld_unit_zero (S := S31x256) hz]
  show _ = newM (arrW m c) (arrM m c) (arrV m c) (arrG m c) (p.val) (q.val)
  rw [pay1, blk1, blk3]
  rfl

theorem flushedM (c : Dev nD) (t : Fin cfg0.N) (hf : (cfg0.win 6).flush t = true) :
    (dats m 0 c).flushed 6 t = ((cfg0.win 6).blk t).view.read (Elt Ideal) (resultM m c) := by
  show (cfg0.win 6).cut (grid0.coords t) ((dats m 0 c).after 6 t) = _
  rw [after0_6]
  funext y
  rw [View.read_apply]
  refine (at_outM m c t y).trans ?_
  have er : (y 0).val = win0_6.index t 0 * 31 + 1 * (y 0).val := by rw [(at6 t).1]; omega
  have ec : (y 1).val = win0_6.index t 1 * 256 + 1 * (y 1).val := by rw [(at6 t).2]; omega
  conv_lhs => rw [er, ec]
  rfl

abbrev resultV (c : Dev nD) : S31x256.Idx → EReal := fun i => newV (arrW m c) (arrM m c) (arrV m c) (arrG m c) (i 0).val (i 1).val

theorem at_outV (c : Dev nD) (t : Fin cfg0.N) (y : S31x256.Idx) :
    (out0_7 (iblk m c 0 t) (iblk m c 1 t) (iblk m c 2 t) (iblk m c 3 t) y : EReal) = newV (arrW m c) (arrM m c) (arrV m c) (arrG m c) ((y 0).val) ((y 1).val) := by
  obtain ⟨p, q, rfl⟩ : ∃ (p : Fin 31) (q : Fin 256), y = ix2 p q := ⟨y 0, y 1, eq_ix2 y⟩
  unfold out0_7
  rw [View.canon_unit_zero hz]
  simp only [View.ld_unit_zero (S := S31x256) hz]
  show _ = newV (arrW m c) (arrM m c) (arrV m c) (arrG m c) (p.val) (q.val)
  rw [pay2, blk2, blk3]
  rfl

theorem flushedV (c : Dev nD) (t : Fin cfg0.N) (hf : (cfg0.win 7).flush t = true) :
    (dats m 0 c).flushed 7 t = ((cfg0.win 7).blk t).view.read (Elt Ideal) (resultV m c) := by
  show (cfg0.win 7).cut (grid0.coords t) ((dats m 0 c).after 7 t) = _
  rw [after0_7]
  funext y
  rw [View.read_apply]
  refine (at_outV m c t y).trans ?_
  have er : (y 0).val = win0_7.index t 0 * 31 + 1 * (y 0).val := by rw [(at7 t).1]; omega
  have ec : (y 1).val = win0_7.index t 1 * 256 + 1 * (y 1).val := by rw [(at7 t).2]; omega
  conv_lhs => rw [er, ec]
  rfl

/-- The point that writes the block an index of a result lies in. -/
def ptOf (y : S31x256.Idx) : Fin cfg0.N :=
  ⟨0, by
    have h0 : (y 0).val < 31 := (y 0).isLt
    have h1 : (y 1).val < 256 := (y 1).isLt
    rw [show cfg0.N = 1 from N_0]; omega⟩

theorem finalG (c : Dev nD) : (dats m 0 c).arrAt 4 cfg0.N = resultG m c :=
  (dats m 0 c).arrAt_eq_of_cover 4 (resultG m c) (flushedG m c) fun (y : S31x256.Idx) =>
    ⟨ptOf y, flush0_4 (ptOf y), by
      show y ∈ ((View.whole main_v0_0).slice (win0_4.rect (ptOf y))).set
      rw [View.set_slice_whole, Rect.mem_set_unit]
      have h0 : (y 0).val < 31 := (y 0).isLt
      have h1 : (y 1).val < 256 := (y 1).isLt
      obtain ⟨e0, e1⟩ := at4 (ptOf y)
      intro a
      match a with
      | ⟨0, _⟩ => show win0_4.index (ptOf y) 0 * 31 ≤ (y 0).val ∧ (y 0).val < win0_4.index (ptOf y) 0 * 31 + 31
                  rw [e0]; omega
      | ⟨1, _⟩ => show win0_4.index (ptOf y) 1 * 256 ≤ (y 1).val ∧ (y 1).val < win0_4.index (ptOf y) 1 * 256 + 256
                  rw [e1]; omega⟩

theorem finalD (c : Dev nD) : (dats m 0 c).arrAt 5 cfg0.N = resultD m c :=
  (dats m 0 c).arrAt_eq_of_cover 5 (resultD m c) (flushedD m c) fun (y : S31x256.Idx) =>
    ⟨ptOf y, flush0_5 (ptOf y), by
      show y ∈ ((View.whole main_v0_1).slice (win0_5.rect (ptOf y))).set
      rw [View.set_slice_whole, Rect.mem_set_unit]
      have h0 : (y 0).val < 31 := (y 0).isLt
      have h1 : (y 1).val < 256 := (y 1).isLt
      obtain ⟨e0, e1⟩ := at5 (ptOf y)
      intro a
      match a with
      | ⟨0, _⟩ => show win0_5.index (ptOf y) 0 * 31 ≤ (y 0).val ∧ (y 0).val < win0_5.index (ptOf y) 0 * 31 + 31
                  rw [e0]; omega
      | ⟨1, _⟩ => show win0_5.index (ptOf y) 1 * 256 ≤ (y 1).val ∧ (y 1).val < win0_5.index (ptOf y) 1 * 256 + 256
                  rw [e1]; omega⟩

theorem finalM (c : Dev nD) : (dats m 0 c).arrAt 6 cfg0.N = resultM m c :=
  (dats m 0 c).arrAt_eq_of_cover 6 (resultM m c) (flushedM m c) fun (y : S31x256.Idx) =>
    ⟨ptOf y, flush0_6 (ptOf y), by
      show y ∈ ((View.whole main_v0_2).slice (win0_6.rect (ptOf y))).set
      rw [View.set_slice_whole, Rect.mem_set_unit]
      have h0 : (y 0).val < 31 := (y 0).isLt
      have h1 : (y 1).val < 256 := (y 1).isLt
      obtain ⟨e0, e1⟩ := at6 (ptOf y)
      intro a
      match a with
      | ⟨0, _⟩ => show win0_6.index (ptOf y) 0 * 31 ≤ (y 0).val ∧ (y 0).val < win0_6.index (ptOf y) 0 * 31 + 31
                  rw [e0]; omega
      | ⟨1, _⟩ => show win0_6.index (ptOf y) 1 * 256 ≤ (y 1).val ∧ (y 1).val < win0_6.index (ptOf y) 1 * 256 + 256
                  rw [e1]; omega⟩

theorem finalV (c : Dev nD) : (dats m 0 c).arrAt 7 cfg0.N = resultV m c :=
  (dats m 0 c).arrAt_eq_of_cover 7 (resultV m c) (flushedV m c) fun (y : S31x256.Idx) =>
    ⟨ptOf y, flush0_7 (ptOf y), by
      show y ∈ ((View.whole main_v0_3).slice (win0_7.rect (ptOf y))).set
      rw [View.set_slice_whole, Rect.mem_set_unit]
      have h0 : (y 0).val < 31 := (y 0).isLt
      have h1 : (y 1).val < 256 := (y 1).isLt
      obtain ⟨e0, e1⟩ := at7 (ptOf y)
      intro a
      match a with
      | ⟨0, _⟩ => show win0_7.index (ptOf y) 0 * 31 ≤ (y 0).val ∧ (y 0).val < win0_7.index (ptOf y) 0 * 31 + 31
                  rw [e0]; omega
      | ⟨1, _⟩ => show win0_7.index (ptOf y) 1 * 256 ≤ (y 1).val ∧ (y 1).val < win0_7.index (ptOf y) 1 * 256 + 256
                  rw [e1]; omega⟩

/-- The run: the results, the arguments unchanged. -/
theorem run : θ_run defs (onTc (τ := τ) (main (F := Ideal))) ⟨m, fun _ => 0, ρ⟩ fun r => ∀ c : Dev nD,
      r.2.mem ((c : Thread nD τ).loc main_v0_0) = resultG m c
      ∧ r.2.mem ((c : Thread nD τ).loc main_v0_1) = resultD m c
      ∧ r.2.mem ((c : Thread nD τ).loc main_v0_2) = resultM m c
      ∧ r.2.mem ((c : Thread nD τ).loc main_v0_3) = resultV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 4).trans (finalG m c), ((h.1 c).1 5).trans (finalD m c), ((h.1 c).1 6).trans (finalM m c), ((h.1 c).1 7).trans (finalV m c), (h.2 c)⟩)
    (θ_run_and (run_main m ρ) (unchanged m ρ))

end Cert.Kernel22Ideal.Value
-- ==== Proof.AdamConvRef.lean ====
/-
  The reference of one step of the optimiser on the convolution's weight: its run, its results entry by entry, and that the kernel's are
  the same.
-/
module

public import proofs.«01_k».proof.Defs
public import proofs.«01_k».proof.Proof.Gen.Reference22Ideal
public import proofs.«01_k».proof.Proof.AdamConv
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference22Ideal.Value

open Cert.Reference22Ideal Cert.Reference22Ideal.Gen Cert.Dots Cert.Adam Idealize.ShloMosaic.StableHlo

/-- The arithmetic on the matrices, entry by entry. -/
abbrev Mat := FVec Ideal S31x256 .f32
abbrev plus (l r : Mat) : Mat := addf l r
abbrev times (l r : Mat) : Mat := mulf l r
abbrev over (l r : Mat) : Mat := Host.divf l r
abbrev root (l : Mat) : Mat := Host.sqrt l
/-- A number, and the matrix with nothing else. -/
abbrev cst (b : BitVec 32) : FVec Ideal S_ .f32 := constant (F := Ideal) S_ .f32 b
abbrev spread (l : FVec Ideal S_ .f32) : Mat := broadcastInDim S31x256 ![] bcast_S_S31x256 l

/-- The results as the reference computes them: the gradient, the change of the weight, and the new moments. -/
def valueG (w m v g : Mat) : Mat := g
def valueM (w m v g : Mat) : Mat := plus (times (spread (cst 0x3F666666#32)) m) (times (spread (cst 0x3DCCCCCD#32)) g)
def valueV (w m v g : Mat) : Mat := plus (times (spread (cst 0x3F7FBE77#32)) v) (times (spread (cst 0x3A83126F#32)) (times g g))
def valueD (w m v g : Mat) : Mat :=
  times (spread (cst 0xBA83126F#32)) (plus (over (over (valueM w m v g) (spread (cst 0x3F26BD02#32)))
    (plus (root (over (valueV w m v g) (spread (cst 0x3C231ACC#32)))) (spread (cst 0x322BCC77#32)))) (times (spread (cst 0x3C23D70A#32)) w))

/-- The reference's operations, in order. -/
abbrev ops : List (HloOp τ sig (Elt Ideal)) :=
  [ nullary main_cst (cst 0x3F666666#32),
    unary main_cst main_v0 spread,
    binary main_v0 main_arg1 main_v1 times,
    nullary main_cst_0 (cst 0x3DCCCCCD#32),
    unary main_cst_0 main_v2 spread,
    binary main_v2 main_arg3 main_v3 times,
    binary main_v1 main_v3 main_v4 plus,
    nullary main_cst_1 (cst 0x3F7FBE77#32),
    unary main_cst_1 main_v5 spread,
    binary main_v5 main_arg2 main_v6 times,
    binary main_arg3 main_arg3 main_v7 times,
    nullary main_cst_2 (cst 0x3A83126F#32),
    unary main_cst_2 main_v8 spread,
    binary main_v8 main_v7 main_v9 times,
    binary main_v6 main_v9 main_v10 plus,
    nullary main_cst_3 (cst 0x3F26BD02#32),
    unary main_cst_3 main_v11 spread,
    binary main_v4 main_v11 main_v12 over,
    nullary main_cst_4 (cst 0x3C231ACC#32),
    unary main_cst_4 main_v13 spread,
    binary main_v10 main_v13 main_v14 over,
    unary main_v14 main_v15 root,
    nullary main_cst_5 (cst 0x322BCC77#32),
    unary main_cst_5 main_v16 spread,
    binary main_v15 main_v16 main_v17 plus,
    binary main_v12 main_v17 main_v18 over,
    nullary main_cst_6 (cst 0x3C23D70A#32),
    unary main_cst_6 main_v19 spread,
    binary main_v19 main_arg0 main_v20 times,
    binary main_v18 main_v20 main_v21 plus,
    nullary main_cst_7 (cst 0xBA83126F#32),
    unary main_cst_7 main_v22 spread,
    binary main_v22 main_v21 main_v23 times ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD) : Thread nD τ).loc main_arg3) = valueG (m (((0 : Dev nD) : Thread nD τ).loc main_arg0)) (m (((0 : Dev nD) : Thread nD τ).loc main_arg1)) (m (((0 : Dev nD) : Thread nD τ).loc main_arg2)) (m (((0 : Dev nD) : Thread nD τ).loc main_arg3))
        ∧ r.2.mem (((0 : Dev nD) : Thread nD τ).loc main_v23) = valueD (m (((0 : Dev nD) : Thread nD τ).loc main_arg0)) (m (((0 : Dev nD) : Thread nD τ).loc main_arg1)) (m (((0 : Dev nD) : Thread nD τ).loc main_arg2)) (m (((0 : Dev nD) : Thread nD τ).loc main_arg3))
        ∧ r.2.mem (((0 : Dev nD) : Thread nD τ).loc main_v4) = valueM (m (((0 : Dev nD) : Thread nD τ).loc main_arg0)) (m (((0 : Dev nD) : Thread nD τ).loc main_arg1)) (m (((0 : Dev nD) : Thread nD τ).loc main_arg2)) (m (((0 : Dev nD) : Thread nD τ).loc main_arg3))
        ∧ r.2.mem (((0 : Dev nD) : Thread nD τ).loc main_v10) = valueV (m (((0 : Dev nD) : Thread nD τ).loc main_arg0)) (m (((0 : Dev nD) : Thread nD τ).loc main_arg1)) (m (((0 : Dev nD) : Thread nD τ).loc main_arg2)) (m (((0 : Dev nD) : Thread nD τ).loc main_arg3)))
      ∧ (r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)
        ∧ r.2.mem (((0 : Dev nD) : Thread nD τ).loc main_arg2) = m (((0 : Dev nD) : Thread nD τ).loc main_arg2)
        ∧ r.2.mem (((0 : Dev nD) : Thread nD τ).loc main_arg3) = m (((0 : Dev nD) : Thread nD τ).loc main_arg3)) :=
  (θ_run defs _ _).mono (fun _ h => ⟨⟨(h 0 main_arg3).trans (by after_results; rfl),
        (h 0 main_v23).trans (by after_results; rfl),
        (h 0 main_v4).trans (by after_results; rfl),
        (h 0 main_v10).trans (by after_results; rfl)⟩,
      ⟨(h 0 main_arg0).trans (by after_results), (h 0 main_arg1).trans (by after_results), (h 0 main_arg2).trans (by after_results), (h 0 main_arg3).trans (by after_results)⟩⟩)
    (run_seq scopedRefs_eq scopedSems_eq defs main (fun _ => ops) main_eq (fun _ => ops_sub) m ρ)

theorem frame : Cert.quiescent_Reference22Ideal := fun m ρ _ =>
  (θ_run defs _ _).mono (fun r h => ⟨fun c => (by obtain rfl : c = 0 := Subsingleton.elim _ _; exact h.2),
      sem_eq_zero_of_no_sems (by decide) r.2⟩)
    (run m ρ)

open Cert.Kernel22Ideal.Value (newG newD newM newV)

/-! ### The results -/

theorem valueG_eq (w m v g : S31x256.Idx → EReal) : (valueG w m v g : S31x256.Idx → EReal) = fun i => newG w m v g (i 0).val (i 1).val :=
  mat_ext fun p q => by
    simp only [newG, ext2_in _ p.isLt q.isLt]
    rfl

theorem valueD_eq (w m v g : S31x256.Idx → EReal) : (valueD w m v g : S31x256.Idx → EReal) = fun i => newD w m v g (i 0).val (i 1).val :=
  mat_ext fun p q => by
    simp only [newD, ext2_in _ p.isLt q.isLt]
    rfl

theorem valueM_eq (w m v g : S31x256.Idx → EReal) : (valueM w m v g : S31x256.Idx → EReal) = fun i => newM w m v g (i 0).val (i 1).val :=
  mat_ext fun p q => by
    simp only [newM, ext2_in _ p.isLt q.isLt]
    rfl

theorem valueV_eq (w m v g : S31x256.Idx → EReal) : (valueV w m v g : S31x256.Idx → EReal) = fun i => newV w m v g (i 0).val (i 1).val :=
  mat_ext fun p q => by
    simp only [newV, ext2_in _ p.isLt q.isLt]
    rfl

/-- Both compute the same arrays. -/
theorem algebraic : Cert.algebraic_Kernel22Ideal_Reference22Ideal := by
  intro m ρ m' ρ' _ hagree
  refine ⟨fun c => Cert.Kernel22Ideal.Value.resultG m c, fun c => Cert.Kernel22Ideal.Value.resultD m c,
    fun c => Cert.Kernel22Ideal.Value.resultM m c, fun c => Cert.Kernel22Ideal.Value.resultV m c, Cert.Kernel22Ideal.Value.run m ρ, ?_⟩
  refine (θ_run defs _ _).mono (fun _ h c => ?_) (run m' ρ')
  obtain rfl : c = 0 := Subsingleton.elim _ _
  obtain ⟨e0, e1, e2, e3⟩ := hagree 0
  refine ⟨h.1.1.trans ?_, h.1.2.1.trans ?_, h.1.2.2.1.trans ?_, h.1.2.2.2.trans ?_, h.2⟩ <;> rw [e0, e1, e2, e3]
  exacts [valueG_eq .., valueD_eq .., valueM_eq .., valueV_eq ..]

end Cert.Reference22Ideal.Value
-- ==== Proof.AdamVec.lean ====
/-
  One step of the optimiser on the vectors: the blocks each point writes, and the result arrays.
-/
module

public import proofs.«01_k».proof.Defs
public import proofs.«01_k».proof.Proof.Gen.Kernel23Ideal.Frame
public import proofs.«01_k».proof.Proof.Dots
public import proofs.«01_k».proof.Proof.Adam
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel23Ideal.Value

open Cert.Kernel23Ideal Cert.Kernel23Ideal.Gen Cert.Dots Cert.Adam

variable (m : (ℓ : Loc nD τ sig) → Buf (Elt Ideal) ℓ) (ρ : Dev nD → PrngReg)

theorem hz : (![0, 0] : Fin 2 → Nat) = fun _ => 0 := funext fun a => by fin_cases a <;> rfl

/-! ### The blocks: the weight, its moments, and the gradient -/

abbrev arrW (c : Dev nD) : S89x128.Idx → EReal := m ((c : Thread nD τ).loc main_arg0)
abbrev arrM (c : Dev nD) : S89x128.Idx → EReal := m ((c : Thread nD τ).loc main_arg1)
abbrev arrV (c : Dev nD) : S89x128.Idx → EReal := m ((c : Thread nD τ).loc main_arg2)
abbrev arrG (c : Dev nD) : S89x128.Idx → EReal := m ((c : Thread nD τ).loc main_arg3)

theorem at0 : ∀ t : Fin cfg0.N, win0_0.index t 0 = 0 ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = 0 ∧ win0_3.index t 1 = 0 := by decide +kernel
theorem at4 : ∀ t : Fin cfg0.N, win0_4.index t 0 = 0 ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = 0 := by decide +kernel
theorem at7 : ∀ t : Fin cfg0.N, win0_7.index t 0 = 0 ∧ win0_7.index t 1 = 0 := by decide +kernel

theorem blk0 (c : Dev nD) (t : Fin cfg0.N) (p : Fin 89) (q : Fin 128) :
    (iblk m c 0 t : S89x128.Idx → EReal) (ix2 p q) = ext2 (arrW m c) (p.val) (q.val) := by
  unfold iblk
  rw [View.read_apply]
  show V m c main_arg0 _ = _
  rw [V_main_arg0]
  refine ext2_of (arrW m c) _ ?_ ?_
  · show win0_0.index t 0 * 89 + 1 * p.val = _
    rw [(at0 t).1]; omega
  · show win0_0.index t 1 * 128 + 1 * q.val = _
    rw [(at0 t).2]; omega

theorem blk1 (c : Dev nD) (t : Fin cfg0.N) (p : Fin 89) (q : Fin 128) :
    (iblk m c 1 t : S89x128.Idx → EReal) (ix2 p q) = ext2 (arrM m c) (p.val) (q.val) := by
  unfold iblk
  rw [View.read_apply]
  show V m c main_arg1 _ = _
  rw [V_main_arg1]
  refine ext2_of (arrM m c) _ ?_ ?_
  · show win0_1.index t 0 * 89 + 1 * p.val = _
    rw [(at1 t).1]; omega
  · show win0_1.index t 1 * 128 + 1 * q.val = _
    rw [(at1 t).2]; omega

theorem blk2 (c : Dev nD) (t : Fin cfg0.N) (p : Fin 89) (q : Fin 128) :
    (iblk m c 2 t : S89x128.Idx → EReal) (ix2 p q) = ext2 (arrV m c) (p.val) (q.val) := by
  unfold iblk
  rw [View.read_apply]
  show V m c main_arg2 _ = _
  rw [V_main_arg2]
  refine ext2_of (arrV m c) _ ?_ ?_
  · show win0_2.index t 0 * 89 + 1 * p.val = _
    rw [(at2 t).1]; omega
  · show win0_2.index t 1 * 128 + 1 * q.val = _
    rw [(at2 t).2]; omega

theorem blk3 (c : Dev nD) (t : Fin cfg0.N) (p : Fin 89) (q : Fin 128) :
    (iblk m c 3 t : S89x128.Idx → EReal) (ix2 p q) = ext2 (arrG m c) (p.val) (q.val) := by
  unfold iblk
  rw [View.read_apply]
  show V m c main_arg3 _ = _
  rw [V_main_arg3]
  refine ext2_of (arrG m c) _ ?_ ?_
  · show win0_3.index t 0 * 89 + 1 * p.val = _
    rw [(at3 t).1]; omega
  · show win0_3.index t 1 * 128 + 1 * q.val = _
    rw [(at3 t).2]; omega

/-! ### One step, entry by entry -/

def newG (w m v g : S89x128.Idx → EReal) (i j : ℕ) : EReal := ext2 g i j
def newM (w m v g : S89x128.Idx → EReal) (i j : ℕ) : EReal := mom (ext2 m i j) (ext2 g i j)
def newV (w m v g : S89x128.Idx → EReal) (i j : ℕ) : EReal := var (ext2 v i j) (ext2 g i j)
def newD (w m v g : S89x128.Idx → EReal) (i j : ℕ) : EReal := step (ext2 w i j) (ext2 m i j) (ext2 v i j) (ext2 g i j)

theorem pay1 (g m : Vec Ideal S89x128 .f32) (y : S89x128.Idx) : (k0_pay1 g m y : EReal) = mom (m y) (g y) := rfl
theorem pay2 (g v : Vec Ideal S89x128 .f32) (y : S89x128.Idx) : (k0_pay2 g v y : EReal) = var (v y) (g y) := rfl
theorem pay3 (g m v w : Vec Ideal S89x128 .f32) (y : S89x128.Idx) : (k0_pay3 g m v w y : EReal) = step (w y) (m y) (v y) (g y) := rfl

/-! ### The result arrays -/

abbrev resultG (c : Dev nD) : S89x128.Idx → EReal := fun i => newG (arrW m c) (arrM m c) (arrV m c) (arrG m c) (i 0).val (i 1).val

theorem at_outG (c : Dev nD) (t : Fin cfg0.N) (y : S89x128.Idx) :
    (out0_4 (iblk m c 0 t) (iblk m c 1 t) (iblk m c 2 t) (iblk m c 3 t) y : EReal) = newG (arrW m c) (arrM m c) (arrV m c) (arrG m c) ((y 0).val) ((y 1).val) := by
  obtain ⟨p, q, rfl⟩ : ∃ (p : Fin 89) (q : Fin 128), y = ix2 p q := ⟨y 0, y 1, eq_ix2 y⟩
  unfold out0_4
  rw [View.canon_unit_zero hz]
  show _ = newG (arrW m c) (arrM m c) (arrV m c) (arrG m c) (p.val) (q.val)
  refine (congrFun (View.ld_unit_zero (S := S89x128) hz _ _) _).trans ?_
  rw [blk3]
  rfl

theorem flushedG (c : Dev nD) (t : Fin cfg0.N) (hf : (cfg0.win 4).flush t = true) :
    (dats m 0 c).flushed 4 t = ((cfg0.win 4).blk t).view.read (Elt Ideal) (resultG m c) := by
  show (cfg0.win 4).cut (grid0.coords t) ((dats m 0 c).after 4 t) = _
  rw [after0_4]
  funext y
  rw [View.read_apply]
  refine (at_outG m c t y).trans ?_
  have er : (y 0).val = win0_4.index t 0 * 89 + 1 * (y 0).val := by rw [(at4 t).1]; omega
  have ec : (y 1).val = win0_4.index t 1 * 128 + 1 * (y 1).val := by rw [(at4 t).2]; omega
  conv_lhs => rw [er, ec]
  rfl

abbrev resultD (c : Dev nD) : S89x128.Idx → EReal := fun i => newD (arrW m c) (arrM m c) (arrV m c) (arrG m c) (i 0).val (i 1).val

theorem at_outD (c : Dev nD) (t : Fin cfg0.N) (y : S89x128.Idx) :
    (out0_5 (iblk m c 0 t) (iblk m c 1 t) (iblk m c 2 t) (iblk m c 3 t) y : EReal) = newD (arrW m c) (arrM m c) (arrV m c) (arrG m c) ((y 0).val) ((y 1).val) := by
  obtain ⟨p, q, rfl⟩ : ∃ (p : Fin 89) (q : Fin 128), y = ix2 p q := ⟨y 0, y 1, eq_ix2 y⟩
  unfold out0_5
  rw [View.canon_unit_zero hz]
  simp only [View.ld_unit_zero (S := S89x128) hz]
  show _ = newD (arrW m c) (arrM m c) (arrV m c) (arrG m c) (p.val) (q.val)
  rw [pay3, blk0, blk1, blk2, blk3]
  rfl

theorem flushedD (c : Dev nD) (t : Fin cfg0.N) (hf : (cfg0.win 5).flush t = true) :
    (dats m 0 c).flushed 5 t = ((cfg0.win 5).blk t).view.read (Elt Ideal) (resultD m c) := by
  show (cfg0.win 5).cut (grid0.coords t) ((dats m 0 c).after 5 t) = _
  rw [after0_5]
  funext y
  rw [View.read_apply]
  refine (at_outD m c t y).trans ?_
  have er : (y 0).val = win0_5.index t 0 * 89 + 1 * (y 0).val := by rw [(at5 t).1]; omega
  have ec : (y 1).val = win0_5.index t 1 * 128 + 1 * (y 1).val := by rw [(at5 t).2]; omega
  conv_lhs => rw [er, ec]
  rfl

abbrev resultM (c : Dev nD) : S89x128.Idx → EReal := fun i => newM (arrW m c) (arrM m c) (arrV m c) (arrG m c) (i 0).val (i 1).val

theorem at_outM (c : Dev nD) (t : Fin cfg0.N) (y : S89x128.Idx) :
    (out0_6 (iblk m c 0 t) (iblk m c 1 t) (iblk m c 2 t) (iblk m c 3 t) y : EReal) = newM (arrW m c) (arrM m c) (arrV m c) (arrG m c) ((y 0).val) ((y 1).val) := by
  obtain ⟨p, q, rfl⟩ : ∃ (p : Fin 89) (q : Fin 128), y = ix2 p q := ⟨y 0, y 1, eq_ix2 y⟩
  unfold out0_6
  rw [View.canon_unit_zero hz]
  simp only [View.ld_unit_zero (S := S89x128) hz]
  show _ = newM (arrW m c) (arrM m c) (arrV m c) (arrG m c) (p.val) (q.val)
  rw [pay1, blk1, blk3]
  rfl

theorem flushedM (c : Dev nD) (t : Fin cfg0.N) (hf : (cfg0.win 6).flush t = true) :
    (dats m 0 c).flushed 6 t = ((cfg0.win 6).blk t).view.read (Elt Ideal) (resultM m c) := by
  show (cfg0.win 6).cut (grid0.coords t) ((dats m 0 c).after 6 t) = _
  rw [after0_6]
  funext y
  rw [View.read_apply]
  refine (at_outM m c t y).trans ?_
  have er : (y 0).val = win0_6.index t 0 * 89 + 1 * (y 0).val := by rw [(at6 t).1]; omega
  have ec : (y 1).val = win0_6.index t 1 * 128 + 1 * (y 1).val := by rw [(at6 t).2]; omega
  conv_lhs => rw [er, ec]
  rfl

abbrev resultV (c : Dev nD) : S89x128.Idx → EReal := fun i => newV (arrW m c) (arrM m c) (arrV m c) (arrG m c) (i 0).val (i 1).val

theorem at_outV (c : Dev nD) (t : Fin cfg0.N) (y : S89x128.Idx) :
    (out0_7 (iblk m c 0 t) (iblk m c 1 t) (iblk m c 2 t) (iblk m c 3 t) y : EReal) = newV (arrW m c) (arrM m c) (arrV m c) (arrG m c) ((y 0).val) ((y 1).val) := by
  obtain ⟨p, q, rfl⟩ : ∃ (p : Fin 89) (q : Fin 128), y = ix2 p q := ⟨y 0, y 1, eq_ix2 y⟩
  unfold out0_7
  rw [View.canon_unit_zero hz]
  simp only [View.ld_unit_zero (S := S89x128) hz]
  show _ = newV (arrW m c) (arrM m c) (arrV m c) (arrG m c) (p.val) (q.val)
  rw [pay2, blk2, blk3]
  rfl

theorem flushedV (c : Dev nD) (t : Fin cfg0.N) (hf : (cfg0.win 7).flush t = true) :
    (dats m 0 c).flushed 7 t = ((cfg0.win 7).blk t).view.read (Elt Ideal) (resultV m c) := by
  show (cfg0.win 7).cut (grid0.coords t) ((dats m 0 c).after 7 t) = _
  rw [after0_7]
  funext y
  rw [View.read_apply]
  refine (at_outV m c t y).trans ?_
  have er : (y 0).val = win0_7.index t 0 * 89 + 1 * (y 0).val := by rw [(at7 t).1]; omega
  have ec : (y 1).val = win0_7.index t 1 * 128 + 1 * (y 1).val := by rw [(at7 t).2]; omega
  conv_lhs => rw [er, ec]
  rfl

/-- The point that writes the block an index of a result lies in. -/
def ptOf (y : S89x128.Idx) : Fin cfg0.N :=
  ⟨0, by
    have h0 : (y 0).val < 89 := (y 0).isLt
    have h1 : (y 1).val < 128 := (y 1).isLt
    rw [show cfg0.N = 1 from N_0]; omega⟩

theorem finalG (c : Dev nD) : (dats m 0 c).arrAt 4 cfg0.N = resultG m c :=
  (dats m 0 c).arrAt_eq_of_cover 4 (resultG m c) (flushedG m c) fun (y : S89x128.Idx) =>
    ⟨ptOf y, flush0_4 (ptOf y), by
      show y ∈ ((View.whole main_v0_0).slice (win0_4.rect (ptOf y))).set
      rw [View.set_slice_whole, Rect.mem_set_unit]
      have h0 : (y 0).val < 89 := (y 0).isLt
      have h1 : (y 1).val < 128 := (y 1).isLt
      obtain ⟨e0, e1⟩ := at4 (ptOf y)
      intro a
      match a with
      | ⟨0, _⟩ => show win0_4.index (ptOf y) 0 * 89 ≤ (y 0).val ∧ (y 0).val < win0_4.index (ptOf y) 0 * 89 + 89
                  rw [e0]; omega
      | ⟨1, _⟩ => show win0_4.index (ptOf y) 1 * 128 ≤ (y 1).val ∧ (y 1).val < win0_4.index (ptOf y) 1 * 128 + 128
                  rw [e1]; omega⟩

theorem finalD (c : Dev nD) : (dats m 0 c).arrAt 5 cfg0.N = resultD m c :=
  (dats m 0 c).arrAt_eq_of_cover 5 (resultD m c) (flushedD m c) fun (y : S89x128.Idx) =>
    ⟨ptOf y, flush0_5 (ptOf y), by
      show y ∈ ((View.whole main_v0_1).slice (win0_5.rect (ptOf y))).set
      rw [View.set_slice_whole, Rect.mem_set_unit]
      have h0 : (y 0).val < 89 := (y 0).isLt
      have h1 : (y 1).val < 128 := (y 1).isLt
      obtain ⟨e0, e1⟩ := at5 (ptOf y)
      intro a
      match a with
      | ⟨0, _⟩ => show win0_5.index (ptOf y) 0 * 89 ≤ (y 0).val ∧ (y 0).val < win0_5.index (ptOf y) 0 * 89 + 89
                  rw [e0]; omega
      | ⟨1, _⟩ => show win0_5.index (ptOf y) 1 * 128 ≤ (y 1).val ∧ (y 1).val < win0_5.index (ptOf y) 1 * 128 + 128
                  rw [e1]; omega⟩

theorem finalM (c : Dev nD) : (dats m 0 c).arrAt 6 cfg0.N = resultM m c :=
  (dats m 0 c).arrAt_eq_of_cover 6 (resultM m c) (flushedM m c) fun (y : S89x128.Idx) =>
    ⟨ptOf y, flush0_6 (ptOf y), by
      show y ∈ ((View.whole main_v0_2).slice (win0_6.rect (ptOf y))).set
      rw [View.set_slice_whole, Rect.mem_set_unit]
      have h0 : (y 0).val < 89 := (y 0).isLt
      have h1 : (y 1).val < 128 := (y 1).isLt
      obtain ⟨e0, e1⟩ := at6 (ptOf y)
      intro a
      match a with
      | ⟨0, _⟩ => show win0_6.index (ptOf y) 0 * 89 ≤ (y 0).val ∧ (y 0).val < win0_6.index (ptOf y) 0 * 89 + 89
                  rw [e0]; omega
      | ⟨1, _⟩ => show win0_6.index (ptOf y) 1 * 128 ≤ (y 1).val ∧ (y 1).val < win0_6.index (ptOf y) 1 * 128 + 128
                  rw [e1]; omega⟩

theorem finalV (c : Dev nD) : (dats m 0 c).arrAt 7 cfg0.N = resultV m c :=
  (dats m 0 c).arrAt_eq_of_cover 7 (resultV m c) (flushedV m c) fun (y : S89x128.Idx) =>
    ⟨ptOf y, flush0_7 (ptOf y), by
      show y ∈ ((View.whole main_v0_3).slice (win0_7.rect (ptOf y))).set
      rw [View.set_slice_whole, Rect.mem_set_unit]
      have h0 : (y 0).val < 89 := (y 0).isLt
      have h1 : (y 1).val < 128 := (y 1).isLt
      obtain ⟨e0, e1⟩ := at7 (ptOf y)
      intro a
      match a with
      | ⟨0, _⟩ => show win0_7.index (ptOf y) 0 * 89 ≤ (y 0).val ∧ (y 0).val < win0_7.index (ptOf y) 0 * 89 + 89
                  rw [e0]; omega
      | ⟨1, _⟩ => show win0_7.index (ptOf y) 1 * 128 ≤ (y 1).val ∧ (y 1).val < win0_7.index (ptOf y) 1 * 128 + 128
                  rw [e1]; omega⟩

/-- The run: the results, the arguments unchanged. -/
theorem run : θ_run defs (onTc (τ := τ) (main (F := Ideal))) ⟨m, fun _ => 0, ρ⟩ fun r => ∀ c : Dev nD,
      r.2.mem ((c : Thread nD τ).loc main_v0_0) = resultG m c
      ∧ r.2.mem ((c : Thread nD τ).loc main_v0_1) = resultD m c
      ∧ r.2.mem ((c : Thread nD τ).loc main_v0_2) = resultM m c
      ∧ r.2.mem ((c : Thread nD τ).loc main_v0_3) = resultV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 4).trans (finalG m c), ((h.1 c).1 5).trans (finalD m c), ((h.1 c).1 6).trans (finalM m c), ((h.1 c).1 7).trans (finalV m c), (h.2 c)⟩)
    (θ_run_and (run_main m ρ) (unchanged m ρ))

end Cert.Kernel23Ideal.Value
-- ==== Proof.AdamVecRef.lean ====
/-
  The reference of one step of the optimiser on the vectors: its run, its results entry by entry, and that the kernel's are
  the same.
-/
module

public import proofs.«01_k».proof.Defs
public import proofs.«01_k».proof.Proof.Gen.Reference23Ideal
public import proofs.«01_k».proof.Proof.AdamVec
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference23Ideal.Value

open Cert.Reference23Ideal Cert.Reference23Ideal.Gen Cert.Dots Cert.Adam Idealize.ShloMosaic.StableHlo

/-- The arithmetic on the matrices, entry by entry. -/
abbrev Mat := FVec Ideal S89x128 .f32
abbrev plus (l r : Mat) : Mat := addf l r
abbrev times (l r : Mat) : Mat := mulf l r
abbrev over (l r : Mat) : Mat := Host.divf l r
abbrev root (l : Mat) : Mat := Host.sqrt l
/-- A number, and the matrix with nothing else. -/
abbrev cst (b : BitVec 32) : FVec Ideal S_ .f32 := constant (F := Ideal) S_ .f32 b
abbrev spread (l : FVec Ideal S_ .f32) : Mat := broadcastInDim S89x128 ![] bcast_S_S89x128 l

/-- The results as the reference computes them: the gradient, the change of the weight, and the new moments. -/
def valueG (w m v g : Mat) : Mat := g
def valueM (w m v g : Mat) : Mat := plus (times (spread (cst 0x3F666666#32)) m) (times (spread (cst 0x3DCCCCCD#32)) g)
def valueV (w m v g : Mat) : Mat := plus (times (spread (cst 0x3F7FBE77#32)) v) (times (spread (cst 0x3A83126F#32)) (times g g))
def valueD (w m v g : Mat) : Mat :=
  times (spread (cst 0xBA83126F#32)) (plus (over (over (valueM w m v g) (spread (cst 0x3F26BD02#32)))
    (plus (root (over (valueV w m v g) (spread (cst 0x3C231ACC#32)))) (spread (cst 0x322BCC77#32)))) (times (spread (cst 0x3C23D70A#32)) w))

/-- The reference's operations, in order. -/
abbrev ops : List (HloOp τ sig (Elt Ideal)) :=
  [ nullary main_cst (cst 0x3F666666#32),
    unary main_cst main_v0 spread,
    binary main_v0 main_arg1 main_v1 times,
    nullary main_cst_0 (cst 0x3DCCCCCD#32),
    unary main_cst_0 main_v2 spread,
    binary main_v2 main_arg3 main_v3 times,
    binary main_v1 main_v3 main_v4 plus,
    nullary main_cst_1 (cst 0x3F7FBE77#32),
    unary main_cst_1 main_v5 spread,
    binary main_v5 main_arg2 main_v6 times,
    binary main_arg3 main_arg3 main_v7 times,
    nullary main_cst_2 (cst 0x3A83126F#32),
    unary main_cst_2 main_v8 spread,
    binary main_v8 main_v7 main_v9 times,
    binary main_v6 main_v9 main_v10 plus,
    nullary main_cst_3 (cst 0x3F26BD02#32),
    unary main_cst_3 main_v11 spread,
    binary main_v4 main_v11 main_v12 over,
    nullary main_cst_4 (cst 0x3C231ACC#32),
    unary main_cst_4 main_v13 spread,
    binary main_v10 main_v13 main_v14 over,
    unary main_v14 main_v15 root,
    nullary main_cst_5 (cst 0x322BCC77#32),
    unary main_cst_5 main_v16 spread,
    binary main_v15 main_v16 main_v17 plus,
    binary main_v12 main_v17 main_v18 over,
    nullary main_cst_6 (cst 0x3C23D70A#32),
    unary main_cst_6 main_v19 spread,
    binary main_v19 main_arg0 main_v20 times,
    binary main_v18 main_v20 main_v21 plus,
    nullary main_cst_7 (cst 0xBA83126F#32),
    unary main_cst_7 main_v22 spread,
    binary main_v22 main_v21 main_v23 times ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD) : Thread nD τ).loc main_arg3) = valueG (m (((0 : Dev nD) : Thread nD τ).loc main_arg0)) (m (((0 : Dev nD) : Thread nD τ).loc main_arg1)) (m (((0 : Dev nD) : Thread nD τ).loc main_arg2)) (m (((0 : Dev nD) : Thread nD τ).loc main_arg3))
        ∧ r.2.mem (((0 : Dev nD) : Thread nD τ).loc main_v23) = valueD (m (((0 : Dev nD) : Thread nD τ).loc main_arg0)) (m (((0 : Dev nD) : Thread nD τ).loc main_arg1)) (m (((0 : Dev nD) : Thread nD τ).loc main_arg2)) (m (((0 : Dev nD) : Thread nD τ).loc main_arg3))
        ∧ r.2.mem (((0 : Dev nD) : Thread nD τ).loc main_v4) = valueM (m (((0 : Dev nD) : Thread nD τ).loc main_arg0)) (m (((0 : Dev nD) : Thread nD τ).loc main_arg1)) (m (((0 : Dev nD) : Thread nD τ).loc main_arg2)) (m (((0 : Dev nD) : Thread nD τ).loc main_arg3))
        ∧ r.2.mem (((0 : Dev nD) : Thread nD τ).loc main_v10) = valueV (m (((0 : Dev nD) : Thread nD τ).loc main_arg0)) (m (((0 : Dev nD) : Thread nD τ).loc main_arg1)) (m (((0 : Dev nD) : Thread nD τ).loc main_arg2)) (m (((0 : Dev nD) : Thread nD τ).loc main_arg3)))
      ∧ (r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)
        ∧ r.2.mem (((0 : Dev nD) : Thread nD τ).loc main_arg2) = m (((0 : Dev nD) : Thread nD τ).loc main_arg2)
        ∧ r.2.mem (((0 : Dev nD) : Thread nD τ).loc main_arg3) = m (((0 : Dev nD) : Thread nD τ).loc main_arg3)) :=
  (θ_run defs _ _).mono (fun _ h => ⟨⟨(h 0 main_arg3).trans (by after_results; rfl),
        (h 0 main_v23).trans (by after_results; rfl),
        (h 0 main_v4).trans (by after_results; rfl),
        (h 0 main_v10).trans (by after_results; rfl)⟩,
      ⟨(h 0 main_arg0).trans (by after_results), (h 0 main_arg1).trans (by after_results), (h 0 main_arg2).trans (by after_results), (h 0 main_arg3).trans (by after_results)⟩⟩)
    (run_seq scopedRefs_eq scopedSems_eq defs main (fun _ => ops) main_eq (fun _ => ops_sub) m ρ)

theorem frame : Cert.quiescent_Reference23Ideal := fun m ρ _ =>
  (θ_run defs _ _).mono (fun r h => ⟨fun c => (by obtain rfl : c = 0 := Subsingleton.elim _ _; exact h.2),
      sem_eq_zero_of_no_sems (by decide) r.2⟩)
    (run m ρ)

open Cert.Kernel23Ideal.Value (newG newD newM newV)

/-! ### The results -/

theorem valueG_eq (w m v g : S89x128.Idx → EReal) : (valueG w m v g : S89x128.Idx → EReal) = fun i => newG w m v g (i 0).val (i 1).val :=
  mat_ext fun p q => by
    simp only [newG, ext2_in _ p.isLt q.isLt]
    rfl

theorem valueD_eq (w m v g : S89x128.Idx → EReal) : (valueD w m v g : S89x128.Idx → EReal) = fun i => newD w m v g (i 0).val (i 1).val :=
  mat_ext fun p q => by
    simp only [newD, ext2_in _ p.isLt q.isLt]
    rfl

theorem valueM_eq (w m v g : S89x128.Idx → EReal) : (valueM w m v g : S89x128.Idx → EReal) = fun i => newM w m v g (i 0).val (i 1).val :=
  mat_ext fun p q => by
    simp only [newM, ext2_in _ p.isLt q.isLt]
    rfl

theorem valueV_eq (w m v g : S89x128.Idx → EReal) : (valueV w m v g : S89x128.Idx → EReal) = fun i => newV w m v g (i 0).val (i 1).val :=
  mat_ext fun p q => by
    simp only [newV, ext2_in _ p.isLt q.isLt]
    rfl

/-- Both compute the same arrays. -/
theorem algebraic : Cert.algebraic_Kernel23Ideal_Reference23Ideal := by
  intro m ρ m' ρ' _ hagree
  refine ⟨fun c => Cert.Kernel23Ideal.Value.resultG m c, fun c => Cert.Kernel23Ideal.Value.resultD m c,
    fun c => Cert.Kernel23Ideal.Value.resultM m c, fun c => Cert.Kernel23Ideal.Value.resultV m c, Cert.Kernel23Ideal.Value.run m ρ, ?_⟩
  refine (θ_run defs _ _).mono (fun _ h c => ?_) (run m' ρ')
  obtain rfl : c = 0 := Subsingleton.elim _ _
  obtain ⟨e0, e1, e2, e3⟩ := hagree 0
  refine ⟨h.1.1.trans ?_, h.1.2.1.trans ?_, h.1.2.2.1.trans ?_, h.1.2.2.2.trans ?_, h.2⟩ <;> rw [e0, e1, e2, e3]
  exacts [valueG_eq .., valueD_eq .., valueM_eq .., valueV_eq ..]

end Cert.Reference23Ideal.Value
-- ==== Proof.AdamHalves.lean ====
/-
  One step of the optimiser on the first block's up projection's weight, whose gradient arrives in two halves: the blocks
  each point writes, and the result arrays.
-/
module

public import proofs.«01_k».proof.Defs
public import proofs.«01_k».proof.Proof.Gen.Kernel24Ideal.Frame
public import proofs.«01_k».proof.Proof.Dots
public import proofs.«01_k».proof.Proof.Adam
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel24Ideal.Value

open Cert.Kernel24Ideal Cert.Kernel24Ideal.Gen Cert.Dots Cert.Adam

variable (m : (ℓ : Loc nD τ sig) → Buf (Elt Ideal) ℓ) (ρ : Dev nD → PrngReg)

theorem hz : (![0, 0] : Fin 2 → Nat) = fun _ => 0 := funext fun a => by fin_cases a <;> rfl

/-! ### The blocks: the weight, its moments, and the gradient's halves -/

abbrev arrW (c : Dev nD) : S2048x1408.Idx → EReal := m ((c : Thread nD τ).loc main_arg0)
abbrev arrM (c : Dev nD) : S2048x1408.Idx → EReal := m ((c : Thread nD τ).loc main_arg1)
abbrev arrV (c : Dev nD) : S2048x1408.Idx → EReal := m ((c : Thread nD τ).loc main_arg2)
abbrev arrG (c : Dev nD) : S1024x1408.Idx → EReal := m ((c : Thread nD τ).loc main_arg3)
abbrev arrH (c : Dev nD) : S1024x1408.Idx → EReal := m ((c : Thread nD τ).loc main_arg4)

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = t.val % 4 ∧ win0_3.index t 1 = 0 := by decide +kernel
theorem at4 : ∀ t : Fin cfg0.N, win0_4.index t 0 = t.val % 4 ∧ win0_4.index t 1 = 0 := by decide +kernel
theorem at5 : ∀ t : Fin cfg0.N, win0_5.index t 0 = t.val ∧ win0_5.index t 1 = 0 := by decide +kernel
theorem at6 : ∀ t : Fin cfg0.N, win0_6.index t 0 = t.val ∧ win0_6.index t 1 = 0 := by decide +kernel
theorem at7 : ∀ t : Fin cfg0.N, win0_7.index t 0 = t.val ∧ win0_7.index t 1 = 0 := by decide +kernel
theorem at8 : ∀ t : Fin cfg0.N, win0_8.index t 0 = t.val ∧ win0_8.index t 1 = 0 := by decide +kernel

theorem blk0 (c : Dev nD) (t : Fin cfg0.N) (p : Fin 256) (q : Fin 1408) :
    (iblk m c 0 t : S256x1408.Idx → EReal) (ix2 p q) = ext2 (arrW m c) (256 * t.val + p.val) (q.val) := by
  unfold iblk
  rw [View.read_apply]
  show V m c main_arg0 _ = _
  rw [V_main_arg0]
  refine ext2_of (arrW m c) _ ?_ ?_
  · show win0_0.index t 0 * 256 + 1 * p.val = _
    rw [(at0 t).1]; omega
  · show win0_0.index t 1 * 1408 + 1 * q.val = _
    rw [(at0 t).2]; omega

theorem blk1 (c : Dev nD) (t : Fin cfg0.N) (p : Fin 256) (q : Fin 1408) :
    (iblk m c 1 t : S256x1408.Idx → EReal) (ix2 p q) = ext2 (arrM m c) (256 * t.val + p.val) (q.val) := by
  unfold iblk
  rw [View.read_apply]
  show V m c main_arg1 _ = _
  rw [V_main_arg1]
  refine ext2_of (arrM m c) _ ?_ ?_
  · show win0_1.index t 0 * 256 + 1 * p.val = _
    rw [(at1 t).1]; omega
  · show win0_1.index t 1 * 1408 + 1 * q.val = _
    rw [(at1 t).2]; omega

theorem blk2 (c : Dev nD) (t : Fin cfg0.N) (p : Fin 256) (q : Fin 1408) :
    (iblk m c 2 t : S256x1408.Idx → EReal) (ix2 p q) = ext2 (arrV m c) (256 * t.val + p.val) (q.val) := by
  unfold iblk
  rw [View.read_apply]
  show V m c main_arg2 _ = _
  rw [V_main_arg2]
  refine ext2_of (arrV m c) _ ?_ ?_
  · show win0_2.index t 0 * 256 + 1 * p.val = _
    rw [(at2 t).1]; omega
  · show win0_2.index t 1 * 1408 + 1 * q.val = _
    rw [(at2 t).2]; omega

theorem blk3 (c : Dev nD) (t : Fin cfg0.N) (p : Fin 256) (q : Fin 1408) :
    (iblk m c 3 t : S256x1408.Idx → EReal) (ix2 p q) = ext2 (arrG m c) (256 * (t.val % 4) + p.val) (q.val) := by
  unfold iblk
  rw [View.read_apply]
  show V m c main_arg3 _ = _
  rw [V_main_arg3]
  refine ext2_of (arrG m c) _ ?_ ?_
  · show win0_3.index t 0 * 256 + 1 * p.val = _
    rw [(at3 t).1]; omega
  · show win0_3.index t 1 * 1408 + 1 * q.val = _
    rw [(at3 t).2]; omega

theorem blk4 (c : Dev nD) (t : Fin cfg0.N) (p : Fin 256) (q : Fin 1408) :
    (iblk m c 4 t : S256x1408.Idx → EReal) (ix2 p q) = ext2 (arrH m c) (256 * (t.val % 4) + p.val) (q.val) := by
  unfold iblk
  rw [View.read_apply]
  show V m c main_arg4 _ = _
  rw [V_main_arg4]
  refine ext2_of (arrH m c) _ ?_ ?_
  · show win0_4.index t 0 * 256 + 1 * p.val = _
    rw [(at4 t).1]; omega
  · show win0_4.index t 1 * 1408 + 1 * q.val = _
    rw [(at4 t).2]; omega

/-! ### One step, entry by entry -/

/-- The gradient: the first half's rows, then the second's. -/
def grad (g h : S1024x1408.Idx → EReal) (i j : ℕ) : EReal := if i < 1024 then ext2 g i j else ext2 h (i - 1024) j

def newG (w m v : S2048x1408.Idx → EReal) (g h : S1024x1408.Idx → EReal) (i j : ℕ) : EReal := grad g h i j
def newM (w m v : S2048x1408.Idx → EReal) (g h : S1024x1408.Idx → EReal) (i j : ℕ) : EReal := mom (ext2 m i j) (grad g h i j)
def newV (w m v : S2048x1408.Idx → EReal) (g h : S1024x1408.Idx → EReal) (i j : ℕ) : EReal := var (ext2 v i j) (grad g h i j)
def newD (w m v : S2048x1408.Idx → EReal) (g h : S1024x1408.Idx → EReal) (i j : ℕ) : EReal := step (ext2 w i j) (ext2 m i j) (ext2 v i j) (grad g h i j)

/-- The first four points take the first half. -/
theorem half : ∀ t : Fin cfg0.N,
    Scalar.xori (Scalar.xori (Scalar.cmpi .sge (BitVec.ofNat 32 ((grid0.coords t) 0).val) 4#32) 0#1) 1#1 = if t.val < 4 then 1#1 else 0#1 := by
  decide +kernel

theorem payG (t : Fin cfg0.N) (a b : Vec Ideal S256x1408 .f32) (y : S256x1408.Idx) :
    (k0_pay2 (grid0.coords t) a b y : EReal) = if t.val < 4 then a y else b y := by
  show Scalar.select (Scalar.xori (Scalar.xori (Scalar.cmpi .sge (BitVec.ofNat 32 ((grid0.coords t) 0).val) 4#32) 0#1) 1#1) a b y = _
  rw [half]
  split <;> rfl
theorem payM (i : grid0.Coords) (a b m : Vec Ideal S256x1408 .f32) (y : S256x1408.Idx) : (k0_pay3 i a b m y : EReal) = mom (m y) (k0_pay2 i a b y) := rfl
theorem payV (i : grid0.Coords) (a b v : Vec Ideal S256x1408 .f32) (y : S256x1408.Idx) : (k0_pay4 i a b v y : EReal) = var (v y) (k0_pay2 i a b y) := rfl
theorem payD (i : grid0.Coords) (a b m v w : Vec Ideal S256x1408 .f32) (y : S256x1408.Idx) :
    (k0_pay1 (k0_pay5 i a b m v w) (k0_pay6 (F := Ideal)) y : EReal) = step (w y) (m y) (v y) (k0_pay2 i a b y) := rfl

/-- What a point takes of the halves is its rows of the gradient. -/
theorem grad_at (g h : S1024x1408.Idx → EReal) (t : Fin cfg0.N) (p : Fin 256) (q : ℕ) :
    (if t.val < 4 then ext2 g (256 * (t.val % 4) + p.val) q else ext2 h (256 * (t.val % 4) + p.val) q) = grad g h (256 * t.val + p.val) q := by
  have ht : t.val < 8 := lt_of_lt_of_eq t.isLt N_0
  have hp := p.isLt
  unfold grad
  by_cases h4 : t.val < 4
  · rw [if_pos h4, if_pos (by omega), Nat.mod_eq_of_lt h4]
  · rw [if_neg h4, if_neg (by omega), show 256 * (t.val % 4) + p.val = 256 * t.val + p.val - 1024 by omega]

/-! ### The result arrays -/

abbrev resultG (c : Dev nD) : S2048x1408.Idx → EReal := fun i => newG (arrW m c) (arrM m c) (arrV m c) (arrG m c) (arrH m c) (i 0).val (i 1).val

theorem at_outG (c : Dev nD) (t : Fin cfg0.N) (y : S256x1408.Idx) :
    (out0_5 (grid0.coords t) (iblk m c 0 t) (iblk m c 1 t) (iblk m c 2 t) (iblk m c 3 t) (iblk m c 4 t) y : EReal) = newG (arrW m c) (arrM m c) (arrV m c) (arrG m c) (arrH m c) (256 * t.val + (y 0).val) ((y 1).val) := by
  obtain ⟨p, q, rfl⟩ : ∃ (p : Fin 256) (q : Fin 1408), y = ix2 p q := ⟨y 0, y 1, eq_ix2 y⟩
  unfold out0_5
  rw [View.canon_unit_zero hz]
  simp only [View.ld_unit_zero (S := S256x1408) hz]
  show _ = newG (arrW m c) (arrM m c) (arrV m c) (arrG m c) (arrH m c) (256 * t.val + p.val) (q.val)
  rw [payG, blk3, blk4, grad_at]
  rfl

theorem flushedG (c : Dev nD) (t : Fin cfg0.N) (hf : (cfg0.win 5).flush t = true) :
    (dats m 0 c).flushed 5 t = ((cfg0.win 5).blk t).view.read (Elt Ideal) (resultG m c) := by
  show (cfg0.win 5).cut (grid0.coords t) ((dats m 0 c).after 5 t) = _
  rw [after0_5]
  funext y
  rw [View.read_apply]
  refine (at_outG m c t y).trans ?_
  have er : 256 * t.val + (y 0).val = win0_5.index t 0 * 256 + 1 * (y 0).val := by rw [(at5 t).1]; omega
  have ec : (y 1).val = win0_5.index t 1 * 1408 + 1 * (y 1).val := by rw [(at5 t).2]; omega
  conv_lhs => rw [er, ec]
  rfl

abbrev resultD (c : Dev nD) : S2048x1408.Idx → EReal := fun i => newD (arrW m c) (arrM m c) (arrV m c) (arrG m c) (arrH m c) (i 0).val (i 1).val

theorem at_outD (c : Dev nD) (t : Fin cfg0.N) (y : S256x1408.Idx) :
    (out0_6 (grid0.coords t) (iblk m c 0 t) (iblk m c 1 t) (iblk m c 2 t) (iblk m c 3 t) (iblk m c 4 t) y : EReal) = newD (arrW m c) (arrM m c) (arrV m c) (arrG m c) (arrH m c) (256 * t.val + (y 0).val) ((y 1).val) := by
  obtain ⟨p, q, rfl⟩ : ∃ (p : Fin 256) (q : Fin 1408), y = ix2 p q := ⟨y 0, y 1, eq_ix2 y⟩
  unfold out0_6
  rw [View.canon_unit_zero hz]
  simp only [View.ld_unit_zero (S := S256x1408) hz]
  show _ = newD (arrW m c) (arrM m c) (arrV m c) (arrG m c) (arrH m c) (256 * t.val + p.val) (q.val)
  rw [payD, payG, blk0, blk1, blk2, blk3, blk4, grad_at]
  rfl

theorem flushedD (c : Dev nD) (t : Fin cfg0.N) (hf : (cfg0.win 6).flush t = true) :
    (dats m 0 c).flushed 6 t = ((cfg0.win 6).blk t).view.read (Elt Ideal) (resultD m c) := by
  show (cfg0.win 6).cut (grid0.coords t) ((dats m 0 c).after 6 t) = _
  rw [after0_6]
  funext y
  rw [View.read_apply]
  refine (at_outD m c t y).trans ?_
  have er : 256 * t.val + (y 0).val = win0_6.index t 0 * 256 + 1 * (y 0).val := by rw [(at6 t).1]; omega
  have ec : (y 1).val = win0_6.index t 1 * 1408 + 1 * (y 1).val := by rw [(at6 t).2]; omega
  conv_lhs => rw [er, ec]
  rfl

abbrev resultM (c : Dev nD) : S2048x1408.Idx → EReal := fun i => newM (arrW m c) (arrM m c) (arrV m c) (arrG m c) (arrH m c) (i 0).val (i 1).val

theorem at_outM (c : Dev nD) (t : Fin cfg0.N) (y : S256x1408.Idx) :
    (out0_7 (grid0.coords t) (iblk m c 0 t) (iblk m c 1 t) (iblk m c 2 t) (iblk m c 3 t) (iblk m c 4 t) y : EReal) = newM (arrW m c) (arrM m c) (arrV m c) (arrG m c) (arrH m c) (256 * t.val + (y 0).val) ((y 1).val) := by
  obtain ⟨p, q, rfl⟩ : ∃ (p : Fin 256) (q : Fin 1408), y = ix2 p q := ⟨y 0, y 1, eq_ix2 y⟩
  unfold out0_7
  rw [View.canon_unit_zero hz]
  simp only [View.ld_unit_zero (S := S256x1408) hz]
  show _ = newM (arrW m c) (arrM m c) (arrV m c) (arrG m c) (arrH m c) (256 * t.val + p.val) (q.val)
  rw [payM, payG, blk1, blk3, blk4, grad_at]
  rfl

theorem flushedM (c : Dev nD) (t : Fin cfg0.N) (hf : (cfg0.win 7).flush t = true) :
    (dats m 0 c).flushed 7 t = ((cfg0.win 7).blk t).view.read (Elt Ideal) (resultM m c) := by
  show (cfg0.win 7).cut (grid0.coords t) ((dats m 0 c).after 7 t) = _
  rw [after0_7]
  funext y
  rw [View.read_apply]
  refine (at_outM m c t y).trans ?_
  have er : 256 * t.val + (y 0).val = win0_7.index t 0 * 256 + 1 * (y 0).val := by rw [(at7 t).1]; omega
  have ec : (y 1).val = win0_7.index t 1 * 1408 + 1 * (y 1).val := by rw [(at7 t).2]; omega
  conv_lhs => rw [er, ec]
  rfl

abbrev resultV (c : Dev nD) : S2048x1408.Idx → EReal := fun i => newV (arrW m c) (arrM m c) (arrV m c) (arrG m c) (arrH m c) (i 0).val (i 1).val

theorem at_outV (c : Dev nD) (t : Fin cfg0.N) (y : S256x1408.Idx) :
    (out0_8 (grid0.coords t) (iblk m c 0 t) (iblk m c 1 t) (iblk m c 2 t) (iblk m c 3 t) (iblk m c 4 t) y : EReal) = newV (arrW m c) (arrM m c) (arrV m c) (arrG m c) (arrH m c) (256 * t.val + (y 0).val) ((y 1).val) := by
  obtain ⟨p, q, rfl⟩ : ∃ (p : Fin 256) (q : Fin 1408), y = ix2 p q := ⟨y 0, y 1, eq_ix2 y⟩
  unfold out0_8
  rw [View.canon_unit_zero hz]
  simp only [View.ld_unit_zero (S := S256x1408) hz]
  show _ = newV (arrW m c) (arrM m c) (arrV m c) (arrG m c) (arrH m c) (256 * t.val + p.val) (q.val)
  rw [payV, payG, blk2, blk3, blk4, grad_at]
  rfl

theorem flushedV (c : Dev nD) (t : Fin cfg0.N) (hf : (cfg0.win 8).flush t = true) :
    (dats m 0 c).flushed 8 t = ((cfg0.win 8).blk t).view.read (Elt Ideal) (resultV m c) := by
  show (cfg0.win 8).cut (grid0.coords t) ((dats m 0 c).after 8 t) = _
  rw [after0_8]
  funext y
  rw [View.read_apply]
  refine (at_outV m c t y).trans ?_
  have er : 256 * t.val + (y 0).val = win0_8.index t 0 * 256 + 1 * (y 0).val := by rw [(at8 t).1]; omega
  have ec : (y 1).val = win0_8.index t 1 * 1408 + 1 * (y 1).val := by rw [(at8 t).2]; omega
  conv_lhs => rw [er, ec]
  rfl

/-- The point that writes the block an index of a result lies in. -/
def ptOf (y : S2048x1408.Idx) : Fin cfg0.N :=
  ⟨(y 0).val / 256, by
    have h0 : (y 0).val < 2048 := (y 0).isLt
    have h1 : (y 1).val < 1408 := (y 1).isLt
    rw [show cfg0.N = 8 from N_0]; omega⟩

theorem finalG (c : Dev nD) : (dats m 0 c).arrAt 5 cfg0.N = resultG m c :=
  (dats m 0 c).arrAt_eq_of_cover 5 (resultG m c) (flushedG m c) fun (y : S2048x1408.Idx) =>
    ⟨ptOf y, flush0_5 (ptOf y), by
      show y ∈ ((View.whole main_v0_0).slice (win0_5.rect (ptOf y))).set
      rw [View.set_slice_whole, Rect.mem_set_unit]
      have h0 : (y 0).val < 2048 := (y 0).isLt
      have h1 : (y 1).val < 1408 := (y 1).isLt
      obtain ⟨e0, e1⟩ := at5 (ptOf y)
      have hv : (ptOf y).val = (y 0).val / 256 := rfl
      rw [hv] at e0
      intro a
      match a with
      | ⟨0, _⟩ => show win0_5.index (ptOf y) 0 * 256 ≤ (y 0).val ∧ (y 0).val < win0_5.index (ptOf y) 0 * 256 + 256
                  rw [e0]; omega
      | ⟨1, _⟩ => show win0_5.index (ptOf y) 1 * 1408 ≤ (y 1).val ∧ (y 1).val < win0_5.index (ptOf y) 1 * 1408 + 1408
                  rw [e1]; omega⟩

theorem finalD (c : Dev nD) : (dats m 0 c).arrAt 6 cfg0.N = resultD m c :=
  (dats m 0 c).arrAt_eq_of_cover 6 (resultD m c) (flushedD m c) fun (y : S2048x1408.Idx) =>
    ⟨ptOf y, flush0_6 (ptOf y), by
      show y ∈ ((View.whole main_v0_1).slice (win0_6.rect (ptOf y))).set
      rw [View.set_slice_whole, Rect.mem_set_unit]
      have h0 : (y 0).val < 2048 := (y 0).isLt
      have h1 : (y 1).val < 1408 := (y 1).isLt
      obtain ⟨e0, e1⟩ := at6 (ptOf y)
      have hv : (ptOf y).val = (y 0).val / 256 := rfl
      rw [hv] at e0
      intro a
      match a with
      | ⟨0, _⟩ => show win0_6.index (ptOf y) 0 * 256 ≤ (y 0).val ∧ (y 0).val < win0_6.index (ptOf y) 0 * 256 + 256
                  rw [e0]; omega
      | ⟨1, _⟩ => show win0_6.index (ptOf y) 1 * 1408 ≤ (y 1).val ∧ (y 1).val < win0_6.index (ptOf y) 1 * 1408 + 1408
                  rw [e1]; omega⟩

theorem finalM (c : Dev nD) : (dats m 0 c).arrAt 7 cfg0.N = resultM m c :=
  (dats m 0 c).arrAt_eq_of_cover 7 (resultM m c) (flushedM m c) fun (y : S2048x1408.Idx) =>
    ⟨ptOf y, flush0_7 (ptOf y), by
      show y ∈ ((View.whole main_v0_2).slice (win0_7.rect (ptOf y))).set
      rw [View.set_slice_whole, Rect.mem_set_unit]
      have h0 : (y 0).val < 2048 := (y 0).isLt
      have h1 : (y 1).val < 1408 := (y 1).isLt
      obtain ⟨e0, e1⟩ := at7 (ptOf y)
      have hv : (ptOf y).val = (y 0).val / 256 := rfl
      rw [hv] at e0
      intro a
      match a with
      | ⟨0, _⟩ => show win0_7.index (ptOf y) 0 * 256 ≤ (y 0).val ∧ (y 0).val < win0_7.index (ptOf y) 0 * 256 + 256
                  rw [e0]; omega
      | ⟨1, _⟩ => show win0_7.index (ptOf y) 1 * 1408 ≤ (y 1).val ∧ (y 1).val < win0_7.index (ptOf y) 1 * 1408 + 1408
                  rw [e1]; omega⟩

theorem finalV (c : Dev nD) : (dats m 0 c).arrAt 8 cfg0.N = resultV m c :=
  (dats m 0 c).arrAt_eq_of_cover 8 (resultV m c) (flushedV m c) fun (y : S2048x1408.Idx) =>
    ⟨ptOf y, flush0_8 (ptOf y), by
      show y ∈ ((View.whole main_v0_3).slice (win0_8.rect (ptOf y))).set
      rw [View.set_slice_whole, Rect.mem_set_unit]
      have h0 : (y 0).val < 2048 := (y 0).isLt
      have h1 : (y 1).val < 1408 := (y 1).isLt
      obtain ⟨e0, e1⟩ := at8 (ptOf y)
      have hv : (ptOf y).val = (y 0).val / 256 := rfl
      rw [hv] at e0
      intro a
      match a with
      | ⟨0, _⟩ => show win0_8.index (ptOf y) 0 * 256 ≤ (y 0).val ∧ (y 0).val < win0_8.index (ptOf y) 0 * 256 + 256
                  rw [e0]; omega
      | ⟨1, _⟩ => show win0_8.index (ptOf y) 1 * 1408 ≤ (y 1).val ∧ (y 1).val < win0_8.index (ptOf y) 1 * 1408 + 1408
                  rw [e1]; omega⟩

/-- The run: the results, the arguments unchanged. -/
theorem run : θ_run defs (onTc (τ := τ) (main (F := Ideal))) ⟨m, fun _ => 0, ρ⟩ fun r => ∀ c : Dev nD,
      r.2.mem ((c : Thread nD τ).loc main_v0_0) = resultG m c
      ∧ r.2.mem ((c : Thread nD τ).loc main_v0_1) = resultD m c
      ∧ r.2.mem ((c : Thread nD τ).loc main_v0_2) = resultM m c
      ∧ r.2.mem ((c : Thread nD τ).loc main_v0_3) = resultV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 5).trans (finalG m c), ((h.1 c).1 6).trans (finalD m c), ((h.1 c).1 7).trans (finalM m c), ((h.1 c).1 8).trans (finalV m c), (h.2 c)⟩)
    (θ_run_and (run_main m ρ) (unchanged m ρ))

end Cert.Kernel24Ideal.Value
-- ==== Proof.AdamHalvesRef.lean ====
/-
  The reference of one step of the optimiser on the first block's up projection's weight: its run, its results entry by entry,
  and that the kernel's are the same.
-/
module

public import proofs.«01_k».proof.Defs
public import proofs.«01_k».proof.Proof.Gen.Reference24Ideal
public import proofs.«01_k».proof.Proof.AdamHalves
public import Idealize.ShloMosaic.Lib.StableHlo.Run
public import Idealize.ShloMosaic.Lib.Tactic
public import Idealize.ShloMosaic.Lib.Pipeline.Value
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Reference24Ideal.Value

open Cert.Reference24Ideal Cert.Reference24Ideal.Gen Cert.Dots Cert.Adam Idealize.ShloMosaic.StableHlo

/-- The arithmetic on the matrices, entry by entry. -/
abbrev Mat := FVec Ideal S2048x1408 .f32
abbrev plus (l r : Mat) : Mat := addf l r
abbrev times (l r : Mat) : Mat := mulf l r
abbrev over (l r : Mat) : Mat := Host.divf l r
abbrev root (l : Mat) : Mat := Host.sqrt l
/-- Half a matrix, and the two halves one above the other. -/
abbrev Half := FVec Ideal S1024x1408 .f32
abbrev stack (l r : Half) : Mat := concatenate S2048x1408 0 [⟨S1024x1408, l⟩, ⟨S1024x1408, r⟩] concatenates_S1024x1408_S1024x1408_S2048x1408_d0
/-- A number, and the matrix with nothing else. -/
abbrev cst (b : BitVec 32) : FVec Ideal S_ .f32 := constant (F := Ideal) S_ .f32 b
abbrev spread (l : FVec Ideal S_ .f32) : Mat := broadcastInDim S2048x1408 ![] bcast_S_S2048x1408 l

/-- The results as the reference computes them: the gradient, the change of the weight, and the new moments. -/
def valueG (w m v : Mat) (g h : Half) : Mat := stack g h
def valueM (w m v : Mat) (g h : Half) : Mat := plus (times (spread (cst 0x3F666666#32)) m) (times (spread (cst 0x3DCCCCCD#32)) (stack g h))
def valueV (w m v : Mat) (g h : Half) : Mat := plus (times (spread (cst 0x3F7FBE77#32)) v) (times (spread (cst 0x3A83126F#32)) (times (stack g h) (stack g h)))
def valueD (w m v : Mat) (g h : Half) : Mat :=
  times (spread (cst 0xBA83126F#32)) (plus (over (over (valueM w m v g h) (spread (cst 0x3F26BD02#32)))
    (plus (root (over (valueV w m v g h) (spread (cst 0x3C231ACC#32)))) (spread (cst 0x322BCC77#32)))) (times (spread (cst 0x3C23D70A#32)) w))

/-- The reference's operations, in order. -/
abbrev ops : List (HloOp τ sig (Elt Ideal)) :=
  [ binary main_arg3 main_arg4 main_v0 stack,
    nullary main_cst (cst 0x3F666666#32),
    unary main_cst main_v1 spread,
    binary main_v1 main_arg1 main_v2 times,
    nullary main_cst_0 (cst 0x3DCCCCCD#32),
    unary main_cst_0 main_v3 spread,
    binary main_v3 main_v0 main_v4 times,
    binary main_v2 main_v4 main_v5 plus,
    nullary main_cst_1 (cst 0x3F7FBE77#32),
    unary main_cst_1 main_v6 spread,
    binary main_v6 main_arg2 main_v7 times,
    binary main_v0 main_v0 main_v8 times,
    nullary main_cst_2 (cst 0x3A83126F#32),
    unary main_cst_2 main_v9 spread,
    binary main_v9 main_v8 main_v10 times,
    binary main_v7 main_v10 main_v11 plus,
    nullary main_cst_3 (cst 0x3F26BD02#32),
    unary main_cst_3 main_v12 spread,
    binary main_v5 main_v12 main_v13 over,
    nullary main_cst_4 (cst 0x3C231ACC#32),
    unary main_cst_4 main_v14 spread,
    binary main_v11 main_v14 main_v15 over,
    unary main_v15 main_v16 root,
    nullary main_cst_5 (cst 0x322BCC77#32),
    unary main_cst_5 main_v17 spread,
    binary main_v16 main_v17 main_v18 plus,
    binary main_v13 main_v18 main_v19 over,
    nullary main_cst_6 (cst 0x3C23D70A#32),
    unary main_cst_6 main_v20 spread,
    binary main_v20 main_arg0 main_v21 times,
    binary main_v19 main_v21 main_v22 plus,
    nullary main_cst_7 (cst 0xBA83126F#32),
    unary main_cst_7 main_v23 spread,
    binary main_v23 main_v22 main_v24 times ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD) : Thread nD τ).loc main_v0) = valueG (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))
        ∧ r.2.mem (((0 : Dev nD) : Thread nD τ).loc main_v24) = valueD (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))
        ∧ r.2.mem (((0 : Dev nD) : Thread nD τ).loc main_v5) = valueM (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4))
        ∧ r.2.mem (((0 : Dev nD) : Thread nD τ).loc main_v11) = valueV (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)))
      ∧ (r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)
        ∧ r.2.mem (((0 : Dev nD) : Thread nD τ).loc main_arg2) = m (((0 : Dev nD) : Thread nD τ).loc main_arg2)
        ∧ r.2.mem (((0 : Dev nD) : Thread nD τ).loc main_arg3) = m (((0 : Dev nD) : Thread nD τ).loc main_arg3)
        ∧ r.2.mem (((0 : Dev nD) : Thread nD τ).loc main_arg4) = m (((0 : Dev nD) : Thread nD τ).loc main_arg4)) :=
  (θ_run defs _ _).mono (fun _ h => ⟨⟨(h 0 main_v0).trans (by after_results; rfl),
        (h 0 main_v24).trans (by after_results; rfl),
        (h 0 main_v5).trans (by after_results; rfl),
        (h 0 main_v11).trans (by after_results; rfl)⟩,
      ⟨(h 0 main_arg0).trans (by after_results), (h 0 main_arg1).trans (by after_results), (h 0 main_arg2).trans (by after_results), (h 0 main_arg3).trans (by after_results), (h 0 main_arg4).trans (by after_results)⟩⟩)
    (run_seq scopedRefs_eq scopedSems_eq defs main (fun _ => ops) main_eq (fun _ => ops_sub) m ρ)

theorem frame : Cert.quiescent_Reference24Ideal := fun m ρ _ =>
  (θ_run defs _ _).mono (fun r h => ⟨fun c => (by obtain rfl : c = 0 := Subsingleton.elim _ _; exact h.2),
      sem_eq_zero_of_no_sems (by decide) r.2⟩)
    (run m ρ)

open Cert.Kernel24Ideal.Value (grad newG newD newM newV)

/-! ### The results -/

/-- An entry of the gradient. -/
theorem stack_eq (g h : S1024x1408.Idx → EReal) (p : Fin 2048) (q : Fin 1408) :
    (stack g h (ix2 p q) : EReal) = grad g h p.val q.val := by
  unfold grad
  by_cases hp : p.val < 1024
  · rw [if_pos hp, ext2_in _ hp q.isLt]
    exact concatenate_pair_apply_left (t := S2048x1408) 0 g h _ _ rfl _ fun b => by fin_cases b <;> rfl
  · rw [if_neg hp, ext2_in _ (show p.val - 1024 < 1024 by have := p.isLt; omega) q.isLt]
    refine concatenate_pair_apply_right (t := S2048x1408) 0 g h _ _ rfl rfl _ (fun b hb => ?_) ?_
    · fin_cases b
      · exact absurd rfl hb
      · rfl
    · show p.val - 1024 + 1024 = p.val
      omega

theorem valueG_eq (w m v : S2048x1408.Idx → EReal) (g h : S1024x1408.Idx → EReal) : (valueG w m v g h : S2048x1408.Idx → EReal) = fun i => newG w m v g h (i 0).val (i 1).val :=
  mat_ext fun p q => by
    simp only [newG, ext2_in _ p.isLt q.isLt, ← stack_eq]
    rfl

theorem valueD_eq (w m v : S2048x1408.Idx → EReal) (g h : S1024x1408.Idx → EReal) : (valueD w m v g h : S2048x1408.Idx → EReal) = fun i => newD w m v g h (i 0).val (i 1).val :=
  mat_ext fun p q => by
    simp only [newD, ext2_in _ p.isLt q.isLt, ← stack_eq]
    rfl

theorem valueM_eq (w m v : S2048x1408.Idx → EReal) (g h : S1024x1408.Idx → EReal) : (valueM w m v g h : S2048x1408.Idx → EReal) = fun i => newM w m v g h (i 0).val (i 1).val :=
  mat_ext fun p q => by
    simp only [newM, ext2_in _ p.isLt q.isLt, ← stack_eq]
    rfl

theorem valueV_eq (w m v : S2048x1408.Idx → EReal) (g h : S1024x1408.Idx → EReal) : (valueV w m v g h : S2048x1408.Idx → EReal) = fun i => newV w m v g h (i 0).val (i 1).val :=
  mat_ext fun p q => by
    simp only [newV, ext2_in _ p.isLt q.isLt, ← stack_eq]
    rfl

/-- Both compute the same arrays. -/
theorem algebraic : Cert.algebraic_Kernel24Ideal_Reference24Ideal := by
  intro m ρ m' ρ' _ hagree
  refine ⟨fun c => Cert.Kernel24Ideal.Value.resultG m c, fun c => Cert.Kernel24Ideal.Value.resultD m c,
    fun c => Cert.Kernel24Ideal.Value.resultM m c, fun c => Cert.Kernel24Ideal.Value.resultV m c, Cert.Kernel24Ideal.Value.run m ρ, ?_⟩
  refine (θ_run defs _ _).mono (fun _ h c => ?_) (run m' ρ')
  obtain rfl : c = 0 := Subsingleton.elim _ _
  obtain ⟨e0, e1, e2, e3, e4⟩ := hagree 0
  refine ⟨h.1.1.trans ?_, h.1.2.1.trans ?_, h.1.2.2.1.trans ?_, h.1.2.2.2.trans ?_, h.2⟩ <;> rw [e0, e1, e2, e3, e4]
  exacts [valueG_eq .., valueD_eq .., valueM_eq .., valueV_eq ..]

end Cert.Reference24Ideal.Value
-- ==== Proof.FinalLoss.lean ====
/-
  The last norm and the loss, with their gradients: the blocks each point writes, the loss and the gain's gradient after
  each point, and the result arrays.
-/
module

public import proofs.«01_k».proof.Defs
public import proofs.«01_k».proof.Proof.Gen.Kernel25Ideal.Frame
public import proofs.«01_k».proof.Proof.Dots
public import proofs.«01_k».proof.Proof.NormLaw
public import proofs.«01_k».proof.Proof.RmsBwd
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel25Ideal.Value

open Cert.Kernel25Ideal Cert.Kernel25Ideal.Gen Cert.Dots Cert.NormLaw
open Cert.Kernel13Ideal.Value (hz mean eps gain gain_in xh dx dg resX resG number number')

variable (m : (ℓ : Loc nD τ sig) → Buf (Elt Ideal) ℓ) (ρ : Dev nD → PrngReg)

set_option maxRecDepth 8000

/-! ### The arrays, and what is computed of them -/

/-- The norm's input. -/
abbrev arrX (c : Dev nD) : S4096x2048.Idx → EReal := m ((c : Thread nD τ).loc main_arg0)
/-- The target. -/
abbrev arrT (c : Dev nD) : S4096x2048.Idx → EReal := m ((c : Thread nD τ).loc main_arg1)
/-- The gain. -/
abbrev arrG (c : Dev nD) : S2048.Idx → EReal := m ((c : Thread nD τ).loc main_arg2)

/-- The error: the norm's output less the target. -/
def err (x t : S4096x2048.Idx → EReal) (g : S2048.Idx → EReal) (i j : ℕ) : EReal := xh x i j * gain g j - ext2 t i j

/-- The share of one entry in a row's mean. -/
def share : EReal := Ideal.ofBits .f32 0x3A000000#32

/-- One half. -/
def half : EReal := Ideal.ofBits .f32 0x3F000000#32

/-- The gradient of the loss at the norm's output. -/
def grad (x t : S4096x2048.Idx → EReal) (g : S2048.Idx → EReal) : S4096x2048.Idx → EReal :=
  fun i => err x t g (i 0).val (i 1).val * share

theorem grad_in (x t : S4096x2048.Idx → EReal) (g : S2048.Idx → EReal) {i j : ℕ} (hi : i < 4096) (hj : j < 2048) :
    ext2 (grad x t g) i j = err x t g i j * share := ext2_in (grad x t g) hi hj

/-- A row's mean squared error. -/
def rowLoss (x t : S4096x2048.Idx → EReal) (g : S2048.Idx → EReal) (i : ℕ) : EReal :=
  mean (dot (fun k => err x t g i k) (fun k => err x t g i k) 2048)

/-- The loss of the first `n` rows. -/
def lossOf (x t : S4096x2048.Idx → EReal) (g : S2048.Idx → EReal) (n : ℕ) : EReal := half * ∑ i ∈ Finset.range n, rowLoss x t g i

theorem half_real : half = ((1 / 2 : ℝ) : EReal) := by
  unfold half
  simp [Ideal.ofBits, Ideal.ieee]
  rw [← EReal.coe_mul]
  norm_num

theorem lossOf_add (x t : S4096x2048.Idx → EReal) (g : S2048.Idx → EReal) (n k : ℕ) :
    lossOf x t g (n + k) = lossOf x t g n + half * ∑ i : Fin k, rowLoss x t g (n + i.val) := by
  unfold lossOf
  rw [Finset.sum_range_add, half_real, coe_mul_add (by norm_num), ← Fin.sum_univ_eq_sum_range (fun i => rowLoss x t g (n + i)) k]

/-! ### What the host computes before the call -/

theorem V_gain (c : Dev nD) (z : Fin 1) (q : Fin 2048) : (V m c main_v0 : S1x2048.Idx → EReal) (ix2 z q) = gain (arrG m c) q.val := by
  refine Eq.trans (b := shapeCast S1x2048 (m ((c : Thread nD τ).loc main_arg2) : Vec Ideal S2048 .f32) shapeCasts_S2048_S1x2048 (ix2 z q)) ?_ ?_
  · refine congrFun ?_ _
    unfold V hostOps0
    after_results
    rfl
  · rw [gain_in _ q.isLt]
    refine shapeCast_apply (s := S2048) (t := S1x2048) _ _ _ _ ?_
    rw [Shape.rowMajor_val_one, Shape.rowMajor_val_two]
    have hz0 : z.val = 0 := by omega
    show q.val = z.val * 2048 + q.val
    omega

theorem pay7 (x : Vec Ideal S256x2048 .f32) (p : Fin 256) (z : Fin 1) :
    (k0_pay7 x (ix2 p z) : EReal) = Ideal.rsqrt (mean (∑ k : Fin 2048, x (ix2 p k) * x (ix2 p k)) + eps) := by
  unfold k0_pay7 mean eps
  rw [← number']
  pointwise

theorem pay8 (x : Vec Ideal S256x2048 .f32) (p : Fin 256) (q : Fin 2048) :
    (k0_pay8 x (ix2 p q) : EReal) = x (ix2 p q) * k0_pay7 x (ix2 p 0) := by
  unfold k0_pay8
  pointwise

theorem pay9 (x : Vec Ideal S256x2048 .f32) (g : Vec Ideal S1x2048 .f32) (t : Vec Ideal S256x2048 .f32) (p : Fin 256) (q : Fin 2048) :
    (k0_pay9 x g t (ix2 p q) : EReal) = k0_pay8 x (ix2 p q) * g (ix2 0 q) - t (ix2 p q) := by
  unfold k0_pay9
  pointwise

theorem pay10 (x : Vec Ideal S256x2048 .f32) (g : Vec Ideal S1x2048 .f32) (t : Vec Ideal S256x2048 .f32) (y z : Fin 1) :
    (k0_pay10 x g t (ix2 y z) : EReal)
      = half * ∑ p : Fin 256, mean (∑ k : Fin 2048, k0_pay9 x g t (ix2 p k) * k0_pay9 x g t (ix2 p k)) := by
  unfold k0_pay10 mean half
  rw [← number']
  pointwise

theorem pay11 (x : Vec Ideal S256x2048 .f32) (g : Vec Ideal S1x2048 .f32) (t : Vec Ideal S256x2048 .f32) (p : Fin 256) (q : Fin 2048) :
    (k0_pay11 x g t (ix2 p q) : EReal) = k0_pay9 x g t (ix2 p q) * share := by
  unfold k0_pay11 share
  pointwise

theorem pay12 (x : Vec Ideal S256x2048 .f32) (g : Vec Ideal S1x2048 .f32) (t : Vec Ideal S256x2048 .f32) (p : Fin 256) (q : Fin 2048) :
    (k0_pay12 x g t g (ix2 p q) : EReal) = k0_pay11 x g t (ix2 p q) * g (ix2 0 q)
      - k0_pay8 x (ix2 p q) * mean (∑ k : Fin 2048, k0_pay11 x g t (ix2 p k) * g (ix2 0 k) * k0_pay8 x (ix2 p k)) := by
  unfold k0_pay12 mean
  rw [← number']
  pointwise

theorem pay13 (x : Vec Ideal S256x2048 .f32) (p : Fin 256) (q : Fin 2048) : (k0_pay13 x (ix2 p q) : EReal) = k0_pay7 x (ix2 p 0) := by
  unfold k0_pay13
  pointwise

theorem pay1 (a r : Vec Ideal S256x2048 .f32) (p : Fin 256) (q : Fin 2048) : (k0_pay1 (F := Ideal) a r (ix2 p q) : EReal) = r (ix2 p q) * a (ix2 p q) := by
  unfold k0_pay1
  pointwise

theorem pay2 (a r : Vec Ideal S256x2048 .f32) (p : Fin 256) (q : Fin 2048) : (k0_pay2 (F := Ideal) a r (ix2 p q) : EReal) = half * k0_pay1 (F := Ideal) a r (ix2 p q) := by
  unfold k0_pay2 half
  pointwise

theorem pay3 (a b : Vec Ideal S256x2048 .f32) (z : Fin 1) (q : Fin 2048) : (k0_pay3 (F := Ideal) a b (ix2 z q) : EReal) = ∑ k : Fin 256, b (ix2 k q) * a (ix2 k q) := by
  unfold k0_pay3
  pointwise

theorem pay5 (a b : Vec Ideal S256x2048 .f32) (o : Vec Ideal S1x2048 .f32) (z : Fin 1) (q : Fin 2048) :
    (k0_pay5 (F := Ideal) a b o (ix2 z q) : EReal) = o (ix2 z q) + k0_pay3 (F := Ideal) a b (ix2 z q) := by
  unfold k0_pay5
  pointwise

theorem pay4 (l : Vec Ideal S1x1 .f32) (p : Fin 8) (q : Fin 128) : (k0_pay4 (F := Ideal) l (ix2 p q) : EReal) = l (ix2 0 0) := by
  unfold k0_pay4
  pointwise

theorem pay6 (l : Vec Ideal S1x1 .f32) (o : Vec Ideal S8x128 .f32) (p : Fin 8) (q : Fin 128) : (k0_pay6 (F := Ideal) l o (ix2 p q) : EReal) = o (ix2 p q) + l (ix2 0 0) := by
  unfold k0_pay6
  pointwise [pay4]

/-! ### One point's stores -/

/-- The three blocks that a point reads. -/
abbrev bX (c : Dev nD) (t : Fin cfg0.N) : Vec Ideal S256x2048 .f32 := iblk m c 0 t
abbrev bT (c : Dev nD) (t : Fin cfg0.N) : Vec Ideal S256x2048 .f32 := iblk m c 1 t
abbrev bG (c : Dev nD) (t : Fin cfg0.N) : Vec Ideal S1x2048 .f32 := iblk m c 2 t

/-- The first point: the block of the gradient. -/
theorem dxA (c : Dev nD) (t : Fin cfg0.N) (h : t.val = 0) :
    (outsAt0 m c t.val t.isLt).1 = k0_pay1 (k0_pay12 (bX m c t) (bG m c t) (bT m c t) (bG m c t)) (k0_pay13 (bX m c t)) := by
  have hN : t.val < 16 := lt_of_lt_of_eq t.isLt N_0
  rw [outsAt0_A m c t (by omega) (by omega)]
  dsimp only
  unfold out0_A_3
  rw [View.read_writes_eq_canon _ _ _ (fun _ => cover0_A_3 ..)]
  unfold kernelRun0_A
  dsimp only
  sl_unfold_words
  rw [View.canon_unit_zero hz]
  simp only [View.readAt_eq_ld, (hs0_0 t).read_unread, (hs0_1 t).read_unread, (hs0_2 t).read_unread, (hs0_5 t).read_unread, (hs0_6 t).read_unread, (Memref.isWhole_whole _).read_unread, View.ld_unit_zero (S := S256x2048) hz, View.ld_unit_zero (S := S1x2048) hz, View.ld_unit_zero (S := S8x128) hz]

/-- A later point: the block of the gradient. -/
theorem dxB (c : Dev nD) (t : Fin cfg0.N) (h : ¬t.val = 0) :
    (outsAt0 m c t.val t.isLt).1 = k0_pay1 (k0_pay12 (bX m c t) (bG m c t) (bT m c t) (bG m c t)) (k0_pay13 (bX m c t)) := by
  have hN : t.val < 16 := lt_of_lt_of_eq t.isLt N_0
  rw [outsAt0_B m c t (by omega) (by omega)]
  dsimp only
  unfold out0_B_3
  rw [View.read_writes_eq_canon _ _ _ (fun _ => cover0_B_3 ..)]
  unfold kernelRun0_B
  dsimp only
  sl_unfold_words
  rw [View.canon_unit_zero hz]
  simp only [View.readAt_eq_ld, (hs0_0 t).read_unread, (hs0_1 t).read_unread, (hs0_2 t).read_unread, (hs0_5 t).read_unread, (hs0_6 t).read_unread, (Memref.isWhole_whole _).read_unread, View.ld_unit_zero (S := S256x2048) hz, View.ld_unit_zero (S := S1x2048) hz, View.ld_unit_zero (S := S8x128) hz]

/-- The first point: the block of the halved gradient. -/
theorem dbA (c : Dev nD) (t : Fin cfg0.N) (h : t.val = 0) :
    (outsAt0 m c t.val t.isLt).2.1 = k0_pay2 (k0_pay12 (bX m c t) (bG m c t) (bT m c t) (bG m c t)) (k0_pay13 (bX m c t)) := by
  have hN : t.val < 16 := lt_of_lt_of_eq t.isLt N_0
  rw [outsAt0_A m c t (by omega) (by omega)]
  dsimp only
  unfold out0_A_4
  rw [View.read_writes_eq_canon _ _ _ (fun _ => cover0_A_4 ..)]
  unfold kernelRun0_A
  dsimp only
  sl_unfold_words
  rw [View.canon_unit_zero hz]
  simp only [View.readAt_eq_ld, (hs0_0 t).read_unread, (hs0_1 t).read_unread, (hs0_2 t).read_unread, (hs0_5 t).read_unread, (hs0_6 t).read_unread, (Memref.isWhole_whole _).read_unread, View.ld_unit_zero (S := S256x2048) hz, View.ld_unit_zero (S := S1x2048) hz, View.ld_unit_zero (S := S8x128) hz]

/-- A later point: the block of the halved gradient. -/
theorem dbB (c : Dev nD) (t : Fin cfg0.N) (h : ¬t.val = 0) :
    (outsAt0 m c t.val t.isLt).2.1 = k0_pay2 (k0_pay12 (bX m c t) (bG m c t) (bT m c t) (bG m c t)) (k0_pay13 (bX m c t)) := by
  have hN : t.val < 16 := lt_of_lt_of_eq t.isLt N_0
  rw [outsAt0_B m c t (by omega) (by omega)]
  dsimp only
  unfold out0_B_4
  rw [View.read_writes_eq_canon _ _ _ (fun _ => cover0_B_4 ..)]
  unfold kernelRun0_B
  dsimp only
  sl_unfold_words
  rw [View.canon_unit_zero hz]
  simp only [View.readAt_eq_ld, (hs0_0 t).read_unread, (hs0_1 t).read_unread, (hs0_2 t).read_unread, (hs0_5 t).read_unread, (hs0_6 t).read_unread, (Memref.isWhole_whole _).read_unread, View.ld_unit_zero (S := S256x2048) hz, View.ld_unit_zero (S := S1x2048) hz, View.ld_unit_zero (S := S8x128) hz]

/-- The first point: the loss is set. -/
theorem lsA (c : Dev nD) (t : Fin cfg0.N) (h : t.val = 0) :
    (outsAt0 m c t.val t.isLt).2.2.1 = k0_pay4 (k0_pay10 (bX m c t) (bG m c t) (bT m c t)) := by
  have hN : t.val < 16 := lt_of_lt_of_eq t.isLt N_0
  rw [outsAt0_A m c t (by omega) (by omega)]
  dsimp only
  unfold out0_A_5
  rw [View.read_writes_eq_canon _ _ _ (fun _ => cover0_A_5 ..)]
  unfold kernelRun0_A
  dsimp only
  sl_unfold_words
  rw [View.canon_unit_zero hz]
  simp only [View.readAt_eq_ld, (hs0_0 t).read_unread, (hs0_1 t).read_unread, (hs0_2 t).read_unread, (hs0_5 t).read_unread, (hs0_6 t).read_unread, (Memref.isWhole_whole _).read_unread, View.ld_unit_zero (S := S256x2048) hz, View.ld_unit_zero (S := S1x2048) hz, View.ld_unit_zero (S := S8x128) hz]

/-- A later point: the loss grows. -/
theorem lsB (c : Dev nD) (t : Fin cfg0.N) (h : ¬t.val = 0) :
    (outsAt0 m c t.val t.isLt).2.2.1 = k0_pay6 (k0_pay10 (bX m c t) (bG m c t) (bT m c t)) (outsAt0 m c (t.val - 1) (Nat.lt_of_le_of_lt (Nat.sub_le _ _) t.isLt)).2.2.1 := by
  have hN : t.val < 16 := lt_of_lt_of_eq t.isLt N_0
  rw [outsAt0_B m c t (by omega) (by omega)]
  dsimp only
  unfold out0_B_5
  rw [View.read_writes_eq_canon _ _ _ (fun _ => cover0_B_5 ..)]
  unfold kernelRun0_B
  dsimp only
  sl_unfold_words
  rw [View.canon_unit_zero hz]
  simp only [View.readAt_eq_ld, (hs0_0 t).read_unread, (hs0_1 t).read_unread, (hs0_2 t).read_unread, (hs0_5 t).read_unread, (hs0_6 t).read_unread, (Memref.isWhole_whole _).read_unread, View.ld_unit_zero (S := S256x2048) hz, View.ld_unit_zero (S := S1x2048) hz, View.ld_unit_zero (S := S8x128) hz]

/-- The first point: the gain's gradient is set. -/
theorem dgA (c : Dev nD) (t : Fin cfg0.N) (h : t.val = 0) :
    (outsAt0 m c t.val t.isLt).2.2.2 = k0_pay3 (k0_pay8 (bX m c t)) (k0_pay11 (bX m c t) (bG m c t) (bT m c t)) := by
  have hN : t.val < 16 := lt_of_lt_of_eq t.isLt N_0
  rw [outsAt0_A m c t (by omega) (by omega)]
  dsimp only
  unfold out0_A_6
  rw [View.read_writes_eq_canon _ _ _ (fun _ => cover0_A_6 ..)]
  unfold kernelRun0_A
  dsimp only
  sl_unfold_words
  rw [View.canon_unit_zero hz]
  simp only [View.readAt_eq_ld, (hs0_0 t).read_unread, (hs0_1 t).read_unread, (hs0_2 t).read_unread, (hs0_5 t).read_unread, (hs0_6 t).read_unread, (Memref.isWhole_whole _).read_unread, View.ld_unit_zero (S := S256x2048) hz, View.ld_unit_zero (S := S1x2048) hz, View.ld_unit_zero (S := S8x128) hz]

/-- A later point: the gain's gradient grows. -/
theorem dgB (c : Dev nD) (t : Fin cfg0.N) (h : ¬t.val = 0) :
    (outsAt0 m c t.val t.isLt).2.2.2 = k0_pay5 (k0_pay8 (bX m c t)) (k0_pay11 (bX m c t) (bG m c t) (bT m c t)) (outsAt0 m c (t.val - 1) (Nat.lt_of_le_of_lt (Nat.sub_le _ _) t.isLt)).2.2.2 := by
  have hN : t.val < 16 := lt_of_lt_of_eq t.isLt N_0
  rw [outsAt0_B m c t (by omega) (by omega)]
  dsimp only
  unfold out0_B_6
  rw [View.read_writes_eq_canon _ _ _ (fun _ => cover0_B_6 ..)]
  unfold kernelRun0_B
  dsimp only
  sl_unfold_words
  rw [View.canon_unit_zero hz]
  simp only [View.readAt_eq_ld, (hs0_0 t).read_unread, (hs0_1 t).read_unread, (hs0_2 t).read_unread, (hs0_5 t).read_unread, (hs0_6 t).read_unread, (Memref.isWhole_whole _).read_unread, View.ld_unit_zero (S := S256x2048) hz, View.ld_unit_zero (S := S1x2048) hz, View.ld_unit_zero (S := S8x128) hz]

/-! ### The blocks -/

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at3 : ∀ t : Fin cfg0.N, win0_3.index t 0 = t.val ∧ win0_3.index t 1 = 0 := by decide +kernel
theorem at4 : ∀ t : Fin cfg0.N, win0_4.index t 0 = t.val ∧ win0_4.index t 1 = 0 := by decide +kernel
theorem at2 : ∀ t : Fin cfg0.N, win0_2.index t 0 = 0 ∧ win0_2.index t 1 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = 0 := by decide +kernel

theorem blk0 (c : Dev nD) (t : Fin cfg0.N) (p : Fin 256) (k : Fin 2048) :
    (iblk m c 0 t : S256x2048.Idx → EReal) (ix2 p k) = ext2 (arrX m c) (256 * t.val + p.val) k.val := by
  unfold iblk
  rw [View.read_apply]
  show V m c main_arg0 _ = _
  rw [V_main_arg0]
  refine ext2_of (arrX m c) _ ?_ ?_
  · show win0_0.index t 0 * 256 + 1 * p.val = _
    rw [(at0 t).1]; omega
  · show win0_0.index t 1 * 2048 + 1 * k.val = _
    rw [(at0 t).2]; omega

theorem blk1 (c : Dev nD) (t : Fin cfg0.N) (p : Fin 256) (k : Fin 2048) :
    (iblk m c 1 t : S256x2048.Idx → EReal) (ix2 p k) = ext2 (arrT m c) (256 * t.val + p.val) k.val := by
  unfold iblk
  rw [View.read_apply]
  show V m c main_arg1 _ = _
  rw [V_main_arg1]
  refine ext2_of (arrT m c) _ ?_ ?_
  · show win0_1.index t 0 * 256 + 1 * p.val = _
    rw [(at1 t).1]; omega
  · show win0_1.index t 1 * 2048 + 1 * k.val = _
    rw [(at1 t).2]; omega

theorem V_gain_at (c : Dev nD) (y : S1x2048.Idx) {j : ℕ} (h : (y 1).val = j) : (V m c main_v0 : S1x2048.Idx → EReal) y = gain (arrG m c) j := by
  subst h
  obtain ⟨z, q, rfl⟩ : ∃ (z : Fin 1) (q : Fin 2048), y = ix2 z q := ⟨y 0, y 1, eq_ix2 y⟩
  exact V_gain m c z q

theorem blk2 (c : Dev nD) (t : Fin cfg0.N) (z : Fin 1) (q : Fin 2048) :
    (iblk m c 2 t : S1x2048.Idx → EReal) (ix2 z q) = gain (arrG m c) q.val := by
  unfold iblk
  rw [View.read_apply]
  refine V_gain_at m c _ ?_
  show win0_2.index t 1 * 2048 + 1 * q.val = _
  rw [(at2 t).2]; omega

/-! ### The results at a point -/

theorem inv_at (c : Dev nD) (t : Fin cfg0.N) (p : Fin 256) (z : Fin 1) :
    (k0_pay7 (bX m c t) (ix2 p z) : EReal) = Cert.Kernel13Ideal.Value.inv (arrX m c) (256 * t.val + p.val) := by
  refine (pay7 _ p z).trans ?_
  simp only [blk0]
  unfold Cert.Kernel13Ideal.Value.inv
  rw [dot_first]

theorem xh_at (c : Dev nD) (t : Fin cfg0.N) (p : Fin 256) (q : Fin 2048) :
    (k0_pay8 (bX m c t) (ix2 p q) : EReal) = xh (arrX m c) (256 * t.val + p.val) q.val := by
  refine (pay8 _ p q).trans ?_
  exact congrArg₂ (· * ·) (blk0 m c t p q) (inv_at m c t p 0)

theorem err_at (c : Dev nD) (t : Fin cfg0.N) (p : Fin 256) (q : Fin 2048) :
    (k0_pay9 (bX m c t) (bG m c t) (bT m c t) (ix2 p q) : EReal) = err (arrX m c) (arrT m c) (arrG m c) (256 * t.val + p.val) q.val := by
  refine (pay9 _ _ _ p q).trans ?_
  exact congrArg₂ (· - ·) (congrArg₂ (· * ·) (xh_at m c t p q) (blk2 m c t 0 q)) (blk1 m c t p q)

theorem grad_at (c : Dev nD) (t : Fin cfg0.N) (p : Fin 256) (q : Fin 2048) :
    (k0_pay11 (bX m c t) (bG m c t) (bT m c t) (ix2 p q) : EReal) = ext2 (grad (arrX m c) (arrT m c) (arrG m c)) (256 * t.val + p.val) q.val := by
  have hN : t.val < 16 := lt_of_lt_of_eq t.isLt N_0
  rw [grad_in _ _ _ (by omega) q.isLt, ← err_at]
  exact pay11 _ _ _ p q

theorem loss_pay (c : Dev nD) (t : Fin cfg0.N) :
    (k0_pay10 (bX m c t) (bG m c t) (bT m c t) (ix2 0 0) : EReal)
      = half * ∑ i : Fin 256, rowLoss (arrX m c) (arrT m c) (arrG m c) (256 * t.val + i.val) := by
  refine (pay10 _ _ _ 0 0).trans ?_
  simp only [err_at]
  unfold rowLoss
  simp only [dot_first]

/-- The gradient of the norm's input. -/
abbrev dxOf (c : Dev nD) (i j : ℕ) : EReal := dx (grad (arrX m c) (arrT m c) (arrG m c)) (arrX m c) (arrG m c) (fun _ => 0) i j

theorem ext2_zero (i j : ℕ) : ext2 (fun _ : S4096x2048.Idx => (0 : EReal)) i j = 0 := by
  unfold ext2
  split_ifs <;> rfl

theorem dx_pay (c : Dev nD) (t : Fin cfg0.N) (p : Fin 256) (q : Fin 2048) :
    (k0_pay1 (k0_pay12 (bX m c t) (bG m c t) (bT m c t) (bG m c t)) (k0_pay13 (bX m c t)) (ix2 p q) : EReal) = dxOf m c (256 * t.val + p.val) q.val := by
  refine (pay1 _ _ p q).trans ?_
  rw [pay13, pay12]
  simp only [inv_at, xh_at, grad_at, blk2]
  unfold dxOf dx
  rw [dot_first, ext2_zero, zero_add]

theorem dx_at (c : Dev nD) (t : Fin cfg0.N) (p : Fin 256) (q : Fin 2048) :
    ((outsAt0 m c t.val t.isLt).1 (ix2 p q) : EReal) = dxOf m c (256 * t.val + p.val) q.val := by
  by_cases h : t.val = 0
  · exact (congrFun (dxA m c t h) _).trans (dx_pay m c t p q)
  · exact (congrFun (dxB m c t h) _).trans (dx_pay m c t p q)

theorem db_at (c : Dev nD) (t : Fin cfg0.N) (p : Fin 256) (q : Fin 2048) :
    ((outsAt0 m c t.val t.isLt).2.1 (ix2 p q) : EReal) = half * dxOf m c (256 * t.val + p.val) q.val := by
  by_cases h : t.val = 0
  · exact (congrFun (dbA m c t h) _).trans ((pay2 _ _ p q).trans (congrArg (half * ·) (dx_pay m c t p q)))
  · exact (congrFun (dbB m c t h) _).trans ((pay2 _ _ p q).trans (congrArg (half * ·) (dx_pay m c t p q)))

theorem dg_pay (c : Dev nD) (t : Fin cfg0.N) (z : Fin 1) (q : Fin 2048) :
    (k0_pay3 (k0_pay8 (bX m c t)) (k0_pay11 (bX m c t) (bG m c t) (bT m c t)) (ix2 z q) : EReal)
      = ∑ k : Fin 256, ext2 (grad (arrX m c) (arrT m c) (arrG m c)) (256 * t.val + k.val) q.val * xh (arrX m c) (256 * t.val + k.val) q.val := by
  refine (pay3 _ _ z q).trans ?_
  simp only [xh_at, grad_at]

theorem dg_at (c : Dev nD) : ∀ (n : ℕ) (h : n < cfg0.N) (z : Fin 1) (q : Fin 2048),
    ((outsAt0 m c n h).2.2.2 (ix2 z q) : EReal) = dg (grad (arrX m c) (arrT m c) (arrG m c)) (arrX m c) (256 * n + 256) q.val := by
  intro n
  induction n with
  | zero =>
    intro h z q
    refine (congrFun (dgA m c ⟨0, h⟩ rfl) _).trans ?_
    rw [dg_pay, dg, dot_first]
    simp
  | succ n ih =>
    intro h z q
    refine (congrFun (dgB m c ⟨n + 1, h⟩ (Nat.succ_ne_zero n)) _).trans ?_
    rw [pay5, dg_pay, dg, dot_add]
    refine congrArg₂ (· + ·) ((ih (Nat.lt_of_succ_lt h) z q).trans ?_) rfl
    rfl

theorem ls_at (c : Dev nD) : ∀ (n : ℕ) (h : n < cfg0.N) (p : Fin 8) (q : Fin 128),
    ((outsAt0 m c n h).2.2.1 (ix2 p q) : EReal) = lossOf (arrX m c) (arrT m c) (arrG m c) (256 * n + 256) := by
  intro n
  induction n with
  | zero =>
    intro h p q
    refine (congrFun (lsA m c ⟨0, h⟩ rfl) _).trans ?_
    rw [pay4, loss_pay, lossOf, Finset.sum_range]
    simp
  | succ n ih =>
    intro h p q
    refine (congrFun (lsB m c ⟨n + 1, h⟩ (Nat.succ_ne_zero n)) _).trans ?_
    rw [pay6, loss_pay, lossOf_add]
    refine congrArg₂ (· + ·) ((ih (Nat.lt_of_succ_lt h) p q).trans ?_) rfl
    rfl

/-! ### The result arrays -/

/-- The halved gradient, entry by entry. -/
def resB (x t : S4096x2048.Idx → EReal) (g : S2048.Idx → EReal) : S4096x2048.Idx → EReal :=
  fun i => half * dx (grad x t g) x g (fun _ => 0) (i 0).val (i 1).val

/-- The loss, in every entry. -/
def resL (x t : S4096x2048.Idx → EReal) (g : S2048.Idx → EReal) : S8x128.Idx → EReal := fun _ => lossOf x t g 4096

abbrev resultX (c : Dev nD) : S4096x2048.Idx → EReal := resX (grad (arrX m c) (arrT m c) (arrG m c)) (arrX m c) (arrG m c) (fun _ => 0)
abbrev resultB (c : Dev nD) := resB (arrX m c) (arrT m c) (arrG m c)
abbrev resultL (c : Dev nD) := resL (arrX m c) (arrT m c) (arrG m c)
abbrev resultG (c : Dev nD) : S1x2048.Idx → EReal := resG (grad (arrX m c) (arrT m c) (arrG m c)) (arrX m c)

/-- The point that writes the block an index of the input's gradient lies in. -/
def ptOf (y : S4096x2048.Idx) : Fin cfg0.N :=
  ⟨(y 0).val / 256, by
    have h0 : (y 0).val < 4096 := (y 0).isLt
    rw [show cfg0.N = 16 from N_0]; omega⟩

theorem flushed3 (c : Dev nD) (t : Fin cfg0.N) (hf : (cfg0.win 3).flush t = true) :
    (dats m 0 c).flushed 3 t = ((cfg0.win 3).blk t).view.read (Elt Ideal) (resultX m c) := by
  show (cfg0.win 3).cut (grid0.coords t) ((dats m 0 c).after 3 t) = _
  rw [after0_3]
  funext (y : S256x2048.Idx)
  rw [View.read_apply]
  obtain ⟨p, q, rfl⟩ : ∃ (p : Fin 256) (q : Fin 2048), y = ix2 p q := ⟨y 0, y 1, eq_ix2 y⟩
  refine (dx_at m c t p q).trans ?_
  have er : 256 * t.val + p.val = win0_3.index t 0 * 256 + 1 * p.val := by rw [(at3 t).1]; omega
  have ec : q.val = win0_3.index t 1 * 2048 + 1 * q.val := by rw [(at3 t).2]; omega
  conv_lhs => rw [er, ec]
  rfl

theorem final3 (c : Dev nD) : (dats m 0 c).arrAt 3 cfg0.N = resultX m c :=
  (dats m 0 c).arrAt_eq_of_cover 3 (resultX m c) (flushed3 m c) fun (y : S4096x2048.Idx) =>
    ⟨ptOf y, flush0_3 (ptOf y), by
      show y ∈ ((View.whole main_v1_0).slice (win0_3.rect (ptOf y))).set
      rw [View.set_slice_whole, Rect.mem_set_unit]
      have h0 : (y 0).val < 4096 := (y 0).isLt
      have h1 : (y 1).val < 2048 := (y 1).isLt
      obtain ⟨e0, e1⟩ := at3 (ptOf y)
      have hv : (ptOf y).val = (y 0).val / 256 := rfl
      rw [hv] at e0
      intro a
      match a with
      | ⟨0, _⟩ => show win0_3.index (ptOf y) 0 * 256 ≤ (y 0).val ∧ (y 0).val < win0_3.index (ptOf y) 0 * 256 + 256
                  rw [e0]; omega
      | ⟨1, _⟩ => show win0_3.index (ptOf y) 1 * 2048 ≤ (y 1).val ∧ (y 1).val < win0_3.index (ptOf y) 1 * 2048 + 2048
                  rw [e1]; omega⟩

theorem flushed4 (c : Dev nD) (t : Fin cfg0.N) (hf : (cfg0.win 4).flush t = true) :
    (dats m 0 c).flushed 4 t = ((cfg0.win 4).blk t).view.read (Elt Ideal) (resultB m c) := by
  show (cfg0.win 4).cut (grid0.coords t) ((dats m 0 c).after 4 t) = _
  rw [after0_4]
  funext (y : S256x2048.Idx)
  rw [View.read_apply]
  obtain ⟨p, q, rfl⟩ : ∃ (p : Fin 256) (q : Fin 2048), y = ix2 p q := ⟨y 0, y 1, eq_ix2 y⟩
  refine (db_at m c t p q).trans ?_
  have er : 256 * t.val + p.val = win0_4.index t 0 * 256 + 1 * p.val := by rw [(at4 t).1]; omega
  have ec : q.val = win0_4.index t 1 * 2048 + 1 * q.val := by rw [(at4 t).2]; omega
  conv_lhs => rw [er, ec]
  rfl

theorem final4 (c : Dev nD) : (dats m 0 c).arrAt 4 cfg0.N = resultB m c :=
  (dats m 0 c).arrAt_eq_of_cover 4 (resultB m c) (flushed4 m c) fun (y : S4096x2048.Idx) =>
    ⟨ptOf y, flush0_4 (ptOf y), by
      show y ∈ ((View.whole main_v1_1).slice (win0_4.rect (ptOf y))).set
      rw [View.set_slice_whole, Rect.mem_set_unit]
      have h0 : (y 0).val < 4096 := (y 0).isLt
      have h1 : (y 1).val < 2048 := (y 1).isLt
      obtain ⟨e0, e1⟩ := at4 (ptOf y)
      have hv : (ptOf y).val = (y 0).val / 256 := rfl
      rw [hv] at e0
      intro a
      match a with
      | ⟨0, _⟩ => show win0_4.index (ptOf y) 0 * 256 ≤ (y 0).val ∧ (y 0).val < win0_4.index (ptOf y) 0 * 256 + 256
                  rw [e0]; omega
      | ⟨1, _⟩ => show win0_4.index (ptOf y) 1 * 2048 ≤ (y 1).val ∧ (y 1).val < win0_4.index (ptOf y) 1 * 2048 + 2048
                  rw [e1]; omega⟩

/-- The last point, which writes the loss and the gain's gradient. -/
def lastPt : Fin cfg0.N := ⟨15, by rw [show cfg0.N = 16 from N_0]; omega⟩

theorem flushed5 (c : Dev nD) (t : Fin cfg0.N) (hf : (cfg0.win 5).flush t = true) :
    (dats m 0 c).flushed 5 t = ((cfg0.win 5).blk t).view.read (Elt Ideal) (resultL m c) := by
  have h15 : t.val = 15 := by
    have := (flush0_5 t).mp hf
    have hN : t.val < 16 := lt_of_lt_of_eq t.isLt N_0
    omega
  show (cfg0.win 5).cut (grid0.coords t) ((dats m 0 c).after 5 t) = _
  rw [after0_5]
  funext (y : S8x128.Idx)
  rw [View.read_apply]
  obtain ⟨z, q, rfl⟩ : ∃ (z : Fin 8) (q : Fin 128), y = ix2 z q := ⟨y 0, y 1, eq_ix2 y⟩
  refine (ls_at m c t.val t.isLt z q).trans ?_
  rw [h15]
  rfl

theorem final5 (c : Dev nD) : (dats m 0 c).arrAt 5 cfg0.N = resultL m c :=
  (dats m 0 c).arrAt_eq_of_cover 5 (resultL m c) (flushed5 m c) fun (y : S8x128.Idx) =>
    ⟨lastPt, (flush0_5 lastPt).mpr rfl, by
      show y ∈ ((View.whole main_v1_2).slice (win0_5.rect lastPt)).set
      rw [View.set_slice_whole, Rect.mem_set_unit]
      have h0 : (y 0).val < 8 := (y 0).isLt
      have h1 : (y 1).val < 128 := (y 1).isLt
      obtain ⟨e0, e1⟩ := at5 lastPt
      intro a
      match a with
      | ⟨0, _⟩ => show win0_5.index lastPt 0 * 8 ≤ (y 0).val ∧ (y 0).val < win0_5.index lastPt 0 * 8 + 8
                  rw [e0]; omega
      | ⟨1, _⟩ => show win0_5.index lastPt 1 * 128 ≤ (y 1).val ∧ (y 1).val < win0_5.index lastPt 1 * 128 + 128
                  rw [e1]; omega⟩

theorem flushed6 (c : Dev nD) (t : Fin cfg0.N) (hf : (cfg0.win 6).flush t = true) :
    (dats m 0 c).flushed 6 t = ((cfg0.win 6).blk t).view.read (Elt Ideal) (resultG m c) := by
  have h15 : t.val = 15 := by
    have := (flush0_6 t).mp hf
    have hN : t.val < 16 := lt_of_lt_of_eq t.isLt N_0
    omega
  show (cfg0.win 6).cut (grid0.coords t) ((dats m 0 c).after 6 t) = _
  rw [after0_6]
  funext (y : S1x2048.Idx)
  rw [View.read_apply]
  obtain ⟨z, q, rfl⟩ : ∃ (z : Fin 1) (q : Fin 2048), y = ix2 z q := ⟨y 0, y 1, eq_ix2 y⟩
  refine (dg_at m c t.val t.isLt z q).trans ?_
  have ec : q.val = win0_6.index t 1 * 2048 + 1 * q.val := by rw [(at6 t).2]; omega
  conv_lhs => rw [h15, ec]
  rfl

theorem final6 (c : Dev nD) : (dats m 0 c).arrAt 6 cfg0.N = resultG m c :=
  (dats m 0 c).arrAt_eq_of_cover 6 (resultG m c) (flushed6 m c) fun (y : S1x2048.Idx) =>
    ⟨lastPt, (flush0_6 lastPt).mpr rfl, by
      show y ∈ ((View.whole main_v1_3).slice (win0_6.rect lastPt)).set
      rw [View.set_slice_whole, Rect.mem_set_unit]
      have h0 : (y 0).val < 1 := (y 0).isLt
      have h1 : (y 1).val < 2048 := (y 1).isLt
      obtain ⟨e0, e1⟩ := at6 lastPt
      intro a
      match a with
      | ⟨0, _⟩ => show win0_6.index lastPt 0 * 1 ≤ (y 0).val ∧ (y 0).val < win0_6.index lastPt 0 * 1 + 1
                  rw [e0]; omega
      | ⟨1, _⟩ => show win0_6.index lastPt 1 * 2048 ≤ (y 1).val ∧ (y 1).val < win0_6.index lastPt 1 * 2048 + 2048
                  rw [e1]; omega⟩

/-- The run: the results, the arguments unchanged. -/
theorem run : θ_run defs (onTc (τ := τ) (main (F := Ideal))) ⟨m, fun _ => 0, ρ⟩ fun r => ∀ c : Dev nD,
      r.2.mem ((c : Thread nD τ).loc main_v1_0) = resultX m c
      ∧ r.2.mem ((c : Thread nD τ).loc main_v1_1) = resultB m c
      ∧ r.2.mem ((c : Thread nD τ).loc main_v1_2) = resultL m c
      ∧ r.2.mem ((c : Thread nD τ).loc main_v1_3) = resultG m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) :=
  (θ_run defs _ _).mono (fun _ h c => ⟨((h.1 c).1 3).trans (final3 m c), ((h.1 c).1 4).trans (final4 m c), ((h.1 c).1 5).trans (final5 m c), ((h.1 c).1 6).trans (final6 m c), (h.2 c)⟩)
    (θ_run_and (run_main m ρ) (unchanged m ρ))

end Cert.Kernel25Ideal.Value
-- ==== Proof.FinalLossRef.lean ====
/-
  The reference of the last norm and the loss: its run, its results entry by entry, and that the kernel's are the same.
-/
module

public import proofs.«01_k».proof.Defs
public import proofs.«01_k».proof.Proof.Gen.Reference25Ideal
public import proofs.«01_k».proof.Proof.FinalLoss
public import proofs.«01_k».proof.Proof.RmsBwdRef
public import Idealize.ShloMosaic.Lib.StableHlo.Run
public import Idealize.ShloMosaic.Lib.Tactic
public import Idealize.ShloMosaic.Lib.Quiescent
public import Idealize.ShloMosaic.Adequacy
public import Idealize.ShloMosaic.Init

@[expose] public section

set_option maxRecDepth 8000

noncomputable section

open Idealize.ShloMosaic Idealize.ShloMosaic.TcCoe Idealize.SL.Sem

namespace Cert.Reference25Ideal.Value

open Cert.Reference25Ideal Cert.Reference25Ideal.Gen Cert.Dots Cert.NormLaw Idealize.ShloMosaic.StableHlo
open Cert.Reference13Ideal.Value (Mat Col Num plus times plusC timesC overC rootC zero width small spread col wide wideV row tall sumR sumC sumR1 sumC1
  root gained square valueX valueG root_apply valueX_eq valueG_eq)

/-- Vectors of a row's length, entry by entry, and the arithmetic on them and on numbers. -/
abbrev Rows := FVec Ideal S4096 .f32
abbrev minus (l r : Mat) : Mat := subf l r
abbrev overV (l r : Rows) : Rows := Host.divf l r
abbrev timesN (l r : Num) : Num := mulf l r
/-- The numbers in use. -/
abbrev less : Num := constant (F := Ideal) S_ .f32 0xBF000000#32
abbrev half : Num := constant (F := Ideal) S_ .f32 0x3F000000#32
abbrev one : Num := constant (F := Ideal) S_ .f32 0x3F800000#32
abbrev two : Num := constant (F := Ideal) S_ .f32 0x40000000#32
abbrev spreadV (l : Num) : Rows := broadcastInDim S4096 ![] bcast_S_S4096 l
abbrev spreadM (l : Num) : Mat := broadcastInDim S4096x2048 ![] bcast_S_S4096x2048 l
abbrev spreadL (l : Num) : FVec Ideal S8x128 .f32 := broadcastInDim S8x128 ![] bcast_S_S8x128 l
/-- The sum of a vector. -/
abbrev sumV (l : Rows) (z : Num) : Num := Host.reduceAdd l z reducesTo_S4096_S_d0 h_S_

/-- The error. -/
def error (x t : Mat) (g : FVec Ideal S2048 .f32) : Mat := minus (times (times x (wide (root x))) (tall (row g))) t
/-- The gradient at the norm's output. -/
def atNorm (x t : Mat) (g : FVec Ideal S2048 .f32) : Mat :=
  times (wideV (overV (spreadV (timesN half one)) (spreadV width))) (times (spreadM two) (error x t g))
/-- The results as the reference computes them. -/
def valueD (h x : Mat) (g : FVec Ideal S2048 .f32) : Mat :=
  plus (plus (times (gained h g) (wide (root x))) (times x (wideV (square h x g)))) (times (wideV (square h x g)) x)
def valueB (h x : Mat) (g : FVec Ideal S2048 .f32) : FVec Ideal S4096x2048 .bf16 :=
  truncf (F := Ideal) .bf16 (times (spreadM half) (valueD h x g)) bitsLt_bf16_f32
def valueL (x t : Mat) (g : FVec Ideal S2048 .f32) : FVec Ideal S8x128 .f32 :=
  spreadL (timesN half (sumV (overV (sumR (times (error x t g) (error x t g)) zero) (spreadV width)) zero))

/-- The reference's operations, in order. -/
abbrev ops : List (HloOp τ sig (Elt Ideal)) :=
  [ binary main_arg0 main_arg0 main_v0 times,
    nullary main_cst zero,
    binary main_v0 main_cst main_v1 sumR,
    unary main_v1 main_v2 col,
    nullary main_cst_0 width,
    unary main_cst_0 main_v3 spread,
    binary main_v2 main_v3 main_v4 overC,
    nullary main_cst_1 small,
    unary main_cst_1 main_v5 spread,
    binary main_v4 main_v5 main_v6 plusC,
    unary main_v6 main_v7 rootC,
    binary main_v7 main_v6 main_v8 overC,
    nullary main_cst_2 less,
    unary main_cst_2 main_v9 spread,
    binary main_v9 main_v8 main_v10 timesC,
    unary main_v7 main_v11 wide,
    binary main_arg0 main_v11 main_v12 times,
    unary main_arg2 main_v13 row,
    unary main_v13 main_v14 tall,
    binary main_v12 main_v14 main_v15 times,
    binary main_v15 main_arg1 main_v16 minus,
    binary main_v16 main_v16 main_v17 times,
    nullary main_cst_3 two,
    unary main_cst_3 main_v18 spreadM,
    binary main_v18 main_v16 main_v19 times,
    nullary main_cst_4 zero,
    binary main_v17 main_cst_4 main_v20 sumR,
    nullary main_cst_5 width,
    unary main_cst_5 main_v21 spreadV,
    binary main_v20 main_v21 main_v22 overV,
    nullary main_cst_6 zero,
    binary main_v22 main_cst_6 main_v23 sumV,
    nullary main_cst_7 half,
    binary main_cst_7 main_v23 main_v24 timesN,
    nullary main_cst_8 half,
    nullary main_cst_9 one,
    binary main_cst_8 main_cst_9 main_v25 timesN,
    unary main_v25 main_v26 spreadV,
    nullary main_cst_10 width,
    unary main_cst_10 main_v27 spreadV,
    binary main_v26 main_v27 main_v28 overV,
    unary main_v28 main_v29 wideV,
    binary main_v29 main_v19 main_v30 times,
    binary main_v12 main_v30 main_v31 times,
    nullary main_cst_11 zero,
    binary main_v31 main_cst_11 main_v32 sumC,
    reshape main_v32 main_v33 rfl shapeCasts_S2048_S1x2048,
    unary main_v13 main_v34 tall,
    binary main_v30 main_v34 main_v35 times,
    nullary main_cst_12 zero,
    binary main_v33 main_cst_12 main_v36 sumC1,
    binary main_arg0 main_v35 main_v37 times,
    nullary main_cst_13 zero,
    binary main_v37 main_cst_13 main_v38 sumR,
    reshape main_v38 main_v39 rfl shapeCasts_S4096_S4096x1,
    unary main_v7 main_v40 wide,
    binary main_v35 main_v40 main_v41 times,
    binary main_v39 main_v10 main_v42 timesC,
    nullary main_cst_14 width,
    unary main_cst_14 main_v43 spread,
    binary main_v42 main_v43 main_v44 overC,
    nullary main_cst_15 zero,
    binary main_v44 main_cst_15 main_v45 sumR1,
    unary main_v45 main_v46 wideV,
    binary main_arg0 main_v46 main_v47 times,
    binary main_v41 main_v47 main_v48 plus,
    binary main_v46 main_arg0 main_v49 times,
    binary main_v48 main_v49 main_v50 plus,
    nullary main_cst_16 half,
    unary main_cst_16 main_v51 spreadM,
    binary main_v51 main_v50 main_v52 times,
    unary main_v52 main_v53 (truncf (F := Ideal) .bf16 · bitsLt_bf16_f32),
    unary main_v24 main_v54 spreadL,
    reshape main_v36 main_v55 rfl shapeCasts_S2048_S1x2048 ]

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., reshape_bufs_sub .., unary_bufs_sub .., binary_bufs_sub .., nullary_bufs_sub .., binary_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., nullary_bufs_sub .., unary_bufs_sub .., binary_bufs_sub .., unary_bufs_sub .., unary_bufs_sub .., reshape_bufs_sub ..⟩

theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD) : Thread nD τ).loc main_v50) = valueD (atNorm (m (((0 : Dev nD) : Thread nD τ).loc main_arg0)) (m (((0 : Dev nD) : Thread nD τ).loc main_arg1)) (m (((0 : Dev nD) : Thread nD τ).loc main_arg2))) (m (((0 : Dev nD) : Thread nD τ).loc main_arg0)) (m (((0 : Dev nD) : Thread nD τ).loc main_arg2))
        ∧ r.2.mem (((0 : Dev nD) : Thread nD τ).loc main_v53) = valueB (atNorm (m (((0 : Dev nD) : Thread nD τ).loc main_arg0)) (m (((0 : Dev nD) : Thread nD τ).loc main_arg1)) (m (((0 : Dev nD) : Thread nD τ).loc main_arg2))) (m (((0 : Dev nD) : Thread nD τ).loc main_arg0)) (m (((0 : Dev nD) : Thread nD τ).loc main_arg2))
        ∧ r.2.mem (((0 : Dev nD) : Thread nD τ).loc main_v54) = valueL (m (((0 : Dev nD) : Thread nD τ).loc main_arg0)) (m (((0 : Dev nD) : Thread nD τ).loc main_arg1)) (m (((0 : Dev nD) : Thread nD τ).loc main_arg2))
        ∧ r.2.mem (((0 : Dev nD) : Thread nD τ).loc main_v55) = valueG (atNorm (m (((0 : Dev nD) : Thread nD τ).loc main_arg0)) (m (((0 : Dev nD) : Thread nD τ).loc main_arg1)) (m (((0 : Dev nD) : Thread nD τ).loc main_arg2))) (m (((0 : Dev nD) : Thread nD τ).loc main_arg0)))
      ∧ (r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)
        ∧ r.2.mem (((0 : Dev nD) : Thread nD τ).loc main_arg2) = m (((0 : Dev nD) : Thread nD τ).loc main_arg2)) :=
  (θ_run defs _ _).mono (fun _ h => ⟨⟨(h 0 main_v50).trans (by after_results; rfl), (h 0 main_v53).trans (by after_results; rfl),
        (h 0 main_v54).trans (by after_results; rfl), (h 0 main_v55).trans (by after_results; rfl)⟩,
      ⟨(h 0 main_arg0).trans (by after_results), (h 0 main_arg1).trans (by after_results), (h 0 main_arg2).trans (by after_results)⟩⟩)
    (run_seq scopedRefs_eq scopedSems_eq defs main (fun _ => ops) main_eq (fun _ => ops_sub) m ρ)

theorem frame : Cert.quiescent_Reference25Ideal := fun m ρ _ =>
  (θ_run defs _ _).mono (fun r h => ⟨fun c => (by obtain rfl : c = 0 := Subsingleton.elim _ _; exact h.2),
      sem_eq_zero_of_no_sems (by decide) r.2⟩)
    (run m ρ)

open Cert.Kernel13Ideal.Value (mean gain gain_in xh resX resG number number')
open Cert.Kernel25Ideal.Value (err share grad rowLoss lossOf resB resL)

theorem one_eq : (Ideal.ofBits .f32 0x3F800000#32 : EReal) = ((1 : ℝ) : EReal) := by
  simp [Ideal.ofBits, Ideal.ieee]
  rw [← EReal.coe_mul]
  norm_num

theorem two_eq : (Ideal.ofBits .f32 0x40000000#32 : EReal) = ((2 : ℝ) : EReal) := by
  simp [Ideal.ofBits, Ideal.ieee]
  rw [← EReal.coe_mul]
  norm_num

theorem half_eq : (Ideal.ofBits .f32 0x3F000000#32 : EReal) = ((1 / 2 : ℝ) : EReal) := Cert.Kernel25Ideal.Value.half_real

theorem share_eq : share = ((1 / 2048 : ℝ) : EReal) := by
  unfold share
  simp [Ideal.ofBits, Ideal.ieee]
  rw [← EReal.coe_mul]
  norm_num

theorem error_apply (x t : S4096x2048.Idx → EReal) (g : S2048.Idx → EReal) (p : Fin 4096) (q : Fin 2048) :
    (error x t g (ix2 p q) : EReal) = err x t g p.val q.val := by
  unfold error err xh
  pointwise [root_apply]
  rw [ext2_in x p.isLt q.isLt, ext2_in t p.isLt q.isLt, gain_in g q.isLt]

/-- Half of one, over the width, times twice the error, is the error times its share. -/
theorem share_law (e : EReal) : Ideal.div (((1 / 2 : ℝ) : EReal) * ((1 : ℝ) : EReal)) ((2048 : ℝ) : EReal) * (((2 : ℝ) : EReal) * e) = e * ((1 / 2048 : ℝ) : EReal) := by
  rw [Ideal.div_coe (by norm_num : (2048 : ℝ) ≠ 0), ← EReal.coe_mul, ← EReal.coe_mul, ← mul_assoc, ← EReal.coe_mul, mul_comm]
  norm_num

theorem atNorm_eq (x t : S4096x2048.Idx → EReal) (g : S2048.Idx → EReal) : (atNorm x t g : S4096x2048.Idx → EReal) = grad x t g := by
  funext i
  obtain ⟨p, q, rfl⟩ : ∃ (p : Fin 4096) (q : Fin 2048), i = ix2 p q := ⟨i 0, i 1, eq_ix2 i⟩
  show _ = err x t g p.val q.val * share
  rw [share_eq, ← share_law, ← error_apply, ← half_eq, ← one_eq, ← two_eq, ← number]
  unfold atNorm
  pointwise

/-- The gradient without a residual is the gradient with a residual of zeros. -/
theorem valueD_eq (h x : S4096x2048.Idx → EReal) (g : S2048.Idx → EReal) : (valueD h x g : S4096x2048.Idx → EReal) = resX h x g (fun _ => 0) := by
  rw [← valueX_eq h x g (fun _ => 0)]
  funext i
  exact (zero_add (valueD h x g i : EReal)).symm

theorem valueB_eq (x t : S4096x2048.Idx → EReal) (g : S2048.Idx → EReal) :
    (valueB (grad x t g) x g : S4096x2048.Idx → EReal) = resB x t g := by
  funext i
  refine Eq.trans (b := Cert.Kernel25Ideal.Value.half * (valueD (grad x t g) x g i : EReal)) rfl ?_
  rw [valueD_eq]
  rfl

theorem valueL_eq (x t : S4096x2048.Idx → EReal) (g : S2048.Idx → EReal) : (valueL x t g : S8x128.Idx → EReal) = resL x t g := by
  funext i
  obtain ⟨p, q, rfl⟩ : ∃ (p : Fin 8) (q : Fin 128), i = ix2 p q := ⟨i 0, i 1, eq_ix2 i⟩
  show _ = lossOf x t g 4096
  unfold lossOf rowLoss mean Cert.Kernel25Ideal.Value.half
  rw [← number', Finset.sum_range]
  simp only [dot_first, ← error_apply]
  unfold valueL
  pointwise

/-- Both compute the same arrays. -/
theorem algebraic : Cert.algebraic_Kernel25Ideal_Reference25Ideal := by
  intro m ρ m' ρ' _ hagree
  refine ⟨fun c => Cert.Kernel25Ideal.Value.resultX m c, fun c => Cert.Kernel25Ideal.Value.resultB m c, fun c => Cert.Kernel25Ideal.Value.resultL m c, fun c => Cert.Kernel25Ideal.Value.resultG m c, Cert.Kernel25Ideal.Value.run m ρ, ?_⟩
  refine (θ_run defs _ _).mono (fun _ h c => ?_) (run m' ρ')
  obtain rfl : c = 0 := Subsingleton.elim _ _
  refine ⟨h.1.1.trans ?_, h.1.2.1.trans ?_, h.1.2.2.1.trans ?_, h.1.2.2.2.trans ?_, h.2⟩
  · rw [(hagree 0).1, (hagree 0).2.1, (hagree 0).2.2, atNorm_eq]
    exact valueD_eq _ _ _
  · rw [(hagree 0).1, (hagree 0).2.1, (hagree 0).2.2, atNorm_eq]
    exact valueB_eq _ _ _
  · rw [(hagree 0).1, (hagree 0).2.1, (hagree 0).2.2]
    exact valueL_eq _ _ _
  · rw [(hagree 0).1, (hagree 0).2.1, (hagree 0).2.2, atNorm_eq]
    exact valueG_eq _ _

end Cert.Reference25Ideal.Value
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Kernel2.Frame
public import proofs.«01_k».proof.Proof.Gen.Kernel2Ideal.Frame
public import proofs.«01_k».proof.Proof.Gen.Reference2Ideal
public import proofs.«01_k».proof.Proof.Gen.Kernel3.Frame
public import proofs.«01_k».proof.Proof.Gen.Kernel3Ideal.Frame
public import proofs.«01_k».proof.Proof.Gen.Reference3Ideal
public import proofs.«01_k».proof.Proof.Gen.Kernel4.Frame
public import proofs.«01_k».proof.Proof.Gen.Kernel4Ideal.Frame
public import proofs.«01_k».proof.Proof.Gen.Reference4Ideal
public import proofs.«01_k».proof.Proof.Gen.Kernel5.Frame
public import proofs.«01_k».proof.Proof.Gen.Kernel5Ideal.Frame
public import proofs.«01_k».proof.Proof.Gen.Reference5Ideal
public import proofs.«01_k».proof.Proof.Gen.Kernel6.Frame
public import proofs.«01_k».proof.Proof.Gen.Kernel6Ideal.Frame
public import proofs.«01_k».proof.Proof.Gen.Reference6Ideal
public import proofs.«01_k».proof.Proof.Gen.Kernel7.Frame
public import proofs.«01_k».proof.Proof.Gen.Kernel7Ideal.Frame
public import proofs.«01_k».proof.Proof.Gen.Reference7Ideal
public import proofs.«01_k».proof.Proof.Gen.Kernel8.Frame
public import proofs.«01_k».proof.Proof.Gen.Kernel8Ideal.Frame
public import proofs.«01_k».proof.Proof.Gen.Reference8Ideal
public import proofs.«01_k».proof.Proof.Gen.Kernel9.Frame
public import proofs.«01_k».proof.Proof.Gen.Kernel9Ideal.Frame
public import proofs.«01_k».proof.Proof.Gen.Reference9Ideal
public import proofs.«01_k».proof.Proof.Gen.Kernel10.Frame
public import proofs.«01_k».proof.Proof.Gen.Kernel10Ideal.Frame
public import proofs.«01_k».proof.Proof.Gen.Reference10Ideal
public import proofs.«01_k».proof.Proof.Gen.Kernel11.Frame
public import proofs.«01_k».proof.Proof.Gen.Kernel11Ideal.Frame
public import proofs.«01_k».proof.Proof.Gen.Reference11Ideal
public import proofs.«01_k».proof.Proof.Gen.Kernel12.Frame
public import proofs.«01_k».proof.Proof.Gen.Kernel12Ideal.Frame
public import proofs.«01_k».proof.Proof.Gen.Reference12Ideal
public import proofs.«01_k».proof.Proof.Gen.Kernel13.Frame
public import proofs.«01_k».proof.Proof.Gen.Kernel13Ideal.Frame
public import proofs.«01_k».proof.Proof.Gen.Reference13Ideal
public import proofs.«01_k».proof.Proof.Gen.Kernel14.Frame
public import proofs.«01_k».proof.Proof.Gen.Kernel14Ideal.Frame
public import proofs.«01_k».proof.Proof.Gen.Reference14Ideal
public import proofs.«01_k».proof.Proof.Gen.Kernel15.Frame
public import proofs.«01_k».proof.Proof.Gen.Kernel15Ideal.Frame
public import proofs.«01_k».proof.Proof.Gen.Reference15Ideal
public import proofs.«01_k».proof.Proof.Gen.Kernel16.Frame
public import proofs.«01_k».proof.Proof.Gen.Kernel16Ideal.Frame
public import proofs.«01_k».proof.Proof.Gen.Reference16Ideal
public import proofs.«01_k».proof.Proof.Gen.Kernel17.Frame
public import proofs.«01_k».proof.Proof.Gen.Kernel17Ideal.Frame
public import proofs.«01_k».proof.Proof.Gen.Reference17Ideal
public import proofs.«01_k».proof.Proof.Gen.Kernel18.Frame
public import proofs.«01_k».proof.Proof.Gen.Kernel18Ideal.Frame
public import proofs.«01_k».proof.Proof.Gen.Reference18Ideal
public import proofs.«01_k».proof.Proof.Gen.Kernel19.Frame
public import proofs.«01_k».proof.Proof.Gen.Kernel19Ideal.Frame
public import proofs.«01_k».proof.Proof.Gen.Reference19Ideal
public import proofs.«01_k».proof.Proof.Gen.Kernel20.Frame
public import proofs.«01_k».proof.Proof.Gen.Kernel20Ideal.Frame
public import proofs.«01_k».proof.Proof.Gen.Reference20Ideal
public import proofs.«01_k».proof.Proof.Gen.Kernel21.Frame
public import proofs.«01_k».proof.Proof.Gen.Kernel21Ideal.Frame
public import proofs.«01_k».proof.Proof.Gen.Reference21Ideal
public import proofs.«01_k».proof.Proof.Gen.Kernel22.Frame
public import proofs.«01_k».proof.Proof.Gen.Kernel22Ideal.Frame
public import proofs.«01_k».proof.Proof.Gen.Reference22Ideal
public import proofs.«01_k».proof.Proof.Gen.Kernel23.Frame
public import proofs.«01_k».proof.Proof.Gen.Kernel23Ideal.Frame
public import proofs.«01_k».proof.Proof.Gen.Reference23Ideal
public import proofs.«01_k».proof.Proof.Gen.Kernel24.Frame
public import proofs.«01_k».proof.Proof.Gen.Kernel24Ideal.Frame
public import proofs.«01_k».proof.Proof.Gen.Reference24Ideal
public import proofs.«01_k».proof.Proof.Gen.Kernel25.Frame
public import proofs.«01_k».proof.Proof.Gen.Kernel25Ideal.Frame
public import proofs.«01_k».proof.Proof.Gen.Reference25Ideal
public import proofs.«01_k».proof.Proof.Gen.Pre_finite
public import proofs.«01_k».proof.Proof.Gen.On_written
public import proofs.«01_k».proof.Proof.Dwgu
public import proofs.«01_k».proof.Proof.DwguRef
public import proofs.«01_k».proof.Proof.FfnDwdRef
public import proofs.«01_k».proof.Proof.FfnDownRef
public import proofs.«01_k».proof.Proof.OutDwRef
public import proofs.«01_k».proof.Proof.OutProjRef
public import proofs.«01_k».proof.Proof.OutDyRef
public import proofs.«01_k».proof.Proof.FfnBwdMidRef
public import proofs.«01_k».proof.Proof.FfnDhRef
public import proofs.«01_k».proof.Proof.ProjDhRef
public import proofs.«01_k».proof.Proof.ProjDwMainRef
public import proofs.«01_k».proof.Proof.FfnUpRef
public import proofs.«01_k».proof.Proof.ProjMainRef
public import proofs.«01_k».proof.Proof.RmsBwdRef
public import proofs.«01_k».proof.Proof.FfnGateRef
public import proofs.«01_k».proof.Proof.FfnUpmulRef
public import proofs.«01_k».proof.Proof.RmsFwdRef
public import proofs.«01_k».proof.Proof.FgateBwdRef
public import proofs.«01_k».proof.Proof.AdamUpRef
public import proofs.«01_k».proof.Proof.AdamDownRef
public import proofs.«01_k».proof.Proof.AdamInRef
public import proofs.«01_k».proof.Proof.AdamOutRef
public import proofs.«01_k».proof.Proof.AdamConvRef
public import proofs.«01_k».proof.Proof.AdamVecRef
public import proofs.«01_k».proof.Proof.AdamHalvesRef
public import proofs.«01_k».proof.Proof.FinalLossRef
public import Idealize.ShloMosaic.Adequacy
public import Idealize.ShloMosaic.Init

@[expose] public section

noncomputable section

namespace Cert.Proof

open Idealize.ShloMosaic Idealize.SL.Sem

/-! ### The gradients of the two feed-forward weights of the gate -/

theorem frame_ref : Cert.quiescent_ReferenceIdeal := fun m ρ _ =>
  (θ_run Cert.ReferenceIdeal.defs _ _).mono (fun r h => ⟨fun c => (by obtain rfl : c = 0 := Subsingleton.elim _ _; exact h.2),
      sem_eq_zero_of_no_sems (by decide) r.2⟩)
    (Cert.ReferenceIdeal.Value.run m ρ)

/-- Entry by entry the kernel's result is the reference's. -/
theorem grad_eq (x : Cert.KernelIdeal.S4096x2048.Idx → EReal) (y : Cert.KernelIdeal.S4096x5632.Idx → EReal) :
    (Cert.ReferenceIdeal.Value.grad x y : Cert.ReferenceIdeal.S4x2048x1408.Idx → EReal) = Cert.KernelIdeal.Value.res x y := by
  funext i
  obtain ⟨j, p, q, rfl⟩ : ∃ (j : Fin 4) (p : Fin 2048) (q : Fin 1408), i = ix3 j p q := ⟨i 0, i 1, i 2, eq_ix3 i⟩
  exact Cert.ReferenceIdeal.Value.grad_apply x y j p q

theorem algebraic : Cert.algebraic_KernelIdeal_ReferenceIdeal := by
  intro m ρ m' ρ' _ hagree
  refine ⟨fun c => Cert.KernelIdeal.Value.res (Cert.KernelIdeal.Value.H m c) (Cert.KernelIdeal.Value.DA m c),
    fun c => Cert.KernelIdeal.Value.res (Cert.KernelIdeal.Value.H m c) (Cert.KernelIdeal.Value.DB m c),
    (θ_run Cert.KernelIdeal.defs _ _).mono (fun _ h c => ⟨(h c).1.1, (h c).1.2, (h c).2⟩) (Cert.KernelIdeal.Value.run m ρ), ?_⟩
  refine (θ_run Cert.ReferenceIdeal.defs _ _).mono (fun _ h c => ?_) (Cert.ReferenceIdeal.Value.run m' ρ')
  obtain rfl : c = 0 := Subsingleton.elim _ _
  refine ⟨h.1.1.trans ?_, h.1.2.trans ?_, h.2⟩
  · rw [(hagree 0).1, (hagree 0).2.1]
    exact grad_eq _ _
  · rw [(hagree 0).1, (hagree 0).2.2]
    exact grad_eq _ _

/-- The certificate: first the programs' stated facts, then call by call the frames, then call by call the values. -/
theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Pre_finite.Gen.facts, Cert.On_written.Gen.facts,
  fun m ρ _ => Cert.Kernel.Gen.frame m ρ, fun m ρ _ => Cert.KernelIdeal.Gen.frame m ρ, frame_ref,
  fun m ρ _ => Cert.Kernel2.Gen.frame m ρ, fun m ρ _ => Cert.Kernel2Ideal.Gen.frame m ρ, Cert.Reference2Ideal.Value.frame,
  fun m ρ _ => Cert.Kernel3.Gen.frame m ρ, fun m ρ _ => Cert.Kernel3Ideal.Gen.frame m ρ, Cert.Reference3Ideal.Value.frame,
  fun m ρ _ => Cert.Kernel4.Gen.frame m ρ, fun m ρ _ => Cert.Kernel4Ideal.Gen.frame m ρ, Cert.Reference4Ideal.Value.frame,
  fun m ρ _ => Cert.Kernel5.Gen.frame m ρ, fun m ρ _ => Cert.Kernel5Ideal.Gen.frame m ρ, Cert.Reference5Ideal.Value.frame,
  fun m ρ _ => Cert.Kernel6.Gen.frame m ρ, fun m ρ _ => Cert.Kernel6Ideal.Gen.frame m ρ, Cert.Reference6Ideal.Value.frame,
  fun m ρ _ => Cert.Kernel7.Gen.frame m ρ, fun m ρ _ => Cert.Kernel7Ideal.Gen.frame m ρ,
  fun m ρ _ => Cert.Kernel7Ideal.Gen.frame m ρ, Cert.Reference7Ideal.Value.frame,
  fun m ρ _ => Cert.Reference7Ideal.Value.frame m ρ True.intro,
  fun m ρ _ => Cert.Kernel8.Gen.frame m ρ, fun m ρ _ => Cert.Kernel8Ideal.Gen.frame m ρ, Cert.Reference8Ideal.Value.frame,
  fun m ρ _ => Cert.Kernel9.Gen.frame m ρ, fun m ρ _ => Cert.Kernel9Ideal.Gen.frame m ρ, Cert.Reference9Ideal.Value.frame,
  fun m ρ _ => Cert.Kernel10.Gen.frame m ρ, fun m ρ _ => Cert.Kernel10Ideal.Gen.frame m ρ, Cert.Reference10Ideal.Value.frame,
  fun m ρ _ => Cert.Kernel11.Gen.frame m ρ, fun m ρ _ => Cert.Kernel11Ideal.Gen.frame m ρ, Cert.Reference11Ideal.Value.frame,
  fun m ρ _ => Cert.Kernel12.Gen.frame m ρ, fun m ρ _ => Cert.Kernel12Ideal.Gen.frame m ρ, Cert.Reference12Ideal.Value.frame,
  fun m ρ _ => Cert.Kernel13.Gen.frame m ρ, fun m ρ _ => Cert.Kernel13Ideal.Gen.frame m ρ, Cert.Reference13Ideal.Value.frame,
  fun m ρ _ => Cert.Kernel14.Gen.frame m ρ, fun m ρ _ => Cert.Kernel14Ideal.Gen.frame m ρ, Cert.Reference14Ideal.Value.frame,
  fun m ρ _ => Cert.Kernel15.Gen.frame m ρ, fun m ρ _ => Cert.Kernel15Ideal.Gen.frame m ρ, Cert.Reference15Ideal.Value.frame,
  fun m ρ _ => Cert.Kernel16.Gen.frame m ρ, fun m ρ _ => Cert.Kernel16Ideal.Gen.frame m ρ, Cert.Reference16Ideal.Value.frame,
  fun m ρ _ => Cert.Kernel17.Gen.frame m ρ, fun m ρ _ => Cert.Kernel17Ideal.Gen.frame m ρ, Cert.Reference17Ideal.Value.frame,
  fun m ρ _ => Cert.Kernel18.Gen.frame m ρ, fun m ρ _ => Cert.Kernel18Ideal.Gen.frame m ρ, Cert.Reference18Ideal.Value.frame,
  fun m ρ _ => Cert.Kernel19.Gen.frame m ρ, fun m ρ _ => Cert.Kernel19Ideal.Gen.frame m ρ, Cert.Reference19Ideal.Value.frame,
  fun m ρ _ => Cert.Kernel20.Gen.frame m ρ, fun m ρ _ => Cert.Kernel20Ideal.Gen.frame m ρ, Cert.Reference20Ideal.Value.frame,
  fun m ρ _ => Cert.Kernel21.Gen.frame m ρ, fun m ρ _ => Cert.Kernel21Ideal.Gen.frame m ρ, Cert.Reference21Ideal.Value.frame,
  fun m ρ _ => Cert.Kernel22.Gen.frame m ρ, fun m ρ _ => Cert.Kernel22Ideal.Gen.frame m ρ, Cert.Reference22Ideal.Value.frame,
  fun m ρ _ => Cert.Kernel23.Gen.frame m ρ, fun m ρ _ => Cert.Kernel23Ideal.Gen.frame m ρ, Cert.Reference23Ideal.Value.frame,
  fun m ρ _ => Cert.Kernel24.Gen.frame m ρ, fun m ρ _ => Cert.Kernel24Ideal.Gen.frame m ρ, Cert.Reference24Ideal.Value.frame,
  fun m ρ _ => Cert.Kernel25.Gen.frame m ρ, fun m ρ _ => Cert.Kernel25Ideal.Gen.frame m ρ, Cert.Reference25Ideal.Value.frame,
  trivial, algebraic,
  trivial, Cert.Reference2Ideal.Value.algebraic,
  trivial, Cert.Reference3Ideal.Value.algebraic,
  trivial, Cert.Reference4Ideal.Value.algebraic,
  trivial, Cert.Reference5Ideal.Value.algebraic,
  trivial, Cert.Reference6Ideal.Value.algebraic,
  trivial, Cert.Reference7Ideal.Value.algebraic,
  trivial, Cert.Reference8Ideal.Value.algebraic,
  trivial, Cert.Reference9Ideal.Value.algebraic,
  trivial, Cert.Reference10Ideal.Value.algebraic,
  trivial, Cert.Reference11Ideal.Value.algebraic,
  trivial, Cert.Reference12Ideal.Value.algebraic,
  trivial, Cert.Reference13Ideal.Value.algebraic,
  trivial, Cert.Reference14Ideal.Value.algebraic,
  trivial, Cert.Reference15Ideal.Value.algebraic,
  trivial, Cert.Reference16Ideal.Value.algebraic,
  trivial, Cert.Reference17Ideal.Value.algebraic,
  trivial, Cert.Reference18Ideal.Value.algebraic,
  trivial, Cert.Reference19Ideal.Value.algebraic,
  trivial, Cert.Reference20Ideal.Value.algebraic,
  trivial, Cert.Reference21Ideal.Value.algebraic,
  trivial, Cert.Reference22Ideal.Value.algebraic,
  trivial, Cert.Reference23Ideal.Value.algebraic,
  trivial, Cert.Reference24Ideal.Value.algebraic,
  trivial, Cert.Reference25Ideal.Value.algebraic⟩

end Cert.Proof

end
